-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_mixer [hPre_finite_mixer : Cert.Pre_finite_mixer.Facts] (m : (ℓ : Loc Cert.MixerIdeal.nD Cert.MixerIdeal.τ Cert.MixerIdeal.sig) → Buf (Elt Ideal) ℓ) : Prop :=
  ∀ c : Dev Cert.MixerIdeal.nD,
    (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_mixer [hPre_finite_mixer : Cert.Pre_finite_mixer.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7))) = (fun _ => 1#1)

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdIdeal_finite_z [hPre_finite_z : Cert.Pre_finite_z.Facts] (m : (ℓ : Loc Cert.MixerFwdIdeal.nD Cert.MixerFwdIdeal.τ Cert.MixerFwdIdeal.sig) → Buf (Elt Ideal) ℓ) : Prop :=
  ∀ c : Dev Cert.MixerFwdIdeal.nD,
    (Cert.Pre_finite_z.fn (F := Ideal) (m ((c.tc : Thread Cert.MixerFwdIdeal.nD Cert.MixerFwdIdeal.τ).loc Cert.MixerFwdIdeal.main_arg0)) (m ((c.tc : Thread Cert.MixerFwdIdeal.nD Cert.MixerFwdIdeal.τ).loc Cert.MixerFwdIdeal.main_arg1)) (m ((c.tc : Thread Cert.MixerFwdIdeal.nD Cert.MixerFwdIdeal.τ).loc Cert.MixerFwdIdeal.main_arg2)) (m ((c.tc : Thread Cert.MixerFwdIdeal.nD Cert.MixerFwdIdeal.τ).loc Cert.MixerFwdIdeal.main_arg3)) (m ((c.tc : Thread Cert.MixerFwdIdeal.nD Cert.MixerFwdIdeal.τ).loc Cert.MixerFwdIdeal.main_arg4)) (m ((c.tc : Thread Cert.MixerFwdIdeal.nD Cert.MixerFwdIdeal.τ).loc Cert.MixerFwdIdeal.main_arg5)) (m ((c.tc : Thread Cert.MixerFwdIdeal.nD Cert.MixerFwdIdeal.τ).loc Cert.MixerFwdIdeal.main_arg6))) = (fun _ => 1#1)

def Pre_MixerFwdRefIdeal (m : (ℓ : Loc Cert.MixerFwdRefIdeal.nD Cert.MixerFwdRefIdeal.τ Cert.MixerFwdRefIdeal.sig) → Buf (Elt Ideal) ℓ) : Prop :=
  True

def Pre_MixerFwdRefIdeal_finite_z [hPre_finite_z : Cert.Pre_finite_z.Facts] (m : (ℓ : Loc Cert.MixerFwdRefIdeal.nD Cert.MixerFwdRefIdeal.τ Cert.MixerFwdRefIdeal.sig) → Buf (Elt Ideal) ℓ) : Prop :=
  ∀ c : Dev Cert.MixerFwdRefIdeal.nD,
    (Cert.Pre_finite_z.fn (F := Ideal) (m ((c.tc : Thread Cert.MixerFwdRefIdeal.nD Cert.MixerFwdRefIdeal.τ).loc Cert.MixerFwdRefIdeal.main_arg0)) (m ((c.tc : Thread Cert.MixerFwdRefIdeal.nD Cert.MixerFwdRefIdeal.τ).loc Cert.MixerFwdRefIdeal.main_arg1)) (m ((c.tc : Thread Cert.MixerFwdRefIdeal.nD Cert.MixerFwdRefIdeal.τ).loc Cert.MixerFwdRefIdeal.main_arg2)) (m ((c.tc : Thread Cert.MixerFwdRefIdeal.nD Cert.MixerFwdRefIdeal.τ).loc Cert.MixerFwdRefIdeal.main_arg3)) (m ((c.tc : Thread Cert.MixerFwdRefIdeal.nD Cert.MixerFwdRefIdeal.τ).loc Cert.MixerFwdRefIdeal.main_arg4)) (m ((c.tc : Thread Cert.MixerFwdRefIdeal.nD Cert.MixerFwdRefIdeal.τ).loc Cert.MixerFwdRefIdeal.main_arg5)) (m ((c.tc : Thread Cert.MixerFwdRefIdeal.nD Cert.MixerFwdRefIdeal.τ).loc Cert.MixerFwdRefIdeal.main_arg6))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1))) = (fun _ => 1#1)

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_finite_down [hPre_finite_down : Cert.Pre_finite_down.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_finite_down.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3))) = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_finite_down [hPre_finite_down : Cert.Pre_finite_down.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_finite_down.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3))) = (fun _ => 1#1)

def Pre_GuBwd (m : (ℓ : Loc Cert.GuBwd.nD Cert.GuBwd.τ Cert.GuBwd.sig) → Buf (Elt Bits) ℓ) : Prop :=
  True

def Pre_GuBwdIdeal (m : (ℓ : Loc Cert.GuBwdIdeal.nD Cert.GuBwdIdeal.τ Cert.GuBwdIdeal.sig) → Buf (Elt Ideal) ℓ) : Prop :=
  True

def Pre_GuBwdRefIdeal (m : (ℓ : Loc Cert.GuBwdRefIdeal.nD Cert.GuBwdRefIdeal.τ Cert.GuBwdRefIdeal.sig) → Buf (Elt Ideal) ℓ) : Prop :=
  True

def Pre_GuDw (m : (ℓ : Loc Cert.GuDw.nD Cert.GuDw.τ Cert.GuDw.sig) → Buf (Elt Bits) ℓ) : Prop :=
  True

def Pre_GuDwIdeal (m : (ℓ : Loc Cert.GuDwIdeal.nD Cert.GuDwIdeal.τ Cert.GuDwIdeal.sig) → Buf (Elt Ideal) ℓ) : Prop :=
  True

def Pre_GuDwRefIdeal (m : (ℓ : Loc Cert.GuDwRefIdeal.nD Cert.GuDwRefIdeal.τ Cert.GuDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite_rms [hPre_finite_rms : Cert.Pre_finite_rms.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_finite_rms [hPre_finite_rms : Cert.Pre_finite_rms.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_finite_rms.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerIdeal_pre_finite_mixer [hMixerIdeal : Cert.MixerIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_mixer m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_MixerRefIdeal_pre_finite_mixer [hMixerRefIdeal : Cert.MixerRefIdeal.Facts] [hPre_finite_mixer : Cert.Pre_finite_mixer.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_mixer m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6))
      ∧ r.2.sem = fun _ => 0)

def quiescent_MixerFwdIdeal_pre_finite_z [hMixerFwdIdeal : Cert.MixerFwdIdeal.Facts] [hPre_finite_z : Cert.Pre_finite_z.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal_finite_z m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6))
      ∧ r.2.sem = fun _ => 0)

def quiescent_MixerFwdRefIdeal_pre_finite_z [hMixerFwdRefIdeal : Cert.MixerFwdRefIdeal.Facts] [hPre_finite_z : Cert.Pre_finite_z.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal_finite_z m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdIdeal_pre_finite_down [hDownBwdIdeal : Cert.DownBwdIdeal.Facts] [hPre_finite_down : Cert.Pre_finite_down.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_finite_down m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_DownBwdRefIdeal_pre_finite_down [hDownBwdRefIdeal : Cert.DownBwdRefIdeal.Facts] [hPre_finite_down : Cert.Pre_finite_down.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_finite_down m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_GuBwd [hGuBwd : Cert.GuBwd.Facts] : Prop :=
  ∀ (m : (ℓ : Loc Cert.GuBwd.nD Cert.GuBwd.τ Cert.GuBwd.sig) → Buf (Elt Bits) ℓ) (g : Dev Cert.GuBwd.nD → PrngReg), Pre_GuBwd m →
    θ_run (Cert.GuBwd.defs (F := Bits)) (onTc (τ := Cert.GuBwd.τ) (Cert.GuBwd.main (F := Bits))) ⟨m, fun _ => 0, g⟩ (fun r => (∀ c : Dev Cert.GuBwd.nD,
      r.2.mem ((c.tc : Thread Cert.GuBwd.nD Cert.GuBwd.τ).loc Cert.GuBwd.main_arg0) = m ((c.tc : Thread Cert.GuBwd.nD Cert.GuBwd.τ).loc Cert.GuBwd.main_arg0)
      ∧ r.2.mem ((c.tc : Thread Cert.GuBwd.nD Cert.GuBwd.τ).loc Cert.GuBwd.main_arg1) = m ((c.tc : Thread Cert.GuBwd.nD Cert.GuBwd.τ).loc Cert.GuBwd.main_arg1))
      ∧ r.2.sem = fun _ => 0)

def quiescent_GuBwdIdeal [hGuBwdIdeal : Cert.GuBwdIdeal.Facts] : Prop :=
  ∀ (m : (ℓ : Loc Cert.GuBwdIdeal.nD Cert.GuBwdIdeal.τ Cert.GuBwdIdeal.sig) → Buf (Elt Ideal) ℓ) (g : Dev Cert.GuBwdIdeal.nD → PrngReg), Pre_GuBwdIdeal m →
    θ_run (Cert.GuBwdIdeal.defs (F := Ideal)) (onTc (τ := Cert.GuBwdIdeal.τ) (Cert.GuBwdIdeal.main (F := Ideal))) ⟨m, fun _ => 0, g⟩ (fun r => (∀ c : Dev Cert.GuBwdIdeal.nD,
      r.2.mem ((c.tc : Thread Cert.GuBwdIdeal.nD Cert.GuBwdIdeal.τ).loc Cert.GuBwdIdeal.main_arg0) = m ((c.tc : Thread Cert.GuBwdIdeal.nD Cert.GuBwdIdeal.τ).loc Cert.GuBwdIdeal.main_arg0)
      ∧ r.2.mem ((c.tc : Thread Cert.GuBwdIdeal.nD Cert.GuBwdIdeal.τ).loc Cert.GuBwdIdeal.main_arg1) = m ((c.tc : Thread Cert.GuBwdIdeal.nD Cert.GuBwdIdeal.τ).loc Cert.GuBwdIdeal.main_arg1))
      ∧ r.2.sem = fun _ => 0)

def quiescent_GuBwdRefIdeal [hGuBwdRefIdeal : Cert.GuBwdRefIdeal.Facts] : Prop :=
  ∀ (m : (ℓ : Loc Cert.GuBwdRefIdeal.nD Cert.GuBwdRefIdeal.τ Cert.GuBwdRefIdeal.sig) → Buf (Elt Ideal) ℓ) (g : Dev Cert.GuBwdRefIdeal.nD → PrngReg), Pre_GuBwdRefIdeal m →
    θ_run (Cert.GuBwdRefIdeal.defs (F := Ideal)) (onTc (τ := Cert.GuBwdRefIdeal.τ) (Cert.GuBwdRefIdeal.main (F := Ideal))) ⟨m, fun _ => 0, g⟩ (fun r => (∀ c : Dev Cert.GuBwdRefIdeal.nD,
      r.2.mem ((c.tc : Thread Cert.GuBwdRefIdeal.nD Cert.GuBwdRefIdeal.τ).loc Cert.GuBwdRefIdeal.main_arg0) = m ((c.tc : Thread Cert.GuBwdRefIdeal.nD Cert.GuBwdRefIdeal.τ).loc Cert.GuBwdRefIdeal.main_arg0)
      ∧ r.2.mem ((c.tc : Thread Cert.GuBwdRefIdeal.nD Cert.GuBwdRefIdeal.τ).loc Cert.GuBwdRefIdeal.main_arg1) = m ((c.tc : Thread Cert.GuBwdRefIdeal.nD Cert.GuBwdRefIdeal.τ).loc Cert.GuBwdRefIdeal.main_arg1))
      ∧ r.2.sem = fun _ => 0)

def quiescent_GuDw [hGuDw : Cert.GuDw.Facts] : Prop :=
  ∀ (m : (ℓ : Loc Cert.GuDw.nD Cert.GuDw.τ Cert.GuDw.sig) → Buf (Elt Bits) ℓ) (g : Dev Cert.GuDw.nD → PrngReg), Pre_GuDw m →
    θ_run (Cert.GuDw.defs (F := Bits)) (onTc (τ := Cert.GuDw.τ) (Cert.GuDw.main (F := Bits))) ⟨m, fun _ => 0, g⟩ (fun r => (∀ c : Dev Cert.GuDw.nD,
      r.2.mem ((c.tc : Thread Cert.GuDw.nD Cert.GuDw.τ).loc Cert.GuDw.main_arg0) = m ((c.tc : Thread Cert.GuDw.nD Cert.GuDw.τ).loc Cert.GuDw.main_arg0)
      ∧ r.2.mem ((c.tc : Thread Cert.GuDw.nD Cert.GuDw.τ).loc Cert.GuDw.main_arg1) = m ((c.tc : Thread Cert.GuDw.nD Cert.GuDw.τ).loc Cert.GuDw.main_arg1))
      ∧ r.2.sem = fun _ => 0)

def quiescent_GuDwIdeal [hGuDwIdeal : Cert.GuDwIdeal.Facts] : Prop :=
  ∀ (m : (ℓ : Loc Cert.GuDwIdeal.nD Cert.GuDwIdeal.τ Cert.GuDwIdeal.sig) → Buf (Elt Ideal) ℓ) (g : Dev Cert.GuDwIdeal.nD → PrngReg), Pre_GuDwIdeal m →
    θ_run (Cert.GuDwIdeal.defs (F := Ideal)) (onTc (τ := Cert.GuDwIdeal.τ) (Cert.GuDwIdeal.main (F := Ideal))) ⟨m, fun _ => 0, g⟩ (fun r => (∀ c : Dev Cert.GuDwIdeal.nD,
      r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
      ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ r.2.sem = fun _ => 0)

def quiescent_GuDwRefIdeal [hGuDwRefIdeal : Cert.GuDwRefIdeal.Facts] : Prop :=
  ∀ (m : (ℓ : Loc Cert.GuDwRefIdeal.nD Cert.GuDwRefIdeal.τ Cert.GuDwRefIdeal.sig) → Buf (Elt Ideal) ℓ) (g : Dev Cert.GuDwRefIdeal.nD → PrngReg), Pre_GuDwRefIdeal m →
    θ_run (Cert.GuDwRefIdeal.defs (F := Ideal)) (onTc (τ := Cert.GuDwRefIdeal.τ) (Cert.GuDwRefIdeal.main (F := Ideal))) ⟨m, fun _ => 0, g⟩ (fun r => (∀ c : Dev Cert.GuDwRefIdeal.nD,
      r.2.mem ((c.tc : Thread Cert.GuDwRefIdeal.nD Cert.GuDwRefIdeal.τ).loc Cert.GuDwRefIdeal.main_arg0) = m ((c.tc : Thread Cert.GuDwRefIdeal.nD Cert.GuDwRefIdeal.τ).loc Cert.GuDwRefIdeal.main_arg0)
      ∧ r.2.mem ((c.tc : Thread Cert.GuDwRefIdeal.nD Cert.GuDwRefIdeal.τ).loc Cert.GuDwRefIdeal.main_arg1) = m ((c.tc : Thread Cert.GuDwRefIdeal.nD Cert.GuDwRefIdeal.τ).loc Cert.GuDwRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_finite_rms [hRmsBwdIdeal : Cert.RmsBwdIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite_rms m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_finite_rms [hRmsBwdRefIdeal : Cert.RmsBwdRefIdeal.Facts] [hPre_finite_rms : Cert.Pre_finite_rms.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_finite_rms m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def preserves_Mixer_MixerIdeal : Prop :=
  IdealRules.named_const.Statement Cert.MixerIdeal.κ "gelu_ck" .f32 0x3D122279#32 ((80338380498831 / 2251799813685248 : ℝ) : EReal)
  ∧ IdealRules.named_const.Statement Cert.MixerIdeal.κ "gelu_3ck" .f32 0x3DDB33B6#32 ((241015141496493 / 2251799813685248 : ℝ) : EReal)

def algebraic_MixerIdeal_MixerRefIdeal_pre_finite_mixer [hMixerIdeal : Cert.MixerIdeal.Facts] [hMixerRefIdeal : Cert.MixerRefIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_mixer m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v18_0)) (v1 : (c : Dev Cert.MixerIdeal.nD) → Buf (Elt Ideal) ((c.tc : Thread Cert.MixerIdeal.nD Cert.MixerIdeal.τ).loc Cert.MixerIdeal.main_v18_1)) (v2 : (c : Dev Cert.MixerIdeal.nD) → Buf (Elt Ideal) ((c.tc : Thread Cert.MixerIdeal.nD Cert.MixerIdeal.τ).loc Cert.MixerIdeal.main_v18_2)) (v3 : (c : Dev Cert.MixerIdeal.nD) → Buf (Elt Ideal) ((c.tc : Thread Cert.MixerIdeal.nD Cert.MixerIdeal.τ).loc Cert.MixerIdeal.main_v18_3)) (v4 : (c : Dev Cert.MixerIdeal.nD) → Buf (Elt Ideal) ((c.tc : Thread Cert.MixerIdeal.nD Cert.MixerIdeal.τ).loc Cert.MixerIdeal.main_v18_4)) (v5 : (c : Dev Cert.MixerIdeal.nD) → Buf (Elt Ideal) ((c.tc : Thread Cert.MixerIdeal.nD Cert.MixerIdeal.τ).loc Cert.MixerIdeal.main_v18_5)) (v6 : (c : Dev Cert.MixerIdeal.nD) → Buf (Elt Ideal) ((c.tc : Thread Cert.MixerIdeal.nD Cert.MixerIdeal.τ).loc Cert.MixerIdeal.main_v18_6)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v18_0) = v0 c
          ∧ r.2.mem ((c.tc : Thread Cert.MixerIdeal.nD Cert.MixerIdeal.τ).loc Cert.MixerIdeal.main_v18_1) = v1 c
          ∧ r.2.mem ((c.tc : Thread Cert.MixerIdeal.nD Cert.MixerIdeal.τ).loc Cert.MixerIdeal.main_v18_2) = v2 c
          ∧ r.2.mem ((c.tc : Thread Cert.MixerIdeal.nD Cert.MixerIdeal.τ).loc Cert.MixerIdeal.main_v18_3) = v3 c
          ∧ r.2.mem ((c.tc : Thread Cert.MixerIdeal.nD Cert.MixerIdeal.τ).loc Cert.MixerIdeal.main_v18_4) = v4 c
          ∧ r.2.mem ((c.tc : Thread Cert.MixerIdeal.nD Cert.MixerIdeal.τ).loc Cert.MixerIdeal.main_v18_5) = v5 c
          ∧ r.2.mem ((c.tc : Thread Cert.MixerIdeal.nD Cert.MixerIdeal.τ).loc Cert.MixerIdeal.main_v18_6) = v6 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v284) = v0 c
          ∧ r.2.mem ((c.tc : Thread Cert.MixerRefIdeal.nD Cert.MixerRefIdeal.τ).loc Cert.MixerRefIdeal.main_v285) = v1 c
          ∧ r.2.mem ((c.tc : Thread Cert.MixerRefIdeal.nD Cert.MixerRefIdeal.τ).loc Cert.MixerRefIdeal.main_v286) = v2 c
          ∧ r.2.mem ((c.tc : Thread Cert.MixerRefIdeal.nD Cert.MixerRefIdeal.τ).loc Cert.MixerRefIdeal.main_v287) = v3 c
          ∧ r.2.mem ((c.tc : Thread Cert.MixerRefIdeal.nD Cert.MixerRefIdeal.τ).loc Cert.MixerRefIdeal.main_v229) = v4 c
          ∧ r.2.mem ((c.tc : Thread Cert.MixerRefIdeal.nD Cert.MixerRefIdeal.τ).loc Cert.MixerRefIdeal.main_v289) = v5 c
          ∧ r.2.mem ((c.tc : Thread Cert.MixerRefIdeal.nD Cert.MixerRefIdeal.τ).loc Cert.MixerRefIdeal.main_v290) = v6 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7))

def preserves_MixerFwd_MixerFwdIdeal : Prop :=
  IdealRules.named_const.Statement Cert.MixerFwdIdeal.κ "gelu_ck" .f32 0x3D122279#32 ((80338380498831 / 2251799813685248 : ℝ) : EReal)

def algebraic_MixerFwdIdeal_MixerFwdRefIdeal_pre_finite_z [hMixerFwdIdeal : Cert.MixerFwdIdeal.Facts] [hMixerFwdRefIdeal : Cert.MixerFwdRefIdeal.Facts] [hPre_finite_z : Cert.Pre_finite_z.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal_finite_z m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)
      ∧ m' ((c.tc : Thread Cert.MixerFwdRefIdeal.nD Cert.MixerFwdRefIdeal.τ).loc Cert.MixerFwdRefIdeal.main_arg6) = m ((c.tc : Thread Cert.MixerFwdIdeal.nD Cert.MixerFwdIdeal.τ).loc Cert.MixerFwdIdeal.main_arg6)) →
    ∃ (v0 : (c : Dev Cert.MixerFwdIdeal.nD) → Buf (Elt Ideal) ((c.tc : Thread Cert.MixerFwdIdeal.nD Cert.MixerFwdIdeal.τ).loc Cert.MixerFwdIdeal.main_v17)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v17) = v0 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
          ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v115) = v0 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5)
          ∧ r.2.mem ((c.tc : Thread Cert.MixerFwdRefIdeal.nD Cert.MixerFwdRefIdeal.τ).loc Cert.MixerFwdRefIdeal.main_arg6) = m' ((c.tc : Thread Cert.MixerFwdRefIdeal.nD Cert.MixerFwdRefIdeal.τ).loc Cert.MixerFwdRefIdeal.main_arg6))

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v17) = v0 c
          ∧ r.2.mem ((c.tc : Thread Cert.SwigluRefIdeal.nD Cert.SwigluRefIdeal.τ).loc Cert.SwigluRefIdeal.main_v18) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_DownBwd_DownBwdIdeal : Prop :=
  True

def algebraic_DownBwdIdeal_DownBwdRefIdeal_pre_finite_down [hDownBwdIdeal : Cert.DownBwdIdeal.Facts] [hDownBwdRefIdeal : Cert.DownBwdRefIdeal.Facts] [hPre_finite_down : Cert.Pre_finite_down.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_finite_down m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v19)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v19) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v20) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_GuBwd_GuBwdIdeal : Prop :=
  True

def algebraic_GuBwdIdeal_GuBwdRefIdeal [hGuBwdIdeal : Cert.GuBwdIdeal.Facts] [hGuBwdRefIdeal : Cert.GuBwdRefIdeal.Facts] : Prop :=
  ∀ (m : (ℓ : Loc Cert.GuBwdIdeal.nD Cert.GuBwdIdeal.τ Cert.GuBwdIdeal.sig) → Buf (Elt Ideal) ℓ) (g : Dev Cert.GuBwdIdeal.nD → PrngReg)
    (m' : (ℓ : Loc Cert.GuBwdRefIdeal.nD Cert.GuBwdRefIdeal.τ Cert.GuBwdRefIdeal.sig) → Buf (Elt Ideal) ℓ) (g' : Dev Cert.GuBwdRefIdeal.nD → PrngReg), Pre_GuBwdIdeal m →
    (∀ c : Dev Cert.GuBwdIdeal.nD,
      m' ((c.tc : Thread Cert.GuBwdRefIdeal.nD Cert.GuBwdRefIdeal.τ).loc Cert.GuBwdRefIdeal.main_arg0) = m ((c.tc : Thread Cert.GuBwdIdeal.nD Cert.GuBwdIdeal.τ).loc Cert.GuBwdIdeal.main_arg0)
      ∧ m' ((c.tc : Thread Cert.GuBwdRefIdeal.nD Cert.GuBwdRefIdeal.τ).loc Cert.GuBwdRefIdeal.main_arg1) = m ((c.tc : Thread Cert.GuBwdIdeal.nD Cert.GuBwdIdeal.τ).loc Cert.GuBwdIdeal.main_arg1)) →
    ∃ (v0 : (c : Dev Cert.GuBwdIdeal.nD) → Buf (Elt Ideal) ((c.tc : Thread Cert.GuBwdIdeal.nD Cert.GuBwdIdeal.τ).loc Cert.GuBwdIdeal.main_v0)),
      θ_run (Cert.GuBwdIdeal.defs (F := Ideal)) (onTc (τ := Cert.GuBwdIdeal.τ) (Cert.GuBwdIdeal.main (F := Ideal))) ⟨m, fun _ => 0, g⟩ (fun r => ∀ c : Dev Cert.GuBwdIdeal.nD,
          r.2.mem ((c.tc : Thread Cert.GuBwdIdeal.nD Cert.GuBwdIdeal.τ).loc Cert.GuBwdIdeal.main_v0) = v0 c
          ∧ r.2.mem ((c.tc : Thread Cert.GuBwdIdeal.nD Cert.GuBwdIdeal.τ).loc Cert.GuBwdIdeal.main_arg0) = m ((c.tc : Thread Cert.GuBwdIdeal.nD Cert.GuBwdIdeal.τ).loc Cert.GuBwdIdeal.main_arg0)
          ∧ r.2.mem ((c.tc : Thread Cert.GuBwdIdeal.nD Cert.GuBwdIdeal.τ).loc Cert.GuBwdIdeal.main_arg1) = m ((c.tc : Thread Cert.GuBwdIdeal.nD Cert.GuBwdIdeal.τ).loc Cert.GuBwdIdeal.main_arg1))
      ∧ θ_run (Cert.GuBwdRefIdeal.defs (F := Ideal)) (onTc (τ := Cert.GuBwdRefIdeal.τ) (Cert.GuBwdRefIdeal.main (F := Ideal))) ⟨m', fun _ => 0, g'⟩ (fun r => ∀ c : Dev Cert.GuBwdRefIdeal.nD,
          r.2.mem ((c.tc : Thread Cert.GuBwdRefIdeal.nD Cert.GuBwdRefIdeal.τ).loc Cert.GuBwdRefIdeal.main_v15) = v0 c
          ∧ r.2.mem ((c.tc : Thread Cert.GuBwdRefIdeal.nD Cert.GuBwdRefIdeal.τ).loc Cert.GuBwdRefIdeal.main_arg0) = m' ((c.tc : Thread Cert.GuBwdRefIdeal.nD Cert.GuBwdRefIdeal.τ).loc Cert.GuBwdRefIdeal.main_arg0)
          ∧ r.2.mem ((c.tc : Thread Cert.GuBwdRefIdeal.nD Cert.GuBwdRefIdeal.τ).loc Cert.GuBwdRefIdeal.main_arg1) = m' ((c.tc : Thread Cert.GuBwdRefIdeal.nD Cert.GuBwdRefIdeal.τ).loc Cert.GuBwdRefIdeal.main_arg1))

def preserves_GuDw_GuDwIdeal : Prop :=
  True

def algebraic_GuDwIdeal_GuDwRefIdeal [hGuDwIdeal : Cert.GuDwIdeal.Facts] [hGuDwRefIdeal : Cert.GuDwRefIdeal.Facts] : Prop :=
  ∀ (m : (ℓ : Loc Cert.GuDwIdeal.nD Cert.GuDwIdeal.τ Cert.GuDwIdeal.sig) → Buf (Elt Ideal) ℓ) (g : Dev Cert.GuDwIdeal.nD → PrngReg)
    (m' : (ℓ : Loc Cert.GuDwRefIdeal.nD Cert.GuDwRefIdeal.τ Cert.GuDwRefIdeal.sig) → Buf (Elt Ideal) ℓ) (g' : Dev Cert.GuDwRefIdeal.nD → PrngReg), Pre_GuDwIdeal m →
    (∀ c : Dev Cert.GuDwIdeal.nD,
      m' ((c.tc : Thread Cert.GuDwRefIdeal.nD Cert.GuDwRefIdeal.τ).loc Cert.GuDwRefIdeal.main_arg0) = m ((c.tc : Thread Cert.GuDwIdeal.nD Cert.GuDwIdeal.τ).loc Cert.GuDwIdeal.main_arg0)
      ∧ m' ((c.tc : Thread Cert.GuDwRefIdeal.nD Cert.GuDwRefIdeal.τ).loc Cert.GuDwRefIdeal.main_arg1) = m ((c.tc : Thread Cert.GuDwIdeal.nD Cert.GuDwIdeal.τ).loc Cert.GuDwIdeal.main_arg1)) →
    ∃ (v0 : (c : Dev Cert.GuDwIdeal.nD) → Buf (Elt Ideal) ((c.tc : Thread Cert.GuDwIdeal.nD Cert.GuDwIdeal.τ).loc Cert.GuDwIdeal.main_v0)),
      θ_run (Cert.GuDwIdeal.defs (F := Ideal)) (onTc (τ := Cert.GuDwIdeal.τ) (Cert.GuDwIdeal.main (F := Ideal))) ⟨m, fun _ => 0, g⟩ (fun r => ∀ c : Dev Cert.GuDwIdeal.nD,
          r.2.mem ((c.tc : Thread Cert.GuDwIdeal.nD Cert.GuDwIdeal.τ).loc Cert.GuDwIdeal.main_v0) = v0 c
          ∧ r.2.mem ((c.tc : Thread Cert.GuDwIdeal.nD Cert.GuDwIdeal.τ).loc Cert.GuDwIdeal.main_arg0) = m ((c.tc : Thread Cert.GuDwIdeal.nD Cert.GuDwIdeal.τ).loc Cert.GuDwIdeal.main_arg0)
          ∧ r.2.mem ((c.tc : Thread Cert.GuDwIdeal.nD Cert.GuDwIdeal.τ).loc Cert.GuDwIdeal.main_arg1) = m ((c.tc : Thread Cert.GuDwIdeal.nD Cert.GuDwIdeal.τ).loc Cert.GuDwIdeal.main_arg1))
      ∧ θ_run (Cert.GuDwRefIdeal.defs (F := Ideal)) (onTc (τ := Cert.GuDwRefIdeal.τ) (Cert.GuDwRefIdeal.main (F := Ideal))) ⟨m', fun _ => 0, g'⟩ (fun r => ∀ c : Dev Cert.GuDwRefIdeal.nD,
          r.2.mem ((c.tc : Thread Cert.GuDwRefIdeal.nD Cert.GuDwRefIdeal.τ).loc Cert.GuDwRefIdeal.main_v19) = v0 c
          ∧ r.2.mem ((c.tc : Thread Cert.GuDwRefIdeal.nD Cert.GuDwRefIdeal.τ).loc Cert.GuDwRefIdeal.main_arg0) = m' ((c.tc : Thread Cert.GuDwRefIdeal.nD Cert.GuDwRefIdeal.τ).loc Cert.GuDwRefIdeal.main_arg0)
          ∧ r.2.mem ((c.tc : Thread Cert.GuDwRefIdeal.nD Cert.GuDwRefIdeal.τ).loc Cert.GuDwRefIdeal.main_arg1) = m' ((c.tc : Thread Cert.GuDwRefIdeal.nD Cert.GuDwRefIdeal.τ).loc Cert.GuDwRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v5) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v0)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v5) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v3) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v1_0)) (v1 : (c : Dev Cert.OutFwdIdeal.nD) → Buf (Elt Ideal) ((c.tc : Thread Cert.OutFwdIdeal.nD Cert.OutFwdIdeal.τ).loc Cert.OutFwdIdeal.main_v1_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1_0) = v0 c
          ∧ r.2.mem ((c.tc : Thread Cert.OutFwdIdeal.nD Cert.OutFwdIdeal.τ).loc Cert.OutFwdIdeal.main_v1_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v17) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal_pre_finite_rms [hRmsBwdIdeal : Cert.RmsBwdIdeal.Facts] [hRmsBwdRefIdeal : Cert.RmsBwdRefIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_finite_rms m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)) (v2 : (c : Dev Cert.RmsBwdIdeal.nD) → Buf (Elt Ideal) ((c.tc : Thread Cert.RmsBwdIdeal.nD Cert.RmsBwdIdeal.τ).loc Cert.RmsBwdIdeal.main_v1_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_v1_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v39) = v1 c
          ∧ r.2.mem ((c.tc : Thread Cert.RmsBwdRefIdeal.nD Cert.RmsBwdRefIdeal.τ).loc Cert.RmsBwdRefIdeal.main_v40) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def Claim : Prop :=
  ∃ (hMixer : Cert.Mixer.Facts) (hMixerIdeal : Cert.MixerIdeal.Facts) (hMixerRefIdeal : Cert.MixerRefIdeal.Facts) (hMixerFwd : Cert.MixerFwd.Facts) (hMixerFwdIdeal : Cert.MixerFwdIdeal.Facts) (hMixerFwdRefIdeal : Cert.MixerFwdRefIdeal.Facts) (hSwiglu : Cert.Swiglu.Facts) (hSwigluIdeal : Cert.SwigluIdeal.Facts) (hSwigluRefIdeal : Cert.SwigluRefIdeal.Facts) (hDownBwd : Cert.DownBwd.Facts) (hDownBwdIdeal : Cert.DownBwdIdeal.Facts) (hDownBwdRefIdeal : Cert.DownBwdRefIdeal.Facts) (hGuBwd : Cert.GuBwd.Facts) (hGuBwdIdeal : Cert.GuBwdIdeal.Facts) (hGuBwdRefIdeal : Cert.GuBwdRefIdeal.Facts) (hGuDw : Cert.GuDw.Facts) (hGuDwIdeal : Cert.GuDwIdeal.Facts) (hGuDwRefIdeal : Cert.GuDwRefIdeal.Facts) (hDownDw : Cert.DownDw.Facts) (hDownDwIdeal : Cert.DownDwIdeal.Facts) (hDownDwRefIdeal : Cert.DownDwRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hOutBwd : Cert.OutBwd.Facts) (hOutBwdIdeal : Cert.OutBwdIdeal.Facts) (hOutBwdRefIdeal : Cert.OutBwdRefIdeal.Facts) (hInBwd : Cert.InBwd.Facts) (hInBwdIdeal : Cert.InBwdIdeal.Facts) (hInBwdRefIdeal : Cert.InBwdRefIdeal.Facts) (hInFwd : Cert.InFwd.Facts) (hInFwdIdeal : Cert.InFwdIdeal.Facts) (hInFwdRefIdeal : Cert.InFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hPre_finite_mixer : Cert.Pre_finite_mixer.Facts) (hPre_finite_z : Cert.Pre_finite_z.Facts) (hPre_finite_swiglu : Cert.Pre_finite_swiglu.Facts) (hPre_finite_down : Cert.Pre_finite_down.Facts) (hPre_finite_rms : Cert.Pre_finite_rms.Facts) (hPre_finite_loss : Cert.Pre_finite_loss.Facts),
    quiescent_Mixer (hMixer := hMixer)
    ∧ quiescent_MixerIdeal (hMixerIdeal := hMixerIdeal)
    ∧ quiescent_MixerIdeal_pre_finite_mixer (hMixerIdeal := hMixerIdeal) (hPre_finite_mixer := hPre_finite_mixer)
    ∧ quiescent_MixerRefIdeal (hMixerRefIdeal := hMixerRefIdeal)
    ∧ quiescent_MixerRefIdeal_pre_finite_mixer (hMixerRefIdeal := hMixerRefIdeal) (hPre_finite_mixer := hPre_finite_mixer)
    ∧ quiescent_MixerFwd (hMixerFwd := hMixerFwd)
    ∧ quiescent_MixerFwdIdeal (hMixerFwdIdeal := hMixerFwdIdeal)
    ∧ quiescent_MixerFwdIdeal_pre_finite_z (hMixerFwdIdeal := hMixerFwdIdeal) (hPre_finite_z := hPre_finite_z)
    ∧ quiescent_MixerFwdRefIdeal (hMixerFwdRefIdeal := hMixerFwdRefIdeal)
    ∧ quiescent_MixerFwdRefIdeal_pre_finite_z (hMixerFwdRefIdeal := hMixerFwdRefIdeal) (hPre_finite_z := hPre_finite_z)
    ∧ quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_DownBwd (hDownBwd := hDownBwd)
    ∧ quiescent_DownBwdIdeal (hDownBwdIdeal := hDownBwdIdeal)
    ∧ quiescent_DownBwdIdeal_pre_finite_down (hDownBwdIdeal := hDownBwdIdeal) (hPre_finite_down := hPre_finite_down)
    ∧ quiescent_DownBwdRefIdeal (hDownBwdRefIdeal := hDownBwdRefIdeal)
    ∧ quiescent_DownBwdRefIdeal_pre_finite_down (hDownBwdRefIdeal := hDownBwdRefIdeal) (hPre_finite_down := hPre_finite_down)
    ∧ quiescent_GuBwd (hGuBwd := hGuBwd)
    ∧ quiescent_GuBwdIdeal (hGuBwdIdeal := hGuBwdIdeal)
    ∧ quiescent_GuBwdRefIdeal (hGuBwdRefIdeal := hGuBwdRefIdeal)
    ∧ quiescent_GuDw (hGuDw := hGuDw)
    ∧ quiescent_GuDwIdeal (hGuDwIdeal := hGuDwIdeal)
    ∧ quiescent_GuDwRefIdeal (hGuDwRefIdeal := hGuDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdIdeal_pre_finite_rms (hRmsBwdIdeal := hRmsBwdIdeal) (hPre_finite_rms := hPre_finite_rms)
    ∧ quiescent_RmsBwdRefIdeal (hRmsBwdRefIdeal := hRmsBwdRefIdeal)
    ∧ quiescent_RmsBwdRefIdeal_pre_finite_rms (hRmsBwdRefIdeal := hRmsBwdRefIdeal) (hPre_finite_rms := hPre_finite_rms)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ preserves_Mixer_MixerIdeal
    ∧ algebraic_MixerIdeal_MixerRefIdeal_pre_finite_mixer (hMixerIdeal := hMixerIdeal) (hMixerRefIdeal := hMixerRefIdeal) (hPre_finite_mixer := hPre_finite_mixer)
    ∧ preserves_MixerFwd_MixerFwdIdeal
    ∧ algebraic_MixerFwdIdeal_MixerFwdRefIdeal_pre_finite_z (hMixerFwdIdeal := hMixerFwdIdeal) (hMixerFwdRefIdeal := hMixerFwdRefIdeal) (hPre_finite_z := hPre_finite_z)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_DownBwd_DownBwdIdeal
    ∧ algebraic_DownBwdIdeal_DownBwdRefIdeal_pre_finite_down (hDownBwdIdeal := hDownBwdIdeal) (hDownBwdRefIdeal := hDownBwdRefIdeal) (hPre_finite_down := hPre_finite_down)
    ∧ preserves_GuBwd_GuBwdIdeal
    ∧ algebraic_GuBwdIdeal_GuBwdRefIdeal (hGuBwdIdeal := hGuBwdIdeal) (hGuBwdRefIdeal := hGuBwdRefIdeal)
    ∧ preserves_GuDw_GuDwIdeal
    ∧ algebraic_GuDwIdeal_GuDwRefIdeal (hGuDwIdeal := hGuDwIdeal) (hGuDwRefIdeal := hGuDwRefIdeal)
    ∧ preserves_DownDw_DownDwIdeal
    ∧ algebraic_DownDwIdeal_DownDwRefIdeal (hDownDwIdeal := hDownDwIdeal) (hDownDwRefIdeal := hDownDwRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InBwd_InBwdIdeal
    ∧ algebraic_InBwdIdeal_InBwdRefIdeal (hInBwdIdeal := hInBwdIdeal) (hInBwdRefIdeal := hInBwdRefIdeal)
    ∧ preserves_InFwd_InFwdIdeal
    ∧ algebraic_InFwdIdeal_InFwdRefIdeal (hInFwdIdeal := hInFwdIdeal) (hInFwdRefIdeal := hInFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal_pre_finite_rms (hRmsBwdIdeal := hRmsBwdIdeal) (hRmsBwdRefIdeal := hRmsBwdRefIdeal) (hPre_finite_rms := hPre_finite_rms)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
-- ==== Pre_finite_down.lean ====
abbrev S4096x2048 : Shape := ⟨2, ![4096, 2048]⟩
abbrev S5632x2048 : Shape := ⟨2, ![5632, 2048]⟩
abbrev S2048x11264 : Shape := ⟨2, ![2048, 11264]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x11264 : S_.BroadcastsInDim S2048x11264 (![] : Fin 0 → Fin S2048x11264.rank)
  reducesTo_S2048x11264_S_d0_1 : S2048x11264.ReducesTo [0, 1] S_

variable [Facts]

def fn_part1 {F : FTy → Type} [FloatOps F] (main_v16 : IVec S_ 1) (main_v17 : FVec F S2048x11264 .f32) : IVec S_ 1 :=
  let main_v18 : FVec F S2048x11264 .f32 := Host.absf main_v17
  let main_cst_4 : FVec F S_ .f32 := constant S_ .f32 0x7F800000#32
  let main_v19 : FVec F S2048x11264 .f32 := broadcastInDim S2048x11264 ![] bcast_S_S2048x11264 main_cst_4
  let main_v20 : IVec S2048x11264 1 := cmpf .olt main_v18 main_v19
  let main_c_5 : IVec S_ 1 := constantI S_ 1 1#1
  let main_v21 : IVec S_ 1 := (fun x v => Host.reduce IntOp.andi x v reducesTo_S2048x11264_S_d0_1 h_S_) main_v20 main_c_5
  let main_v22 : IVec S_ 1 := andi main_v16 main_v21
  main_v22

def fn {F : FTy → Type} [FloatOps F] (main_arg0 : FVec F S4096x2048 .bf16) (main_arg1 : FVec F S5632x2048 .bf16) (main_arg2 : FVec F S4096x2048 .bf16) (main_arg3 : FVec F S2048x11264 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4096x2048 .f32 := (extf .f32 · bitsLt_bf16_f32) main_arg2
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  let main_v17 : FVec F S2048x11264 .f32 := (extf .f32 · bitsLt_bf16_f32) main_arg3
  fn_part1 (F := F) main_v16 main_v17
-- ==== Pre_finite_loss.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite_mixer.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S3x1024 : S_.BroadcastsInDim S3x1024 (![] : Fin 0 → Fin S3x1024.rank)
  reducesTo_S3x1024_S_d0_1 : S3x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v30 : IVec S_ 1) (main_v33 : IVec S3x1024 1) (main_c_11 : IVec S_ 1) : IVec S_ 1 :=
  let main_v34 : IVec S_ 1 := (fun x v => Host.reduce IntOp.andi x v reducesTo_S3x1024_S_d0_1 h_S_) main_v33 main_c_11
  let main_v35 : IVec S_ 1 := andi main_v30 main_v34
  let main_v36 : FVec F S2048 .f32 := Host.absf main_arg7
  let main_cst_12 : FVec F S_ .f32 := constant S_ .f32 0x7F800000#32
  let main_v37 : FVec F S2048 .f32 := broadcastInDim S2048 ![] bcast_S_S2048 main_cst_12
  let main_v38 : IVec S2048 1 := cmpf .olt main_v36 main_v37
  let main_c_13 : IVec S_ 1 := constantI S_ 1 1#1
  let main_v39 : IVec S_ 1 := (fun x v => Host.reduce IntOp.andi x v reducesTo_S2048_S_d0 h_S_) main_v38 main_c_13
  let main_v40 : IVec S_ 1 := andi main_v35 main_v39
  main_v40

def fn_part1 {F : FTy → Type} [FloatOps F] (main_arg4 : FVec F S8x128x128 .f32) (main_arg5 : FVec F S8x128 .f32) (main_arg6 : FVec F S3x1024 .f32) (main_arg7 : FVec F S2048 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S8x128x128 .f32 := Host.absf main_arg4
  let main_cst_6 : FVec F S_ .f32 := constant S_ .f32 0x7F800000#32
  let main_v22 : FVec F S8x128x128 .f32 := broadcastInDim S8x128x128 ![] bcast_S_S8x128x128 main_cst_6
  let main_v23 : IVec S8x128x128 1 := cmpf .olt main_v21 main_v22
  let main_c_7 : IVec S_ 1 := constantI S_ 1 1#1
  let main_v24 : IVec S_ 1 := (fun x v => Host.reduce IntOp.andi x v reducesTo_S8x128x128_S_d0_1_2 h_S_) main_v23 main_c_7
  let main_v25 : IVec S_ 1 := andi main_v20 main_v24
  let main_v26 : FVec F S8x128 .f32 := Host.absf main_arg5
  let main_cst_8 : FVec F S_ .f32 := constant S_ .f32 0x7F800000#32
  let main_v27 : FVec F S8x128 .f32 := broadcastInDim S8x128 ![] bcast_S_S8x128 main_cst_8
  let main_v28 : IVec S8x128 1 := cmpf .olt main_v26 main_v27
  let main_c_9 : IVec S_ 1 := constantI S_ 1 1#1
  let main_v29 : IVec S_ 1 := (fun x v => Host.reduce IntOp.andi x v reducesTo_S8x128_S_d0_1 h_S_) main_v28 main_c_9
  let main_v30 : IVec S_ 1 := andi main_v25 main_v29
  let main_v31 : FVec F S3x1024 .f32 := Host.absf main_arg6
  let main_cst_10 : FVec F S_ .f32 := constant S_ .f32 0x7F800000#32
  let main_v32 : FVec F S3x1024 .f32 := broadcastInDim S3x1024 ![] bcast_S_S3x1024 main_cst_10
  let main_v33 : IVec S3x1024 1 := cmpf .olt main_v31 main_v32
  let main_c_11 : IVec S_ 1 := constantI S_ 1 1#1
  fn_part2 (F := F) main_arg7 main_v30 main_v33 main_c_11

def fn {F : FTy → Type} [FloatOps F] (main_arg0 : FVec F S4096x5120 .bf16) (main_arg1 : FVec F S4096x2048 .bf16) (main_arg2 : FVec F S1024 .f32) (main_arg3 : FVec F S1024 .f32) (main_arg4 : FVec F S8x128x128 .f32) (main_arg5 : FVec F S8x128 .f32) (main_arg6 : FVec F S3x1024 .f32) (main_arg7 : FVec F S2048 .f32) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_arg5 main_arg6 main_arg7 main_v15 main_v16 main_cst_4
-- ==== Pre_finite_rms.lean ====
abbrev S4096x2048 : Shape := ⟨2, ![4096, 2048]⟩
abbrev S2048 : Shape := ⟨1, ![2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .bf16) (main_arg1 : FVec F S4096x2048 .f32) (main_arg2 : FVec F S2048 .f32) (main_arg3 : FVec F S4096x2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := Host.absf main_arg1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v4 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v9 main_v13
  main_v14
-- ==== Pre_finite_swiglu.lean ====
abbrev S4096x2048 : Shape := ⟨2, ![4096, 2048]⟩
abbrev S2048x11264 : Shape := ⟨2, ![2048, 11264]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S4096x2048 .bf16) (main_arg1 : FVec F S2048x11264 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x11264 .f32 := (extf .f32 · bitsLt_bf16_f32) main_arg1
  let main_v6 : FVec F S2048x11264 .f32 := Host.absf main_v5
  let main_cst_0 : FVec F S_ .f32 := constant S_ .f32 0x7F800000#32
  let main_v7 : FVec F S2048x11264 .f32 := broadcastInDim S2048x11264 ![] bcast_S_S2048x11264 main_cst_0
  let main_v8 : IVec S2048x11264 1 := cmpf .olt main_v6 main_v7
  let main_c_1 : IVec S_ 1 := constantI S_ 1 1#1
  let main_v9 : IVec S_ 1 := (fun x v => Host.reduce IntOp.andi x v reducesTo_S2048x11264_S_d0_1 h_S_) main_v8 main_c_1
  let main_v10 : IVec S_ 1 := andi main_v4 main_v9
  main_v10
-- ==== Pre_finite_z.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel

variable [Facts]

def fn {F : FTy → Type} [FloatOps F] (main_arg0 : FVec F S4096x5120 .bf16) (main_arg1 : FVec F S1024 .f32) (main_arg2 : FVec F S1024 .f32) (main_arg3 : FVec F S8x128x128 .f32) (main_arg4 : FVec F S8x128 .f32) (main_arg5 : FVec F S3x1024 .f32) (main_arg6 : FVec F S2048 .f32) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  main_v4
-- ==== Mixer.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S1x1024 : Shape := ⟨2, ![1, 1024]⟩
abbrev S1x2048 : Shape := ⟨2, ![1, 2048]⟩
abbrev S8x8x128 : Shape := ⟨3, ![8, 8, 128]⟩
abbrev S16x5120 : Shape := ⟨2, ![16, 5120]⟩
abbrev S256x5120 : Shape := ⟨2, ![256, 5120]⟩
abbrev S256x2048 : Shape := ⟨2, ![256, 2048]⟩
abbrev S16x2048 : Shape := ⟨2, ![16, 2048]⟩
abbrev S256x1024 : Shape := ⟨2, ![256, 1024]⟩
abbrev S256 : Shape := ⟨1, ![256]⟩
abbrev S256x1 : Shape := ⟨2, ![256, 1]⟩
abbrev S1x8x128 : Shape := ⟨3, ![1, 8, 128]⟩
abbrev S16x1024 : Shape := ⟨2, ![16, 1024]⟩
abbrev S288x1024 : Shape := ⟨2, ![288, 1024]⟩
abbrev S288x1 : Shape := ⟨2, ![288, 1]⟩
abbrev S288 : Shape := ⟨1, ![288]⟩

abbrev nBuf : Space → Nat
  | .hbm => 73
  | .vmem => 29
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S3x1024, .f32⟩
  | .hbm, ⟨7, _⟩ => ⟨S2048, .f32⟩
  | .hbm, ⟨8, _⟩ => ⟨S128, .i32⟩
  | .hbm, ⟨9, _⟩ => ⟨S1x128, .i32⟩
  | .hbm, ⟨10, _⟩ => ⟨S_, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S1x128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i1⟩
  | .hbm, ⟨23, _⟩ => ⟨S1x128, .i1⟩
  | .hbm, ⟨24, _⟩ => ⟨S_, .i32⟩
  | .hbm, ⟨25, _⟩ => ⟨S1x128, .i32⟩
  | .hbm, ⟨26, _⟩ => ⟨S1x128, .i32⟩
  | .hbm, ⟨27, _⟩ => ⟨S1x128, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x128x128, .bf16⟩
  | .hbm, ⟨57, _⟩ => ⟨S8x128x1, .f32⟩
  | .hbm, ⟨58, _⟩ => ⟨S8x128x128, .f32⟩
  | .hbm, ⟨59, _⟩ => ⟨S_, .i32⟩
  | .hbm, ⟨60, _⟩ => ⟨S_, .f32⟩
  | .hbm, ⟨61, _⟩ => ⟨S8x1024, .f32⟩
  | .hbm, ⟨62, _⟩ => ⟨S1x1024, .f32⟩
  | .hbm, ⟨63, _⟩ => ⟨S1x1024, .f32⟩
  | .hbm, ⟨64, _⟩ => ⟨S1x2048, .f32⟩
  | .hbm, ⟨65, _⟩ => ⟨S8x128x128, .bf16⟩
  | .hbm, ⟨66, _⟩ => ⟨S4096x5120, .bf16⟩
  | .hbm, ⟨67, _⟩ => ⟨S1x2048, .f32⟩
  | .hbm, ⟨68, _⟩ => ⟨S1x1024, .f32⟩
  | .hbm, ⟨69, _⟩ => ⟨S1x1024, .f32⟩
  | .hbm, ⟨70, _⟩ => ⟨S8x128x128, .f32⟩
  | .hbm, ⟨71, _⟩ => ⟨S8x8x128, .f32⟩
  | .hbm, ⟨72, _⟩ => ⟨S8x1024, .f32⟩
  | .local _ .vmem, ⟨0, _⟩ => ⟨S16x5120, .bf16⟩
  | .local _ .vmem, ⟨1, _⟩ => ⟨S16x5120, .bf16⟩
  | .local _ .vmem, ⟨2, _⟩ => ⟨S256x5120, .bf16⟩
  | .local _ .vmem, ⟨3, _⟩ => ⟨S256x5120, .bf16⟩
  | .local _ .vmem, ⟨4, _⟩ => ⟨S16x5120, .bf16⟩
  | .local _ .vmem, ⟨5, _⟩ => ⟨S16x5120, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S8x128x128, .bf16⟩
  | .local _ .vmem, ⟨14, _⟩ => ⟨S8x128x128, .f32⟩
  | .local _ .vmem, ⟨15, _⟩ => ⟨S8x1024, .f32⟩
  | .local _ .vmem, ⟨16, _⟩ => ⟨S1x2048, .f32⟩
  | .local _ .vmem, ⟨17, _⟩ => ⟨S256x5120, .bf16⟩
  | .local _ .vmem, ⟨18, _⟩ => ⟨S256x5120, .bf16⟩
  | .local _ .vmem, ⟨19, _⟩ => ⟨S1x2048, .f32⟩
  | .local _ .vmem, ⟨20, _⟩ => ⟨S1x1024, .f32⟩
  | .local _ .vmem, ⟨21, _⟩ => ⟨S1x1024, .f32⟩
  | .local _ .vmem, ⟨22, _⟩ => ⟨S8x128x128, .f32⟩
  | .local _ .vmem, ⟨23, _⟩ => ⟨S8x8x128, .f32⟩
  | .local _ .vmem, ⟨24, _⟩ => ⟨S8x1024, .f32⟩
  | .local _ .vmem, ⟨25, _⟩ => ⟨S256x1024, .bf16⟩
  | .local _ .vmem, ⟨26, _⟩ => ⟨S256x1024, .f32⟩
  | .local _ .vmem, ⟨27, _⟩ => ⟨S256x1024, .bf16⟩
  | .local _ .vmem, ⟨28, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_c_1 : Ref sig .tc := ⟨.hbm, 59, rfl⟩
abbrev main_call3_v0 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18_0 : Ref sig .tc := ⟨.hbm, 66, rfl⟩
abbrev main_v18_1 : Ref sig .tc := ⟨.hbm, 67, rfl⟩
abbrev main_v18_2 : Ref sig .tc := ⟨.hbm, 68, rfl⟩
abbrev main_v18_3 : Ref sig .tc := ⟨.hbm, 69, rfl⟩
abbrev main_v18_4 : Ref sig .tc := ⟨.hbm, 70, rfl⟩
abbrev main_v18_5 : Ref sig .tc := ⟨.hbm, 71, rfl⟩
abbrev main_v18_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixerIdeal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== MixerRefIdeal.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4095x1024 : Shape := ⟨2, ![4095, 1024]⟩
abbrev S2x1024 : Shape := ⟨2, ![2, 1024]⟩
abbrev S4094x1024 : Shape := ⟨2, ![4094, 1024]⟩
abbrev S1x2048 : Shape := ⟨2, ![1, 2048]⟩
abbrev S8x1x128 : Shape := ⟨3, ![8, 1, 128]⟩
abbrev S8x8x128 : Shape := ⟨3, ![8, 8, 128]⟩
abbrev S8x1024 : Shape := ⟨2, ![8, 1024]⟩

abbrev nBuf : Space → Nat
  | .hbm => 411
  | .vmem => 0
  | .smem => 0
  | _ => 0

abbrev hbmTy0_0 (i : Nat) : BufTy := match i % 128 with
  | 0 => ⟨S4096x5120, .bf16⟩
  | 1 => ⟨S4096x2048, .bf16⟩
  | 2 => ⟨S1024, .f32⟩
  | 3 => ⟨S1024, .f32⟩
  | 4 => ⟨S8x128x128, .f32⟩
  | 5 => ⟨S8x128, .f32⟩
  | 6 => ⟨S3x1024, .f32⟩
  | 7 => ⟨S2048, .f32⟩
  | 8 => ⟨S4096x5120, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S4096x2048, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S32x128x8x128, .f32⟩
  | 75 => ⟨S128, .i32⟩
  | 76 => ⟨S1x128, .i32⟩
  | 77 => ⟨S_, .i32⟩
  | 78 => ⟨S_, .i32⟩
  | 79 => ⟨S1x128, .i32⟩
  | 80 => ⟨S1x128, .i32⟩
  | 81 => ⟨S1x128, .i32⟩
  | 82 => ⟨S_, .i32⟩
  | 83 => ⟨S1x128, .i32⟩
  | 84 => ⟨S1x128, .i1⟩
  | 85 => ⟨S1x128, .i32⟩
  | 86 => ⟨S1x128, .i32⟩
  | 87 => ⟨S_, .i32⟩
  | 88 => ⟨S1x128, .i32⟩
  | 89 => ⟨S1x128, .i1⟩
  | 90 => ⟨S1x128, .i1⟩
  | 91 => ⟨S_, .i32⟩
  | 92 => ⟨S1x128, .i32⟩
  | 93 => ⟨S1x128, .i32⟩
  | 94 => ⟨S1x128, .i32⟩
  | 95 => ⟨S128x1, .i32⟩
  | 96 => ⟨S_, .i32⟩
  | 97 => ⟨S_, .i32⟩
  | 98 => ⟨S128x1, .i32⟩
  | 99 => ⟨S128x1, .i32⟩
  | 100 => ⟨S128x1, .i32⟩
  | 101 => ⟨S_, .i32⟩
  | 102 => ⟨S128x1, .i32⟩
  | 103 => ⟨S128x1, .i1⟩
  | 104 => ⟨S128x1, .i32⟩
  | 105 => ⟨S128x1, .i32⟩
  | 106 => ⟨S_, .i32⟩
  | 107 => ⟨S128x1, .i32⟩
  | 108 => ⟨S128x1, .i1⟩
  | 109 => ⟨S128x1, .i1⟩
  | 110 => ⟨S_, .i32⟩
  | 111 => ⟨S128x1, .i32⟩
  | 112 => ⟨S128x1, .i32⟩
  | 113 => ⟨S128x1, .i32⟩
  | 114 => ⟨S128x128, .i32⟩
  | 115 => ⟨S128x128, .i32⟩
  | 116 => ⟨S128x128, .i1⟩
  | 117 => ⟨S1x128x128, .i1⟩
  | 118 => ⟨S_, .f32⟩
  | 119 => ⟨S8x128x128, .i1⟩
  | 120 => ⟨S8x128x128, .f32⟩
  | 121 => ⟨S8x128x128, .f32⟩
  | 122 => ⟨S_, .f32⟩
  | 123 => ⟨S8x128x128, .f32⟩
  | 124 => ⟨S8x32x128x128, .f32⟩
  | 125 => ⟨S32x128x8x128, .f32⟩
  | 126 => ⟨S128x8, .f32⟩
  | 127 => ⟨S1x128x8x1, .f32⟩
  | _ => ⟨S4096x5120, .bf16⟩

abbrev hbmTy0_1 (i : Nat) : BufTy := match i % 128 with
  | 0 => ⟨S32x128x8x128, .f32⟩
  | 1 => ⟨S32x128x8x128, .f32⟩
  | 2 => ⟨S4096x1024, .f32⟩
  | 3 => ⟨S4096x1024, .f32⟩
  | 4 => ⟨S4096x1024, .f32⟩
  | 5 => ⟨S_, .f32⟩
  | 6 => ⟨S1x1024, .f32⟩
  | 7 => ⟨S4095x1024, .f32⟩
  | 8 => ⟨S4096x1024, .f32⟩
  | 9 => ⟨S_, .f32⟩
  | 10 => ⟨S1x1024, .f32⟩
  | 11 => ⟨S_, .f32⟩
  | 12 => ⟨S2x1024, .f32⟩
  | 13 => ⟨S4094x1024, .f32⟩
  | 14 => ⟨S4096x1024, .f32⟩
  | 15 => ⟨S_, .f32⟩
  | 16 => ⟨S2x1024, .f32⟩
  | 17 => ⟨S1x1024, .f32⟩
  | 18 => ⟨S1024, .f32⟩
  | 19 => ⟨S1x1024, .f32⟩
  | 20 => ⟨S4096x1024, .f32⟩
  | 21 => ⟨S4096x1024, .f32⟩
  | 22 => ⟨S1x1024, .f32⟩
  | 23 => ⟨S1024, .f32⟩
  | 24 => ⟨S1x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S4096x1024, .f32⟩
  | 35 => ⟨S1024, .f32⟩
  | 36 => ⟨S4096x1024, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S1x1024, .f32⟩
  | 54 => ⟨S4096x1024, .f32⟩
  | 55 => ⟨S4096x1024, .f32⟩
  | 56 => ⟨S1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S4096x2048, .f32⟩
  | 78 => ⟨S4096x2048, .f32⟩
  | 79 => ⟨S4096x1024, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S_, .f32⟩
  | 88 => ⟨S1024, .f32⟩
  | 89 => ⟨S4096x1024, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S2048, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S_, .f32⟩
  | 115 => ⟨S1024, .f32⟩
  | 116 => ⟨S4096x1024, .f32⟩
  | 117 => ⟨S_, .f32⟩
  | 118 => ⟨S4096, .f32⟩
  | 119 => ⟨S4096x1, .f32⟩
  | 120 => ⟨S4096x1024, .f32⟩
  | 121 => ⟨S4096x1024, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x5120, .bf16⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S2048, .f32⟩
  | 7 => ⟨S2048, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S1x1024, .f32⟩
  | 19 => ⟨S_, .f32⟩
  | 20 => ⟨S3x1024, .f32⟩
  | 21 => ⟨S4096x1024, .f32⟩
  | 22 => ⟨S4096x1024, .f32⟩
  | 23 => ⟨S4096x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S1x1024, .f32⟩
  | 30 => ⟨S_, .f32⟩
  | 31 => ⟨S3x1024, .f32⟩
  | 32 => ⟨S3x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S1x1024, .f32⟩
  | 42 => ⟨S_, .f32⟩
  | 43 => ⟨S3x1024, .f32⟩
  | 44 => ⟨S3x1024, .f32⟩
  | 45 => ⟨S2x1024, .f32⟩
  | 46 => ⟨S4094x1024, .f32⟩
  | 47 => ⟨S_, .f32⟩
  | 48 => ⟨S4096x1024, .f32⟩
  | 49 => ⟨S4096x1024, .f32⟩
  | 50 => ⟨S1x1024, .f32⟩
  | 51 => ⟨S4095x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S32x128x8x128, .f32⟩
  | 60 => ⟨S_, .f32⟩
  | 61 => ⟨S128x8, .f32⟩
  | 62 => ⟨S1x128x8x1, .f32⟩
  | 63 => ⟨S_, .f32⟩
  | 64 => ⟨S128x8, .f32⟩
  | 65 => ⟨S8x128, .f32⟩
  | 66 => ⟨S8x32x128x128, .f32⟩
  | 67 => ⟨S8x128x128, .f32⟩
  | 68 => ⟨S8x32x128x128, .f32⟩
  | 69 => ⟨S32x128x8x128, .f32⟩
  | 70 => ⟨S_, .f32⟩
  | 71 => ⟨S8x128x128, .f32⟩
  | 72 => ⟨S8x128x128, .f32⟩
  | 73 => ⟨S4096x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S4096x1024, .f32⟩
  | 80 => ⟨S_, .f32⟩
  | 81 => ⟨S1024, .f32⟩
  | 82 => ⟨S1x1024, .f32⟩
  | 83 => ⟨S4096x1024, .f32⟩
  | 84 => ⟨S4096x1024, .f32⟩
  | 85 => ⟨S_, .f32⟩
  | 86 => ⟨S1024, .f32⟩
  | 87 => ⟨S4096x1024, .f32⟩
  | 88 => ⟨S_, .f32⟩
  | 89 => ⟨S4096, .f32⟩
  | 90 => ⟨S4096x1, .f32⟩
  | 91 => ⟨S4096x1024, .f32⟩
  | 92 => ⟨S4096x1024, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S_, .f32⟩
  | 116 => ⟨S4096x5120, .f32⟩
  | 117 => ⟨S_, .f32⟩
  | 118 => ⟨S4096x5120, .f32⟩
  | 119 => ⟨S4096x5120, .f32⟩
  | 120 => ⟨S_, .f32⟩
  | 121 => ⟨S4096x5120, .f32⟩
  | 122 => ⟨S4096x5120, .f32⟩
  | 123 => ⟨S_, .f32⟩
  | 124 => ⟨S4096x2048, .f32⟩
  | 125 => ⟨S_, .f32⟩
  | 126 => ⟨S4096x2048, .f32⟩
  | 127 => ⟨S4096x2048, .f32⟩
  | _ => ⟨S4096x5120, .bf16⟩

abbrev hbmTy0_3 (i : Nat) : BufTy := match i % 128 with
  | 0 => ⟨S4096x2048, .f32⟩
  | 1 => ⟨S4096x2048, .f32⟩
  | 2 => ⟨S_, .f32⟩
  | 3 => ⟨S4096x2048, .f32⟩
  | 4 => ⟨S4096x2048, .f32⟩
  | 5 => ⟨S4096x2048, .f32⟩
  | 6 => ⟨S_, .f32⟩
  | 7 => ⟨S4096x2048, .f32⟩
  | 8 => ⟨S4096x2048, .f32⟩
  | 9 => ⟨S4096x2048, .f32⟩
  | 10 => ⟨S_, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S4096x5120, .f32⟩
  | 17 => ⟨S4096x5120, .f32⟩
  | 18 => ⟨S4096x5120, .bf16⟩
  | 19 => ⟨S1x2048, .f32⟩
  | 20 => ⟨S1x1024, .f32⟩
  | 21 => ⟨S1x1024, .f32⟩
  | 22 => ⟨S8x1x128, .f32⟩
  | 23 => ⟨S8x8x128, .f32⟩
  | 24 => ⟨S_, .i32⟩
  | 25 => ⟨S_, .f32⟩
  | 26 => ⟨S8x1024, .f32⟩
  | _ => ⟨S4096x5120, .bf16⟩

abbrev hbmTy (i : Nat) : BufTy := match i / 128 with
  | 0 => hbmTy0_0 i
  | 1 => hbmTy0_1 i
  | 2 => hbmTy0_2 i
  | 3 => hbmTy0_3 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_c : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_c_0 : Ref sig .tc := ⟨.hbm, 91, rfl⟩
abbrev main_call0_v12 : Ref sig .tc := ⟨.hbm, 92, rfl⟩
abbrev main_call0_v13 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_c : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_c_0 : Ref sig .tc := ⟨.hbm, 110, rfl⟩
abbrev main_call1_v12 : Ref sig .tc := ⟨.hbm, 111, rfl⟩
abbrev main_call1_v13 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_v63_1 : Ref sig .tc := ⟨.hbm, 119, rfl⟩
abbrev main_call2_v1 : Ref sig .tc := ⟨.hbm, 120, rfl⟩
abbrev main_v63_0 : Ref sig .tc := ⟨.hbm, 121, rfl⟩
abbrev main_call2_cst : Ref sig .tc := ⟨.hbm, 122, rfl⟩
abbrev main_v63_2 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_14 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_15 : Ref sig .tc := ⟨.hbm, 137, rfl⟩
abbrev main_v76 : Ref sig .tc := ⟨.hbm, 138, rfl⟩
abbrev main_cst_16 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_17 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_18 : Ref sig .tc := ⟨.hbm, 165, rfl⟩
abbrev main_v101 : Ref sig .tc := ⟨.hbm, 166, rfl⟩
abbrev main_v102 : Ref sig .tc := ⟨.hbm, 167, rfl⟩
abbrev main_cst_19 : Ref sig .tc := ⟨.hbm, 168, rfl⟩
abbrev main_v103 : Ref sig .tc := ⟨.hbm, 169, rfl⟩
abbrev main_v104 : Ref sig .tc := ⟨.hbm, 170, rfl⟩
abbrev main_cst_20 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_21 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_22 : Ref sig .tc := ⟨.hbm, 186, rfl⟩
abbrev main_v118 : Ref sig .tc := ⟨.hbm, 187, rfl⟩
abbrev main_v119 : Ref sig .tc := ⟨.hbm, 188, rfl⟩
abbrev main_cst_23 : Ref sig .tc := ⟨.hbm, 189, rfl⟩
abbrev main_v120 : Ref sig .tc := ⟨.hbm, 190, rfl⟩
abbrev main_v121 : Ref sig .tc := ⟨.hbm, 191, rfl⟩
abbrev main_cst_24 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_25 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_26 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_27 : Ref sig .tc := ⟨.hbm, 215, rfl⟩
abbrev main_v142 : Ref sig .tc := ⟨.hbm, 216, rfl⟩
abbrev main_v143 : Ref sig .tc := ⟨.hbm, 217, rfl⟩
abbrev main_cst_28 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_cst_29 : Ref sig .tc := ⟨.hbm, 224, rfl⟩
abbrev main_v149 : Ref sig .tc := ⟨.hbm, 225, rfl⟩
abbrev main_v150 : Ref sig .tc := ⟨.hbm, 226, rfl⟩
abbrev main_cst_30 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_cst_31 : Ref sig .tc := ⟨.hbm, 234, rfl⟩
abbrev main_v157 : Ref sig .tc := ⟨.hbm, 235, rfl⟩
abbrev main_v158 : Ref sig .tc := ⟨.hbm, 236, rfl⟩
abbrev main_cst_32 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_cst_33 : Ref sig .tc := ⟨.hbm, 242, rfl⟩
abbrev main_v163 : Ref sig .tc := ⟨.hbm, 243, rfl⟩
abbrev main_v164 : Ref sig .tc := ⟨.hbm, 244, rfl⟩
abbrev main_cst_34 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_35 : Ref sig .tc := ⟨.hbm, 251, rfl⟩
abbrev main_v170 : Ref sig .tc := ⟨.hbm, 252, rfl⟩
abbrev main_v171 : Ref sig .tc := ⟨.hbm, 253, rfl⟩
abbrev main_cst_36 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_cst_37 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_cst_38 : Ref sig .tc := ⟨.hbm, 269, rfl⟩
abbrev main_v185 : Ref sig .tc := ⟨.hbm, 270, rfl⟩
abbrev main_v186 : Ref sig .tc := ⟨.hbm, 271, rfl⟩
abbrev main_cst_39 : Ref sig .tc := ⟨.hbm, 272, rfl⟩
abbrev main_v187 : Ref sig .tc := ⟨.hbm, 273, rfl⟩
abbrev main_v188 : Ref sig .tc := ⟨.hbm, 274, rfl⟩
abbrev main_cst_40 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_cst_41 : Ref sig .tc := ⟨.hbm, 280, rfl⟩
abbrev main_v193 : Ref sig .tc := ⟨.hbm, 281, rfl⟩
abbrev main_v194 : Ref sig .tc := ⟨.hbm, 282, rfl⟩
abbrev main_cst_42 : Ref sig .tc := ⟨.hbm, 283, rfl⟩
abbrev main_v195 : Ref sig .tc := ⟨.hbm, 284, rfl⟩
abbrev main_v196 : Ref sig .tc := ⟨.hbm, 285, rfl⟩
abbrev main_cst_43 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_cst_44 : Ref sig .tc := ⟨.hbm, 292, rfl⟩
abbrev main_v202 : Ref sig .tc := ⟨.hbm, 293, rfl⟩
abbrev main_v203 : Ref sig .tc := ⟨.hbm, 294, rfl⟩
abbrev main_cst_45 : Ref sig .tc := ⟨.hbm, 295, rfl⟩
abbrev main_v204 : Ref sig .tc := ⟨.hbm, 296, rfl⟩
abbrev main_v205 : Ref sig .tc := ⟨.hbm, 297, rfl⟩
abbrev main_cst_46 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_cst_47 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_cst_48 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_cst_49 : Ref sig .tc := ⟨.hbm, 316, rfl⟩
abbrev main_v221 : Ref sig .tc := ⟨.hbm, 317, rfl⟩
abbrev main_v222 : Ref sig .tc := ⟨.hbm, 318, rfl⟩
abbrev main_cst_50 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_call3_cst : Ref sig .tc := ⟨.hbm, 326, rfl⟩
abbrev main_call3_v0 : Ref sig .tc := ⟨.hbm, 327, rfl⟩
abbrev main_v229 : Ref sig .tc := ⟨.hbm, 328, rfl⟩
abbrev main_v230 : Ref sig .tc := ⟨.hbm, 329, rfl⟩
abbrev main_cst_51 : Ref sig .tc := ⟨.hbm, 330, rfl⟩
abbrev main_v231 : Ref sig .tc := ⟨.hbm, 331, rfl⟩
abbrev main_v232 : Ref sig .tc := ⟨.hbm, 332, rfl⟩
abbrev main_cst_52 : Ref sig .tc := ⟨.hbm, 333, rfl⟩
abbrev main_v233 : Ref sig .tc := ⟨.hbm, 334, rfl⟩
abbrev main_v234 : Ref sig .tc := ⟨.hbm, 335, rfl⟩
abbrev main_cst_53 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_cst_54 : Ref sig .tc := ⟨.hbm, 341, rfl⟩
abbrev main_v239 : Ref sig .tc := ⟨.hbm, 342, rfl⟩
abbrev main_v240 : Ref sig .tc := ⟨.hbm, 343, rfl⟩
abbrev main_cst_55 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_cst_56 : Ref sig .tc := ⟨.hbm, 350, rfl⟩
abbrev main_v246 : Ref sig .tc := ⟨.hbm, 351, rfl⟩
abbrev main_v247 : Ref sig .tc := ⟨.hbm, 352, rfl⟩
abbrev main_cst_57 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_cst_58 : Ref sig .tc := ⟨.hbm, 361, rfl⟩
abbrev main_v255 : Ref sig .tc := ⟨.hbm, 362, rfl⟩
abbrev main_v256 : Ref sig .tc := ⟨.hbm, 363, rfl⟩
abbrev main_cst_59 : Ref sig .tc := ⟨.hbm, 364, rfl⟩
abbrev main_v257 : Ref sig .tc := ⟨.hbm, 365, rfl⟩
abbrev main_v258 : Ref sig .tc := ⟨.hbm, 366, rfl⟩
abbrev main_cst_60 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_cst_61 : Ref sig .tc := ⟨.hbm, 371, rfl⟩
abbrev main_v262 : Ref sig .tc := ⟨.hbm, 372, rfl⟩
abbrev main_cst_62 : Ref sig .tc := ⟨.hbm, 373, rfl⟩
abbrev main_v263 : Ref sig .tc := ⟨.hbm, 374, rfl⟩
abbrev main_v264 : Ref sig .tc := ⟨.hbm, 375, rfl⟩
abbrev main_cst_63 : Ref sig .tc := ⟨.hbm, 376, rfl⟩
abbrev main_v265 : Ref sig .tc := ⟨.hbm, 377, rfl⟩
abbrev main_v266 : Ref sig .tc := ⟨.hbm, 378, rfl⟩
abbrev main_cst_64 : Ref sig .tc := ⟨.hbm, 379, rfl⟩
abbrev main_v267 : Ref sig .tc := ⟨.hbm, 380, rfl⟩
abbrev main_cst_65 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_cst_66 : Ref sig .tc := ⟨.hbm, 386, rfl⟩
abbrev main_v272 : Ref sig .tc := ⟨.hbm, 387, rfl⟩
abbrev main_v273 : Ref sig .tc := ⟨.hbm, 388, rfl⟩
abbrev main_v274 : Ref sig .tc := ⟨.hbm, 389, rfl⟩
abbrev main_cst_67 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_cst_68 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_cst_69 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_v288 : Ref sig .tc := ⟨.hbm, 406, rfl⟩
abbrev main_v289 : Ref sig .tc := ⟨.hbm, 407, rfl⟩
abbrev main_c_70 : Ref sig .tc := ⟨.hbm, 408, rfl⟩
abbrev main_call4_v0 : Ref sig .tc := ⟨.hbm, 409, rfl⟩
abbrev main_v290 : Ref sig .tc := ⟨.hbm, 410, rfl⟩

abbrev nD : Nat := 1
abbrev τ : Topo := Topo.v7x

variable {F : FTy → Type} [FloatOps F]
-- ==== MixerFwd.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S1x1024 : Shape := ⟨2, ![1, 1024]⟩
abbrev S1x2048 : Shape := ⟨2, ![1, 2048]⟩
abbrev S4096x2048 : Shape := ⟨2, ![4096, 2048]⟩
abbrev S16x5120 : Shape := ⟨2, ![16, 5120]⟩
abbrev S256x5120 : Shape := ⟨2, ![256, 5120]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S16x1024 : Shape := ⟨2, ![16, 1024]⟩
abbrev S272x1024 : Shape := ⟨2, ![272, 1024]⟩

abbrev nBuf : Space → Nat
  | .hbm => 65
  | .vmem => 14
  | .smem => 0
  | _ => 0

abbrev bufTy : (tb : Table) → Fin (tcTables nBuf tb) → BufTy
  | .hbm, ⟨0, _⟩ => ⟨S4096x5120, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S3x1024, .f32⟩
  | .hbm, ⟨6, _⟩ => ⟨S2048, .f32⟩
  | .hbm, ⟨7, _⟩ => ⟨S128, .i32⟩
  | .hbm, ⟨8, _⟩ => ⟨S1x128, .i32⟩
  | .hbm, ⟨9, _⟩ => ⟨S_, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S1x128, .i32⟩
  | .hbm, ⟨27, _⟩ => ⟨S128x1, .i32⟩
  | .hbm, ⟨28, _⟩ => ⟨S_, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S_, .f32⟩
  | .hbm, ⟨52, _⟩ => ⟨S8x128x128, .i1⟩
  | .hbm, ⟨53, _⟩ => ⟨S8x128x128, .f32⟩
  | .hbm, ⟨54, _⟩ => ⟨S8x128x128, .f32⟩
  | .hbm, ⟨55, _⟩ => ⟨S8x128x128, .bf16⟩
  | .hbm, ⟨56, _⟩ => ⟨S8x128x1, .f32⟩
  | .hbm, ⟨57, _⟩ => ⟨S8x128x128, .f32⟩
  | .hbm, ⟨58, _⟩ => ⟨S_, .i32⟩
  | .hbm, ⟨59, _⟩ => ⟨S_, .f32⟩
  | .hbm, ⟨60, _⟩ => ⟨S8x1024, .f32⟩
  | .hbm, ⟨61, _⟩ => ⟨S1x1024, .f32⟩
  | .hbm, ⟨62, _⟩ => ⟨S1x1024, .f32⟩
  | .hbm, ⟨63, _⟩ => ⟨S1x2048, .f32⟩
  | .hbm, ⟨64, _⟩ => ⟨S4096x2048, .bf16⟩
  | .local _ .vmem, ⟨0, _⟩ => ⟨S16x5120, .bf16⟩
  | .local _ .vmem, ⟨1, _⟩ => ⟨S16x5120, .bf16⟩
  | .local _ .vmem, ⟨2, _⟩ => ⟨S256x5120, .bf16⟩
  | .local _ .vmem, ⟨3, _⟩ => ⟨S256x5120, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S8x1024, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_c_1 : Ref sig .tc := ⟨.hbm, 58, rfl⟩
abbrev main_call3_v0 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixerFwdIdeal.lean ====
variable {F : FTy → Type} [FloatOps F] [Named F]
def κ : String → Option EReal := fun
  | "gelu_ck" => some ((80338380498831 / 2251799813685248 : ℝ) : EReal)
  | _ => none
-- ==== MixerFwdRefIdeal.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S4096x2048 : Shape := ⟨2, ![4096, 2048]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4095x1024 : Shape := ⟨2, ![4095, 1024]⟩
abbrev S2x1024 : Shape := ⟨2, ![2, 1024]⟩
abbrev S4094x1024 : Shape := ⟨2, ![4094, 1024]⟩

abbrev nBuf : Space → Nat
  | .hbm => 177
  | .vmem => 0
  | .smem => 0
  | _ => 0

abbrev hbmTy0_0 (i : Nat) : BufTy := match i % 128 with
  | 0 => ⟨S4096x5120, .bf16⟩
  | 1 => ⟨S1024, .f32⟩
  | 2 => ⟨S1024, .f32⟩
  | 3 => ⟨S8x128x128, .f32⟩
  | 4 => ⟨S8x128, .f32⟩
  | 5 => ⟨S3x1024, .f32⟩
  | 6 => ⟨S2048, .f32⟩
  | 7 => ⟨S4096x5120, .f32⟩
  | 8 => ⟨S4096x2048, .f32⟩
  | 9 => ⟨S4096x2048, .f32⟩
  | 10 => ⟨S4096x2048, .f32⟩
  | 11 => ⟨S_, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S32x128x8x128, .f32⟩
  | 59 => ⟨S128, .i32⟩
  | 60 => ⟨S1x128, .i32⟩
  | 61 => ⟨S_, .i32⟩
  | 62 => ⟨S_, .i32⟩
  | 63 => ⟨S1x128, .i32⟩
  | 64 => ⟨S1x128, .i32⟩
  | 65 => ⟨S1x128, .i32⟩
  | 66 => ⟨S_, .i32⟩
  | 67 => ⟨S1x128, .i32⟩
  | 68 => ⟨S1x128, .i1⟩
  | 69 => ⟨S1x128, .i32⟩
  | 70 => ⟨S1x128, .i32⟩
  | 71 => ⟨S_, .i32⟩
  | 72 => ⟨S1x128, .i32⟩
  | 73 => ⟨S1x128, .i1⟩
  | 74 => ⟨S1x128, .i1⟩
  | 75 => ⟨S_, .i32⟩
  | 76 => ⟨S1x128, .i32⟩
  | 77 => ⟨S1x128, .i32⟩
  | 78 => ⟨S1x128, .i32⟩
  | 79 => ⟨S128x1, .i32⟩
  | 80 => ⟨S_, .i32⟩
  | 81 => ⟨S_, .i32⟩
  | 82 => ⟨S128x1, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S128x1, .i32⟩
  | 89 => ⟨S128x1, .i32⟩
  | 90 => ⟨S_, .i32⟩
  | 91 => ⟨S128x1, .i32⟩
  | 92 => ⟨S128x1, .i1⟩
  | 93 => ⟨S128x1, .i1⟩
  | 94 => ⟨S_, .i32⟩
  | 95 => ⟨S128x1, .i32⟩
  | 96 => ⟨S128x1, .i32⟩
  | 97 => ⟨S128x1, .i32⟩
  | 98 => ⟨S128x128, .i32⟩
  | 99 => ⟨S128x128, .i32⟩
  | 100 => ⟨S128x128, .i1⟩
  | 101 => ⟨S1x128x128, .i1⟩
  | 102 => ⟨S_, .f32⟩
  | 103 => ⟨S8x128x128, .i1⟩
  | 104 => ⟨S8x128x128, .f32⟩
  | 105 => ⟨S8x128x128, .f32⟩
  | 106 => ⟨S8x32x128x128, .f32⟩
  | 107 => ⟨S32x128x8x128, .f32⟩
  | 108 => ⟨S128x8, .f32⟩
  | 109 => ⟨S1x128x8x1, .f32⟩
  | 110 => ⟨S32x128x8x128, .f32⟩
  | 111 => ⟨S32x128x8x128, .f32⟩
  | 112 => ⟨S4096x1024, .f32⟩
  | 113 => ⟨S4096x1024, .f32⟩
  | 114 => ⟨S4096x1024, .f32⟩
  | 115 => ⟨S_, .f32⟩
  | 116 => ⟨S1x1024, .f32⟩
  | 117 => ⟨S4095x1024, .f32⟩
  | 118 => ⟨S4096x1024, .f32⟩
  | 119 => ⟨S_, .f32⟩
  | 120 => ⟨S2x1024, .f32⟩
  | 121 => ⟨S4094x1024, .f32⟩
  | 122 => ⟨S4096x1024, .f32⟩
  | 123 => ⟨S1x1024, .f32⟩
  | 124 => ⟨S1024, .f32⟩
  | 125 => ⟨S1x1024, .f32⟩
  | 126 => ⟨S4096x1024, .f32⟩
  | 127 => ⟨S4096x1024, .f32⟩
  | _ => ⟨S4096x5120, .bf16⟩

abbrev hbmTy0_1 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S1x1024, .f32⟩
  | 7 => ⟨S1024, .f32⟩
  | 8 => ⟨S1x1024, .f32⟩
  | 9 => ⟨S4096x1024, .f32⟩
  | 10 => ⟨S4096x1024, .f32⟩
  | 11 => ⟨S4096x1024, .f32⟩
  | 12 => ⟨S4096x1024, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S1024, .f32⟩
  | 31 => ⟨S4096x1024, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1, .f32⟩
  | 42 => ⟨S4096x1024, .f32⟩
  | 43 => ⟨S4096x1024, .f32⟩
  | 44 => ⟨S1x1024, .f32⟩
  | 45 => ⟨S4096x1024, .f32⟩
  | 46 => ⟨S4096x1024, .f32⟩
  | 47 => ⟨S4096x2048, .f32⟩
  | 48 => ⟨S4096x2048, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_10 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_11 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_12 : Ref sig .tc := ⟨.hbm, 143, rfl⟩
abbrev main_v88 : Ref sig .tc := ⟨.hbm, 144, rfl⟩
abbrev main_v89 : Ref sig .tc := ⟨.hbm, 145, rfl⟩
abbrev main_cst_13 : Ref sig .tc := ⟨.hbm, 146, rfl⟩
abbrev main_v90 : Ref sig .tc := ⟨.hbm, 147, rfl⟩
abbrev main_v91 : Ref sig .tc := ⟨.hbm, 148, rfl⟩
abbrev main_cst_14 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_15 : Ref sig .tc := ⟨.hbm, 160, rfl⟩
abbrev main_v102 : Ref sig .tc := ⟨.hbm, 161, rfl⟩
abbrev main_v103 : Ref sig .tc := ⟨.hbm, 162, rfl⟩
abbrev main_cst_16 : Ref sig .tc := ⟨.hbm, 163, rfl⟩
abbrev main_v104 : Ref sig .tc := ⟨.hbm, 164, rfl⟩
abbrev main_v105 : Ref sig .tc := ⟨.hbm, 165, rfl⟩
abbrev main_cst_17 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩

abbrev nD : Nat := 1
abbrev τ : Topo := Topo.v7x

variable {F : FTy → Type} [FloatOps F]
-- ==== Swiglu.lean ====
abbrev S4096x2048 : Shape := ⟨2, ![4096, 2048]⟩
abbrev S2048x11264 : Shape := ⟨2, ![2048, 11264]⟩
abbrev S2x4096x5632 : Shape := ⟨3, ![2, 4096, 5632]⟩
abbrev S4096x5632 : Shape := ⟨2, ![4096, 5632]⟩
abbrev S2048x2048 : Shape := ⟨2, ![2048, 2048]⟩
abbrev S2048x512 : Shape := ⟨2, ![2048, 512]⟩
abbrev S2x2048x512 : Shape := ⟨3, ![2, 2048, 512]⟩
abbrev S256x2048 : Shape := ⟨2, ![256, 2048]⟩
abbrev S256x512 : Shape := ⟨2, ![256, 512]⟩
abbrev S1x256x512 : Shape := ⟨3, ![1, 256, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2x4096x5632, .bf16⟩
  | .hbm, ⟨3, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x2048x512, .bf16⟩
  | .local _ .vmem, ⟨7, _⟩ => ⟨S2x2048x512, .bf16⟩
  | .local _ .vmem, ⟨8, _⟩ => ⟨S2048x512, .bf16⟩
  | .local _ .vmem, ⟨9, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluRefIdeal.lean ====
abbrev S4096x2048 : Shape := ⟨2, ![4096, 2048]⟩
abbrev S2048x11264 : Shape := ⟨2, ![2048, 11264]⟩
abbrev S2048x5632 : Shape := ⟨2, ![2048, 5632]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x5632, .bf16⟩
  | .hbm, ⟨4, _⟩ => ⟨S2048x5632, .f32⟩
  | .hbm, ⟨5, _⟩ => ⟨S4096x5632, .f32⟩
  | .hbm, ⟨6, _⟩ => ⟨S4096x2048, .f32⟩
  | .hbm, ⟨7, _⟩ => ⟨S2048x5632, .bf16⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S_, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S1x4096x5632, .f32⟩
  | .hbm, ⟨33, _⟩ => ⟨S1x4096x5632, .f32⟩
  | .hbm, ⟨34, _⟩ => ⟨S2x4096x5632, .f32⟩
  | .hbm, ⟨35, _⟩ => ⟨S2x4096x5632, .bf16⟩
  | .hbm, ⟨36, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v8_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v8_1 : Ref sig .tc := ⟨.hbm, 21, rfl⟩
abbrev main_v8_0 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩

abbrev nD : Nat := 1
abbrev τ : Topo := Topo.v7x

variable {F : FTy → Type} [FloatOps F]
-- ==== DownBwd.lean ====
abbrev S4096x2048 : Shape := ⟨2, ![4096, 2048]⟩
abbrev S5632x2048 : Shape := ⟨2, ![5632, 2048]⟩
abbrev S2048x11264 : Shape := ⟨2, ![2048, 11264]⟩
abbrev S2048x5632 : Shape := ⟨2, ![2048, 5632]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩
abbrev S2048x2048 : Shape := ⟨2, ![2048, 2048]⟩
abbrev S512x2048 : Shape := ⟨2, ![512, 2048]⟩
abbrev S2x2048x512 : Shape := ⟨3, ![2, 2048, 512]⟩
abbrev S2048x512 : Shape := ⟨2, ![2048, 512]⟩
abbrev S1x2048x512 : Shape := ⟨3, ![1, 2048, 512]⟩

abbrev nBuf : Space → Nat
  | .hbm => 40
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .bf16⟩
  | .hbm, ⟨3, _⟩ => ⟨S2048x11264, .bf16⟩
  | .hbm, ⟨4, _⟩ => ⟨S4096x2048, .f32⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S4096x2048, .f32⟩
  | .hbm, ⟨9, _⟩ => ⟨S2048x5632, .bf16⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S1x4096x5632, .f32⟩
  | .hbm, ⟨35, _⟩ => ⟨S1x4096x5632, .f32⟩
  | .hbm, ⟨36, _⟩ => ⟨S2x4096x5632, .f32⟩
  | .hbm, ⟨37, _⟩ => ⟨S2x4096x5632, .bf16⟩
  | .hbm, ⟨38, _⟩ => ⟨S4096x5632, .bf16⟩
  | .hbm, ⟨39, _⟩ => ⟨S2x4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048x512, .bf16⟩
  | .local _ .vmem, ⟨5, _⟩ => ⟨S2x2048x512, .bf16⟩
  | .local _ .vmem, ⟨6, _⟩ => ⟨S2x2048x512, .bf16⟩
  | .local _ .vmem, ⟨7, _⟩ => ⟨S2x2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v8_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v8_1 : Ref sig .tc := ⟨.hbm, 23, rfl⟩
abbrev main_v8_0 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownBwdRefIdeal.lean ====
abbrev S4096x2048 : Shape := ⟨2, ![4096, 2048]⟩
abbrev S5632x2048 : Shape := ⟨2, ![5632, 2048]⟩
abbrev S2048x11264 : Shape := ⟨2, ![2048, 11264]⟩
abbrev S2048x5632 : Shape := ⟨2, ![2048, 5632]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .bf16⟩
  | .hbm, ⟨3, _⟩ => ⟨S2048x11264, .bf16⟩
  | .hbm, ⟨4, _⟩ => ⟨S4096x2048, .f32⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S4096x2048, .f32⟩
  | .hbm, ⟨9, _⟩ => ⟨S2048x5632, .bf16⟩
  | .hbm, ⟨10, _⟩ => ⟨S2048x5632, .f32⟩
  | .hbm, ⟨11, _⟩ => ⟨S4096x5632, .f32⟩
  | .hbm, ⟨12, _⟩ => ⟨S5632x2048, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S1x4096x5632, .f32⟩
  | .hbm, ⟨37, _⟩ => ⟨S1x4096x5632, .f32⟩
  | .hbm, ⟨38, _⟩ => ⟨S2x4096x5632, .f32⟩
  | .hbm, ⟨39, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== GuBwd.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GuBwdRefIdeal.lean ====
abbrev S2x4096x5632 : Shape := ⟨3, ![2, 4096, 5632]⟩
abbrev S2048x11264 : Shape := ⟨2, ![2048, 11264]⟩
abbrev S1x4096x5632 : Shape := ⟨3, ![1, 4096, 5632]⟩
abbrev S4096x5632 : Shape := ⟨2, ![4096, 5632]⟩
abbrev S_ : Shape := ⟨0, ![]⟩
abbrev S4096x2048 : Shape := ⟨2, ![4096, 2048]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S1x4096x5632, .bf16⟩
  | .hbm, ⟨3, _⟩ => ⟨S4096x5632, .bf16⟩
  | .hbm, ⟨4, _⟩ => ⟨S4096x5632, .f32⟩
  | .hbm, ⟨5, _⟩ => ⟨S1x4096x5632, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S4096x2048, .f32⟩
  | .hbm, ⟨10, _⟩ => ⟨S2048x11264, .f32⟩
  | .hbm, ⟨11, _⟩ => ⟨S2048x5632, .f32⟩
  | .hbm, ⟨12, _⟩ => ⟨S4096x5632, .f32⟩
  | .hbm, ⟨13, _⟩ => ⟨S2048x5632, .f32⟩
  | .hbm, ⟨14, _⟩ => ⟨S4096x5632, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== GuDw.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GuDwRefIdeal.lean ====
abbrev S4096x2048 : Shape := ⟨2, ![4096, 2048]⟩
abbrev S2x4096x5632 : Shape := ⟨3, ![2, 4096, 5632]⟩
abbrev S1x4096x5632 : Shape := ⟨3, ![1, 4096, 5632]⟩
abbrev S4096x5632 : Shape := ⟨2, ![4096, 5632]⟩
abbrev S_ : Shape := ⟨0, ![]⟩
abbrev S2048x11264 : Shape := ⟨2, ![2048, 11264]⟩
abbrev S2048x5632 : Shape := ⟨2, ![2048, 5632]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S1x4096x5632, .bf16⟩
  | .hbm, ⟨3, _⟩ => ⟨S4096x5632, .bf16⟩
  | .hbm, ⟨4, _⟩ => ⟨S4096x5632, .f32⟩
  | .hbm, ⟨5, _⟩ => ⟨S1x4096x5632, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S2048x11264, .f32⟩
  | .hbm, ⟨10, _⟩ => ⟨S4096x2048, .f32⟩
  | .hbm, ⟨11, _⟩ => ⟨S2048x5632, .f32⟩
  | .hbm, ⟨12, _⟩ => ⟨S4096x5632, .f32⟩
  | .hbm, ⟨13, _⟩ => ⟨S2048x5632, .f32⟩
  | .hbm, ⟨14, _⟩ => ⟨S4096x5632, .f32⟩
  | .hbm, ⟨15, _⟩ => ⟨S5632x2048, .f32⟩
  | .hbm, ⟨16, _⟩ => ⟨S2048x5632, .f32⟩
  | .hbm, ⟨17, _⟩ => ⟨S_, .f32⟩
  | .hbm, ⟨18, _⟩ => ⟨S2048x11264, .f32⟩
  | .hbm, ⟨19, _⟩ => ⟨S5632x2048, .f32⟩
  | .hbm, ⟨20, _⟩ => ⟨S2048x5632, .f32⟩
  | .hbm, ⟨21, _⟩ => ⟨S_, .f32⟩
  | .hbm, ⟨22, _⟩ => ⟨S2048x11264, .f32⟩
  | .hbm, ⟨23, _⟩ => ⟨S2048x11264, .f32⟩
  | .hbm, ⟨24, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== DownDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x2048 : Shape := ⟨2, ![4096, 2048]⟩
abbrev S4096x5120 : Shape := ⟨2, ![4096, 5120]⟩
abbrev S2048x5120 : Shape := ⟨2, ![2048, 5120]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S2048x5120, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S_, .f32⟩
  | .hbm, ⟨3, _⟩ => ⟨S2048x5120, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutBwd.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InBwd.lean ====
abbrev S4096x5120 : Shape := ⟨2, ![4096, 5120]⟩
abbrev S2048x5120 : Shape := ⟨2, ![2048, 5120]⟩
abbrev S4096x2048 : Shape := ⟨2, ![4096, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .bf16⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .bf16⟩
  | .local _ .vmem, ⟨5, _⟩ => ⟨S1024x512, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdRefIdeal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S_, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S4096x2048, .f32⟩
  | .hbm, ⟨8, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== RmsFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsBwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Real.lean ====
module

public import Idealize.ShloMosaic.Lib.Pipeline.ValueKit
public import Idealize.ShloMosaic.Lib.Pointwise

/-! Extended reals that are real numbers: the operations the kernels use, at real arguments. -/

@[expose] public section

open Idealize.ShloMosaic

namespace Cert.Real

/-- The reciprocal square root of a positive real number. -/
theorem rsqrt_coe {x : ℝ} (h : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.2 h.le), if_neg h.ne']

theorem sqrt_coe {x : ℝ} (h : 0 ≤ x) : Ideal.sqrt (x : EReal) = ((Real.sqrt x : ℝ) : EReal) := by
  show (if x < 0 then (⊥ : EReal) else (Real.sqrt x : EReal)) = _
  rw [if_neg (not_lt.2 h)]

theorem tanh_coe (x : ℝ) : Ideal.tanh (x : EReal) = ((Real.tanh x : ℝ) : EReal) := rfl

theorem exp_coe (x : ℝ) : Ideal.exp (x : EReal) = ((Real.exp x : ℝ) : EReal) := rfl

/-- Division of real numbers by a nonzero one. -/
theorem div_coe (x : ℝ) {y : ℝ} (h : y ≠ 0) : Ideal.div (x : EReal) (y : EReal) = ((x / y : ℝ) : EReal) := by
  unfold Ideal.div
  rw [if_neg (by simpa using h), div_eq_mul_inv, EReal.coe_mul, EReal.coe_inv]

/-- A finite sum of real numbers, as extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- A sum whose terms are real numbers is the real sum. -/
theorem sum_of {ι : Type*} (s : Finset ι) {g : ι → EReal} {f : ι → ℝ} (h : ∀ i ∈ s, g i = ((f i : ℝ) : EReal)) :
    ∑ i ∈ s, g i = ((∑ i ∈ s, f i : ℝ) : EReal) := by
  rw [Finset.sum_congr rfl h, sum_coe]

/-- A comparison of the magnitude with infinity that succeeds says the number is real. -/
theorem real_of_cmp {x : EReal} (h : Ideal.cmp .olt (max x (-x)) ⊤ = 1#1) : ∃ r : ℝ, x = (r : EReal) := by
  induction x with
  | bot => simp [Ideal.cmp] at h
  | top => simp [Ideal.cmp] at h
  | coe r => exact ⟨r, rfl⟩

end Cert.Real
-- ==== Proof.MixerSpec.lean ====
module

public import proofs.«01_k».proof.Proof.Real
public import Idealize.ShloMosaic.Lib.Pipeline.ValueKit
public import Idealize.ShloMosaic.Lib.Pointwise

/-! The gated token mixer and its gradient over the real numbers: the functions of one row (GELU, mean, root-mean-square
and layer normalisation with their gradients), and every intermediate array of the mixer as a function of the row and the
column, both natural numbers. -/

@[expose] public section

noncomputable section

open Idealize.ShloMosaic

namespace Cert.Mix

/-! ## The operations at real numbers -/

section Ops
variable {φ : FTy}

theorem addf_coe (a b : ℝ) : FloatOps.addf (F := Ideal) (φ := φ) (a : EReal) (b : EReal) = ((a + b : ℝ) : EReal) := (EReal.coe_add a b).symm
theorem subf_coe (a b : ℝ) : FloatOps.subf (F := Ideal) (φ := φ) (a : EReal) (b : EReal) = ((a - b : ℝ) : EReal) := (EReal.coe_sub a b).symm
theorem mulf_coe (a b : ℝ) : FloatOps.mulf (F := Ideal) (φ := φ) (a : EReal) (b : EReal) = ((a * b : ℝ) : EReal) := (EReal.coe_mul a b).symm
theorem hneg_coe (a : ℝ) : FloatOps.hostNegf (F := Ideal) (φ := φ) (a : EReal) = ((-a : ℝ) : EReal) := (EReal.coe_neg a).symm
theorem htanh_coe (a : ℝ) : FloatOps.hostUnary (F := Ideal) (φ := φ) .tanh (a : EReal) = ((Real.tanh a : ℝ) : EReal) := rfl
theorem hrsqrt_coe {a : ℝ} (h : 0 < a) : FloatOps.hostUnary (F := Ideal) (φ := φ) .rsqrt (a : EReal) = (((Real.sqrt a)⁻¹ : ℝ) : EReal) :=
  Cert.Real.rsqrt_coe h
theorem hdiv_coe (a : ℝ) {b : ℝ} (h : b ≠ 0) : FloatOps.hostDivf (F := Ideal) (φ := φ) (a : EReal) (b : EReal) = ((a / b : ℝ) : EReal) :=
  Cert.Real.div_coe a h

end Ops

/-- The constant added to a variance. -/
def eL : ℝ := 2748779 / 274877906944
/-- The constant added to a mean square. -/
def eR : ℝ := 8796093 / 8796093022208

theorem eL_pos : 0 < eL := by unfold eL; norm_num
theorem eR_pos : 0 < eR := by unfold eR; norm_num

theorem bits_zero : (Ideal.ofBits .f32 0x00000000#32 : EReal) = ((0 : ℝ) : EReal) := by
  simp [Ideal.ofBits, Ideal.ieee, -EReal.coe_mul]
theorem bits_one : (Ideal.ofBits .f32 0x3F800000#32 : EReal) = ((1 : ℝ) : EReal) := by
  simp [Ideal.ofBits, Ideal.ieee, -EReal.coe_mul]; norm_num
theorem bits_half : (Ideal.ofBits .f32 0x3F000000#32 : EReal) = ((1 / 2 : ℝ) : EReal) := by
  simp [Ideal.ofBits, Ideal.ieee, -EReal.coe_mul]; norm_num
theorem bits_nhalf : (Ideal.ofBits .f32 0xBF000000#32 : EReal) = ((-(1 / 2) : ℝ) : EReal) := by
  simp [Ideal.ofBits, Ideal.ieee, -EReal.coe_mul]; norm_num
theorem bits_three : (Ideal.ofBits .f32 0x40400000#32 : EReal) = ((3 : ℝ) : EReal) := by
  simp [Ideal.ofBits, Ideal.ieee, -EReal.coe_mul]; norm_num
theorem bits_1024 : (Ideal.ofBits .f32 0x44800000#32 : EReal) = ((1024 : ℝ) : EReal) := by
  simp [Ideal.ofBits, Ideal.ieee, -EReal.coe_mul]; norm_num
theorem bits_eL : (Ideal.ofBits .f32 0x3727C5AC#32 : EReal) = ((eL : ℝ) : EReal) := by
  simp [Ideal.ofBits, Ideal.ieee, -EReal.coe_mul, eL]; norm_num
theorem bits_eR : (Ideal.ofBits .f32 0x358637BD#32 : EReal) = ((eR : ℝ) : EReal) := by
  simp [Ideal.ofBits, Ideal.ieee, -EReal.coe_mul, eR]; norm_num

theorem fbits_zero : (FloatOps.ofBits (F := Ideal) .f32 0x00000000#32 : EReal) = ((0 : ℝ) : EReal) := bits_zero
theorem fbits_one : (FloatOps.ofBits (F := Ideal) .f32 0x3F800000#32 : EReal) = ((1 : ℝ) : EReal) := bits_one
theorem fbits_half : (FloatOps.ofBits (F := Ideal) .f32 0x3F000000#32 : EReal) = ((1 / 2 : ℝ) : EReal) := bits_half
theorem fbits_nhalf : (FloatOps.ofBits (F := Ideal) .f32 0xBF000000#32 : EReal) = ((-(1 / 2) : ℝ) : EReal) := bits_nhalf
theorem fbits_three : (FloatOps.ofBits (F := Ideal) .f32 0x40400000#32 : EReal) = ((3 : ℝ) : EReal) := bits_three
theorem fbits_1024 : (FloatOps.ofBits (F := Ideal) .f32 0x44800000#32 : EReal) = ((1024 : ℝ) : EReal) := bits_1024
theorem fbits_eL : (FloatOps.ofBits (F := Ideal) .f32 0x3727C5AC#32 : EReal) = ((eL : ℝ) : EReal) := bits_eL
theorem fbits_eR : (FloatOps.ofBits (F := Ideal) .f32 0x358637BD#32 : EReal) = ((eR : ℝ) : EReal) := bits_eR

/-! ## Functions of one number and of one row -/

/-- The scale inside the GELU's hyperbolic tangent, the square root of two over pi in single precision. -/
def gc : ℝ := 13386282 / 16777216
/-- The cubic coefficient of the GELU, in single precision. -/
def gk : ℝ := 12003091 / 268435456

theorem bits_gc : (Ideal.ofBits .f32 0x3F4C422A#32 : EReal) = ((gc : ℝ) : EReal) := by
  simp [Ideal.ofBits, Ideal.ieee, -EReal.coe_mul, gc]; norm_num
theorem bits_gk : (Ideal.ofBits .f32 0x3D372713#32 : EReal) = ((gk : ℝ) : EReal) := by
  simp [Ideal.ofBits, Ideal.ieee, -EReal.coe_mul, gk]; norm_num
theorem fbits_gc : (FloatOps.ofBits (F := Ideal) .f32 0x3F4C422A#32 : EReal) = ((gc : ℝ) : EReal) := bits_gc
theorem fbits_gk : (FloatOps.ofBits (F := Ideal) .f32 0x3D372713#32 : EReal) = ((gk : ℝ) : EReal) := bits_gk

/-- The hyperbolic tangent inside the GELU. -/
def th (x : ℝ) : ℝ := Real.tanh (gc * (x + gk * (x * x * x)))
/-- The GELU. -/
def gelu (x : ℝ) : ℝ := x * (1 / 2 * (1 + th x))
/-- The derivative of the GELU. -/
def gelu' (x : ℝ) : ℝ := 1 / 2 * (1 + th x) + gc * (1 / 2 * x * ((1 + th x) * (1 - th x))) * (1 + gk * (3 * (x * x)))

/-- The mean of a row. -/
def mean (x : ℕ → ℝ) : ℝ := (∑ k : Fin 1024, x k) / 1024
/-- The mean square of a row, with the constant added. -/
def msq (e : ℝ) (x : ℕ → ℝ) : ℝ := mean (fun k => x k * x k) + e
/-- The reciprocal root mean square of a row. -/
def rms (e : ℝ) (x : ℕ → ℝ) : ℝ := (Real.sqrt (msq e x))⁻¹
/-- The row less its mean. -/
def ctr (x : ℕ → ℝ) (k : ℕ) : ℝ := x k - mean x
/-- The gradient of the root-mean-square normalisation of `x` at the cotangent `q`. -/
def rmsGrad (e : ℝ) (x q : ℕ → ℝ) (k : ℕ) : ℝ :=
  rms e x * (q k - x k * rms e x * mean (fun l => q l * (x l * rms e x)))
/-- The gradient of the layer normalisation, `x` the row less its mean, at the cotangent `q`. -/
def lnGrad (e : ℝ) (x q : ℕ → ℝ) (k : ℕ) : ℝ :=
  rms e x * (q k - mean q - x k * rms e x * mean (fun l => q l * (x l * rms e x)))

theorem msq_pos {e : ℝ} (he : 0 < e) (x : ℕ → ℝ) : 0 < msq e x := by
  unfold msq mean
  have : 0 ≤ ∑ k : Fin 1024, x k * x k := Finset.sum_nonneg fun k _ => mul_self_nonneg _
  positivity

theorem rms_sq {e : ℝ} (he : 0 < e) (x : ℕ → ℝ) : rms e x * rms e x = 1 / msq e x := by
  unfold rms
  rw [← mul_inv, Real.mul_self_sqrt (msq_pos he x).le, one_div]

/-- The gradient of the root-mean-square normalisation, as the chain rule through the reciprocal square root writes it. -/
theorem rmsGrad_eq {e : ℝ} (he : 0 < e) (x q : ℕ → ℝ) (k : ℕ) :
    rmsGrad e x q k = q k * rms e x + x k * ((∑ l : Fin 1024, x l * q l) * (-(1 / 2) * (rms e x / msq e x)) / 1024)
      + (∑ l : Fin 1024, x l * q l) * (-(1 / 2) * (rms e x / msq e x)) / 1024 * x k := by
  have h1 : mean (fun l => q l * (x l * rms e x)) = (∑ l : Fin 1024, x l * q l) * rms e x / 1024 := by
    unfold mean; rw [Finset.sum_mul]; congr 1; exact Finset.sum_congr rfl fun l _ => by ring
  have h2 : rms e x / msq e x = rms e x * (rms e x * rms e x) := by rw [rms_sq he, div_eq_mul_one_div]
  unfold rmsGrad
  rw [h1, h2]; ring

theorem mean_ctr (x : ℕ → ℝ) : ∑ k : Fin 1024, ctr x k = 0 := by
  unfold ctr
  rw [Finset.sum_sub_distrib]
  simp [mean]
  ring

/-- The gradient of the layer normalisation, as the chain rule writes it: the gradient through the product and the
    reciprocal root, less its own mean. -/
theorem lnGrad_eq {e : ℝ} (he : 0 < e) (x q : ℕ → ℝ) (k : ℕ) :
    lnGrad e (ctr x) q k = rmsGrad e (ctr x) q k + (∑ l : Fin 1024, -rmsGrad e (ctr x) q l) / 1024 := by
  have h : (∑ l : Fin 1024, -rmsGrad e (ctr x) q l) = -(rms e (ctr x) * ∑ l : Fin 1024, q l) := by
    unfold rmsGrad
    generalize mean (fun l => q l * (ctr x l * rms e (ctr x))) = c
    rw [Finset.mul_sum, ← Finset.sum_neg_distrib]
    have : ∀ l : Fin 1024, -(rms e (ctr x) * (q l - ctr x l * rms e (ctr x) * c))
        = -(rms e (ctr x) * q l) + (rms e (ctr x) * rms e (ctr x) * c) * ctr x l := fun l => by ring
    rw [Finset.sum_congr rfl fun l _ => this l, Finset.sum_add_distrib, ← Finset.mul_sum, mean_ctr, mul_zero, add_zero]
  rw [h]
  unfold lnGrad rmsGrad mean
  ring

theorem mean_congr {x y : ℕ → ℝ} (h : ∀ k : Fin 1024, x k = y k) : mean x = mean y := by
  unfold mean; rw [Finset.sum_congr rfl fun k _ => h k]

/-! ## The mixer -/

/-- The mixer's arguments, as real numbers. -/
structure D where
  z : ℕ → ℕ → ℝ
  dy : ℕ → ℕ → ℝ
  lg : ℕ → ℝ
  lb : ℕ → ℝ
  ws : ℕ → ℕ → ℕ → ℝ
  bs : ℕ → ℕ → ℝ
  cw : ℕ → ℕ → ℝ
  gn : ℕ → ℝ

namespace D
variable (d : D)

/-- The mixing weights, zero above the block diagonal of 64. -/
def wm (h i j : ℕ) : ℝ := if j / 64 ≤ i / 64 then d.ws h i j else 0
def u (s k : ℕ) : ℝ := gelu (d.z s k)
def vg (s k : ℕ) : ℝ := gelu (d.z s (1024 + k))
def xc (s k : ℕ) : ℝ := ctr (d.vg s) k
def vh (s k : ℕ) : ℝ := d.xc s k * rms eL (d.xc s)
def vn (s k : ℕ) : ℝ := d.vh s k * d.lg k + d.lb k
def mixed (s k : ℕ) : ℝ := (∑ j : Fin 128, d.wm (k / 128) (s % 128) j * d.vn (s / 128 * 128 + j) k) + d.bs (k / 128) (s % 128)
def ya (s k : ℕ) : ℝ := d.u s k * d.mixed s k
def yha (s k : ℕ) : ℝ := d.ya s k * rms eR (d.ya s)
def qa (s k : ℕ) : ℝ := d.dy s k * d.gn k
def dya (s k : ℕ) : ℝ := rmsGrad eR (d.ya s) (d.qa s) k
def dmix (s k : ℕ) : ℝ := d.dya s k * d.u s k
def dvn (s k : ℕ) : ℝ := ∑ j : Fin 128, d.wm (k / 128) j (s % 128) * d.dmix (s / 128 * 128 + j) k
def dvh (s k : ℕ) : ℝ := d.dvn s k * d.lg k
def dvg (s k : ℕ) : ℝ := lnGrad eL (d.xc s) (d.dvh s) k
/-- The product the convolution reads. -/
def p (s k : ℕ) : ℝ := d.z s (3072 + k) * d.z s (4096 + k)
/-- That product `j` rows earlier, zero before the first row. -/
def ps (j s k : ℕ) : ℝ := if j ≤ s then d.p (s - j) k else 0
def cv (s k : ℕ) : ℝ := d.cw 2 k * d.p s k + d.cw 1 k * d.ps 1 s k + d.cw 0 k * d.ps 2 s k
def yb (s k : ℕ) : ℝ := d.z s (2048 + k) * d.cv s k
def yhb (s k : ℕ) : ℝ := d.yb s k * rms eR (d.yb s)
def qb (s k : ℕ) : ℝ := d.dy s (1024 + k) * d.gn (1024 + k)
def dyb (s k : ℕ) : ℝ := rmsGrad eR (d.yb s) (d.qb s) k
def dcv (s k : ℕ) : ℝ := if s < 4096 then d.dyb s k * d.z s (2048 + k) else 0
def dp (s k : ℕ) : ℝ := d.cw 2 k * d.dcv s k + d.cw 1 k * d.dcv (s + 1) k + d.cw 0 k * d.dcv (s + 2) k

/-- The five column groups of the gradient with respect to the input. -/
def dz0 (s k : ℕ) : ℝ := d.dya s k * d.mixed s k * gelu' (d.z s k)
def dz1 (s k : ℕ) : ℝ := d.dvg s k * gelu' (d.z s (1024 + k))
def dz2 (s k : ℕ) : ℝ := d.dyb s k * d.cv s k
def dz3 (s k : ℕ) : ℝ := d.dp s k * d.z s (4096 + k)
def dz4 (s k : ℕ) : ℝ := d.dp s k * d.z s (3072 + k)

/-- The terms, row by row, of the gradients with respect to the parameters. -/
def gA (s k : ℕ) : ℝ := d.dy s k * d.yha s k
def gB (s k : ℕ) : ℝ := d.dy s (1024 + k) * d.yhb s k
def gG (s k : ℕ) : ℝ := d.dvn s k * d.vh s k
def gC (j s k : ℕ) : ℝ := d.dcv s k * d.ps j s k
/-- The terms of the gradients with respect to the mixing weights and biases, by chunk of 128 rows. -/
def gW (c h i j : ℕ) : ℝ := ∑ l : Fin 128, d.dmix (128 * c + i) (128 * h + l) * d.vn (128 * c + j) (128 * h + l)
def gS (c h i : ℕ) : ℝ := ∑ l : Fin 128, d.dmix (128 * c + i) (128 * h + l)

/-! The seven results. -/

/-- The gradient with respect to the gated half of the input, before the GELU. -/
def gin (s k : ℕ) : ℝ := if k < 1024 then d.dya s (k - 0) * d.mixed s (k - 0) else d.dvg s (k - 1024)
/-- The gradient with respect to the input, all five column groups. -/
def dz (s k : ℕ) : ℝ :=
  if k < 1024 then d.dz0 s k else if k < 2048 then d.dz1 s (k - 1024) else if k < 3072 then d.dz2 s (k - 2048)
  else if k < 4096 then d.dz3 s (k - 3072) else d.dz4 s (k - 4096)
/-- The gradient with respect to the weight of the output norm. -/
def rgn (k : ℕ) : ℝ := if k < 1024 then ∑ s : Fin 4096, d.gA s k else ∑ s : Fin 4096, d.gB s (k - 1024)
/-- The gradient with respect to the convolution's taps, zero below the third row. -/
def rcw (r k : ℕ) : ℝ := if r < 3 then ∑ s : Fin 4096, d.gC (2 - r) s k else 0
/-- The gradient with respect to the mixing weights, zero above the block diagonal. -/
def rws (h i j : ℕ) : ℝ := if j / 64 ≤ i / 64 then ∑ c : Fin 32, d.gW c h i j else 0

end D

end Cert.Mix
-- ==== Proof.MixerKer.lean ====
module

public import proofs.«01_k».proof.Proof.MixerSpec
public import proofs.«01_k».proof.Proof.Gen.MixerIdeal.Frame
import Idealize.ShloMosaic.Lib.Pipeline.ReadBack

/-! The values the mixer's gradient kernel computes at one step, at real inputs: every intermediate array of a block of 256
rows is the mixer's own array at those rows. -/

@[expose] public section
noncomputable section
open Idealize.ShloMosaic Cert.MixerIdeal Cert.MixerIdeal.Gen Cert.Real
namespace Cert.Mix.Ker

theorem n1024 : (1024 : ℝ) ≠ 0 := by norm_num
theorem mul_c (a b : ℝ) : (a : EReal) * (b : EReal) = ((a * b : ℝ) : EReal) := (EReal.coe_mul a b).symm
theorem add_c (a b : ℝ) : (a : EReal) + (b : EReal) = ((a + b : ℝ) : EReal) := (EReal.coe_add a b).symm
theorem sub_c (a b : ℝ) : (a : EReal) - (b : EReal) = ((a - b : ℝ) : EReal) := (EReal.coe_sub a b).symm
theorem zadd_c (a : EReal) : ((0 : ℝ) : EReal) + a = a := by rw [EReal.coe_zero, zero_add]
theorem ec {a b : ℝ} (h : a = b) : (a : EReal) = (b : EReal) := by rw [h]
theorem c2 (f : ℕ → ℕ → ℝ) {a b a' b' : ℕ} (h : a = a') (h' : b = b') : f a b = f a' b' := by rw [h, h']

theorem th' (x : ℝ) : Real.tanh (x * (gc + gc * gk * (x * x))) = th x := by
  unfold th; congr 1; ring
theorem ck_eq : (80338380498831 / 2251799813685248 : ℝ) = gc * gk := by unfold gc gk; norm_num
theorem ck3_eq : (241015141496493 / 2251799813685248 : ℝ) = 3 * (gc * gk) := by unfold gc gk; norm_num
theorem n_ck : (Named.named (F := Ideal) (φ := .f32) κ "gelu_ck" 0x3D122279#32 : EReal) = ((gc * gk : ℝ) : EReal) := by
  rw [← ck_eq]; exact IdealRules.named_const.ideal_named_scalar _ _ _ _ rfl
theorem n_3ck : (Named.named (F := Ideal) (φ := .f32) κ "gelu_3ck" 0x3DDB33B6#32 : EReal) = ((3 * (gc * gk) : ℝ) : EReal) := by
  rw [← ck3_eq]; exact IdealRules.named_const.ideal_named_scalar _ _ _ _ rfl

/-- The blocks of one step: `z` at the step's rows, with sixteen rows before and after it, and so on. -/
structure Blk (d : D) (t : ℕ) (zp : ℕ → ℕ → ℝ) (i : grid0.Coords) (x0 : Vec Ideal S16x5120 .bf16) (x1 : Vec Ideal S256x5120 .bf16) (x2 : Vec Ideal S16x5120 .bf16) (x3 : Vec Ideal S256x2048 .bf16) (x4 : Vec Ideal S16x2048 .bf16) (x5 : Vec Ideal S1x1024 .f32) (x6 : Vec Ideal S1x1024 .f32) (x7 : Vec Ideal S8x128x128 .bf16) (x8 : Vec Ideal S8x128x128 .bf16) (x9 : Vec Ideal S8x128x128 .f32) (x10 : Vec Ideal S8x1024 .f32) (x11 : Vec Ideal S1x2048 .f32) : Prop where
  ht : (i 0).val = t
  h16 : t < 16
  hz : t ≠ 0 → ∀ r k, r < 16 → zp r k = d.z (256 * t - 16 + r) k
  hdy : ∀ s k, 4096 ≤ s → d.dy s k = 0
  h0 : ∀ y : S16x5120.Idx, x0 y = ((zp (y 0).val (y 1).val : ℝ) : EReal)
  h1 : ∀ y : S256x5120.Idx, x1 y = ((d.z (256 * t + (y 0).val) (y 1).val : ℝ) : EReal)
  h2 : ∀ y : S16x5120.Idx, x2 y = ((d.z (256 * t + 256 + (y 0).val) (y 1).val : ℝ) : EReal)
  h3 : ∀ y : S256x2048.Idx, x3 y = ((d.dy (256 * t + (y 0).val) (y 1).val : ℝ) : EReal)
  h4 : t < 15 → ∀ y : S16x2048.Idx, x4 y = ((d.dy (256 * t + 256 + (y 0).val) (y 1).val : ℝ) : EReal)
  h5 : ∀ y : S1x1024.Idx, x5 y = ((d.lg (y 1).val : ℝ) : EReal)
  h6 : ∀ y : S1x1024.Idx, x6 y = ((d.lb (y 1).val : ℝ) : EReal)
  h7 : ∀ y : S8x128x128.Idx, x7 y = ((d.wm (y 0).val (y 1).val (y 2).val : ℝ) : EReal)
  h8 : ∀ y : S8x128x128.Idx, x8 y = ((d.wm (y 0).val (y 2).val (y 1).val : ℝ) : EReal)
  h9 : ∀ y : S8x128x128.Idx, x9 y = ((d.bs (y 0).val (y 1).val : ℝ) : EReal)
  h10 : ∀ y : S8x1024.Idx, (y 0).val < 3 → x10 y = ((d.cw (y 0).val (y 1).val : ℝ) : EReal)
  h11 : ∀ y : S1x2048.Idx, x11 y = ((d.gn (y 1).val : ℝ) : EReal)

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S16x5120 .bf16} {harg3 : arg3.IsWhole}
variable {arg4 : Memref sig .tc .vmem S256x2048 .bf16} {harg4 : arg4.IsWhole}
variable {arg5 : Memref sig .tc .vmem S16x2048 .bf16} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S8x128x128 .f32} {harg10 : arg10.IsWhole}
variable {arg11 : Memref sig .tc .vmem S8x1024 .f32} {harg11 : arg11.IsWhole}
variable {arg12 : Memref sig .tc .vmem S1x2048 .f32} {harg12 : arg12.IsWhole}
variable {arg13 : Memref sig .tc .vmem S256x5120 .bf16} {harg13 : arg13.IsWhole}
variable {arg14 : Memref sig .tc .vmem S1x2048 .f32} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S8x128x128 .f32} {harg17 : arg17.IsWhole}
variable {arg18 : Memref sig .tc .vmem S8x8x128 .f32} {harg18 : arg18.IsWhole}
variable {arg19 : Memref sig .tc .vmem S8x1024 .f32} {harg19 : arg19.IsWhole}
variable {arg20 : Memref sig .tc .vmem S256x1024 .bf16} {harg20 : arg20.IsWhole}
variable {arg21 : Memref sig .tc .vmem S256x1024 .f32} {harg21 : arg21.IsWhole}
variable {arg22 : Memref sig .tc .vmem S256x1024 .bf16} {harg22 : arg22.IsWhole}
variable {arg23 : Memref sig .tc .vmem S256x1024 .f32} {harg23 : arg23.IsWhole}
variable {x0 : Vec Ideal S16x5120 .bf16} {x1 : Vec Ideal S256x5120 .bf16} {x2 : Vec Ideal S16x5120 .bf16} {x3 : Vec Ideal S256x2048 .bf16} {x4 : Vec Ideal S16x2048 .bf16} {x5 : Vec Ideal S1x1024 .f32} {x6 : Vec Ideal S1x1024 .f32} {x7 : Vec Ideal S8x128x128 .bf16} {x8 : Vec Ideal S8x128x128 .bf16} {x9 : Vec Ideal S8x128x128 .f32} {x10 : Vec Ideal S8x1024 .f32} {x11 : Vec Ideal S1x2048 .f32}
variable {xo13 : Vec Ideal S1x2048 .f32} {xo14 : Vec Ideal S1x1024 .f32} {xo15 : Vec Ideal S1x1024 .f32} {xo16 : Vec Ideal S8x128x128 .f32} {xo17 : Vec Ideal S8x8x128 .f32} {xo18 : Vec Ideal S8x1024 .f32}
variable {d : D} {t : ℕ} {zp : ℕ → ℕ → ℝ} (H : Blk d t zp i x0 x1 x2 x3 x4 x5 x6 x7 x8 x9 x10 x11)
include H

theorem k_r (y : S256x1024.Idx) : kernelRun0_B.sl.r (F := Ideal) c arg2 harg2 x1 y = ((gelu' (d.z (256 * t + (y 0).val) (y 1).val) : ℝ) : EReal) := by
  unfold kernelRun0_B.sl.r; open_payloads; try simp only [View.readAt_eq_ld, Memref.IsWhole.read_unread]
  pointwise
  simp only [H.h1, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_; unfold gelu'; ring

theorem k_r_1 (y : S256x1024.Idx) : kernelRun0_B.sl.r_1 (F := Ideal) c arg2 harg2 x1 y = ((d.u (256 * t + (y 0).val) (y 1).val : ℝ) : EReal) := by
  unfold kernelRun0_B.sl.r_1; open_payloads; try simp only [View.readAt_eq_ld, Memref.IsWhole.read_unread]
  pointwise
  simp only [H.h1, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_; unfold D.u gelu; ring

theorem k_r_2 (y : S256x1024.Idx) : kernelRun0_B.sl.r_2 (F := Ideal) c arg2 harg2 x1 y = ((d.z (256 * t + (y 0).val) (1024 + (y 1).val) * d.z (256 * t + (y 0).val) (1024 + (y 1).val) : ℝ) : EReal) := by
  unfold kernelRun0_B.sl.r_2; open_payloads; try simp only [View.readAt_eq_ld, Memref.IsWhole.read_unread]
  pointwise
  simp only [H.h1, ix2, ix3, Memref.IsWhole.read_unread, bits_zero, bits_one, bits_half, bits_1024, bits_eL, bits_eR, bits_gc, n_ck, n_3ck, mul_c, add_c, sub_c, zadd_c, sum_coe, tanh_coe, th', div_coe _ n1024]
  done

theorem k_r_3 (y : S256x1024.Idx) : kernelRun0_B.sl.r_3 (F := Ideal) c arg2 harg2 x1 y = ((th (d.z (256 * t + (y 0).val) (1024 + (y 1).val)) : ℝ) : EReal) := by
  unfold kernelRun0_B.sl.r_3; open_payloads; try simp only [View.readAt_eq_ld, Memref.IsWhole.read_unread]
  pointwise
  simp only [H.h1, ix2, ix3, Memref.IsWhole.read_unread, bits_zero, bits_one, bits_half, bits_1024, bits_eL, bits_eR, bits_gc, n_ck, n_3ck, mul_c, add_c, sub_c, zadd_c, sum_coe, tanh_coe, th', div_coe _ n1024]
  done

theorem k_r_4 (y : S256x1024.Idx) : kernelRun0_B.sl.r_4 (F := Ideal) c arg2 harg2 x1 y = ((1 / 2 * d.z (256 * t + (y 0).val) (1024 + (y 1).val) : ℝ) : EReal) := by
  unfold kernelRun0_B.sl.r_4; open_payloads; try simp only [View.readAt_eq_ld, Memref.IsWhole.read_unread]
  pointwise
  simp only [H.h1, ix2, ix3, Memref.IsWhole.read_unread, bits_zero, bits_one, bits_half, bits_1024, bits_eL, bits_eR, bits_gc, n_ck, n_3ck, mul_c, add_c, sub_c, zadd_c, sum_coe, tanh_coe, th', div_coe _ n1024]
  done

theorem k_r_5 (y : S256x1024.Idx) : kernelRun0_B.sl.r_5 (F := Ideal) c arg2 harg2 x1 y = ((gelu' (d.z (256 * t + (y 0).val) (1024 + (y 1).val)) : ℝ) : EReal) := by
  unfold kernelRun0_B.sl.r_5; open_payloads; try simp only [View.readAt_eq_ld, Memref.IsWhole.read_unread]
  pointwise
  simp only [k_r_2 H, k_r_3 H, k_r_4 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_; unfold gelu'; ring

theorem k_xc (y : S256x1024.Idx) : k0_pay19 (kernelRun0_B.sl.r_3 (F := Ideal) c arg2 harg2 x1) (kernelRun0_B.sl.r_4 (F := Ideal) c arg2 harg2 x1) y = ((d.xc (256 * t + (y 0).val) (y 1).val : ℝ) : EReal) := by
  unfold k0_pay19; try simp only [View.readAt_eq_ld, Memref.IsWhole.read_unread]
  pointwise
  simp only [k_r_3 H, k_r_4 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_; unfold D.xc ctr mean D.vg gelu
  have e : ∀ x : ℝ, 1 / 2 * x + 1 / 2 * x * th x = x * (1 / 2 * (1 + th x)) := fun x => by ring
  simp only [e]

theorem k_r_6 (y : S256x1.Idx) : kernelRun0_B.sl.r_6 (F := Ideal) c arg2 harg2 x1 y = ((rms eL (d.xc (256 * t + (y 0).val)) : ℝ) : EReal) := by
  unfold kernelRun0_B.sl.r_6; unfold k0_pay20; try simp only [View.readAt_eq_ld, Memref.IsWhole.read_unread]
  pointwise
  simp only [k_xc H, ix2, ix3, Memref.IsWhole.read_unread, bits_zero, bits_one, bits_half, bits_1024, bits_eL, bits_eR, bits_gc, n_ck, n_3ck, mul_c, add_c, sub_c, zadd_c, sum_coe, tanh_coe, th', div_coe _ n1024]
  exact rsqrt_coe (msq_pos eL_pos (d.xc _))

theorem k_r_7 (y : S256x1024.Idx) : kernelRun0_B.sl.r_7 (F := Ideal) c arg2 harg2 x1 y = ((d.vh (256 * t + (y 0).val) (y 1).val : ℝ) : EReal) := by
  unfold kernelRun0_B.sl.r_7; unfold k0_pay21
  have hr6 : ∀ y : S256x1.Idx, k0_pay20 (kernelRun0_B.sl.r_3 (F := Ideal) c arg2 harg2 x1) (kernelRun0_B.sl.r_4 (F := Ideal) c arg2 harg2 x1) y = ((rms eL (d.xc (256 * t + (y 0).val)) : ℝ) : EReal) := k_r_6 H
  ; try simp only [View.readAt_eq_ld, Memref.IsWhole.read_unread]
  pointwise
  simp only [k_xc H, hr6, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_r_8 (y : S256x1024.Idx) : kernelRun0_B.sl.r_8 (F := Ideal) c arg2 harg2 arg6 harg6 arg7 harg7 x1 x5 x6 y = ((d.vn (256 * t + (y 0).val) (y 1).val : ℝ) : EReal) := by
  unfold kernelRun0_B.sl.r_8; unfold k0_pay22
  have hr7 : ∀ y : S256x1024.Idx, k0_pay21 (kernelRun0_B.sl.r_3 (F := Ideal) c arg2 harg2 x1) (kernelRun0_B.sl.r_4 (F := Ideal) c arg2 harg2 x1) y = ((d.vh (256 * t + (y 0).val) (y 1).val : ℝ) : EReal) := k_r_7 H
  ; try simp only [View.readAt_eq_ld, Memref.IsWhole.read_unread]
  pointwise
  simp only [hr7, H.h5, H.h6, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

omit H in
/-- Sixteen tiles of an array, read at an index. -/
theorem canon_of (G : S256x1024.Idx → EReal) (L : List (View.Piece (Elt Ideal) S256x1024 .f32))
    (hL : ∀ p ∈ L, ∀ x : p.1.shape.Idx, p.2 x = G (p.1.emb x)) (y : S256x1024.Idx) (h : View.Piece.tiledL L S128x128.size = true) :
    View.canon L y = G y :=
  View.canon_apply_of_pieces (S := S256x1024) (e := .f32) G L hL y (View.cover_of_tiledL (s := S256x1024) L S128x128.size h y)
omit H in
/-- A tile of the mixed values. -/
theorem mixed_at {d : D} {s k h i q : ℕ} (hk : k / 128 = h) (hi : s % 128 = i) (hq : s / 128 * 128 = q) :
    d.mixed s k = (∑ j : Fin 128, d.wm h i j * d.vn (q + j) k) + d.bs h i := by subst hk hi hq; rfl
omit H in
/-- A tile of the gradient with respect to the normalised gate. -/
theorem dvn_at {d : D} {s k h i q : ℕ} (hk : k / 128 = h) (hi : s % 128 = i) (hq : s / 128 * 128 = q) :
    d.dvn s k = ∑ j : Fin 128, d.wm h j i * d.dmix (q + j) k := by subst hk hi hq; rfl

theorem k_v87 (y : S128x128.Idx) : kernelRun0_B.sl.v87 (F := Ideal) c arg2 harg2 arg6 harg6 arg7 harg7 arg20 x1 x5 x6 y = ((d.vn (256 * t + ((y 0).val)) ((y 1).val) : ℝ) : EReal) := by
  unfold kernelRun0_B.sl.v87 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v94 (y : S128x128.Idx) : kernelRun0_B.sl.v94 (F := Ideal) c arg2 harg2 arg6 harg6 arg7 harg7 arg8 harg8 arg10 harg10 arg20 x1 x5 x6 x7 x9 y = ((d.mixed (256 * t + ((y 0).val)) ((y 1).val) : ℝ) : EReal) := by
  have hy : (y 0).val < 128 := (y 0).isLt
  have hy1 : (y 1).val < 128 := (y 1).isLt
  unfold kernelRun0_B.sl.v94 kernelRun0_B.sl.v91 kernelRun0_B.sl.v90 kernelRun0_B.sl.v88 kernelRun0_B.sl.cst_34 kernelRun0_B.sl.v86; try simp only [View.readAt_eq_ld, Memref.IsWhole.read_unread]
  pointwise
  simp only [k_v87 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 0) (i := (y 0).val) (q := 256 * t) (by omega) (by omega) (by omega)]
  simp only [Nat.add_assoc]; rfl

theorem k_v167 (y : S128x128.Idx) : kernelRun0_B.sl.v167 (F := Ideal) c arg2 harg2 arg6 harg6 arg7 harg7 arg20 x1 x5 x6 y = ((d.vn (256 * t + (128 + (y 0).val)) ((y 1).val) : ℝ) : EReal) := by
  unfold kernelRun0_B.sl.v167 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v174 (y : S128x128.Idx) : kernelRun0_B.sl.v174 (F := Ideal) c arg2 harg2 arg6 harg6 arg7 harg7 arg8 harg8 arg10 harg10 arg20 x1 x5 x6 x7 x9 y = ((d.mixed (256 * t + (128 + (y 0).val)) ((y 1).val) : ℝ) : EReal) := by
  have hy : (y 0).val < 128 := (y 0).isLt
  have hy1 : (y 1).val < 128 := (y 1).isLt
  unfold kernelRun0_B.sl.v174 kernelRun0_B.sl.v171 kernelRun0_B.sl.v90 kernelRun0_B.sl.v168 kernelRun0_B.sl.cst_34 kernelRun0_B.sl.v86; try simp only [View.readAt_eq_ld, Memref.IsWhole.read_unread]
  pointwise
  simp only [k_v167 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 0) (i := (y 0).val) (q := 256 * t + 128) (by omega) (by omega) (by omega)]
  simp only [Nat.add_assoc]; rfl

theorem k_v97 (y : S128x128.Idx) : kernelRun0_B.sl.v97 (F := Ideal) c arg2 harg2 arg6 harg6 arg7 harg7 arg20 x1 x5 x6 y = ((d.vn (256 * t + ((y 0).val)) (128 + (y 1).val) : ℝ) : EReal) := by
  unfold kernelRun0_B.sl.v97 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v104 (y : S128x128.Idx) : kernelRun0_B.sl.v104 (F := Ideal) c arg2 harg2 arg6 harg6 arg7 harg7 arg8 harg8 arg10 harg10 arg20 x1 x5 x6 x7 x9 y = ((d.mixed (256 * t + ((y 0).val)) (128 + (y 1).val) : ℝ) : EReal) := by
  have hy : (y 0).val < 128 := (y 0).isLt
  have hy1 : (y 1).val < 128 := (y 1).isLt
  unfold kernelRun0_B.sl.v104 kernelRun0_B.sl.v101 kernelRun0_B.sl.v100 kernelRun0_B.sl.v98 kernelRun0_B.sl.cst_34 kernelRun0_B.sl.v96; try simp only [View.readAt_eq_ld, Memref.IsWhole.read_unread]
  pointwise
  simp only [k_v97 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 1) (i := (y 0).val) (q := 256 * t) (by omega) (by omega) (by omega)]
  simp only [Nat.add_assoc]; rfl

theorem k_v177 (y : S128x128.Idx) : kernelRun0_B.sl.v177 (F := Ideal) c arg2 harg2 arg6 harg6 arg7 harg7 arg20 x1 x5 x6 y = ((d.vn (256 * t + (128 + (y 0).val)) (128 + (y 1).val) : ℝ) : EReal) := by
  unfold kernelRun0_B.sl.v177 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v184 (y : S128x128.Idx) : kernelRun0_B.sl.v184 (F := Ideal) c arg2 harg2 arg6 harg6 arg7 harg7 arg8 harg8 arg10 harg10 arg20 x1 x5 x6 x7 x9 y = ((d.mixed (256 * t + (128 + (y 0).val)) (128 + (y 1).val) : ℝ) : EReal) := by
  have hy : (y 0).val < 128 := (y 0).isLt
  have hy1 : (y 1).val < 128 := (y 1).isLt
  unfold kernelRun0_B.sl.v184 kernelRun0_B.sl.v181 kernelRun0_B.sl.v100 kernelRun0_B.sl.v178 kernelRun0_B.sl.cst_34 kernelRun0_B.sl.v96; try simp only [View.readAt_eq_ld, Memref.IsWhole.read_unread]
  pointwise
  simp only [k_v177 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 1) (i := (y 0).val) (q := 256 * t + 128) (by omega) (by omega) (by omega)]
  simp only [Nat.add_assoc]; rfl

theorem k_v107 (y : S128x128.Idx) : kernelRun0_B.sl.v107 (F := Ideal) c arg2 harg2 arg6 harg6 arg7 harg7 arg20 x1 x5 x6 y = ((d.vn (256 * t + ((y 0).val)) (256 + (y 1).val) : ℝ) : EReal) := by
  unfold kernelRun0_B.sl.v107 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v114 (y : S128x128.Idx) : kernelRun0_B.sl.v114 (F := Ideal) c arg2 harg2 arg6 harg6 arg7 harg7 arg8 harg8 arg10 harg10 arg20 x1 x5 x6 x7 x9 y = ((d.mixed (256 * t + ((y 0).val)) (256 + (y 1).val) : ℝ) : EReal) := by
  have hy : (y 0).val < 128 := (y 0).isLt
  have hy1 : (y 1).val < 128 := (y 1).isLt
  unfold kernelRun0_B.sl.v114 kernelRun0_B.sl.v111 kernelRun0_B.sl.v110 kernelRun0_B.sl.v108 kernelRun0_B.sl.cst_34 kernelRun0_B.sl.v106; try simp only [View.readAt_eq_ld, Memref.IsWhole.read_unread]
  pointwise
  simp only [k_v107 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 2) (i := (y 0).val) (q := 256 * t) (by omega) (by omega) (by omega)]
  simp only [Nat.add_assoc]; rfl

theorem k_v187 (y : S128x128.Idx) : kernelRun0_B.sl.v187 (F := Ideal) c arg2 harg2 arg6 harg6 arg7 harg7 arg20 x1 x5 x6 y = ((d.vn (256 * t + (128 + (y 0).val)) (256 + (y 1).val) : ℝ) : EReal) := by
  unfold kernelRun0_B.sl.v187 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v194 (y : S128x128.Idx) : kernelRun0_B.sl.v194 (F := Ideal) c arg2 harg2 arg6 harg6 arg7 harg7 arg8 harg8 arg10 harg10 arg20 x1 x5 x6 x7 x9 y = ((d.mixed (256 * t + (128 + (y 0).val)) (256 + (y 1).val) : ℝ) : EReal) := by
  have hy : (y 0).val < 128 := (y 0).isLt
  have hy1 : (y 1).val < 128 := (y 1).isLt
  unfold kernelRun0_B.sl.v194 kernelRun0_B.sl.v191 kernelRun0_B.sl.v110 kernelRun0_B.sl.v188 kernelRun0_B.sl.cst_34 kernelRun0_B.sl.v106; try simp only [View.readAt_eq_ld, Memref.IsWhole.read_unread]
  pointwise
  simp only [k_v187 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 2) (i := (y 0).val) (q := 256 * t + 128) (by omega) (by omega) (by omega)]
  simp only [Nat.add_assoc]; rfl

theorem k_v117 (y : S128x128.Idx) : kernelRun0_B.sl.v117 (F := Ideal) c arg2 harg2 arg6 harg6 arg7 harg7 arg20 x1 x5 x6 y = ((d.vn (256 * t + ((y 0).val)) (384 + (y 1).val) : ℝ) : EReal) := by
  unfold kernelRun0_B.sl.v117 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v124 (y : S128x128.Idx) : kernelRun0_B.sl.v124 (F := Ideal) c arg2 harg2 arg6 harg6 arg7 harg7 arg8 harg8 arg10 harg10 arg20 x1 x5 x6 x7 x9 y = ((d.mixed (256 * t + ((y 0).val)) (384 + (y 1).val) : ℝ) : EReal) := by
  have hy : (y 0).val < 128 := (y 0).isLt
  have hy1 : (y 1).val < 128 := (y 1).isLt
  unfold kernelRun0_B.sl.v124 kernelRun0_B.sl.v121 kernelRun0_B.sl.v120 kernelRun0_B.sl.v118 kernelRun0_B.sl.cst_34 kernelRun0_B.sl.v116; try simp only [View.readAt_eq_ld, Memref.IsWhole.read_unread]
  pointwise
  simp only [k_v117 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 3) (i := (y 0).val) (q := 256 * t) (by omega) (by omega) (by omega)]
  simp only [Nat.add_assoc]; rfl

theorem k_v197 (y : S128x128.Idx) : kernelRun0_B.sl.v197 (F := Ideal) c arg2 harg2 arg6 harg6 arg7 harg7 arg20 x1 x5 x6 y = ((d.vn (256 * t + (128 + (y 0).val)) (384 + (y 1).val) : ℝ) : EReal) := by
  unfold kernelRun0_B.sl.v197 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v204 (y : S128x128.Idx) : kernelRun0_B.sl.v204 (F := Ideal) c arg2 harg2 arg6 harg6 arg7 harg7 arg8 harg8 arg10 harg10 arg20 x1 x5 x6 x7 x9 y = ((d.mixed (256 * t + (128 + (y 0).val)) (384 + (y 1).val) : ℝ) : EReal) := by
  have hy : (y 0).val < 128 := (y 0).isLt
  have hy1 : (y 1).val < 128 := (y 1).isLt
  unfold kernelRun0_B.sl.v204 kernelRun0_B.sl.v201 kernelRun0_B.sl.v120 kernelRun0_B.sl.v198 kernelRun0_B.sl.cst_34 kernelRun0_B.sl.v116; try simp only [View.readAt_eq_ld, Memref.IsWhole.read_unread]
  pointwise
  simp only [k_v197 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 3) (i := (y 0).val) (q := 256 * t + 128) (by omega) (by omega) (by omega)]
  simp only [Nat.add_assoc]; rfl

theorem k_v127 (y : S128x128.Idx) : kernelRun0_B.sl.v127 (F := Ideal) c arg2 harg2 arg6 harg6 arg7 harg7 arg20 x1 x5 x6 y = ((d.vn (256 * t + ((y 0).val)) (512 + (y 1).val) : ℝ) : EReal) := by
  unfold kernelRun0_B.sl.v127 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v134 (y : S128x128.Idx) : kernelRun0_B.sl.v134 (F := Ideal) c arg2 harg2 arg6 harg6 arg7 harg7 arg8 harg8 arg10 harg10 arg20 x1 x5 x6 x7 x9 y = ((d.mixed (256 * t + ((y 0).val)) (512 + (y 1).val) : ℝ) : EReal) := by
  have hy : (y 0).val < 128 := (y 0).isLt
  have hy1 : (y 1).val < 128 := (y 1).isLt
  unfold kernelRun0_B.sl.v134 kernelRun0_B.sl.v131 kernelRun0_B.sl.v130 kernelRun0_B.sl.v128 kernelRun0_B.sl.cst_34 kernelRun0_B.sl.v126; try simp only [View.readAt_eq_ld, Memref.IsWhole.read_unread]
  pointwise
  simp only [k_v127 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 4) (i := (y 0).val) (q := 256 * t) (by omega) (by omega) (by omega)]
  simp only [Nat.add_assoc]; rfl

theorem k_v207 (y : S128x128.Idx) : kernelRun0_B.sl.v207 (F := Ideal) c arg2 harg2 arg6 harg6 arg7 harg7 arg20 x1 x5 x6 y = ((d.vn (256 * t + (128 + (y 0).val)) (512 + (y 1).val) : ℝ) : EReal) := by
  unfold kernelRun0_B.sl.v207 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v214 (y : S128x128.Idx) : kernelRun0_B.sl.v214 (F := Ideal) c arg2 harg2 arg6 harg6 arg7 harg7 arg8 harg8 arg10 harg10 arg20 x1 x5 x6 x7 x9 y = ((d.mixed (256 * t + (128 + (y 0).val)) (512 + (y 1).val) : ℝ) : EReal) := by
  have hy : (y 0).val < 128 := (y 0).isLt
  have hy1 : (y 1).val < 128 := (y 1).isLt
  unfold kernelRun0_B.sl.v214 kernelRun0_B.sl.v211 kernelRun0_B.sl.v130 kernelRun0_B.sl.v208 kernelRun0_B.sl.cst_34 kernelRun0_B.sl.v126; try simp only [View.readAt_eq_ld, Memref.IsWhole.read_unread]
  pointwise
  simp only [k_v207 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 4) (i := (y 0).val) (q := 256 * t + 128) (by omega) (by omega) (by omega)]
  simp only [Nat.add_assoc]; rfl

theorem k_v137 (y : S128x128.Idx) : kernelRun0_B.sl.v137 (F := Ideal) c arg2 harg2 arg6 harg6 arg7 harg7 arg20 x1 x5 x6 y = ((d.vn (256 * t + ((y 0).val)) (640 + (y 1).val) : ℝ) : EReal) := by
  unfold kernelRun0_B.sl.v137 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v144 (y : S128x128.Idx) : kernelRun0_B.sl.v144 (F := Ideal) c arg2 harg2 arg6 harg6 arg7 harg7 arg8 harg8 arg10 harg10 arg20 x1 x5 x6 x7 x9 y = ((d.mixed (256 * t + ((y 0).val)) (640 + (y 1).val) : ℝ) : EReal) := by
  have hy : (y 0).val < 128 := (y 0).isLt
  have hy1 : (y 1).val < 128 := (y 1).isLt
  unfold kernelRun0_B.sl.v144 kernelRun0_B.sl.v141 kernelRun0_B.sl.v140 kernelRun0_B.sl.v138 kernelRun0_B.sl.cst_34 kernelRun0_B.sl.v136; try simp only [View.readAt_eq_ld, Memref.IsWhole.read_unread]
  pointwise
  simp only [k_v137 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 5) (i := (y 0).val) (q := 256 * t) (by omega) (by omega) (by omega)]
  simp only [Nat.add_assoc]; rfl

theorem k_v217 (y : S128x128.Idx) : kernelRun0_B.sl.v217 (F := Ideal) c arg2 harg2 arg6 harg6 arg7 harg7 arg20 x1 x5 x6 y = ((d.vn (256 * t + (128 + (y 0).val)) (640 + (y 1).val) : ℝ) : EReal) := by
  unfold kernelRun0_B.sl.v217 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v224 (y : S128x128.Idx) : kernelRun0_B.sl.v224 (F := Ideal) c arg2 harg2 arg6 harg6 arg7 harg7 arg8 harg8 arg10 harg10 arg20 x1 x5 x6 x7 x9 y = ((d.mixed (256 * t + (128 + (y 0).val)) (640 + (y 1).val) : ℝ) : EReal) := by
  have hy : (y 0).val < 128 := (y 0).isLt
  have hy1 : (y 1).val < 128 := (y 1).isLt
  unfold kernelRun0_B.sl.v224 kernelRun0_B.sl.v221 kernelRun0_B.sl.v140 kernelRun0_B.sl.v218 kernelRun0_B.sl.cst_34 kernelRun0_B.sl.v136; try simp only [View.readAt_eq_ld, Memref.IsWhole.read_unread]
  pointwise
  simp only [k_v217 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 5) (i := (y 0).val) (q := 256 * t + 128) (by omega) (by omega) (by omega)]
  simp only [Nat.add_assoc]; rfl

theorem k_v147 (y : S128x128.Idx) : kernelRun0_B.sl.v147 (F := Ideal) c arg2 harg2 arg6 harg6 arg7 harg7 arg20 x1 x5 x6 y = ((d.vn (256 * t + ((y 0).val)) (768 + (y 1).val) : ℝ) : EReal) := by
  unfold kernelRun0_B.sl.v147 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v154 (y : S128x128.Idx) : kernelRun0_B.sl.v154 (F := Ideal) c arg2 harg2 arg6 harg6 arg7 harg7 arg8 harg8 arg10 harg10 arg20 x1 x5 x6 x7 x9 y = ((d.mixed (256 * t + ((y 0).val)) (768 + (y 1).val) : ℝ) : EReal) := by
  have hy : (y 0).val < 128 := (y 0).isLt
  have hy1 : (y 1).val < 128 := (y 1).isLt
  unfold kernelRun0_B.sl.v154 kernelRun0_B.sl.v151 kernelRun0_B.sl.v150 kernelRun0_B.sl.v148 kernelRun0_B.sl.cst_34 kernelRun0_B.sl.v146; try simp only [View.readAt_eq_ld, Memref.IsWhole.read_unread]
  pointwise
  simp only [k_v147 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 6) (i := (y 0).val) (q := 256 * t) (by omega) (by omega) (by omega)]
  simp only [Nat.add_assoc]; rfl

theorem k_v227 (y : S128x128.Idx) : kernelRun0_B.sl.v227 (F := Ideal) c arg2 harg2 arg6 harg6 arg7 harg7 arg20 x1 x5 x6 y = ((d.vn (256 * t + (128 + (y 0).val)) (768 + (y 1).val) : ℝ) : EReal) := by
  unfold kernelRun0_B.sl.v227 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v234 (y : S128x128.Idx) : kernelRun0_B.sl.v234 (F := Ideal) c arg2 harg2 arg6 harg6 arg7 harg7 arg8 harg8 arg10 harg10 arg20 x1 x5 x6 x7 x9 y = ((d.mixed (256 * t + (128 + (y 0).val)) (768 + (y 1).val) : ℝ) : EReal) := by
  have hy : (y 0).val < 128 := (y 0).isLt
  have hy1 : (y 1).val < 128 := (y 1).isLt
  unfold kernelRun0_B.sl.v234 kernelRun0_B.sl.v231 kernelRun0_B.sl.v150 kernelRun0_B.sl.v228 kernelRun0_B.sl.cst_34 kernelRun0_B.sl.v146; try simp only [View.readAt_eq_ld, Memref.IsWhole.read_unread]
  pointwise
  simp only [k_v227 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 6) (i := (y 0).val) (q := 256 * t + 128) (by omega) (by omega) (by omega)]
  simp only [Nat.add_assoc]; rfl

theorem k_v157 (y : S128x128.Idx) : kernelRun0_B.sl.v157 (F := Ideal) c arg2 harg2 arg6 harg6 arg7 harg7 arg20 x1 x5 x6 y = ((d.vn (256 * t + ((y 0).val)) (896 + (y 1).val) : ℝ) : EReal) := by
  unfold kernelRun0_B.sl.v157 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v164 (y : S128x128.Idx) : kernelRun0_B.sl.v164 (F := Ideal) c arg2 harg2 arg6 harg6 arg7 harg7 arg8 harg8 arg10 harg10 arg20 x1 x5 x6 x7 x9 y = ((d.mixed (256 * t + ((y 0).val)) (896 + (y 1).val) : ℝ) : EReal) := by
  have hy : (y 0).val < 128 := (y 0).isLt
  have hy1 : (y 1).val < 128 := (y 1).isLt
  unfold kernelRun0_B.sl.v164 kernelRun0_B.sl.v161 kernelRun0_B.sl.v160 kernelRun0_B.sl.v158 kernelRun0_B.sl.cst_34 kernelRun0_B.sl.v156; try simp only [View.readAt_eq_ld, Memref.IsWhole.read_unread]
  pointwise
  simp only [k_v157 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 7) (i := (y 0).val) (q := 256 * t) (by omega) (by omega) (by omega)]
  simp only [Nat.add_assoc]; rfl

theorem k_v237 (y : S128x128.Idx) : kernelRun0_B.sl.v237 (F := Ideal) c arg2 harg2 arg6 harg6 arg7 harg7 arg20 x1 x5 x6 y = ((d.vn (256 * t + (128 + (y 0).val)) (896 + (y 1).val) : ℝ) : EReal) := by
  unfold kernelRun0_B.sl.v237 kernelRun0_B.sl.HS0_1
  rw [View.readCov_fill (h := by decide)]
  pointwise
  simp only [k_r_8 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v244 (y : S128x128.Idx) : kernelRun0_B.sl.v244 (F := Ideal) c arg2 harg2 arg6 harg6 arg7 harg7 arg8 harg8 arg10 harg10 arg20 x1 x5 x6 x7 x9 y = ((d.mixed (256 * t + (128 + (y 0).val)) (896 + (y 1).val) : ℝ) : EReal) := by
  have hy : (y 0).val < 128 := (y 0).isLt
  have hy1 : (y 1).val < 128 := (y 1).isLt
  unfold kernelRun0_B.sl.v244 kernelRun0_B.sl.v241 kernelRun0_B.sl.v160 kernelRun0_B.sl.v238 kernelRun0_B.sl.cst_34 kernelRun0_B.sl.v156; try simp only [View.readAt_eq_ld, Memref.IsWhole.read_unread]
  pointwise
  simp only [k_v237 H, H.h7, H.h9, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [mixed_at (h := 7) (i := (y 0).val) (q := 256 * t + 128) (by omega) (by omega) (by omega)]
  simp only [Nat.add_assoc]; rfl

theorem k_HS1_16 (y : S256x1024.Idx) : View.canon (Val := Elt Ideal) (kernelRun0_B.sl.HS1_16 (F := Ideal) c arg2 harg2 arg6 harg6 arg7 harg7 arg8 harg8 arg10 harg10 arg20 x1 x5 x6 x7 x9) y = ((d.mixed (256 * t + (y 0).val) (y 1).val : ℝ) : EReal) := by
  refine canon_of (fun x => ((d.mixed (256 * t + (x 0).val) (x 1).val : ℝ) : EReal)) _ ?_ y (by sl_kernel_rfl)
  unfold kernelRun0_B.sl.HS1_16
  simp only [List.forall_mem_cons, List.not_mem_nil, false_imp_iff, implies_true, and_true]
  refine ⟨fun x => (k_v244 H x).trans (ec (c2 _ ?_ ?_)), fun x => (k_v234 H x).trans (ec (c2 _ ?_ ?_)), fun x => (k_v224 H x).trans (ec (c2 _ ?_ ?_)), fun x => (k_v214 H x).trans (ec (c2 _ ?_ ?_)), fun x => (k_v204 H x).trans (ec (c2 _ ?_ ?_)), fun x => (k_v194 H x).trans (ec (c2 _ ?_ ?_)), fun x => (k_v184 H x).trans (ec (c2 _ ?_ ?_)), fun x => (k_v174 H x).trans (ec (c2 _ ?_ ?_)), fun x => (k_v164 H x).trans (ec (c2 _ ?_ ?_)), fun x => (k_v154 H x).trans (ec (c2 _ ?_ ?_)), fun x => (k_v144 H x).trans (ec (c2 _ ?_ ?_)), fun x => (k_v134 H x).trans (ec (c2 _ ?_ ?_)), fun x => (k_v124 H x).trans (ec (c2 _ ?_ ?_)), fun x => (k_v114 H x).trans (ec (c2 _ ?_ ?_)), fun x => (k_v104 H x).trans (ec (c2 _ ?_ ?_)), fun x => (k_v94 H x).trans (ec (c2 _ ?_ ?_))⟩
  · show 256 * t + (128 + (x 0).val) = 256 * t + (128 + 1 * (x 0).val); omega
  · show 896 + (x 1).val = 896 + 1 * (x 1).val; omega
  · show 256 * t + (128 + (x 0).val) = 256 * t + (128 + 1 * (x 0).val); omega
  · show 768 + (x 1).val = 768 + 1 * (x 1).val; omega
  · show 256 * t + (128 + (x 0).val) = 256 * t + (128 + 1 * (x 0).val); omega
  · show 640 + (x 1).val = 640 + 1 * (x 1).val; omega
  · show 256 * t + (128 + (x 0).val) = 256 * t + (128 + 1 * (x 0).val); omega
  · show 512 + (x 1).val = 512 + 1 * (x 1).val; omega
  · show 256 * t + (128 + (x 0).val) = 256 * t + (128 + 1 * (x 0).val); omega
  · show 384 + (x 1).val = 384 + 1 * (x 1).val; omega
  · show 256 * t + (128 + (x 0).val) = 256 * t + (128 + 1 * (x 0).val); omega
  · show 256 + (x 1).val = 256 + 1 * (x 1).val; omega
  · show 256 * t + (128 + (x 0).val) = 256 * t + (128 + 1 * (x 0).val); omega
  · show 128 + (x 1).val = 128 + 1 * (x 1).val; omega
  · show 256 * t + (128 + (x 0).val) = 256 * t + (128 + 1 * (x 0).val); omega
  · show (x 1).val = 0 + 1 * (x 1).val; omega
  · show 256 * t + ((x 0).val) = 256 * t + (0 + 1 * (x 0).val); omega
  · show 896 + (x 1).val = 896 + 1 * (x 1).val; omega
  · show 256 * t + ((x 0).val) = 256 * t + (0 + 1 * (x 0).val); omega
  · show 768 + (x 1).val = 768 + 1 * (x 1).val; omega
  · show 256 * t + ((x 0).val) = 256 * t + (0 + 1 * (x 0).val); omega
  · show 640 + (x 1).val = 640 + 1 * (x 1).val; omega
  · show 256 * t + ((x 0).val) = 256 * t + (0 + 1 * (x 0).val); omega
  · show 512 + (x 1).val = 512 + 1 * (x 1).val; omega
  · show 256 * t + ((x 0).val) = 256 * t + (0 + 1 * (x 0).val); omega
  · show 384 + (x 1).val = 384 + 1 * (x 1).val; omega
  · show 256 * t + ((x 0).val) = 256 * t + (0 + 1 * (x 0).val); omega
  · show 256 + (x 1).val = 256 + 1 * (x 1).val; omega
  · show 256 * t + ((x 0).val) = 256 * t + (0 + 1 * (x 0).val); omega
  · show 128 + (x 1).val = 128 + 1 * (x 1).val; omega
  · show 256 * t + ((x 0).val) = 256 * t + (0 + 1 * (x 0).val); omega
  · show (x 1).val = 0 + 1 * (x 1).val; omega

theorem k_v245 (y : S256x1024.Idx) : kernelRun0_B.sl.v245 (F := Ideal) c arg2 harg2 arg6 harg6 arg7 harg7 arg8 harg8 arg10 harg10 arg20 arg21 x1 x5 x6 x7 x9 y = ((d.mixed (256 * t + (y 0).val) (y 1).val : ℝ) : EReal) := by
  unfold kernelRun0_B.sl.v245
  simp only [View.readCov_eq_canon', k_HS1_16 H]
  refine ec (c2 _ ?_ ?_)
  · show 256 * t + (0 + 1 * (y 0).val) = _; omega
  · show 0 + 1 * (y 1).val = _; omega

theorem k_v246 (y : S256x1024.Idx) : kernelRun0_B.sl.v246 (F := Ideal) c arg2 harg2 arg6 harg6 arg7 harg7 arg8 harg8 arg10 harg10 arg20 arg21 x1 x5 x6 x7 x9 y = ((d.ya (256 * t + (y 0).val) (y 1).val : ℝ) : EReal) := by
  unfold kernelRun0_B.sl.v246; try simp only [View.readAt_eq_ld, Memref.IsWhole.read_unread]
  pointwise
  simp only [k_r_1 H, k_v245 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v255 (y : S256x1024.Idx) : kernelRun0_B.sl.v255 (F := Ideal) c arg2 harg2 arg6 harg6 arg7 harg7 arg8 harg8 arg10 harg10 arg20 arg21 x1 x5 x6 x7 x9 y = ((rms eR (d.ya (256 * t + (y 0).val)) : ℝ) : EReal) := by
  unfold kernelRun0_B.sl.v255 kernelRun0_B.sl.v254 kernelRun0_B.sl.v253 kernelRun0_B.sl.v252 kernelRun0_B.sl.cst_195 kernelRun0_B.sl.v251 kernelRun0_B.sl.v250 kernelRun0_B.sl.cst_194 kernelRun0_B.sl.v249 kernelRun0_B.sl.v248 kernelRun0_B.sl.v247; try simp only [View.readAt_eq_ld, Memref.IsWhole.read_unread]
  pointwise
  simp only [k_v246 H, ix2, ix3, Memref.IsWhole.read_unread, bits_zero, bits_one, bits_half, bits_1024, bits_eL, bits_eR, bits_gc, n_ck, n_3ck, mul_c, add_c, sub_c, zadd_c, sum_coe, tanh_coe, th', div_coe _ n1024]
  exact rsqrt_coe (msq_pos eR_pos (d.ya _))

theorem k_v256 (y : S256x1024.Idx) : kernelRun0_B.sl.v256 (F := Ideal) c arg2 harg2 arg6 harg6 arg7 harg7 arg8 harg8 arg10 harg10 arg20 arg21 x1 x5 x6 x7 x9 y = ((d.yha (256 * t + (y 0).val) (y 1).val : ℝ) : EReal) := by
  unfold kernelRun0_B.sl.v256; try simp only [View.readAt_eq_ld, Memref.IsWhole.read_unread]
  pointwise
  simp only [k_v246 H, k_v255 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v258 (y : S256x1024.Idx) : kernelRun0_B.sl.v258 (F := Ideal) c arg4 harg4 x3 y = ((d.dy (256 * t + (y 0).val) (y 1).val : ℝ) : EReal) := by
  unfold kernelRun0_B.sl.v258; try simp only [View.readAt_eq_ld, Memref.IsWhole.read_unread]
  pointwise
  simp only [H.h3, ix2, ix3, Memref.IsWhole.read_unread, bits_zero, bits_one, bits_half, bits_1024, bits_eL, bits_eR, bits_gc, n_ck, n_3ck, mul_c, add_c, sub_c, zadd_c, sum_coe, tanh_coe, th', div_coe _ n1024]
  done

theorem k_v269 (y : S256x1024.Idx) : kernelRun0_B.sl.v269 (F := Ideal) c arg4 harg4 arg12 harg12 x3 x11 y = ((d.qa (256 * t + (y 0).val) (y 1).val : ℝ) : EReal) := by
  unfold kernelRun0_B.sl.v269 kernelRun0_B.sl.v268 kernelRun0_B.sl.v267; try simp only [View.readAt_eq_ld, Memref.IsWhole.read_unread]
  pointwise
  simp only [k_v258 H, H.h11, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v279 (y : S256x1024.Idx) : kernelRun0_B.sl.v279 (F := Ideal) c arg2 harg2 arg4 harg4 arg6 harg6 arg7 harg7 arg8 harg8 arg10 harg10 arg12 harg12 arg20 arg21 x1 x3 x5 x6 x7 x9 x11 y = ((d.dya (256 * t + (y 0).val) (y 1).val : ℝ) : EReal) := by
  unfold kernelRun0_B.sl.v279 kernelRun0_B.sl.v277 kernelRun0_B.sl.v276 kernelRun0_B.sl.v275 kernelRun0_B.sl.v274 kernelRun0_B.sl.v250 kernelRun0_B.sl.cst_194 kernelRun0_B.sl.v272 kernelRun0_B.sl.v271 kernelRun0_B.sl.v270; try simp only [View.readAt_eq_ld, Memref.IsWhole.read_unread]
  pointwise
  simp only [k_v269 H, k_v255 H, k_v256 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v282 (y : S256x1024.Idx) : kernelRun0_B.sl.v282 (F := Ideal) c arg2 harg2 arg4 harg4 arg6 harg6 arg7 harg7 arg8 harg8 arg10 harg10 arg12 harg12 arg20 arg21 x1 x3 x5 x6 x7 x9 x11 y = ((d.dz0 (256 * t + (y 0).val) (y 1).val : ℝ) : EReal) := by
  unfold kernelRun0_B.sl.v282 kernelRun0_B.sl.v281 kernelRun0_B.sl.v280; try simp only [View.readAt_eq_ld, Memref.IsWhole.read_unread]
  pointwise
  simp only [k_v279 H, k_v245 H, k_r H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v288 (y : S256x1024.Idx) : kernelRun0_B.sl.v288 (F := Ideal) c arg2 harg2 arg4 harg4 arg6 harg6 arg7 harg7 arg8 harg8 arg10 harg10 arg12 harg12 arg20 arg21 x1 x3 x5 x6 x7 x9 x11 y = ((d.dmix (256 * t + (y 0).val) (y 1).val : ℝ) : EReal) := by
  unfold kernelRun0_B.sl.v288 kernelRun0_B.sl.v285 kernelRun0_B.sl.v284; try simp only [View.readAt_eq_ld, Memref.IsWhole.read_unread]
  pointwise
  simp only [k_v279 H, k_r_1 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v264 (y : S1x1024.Idx) : kernelRun0_B.sl.v264 (F := Ideal) c arg2 harg2 arg4 harg4 arg6 harg6 arg7 harg7 arg8 harg8 arg10 harg10 arg14 harg14 arg20 arg21 x1 x3 x5 x6 x7 x9 xo13 y = xo13 (ix2 0 ⟨(y 1).val, by have : (y 1).val < 1024 := (y 1).isLt; omega⟩) + ((∑ r : Fin 256, d.gA (256 * t + r.val) (y 1).val : ℝ) : EReal) := by
  unfold kernelRun0_B.sl.v264 kernelRun0_B.sl.v263 kernelRun0_B.sl.v262 kernelRun0_B.sl.v261 kernelRun0_B.sl.v260; try simp only [View.readAt_eq_ld, Memref.IsWhole.read_unread]
  pointwise
  simp only [k_v258 H, k_v256 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v345 (y : S128x128.Idx) : kernelRun0_B.sl.v345 (F := Ideal) c arg2 harg2 arg4 harg4 arg6 harg6 arg7 harg7 arg8 harg8 arg10 harg10 arg12 harg12 arg20 arg21 arg22 x1 x3 x5 x6 x7 x9 x11 y = ((d.dmix (256 * t + ((y 0).val)) ((y 1).val) : ℝ) : EReal) := by
  unfold kernelRun0_B.sl.v345 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v357 (y : S128x128.Idx) : kernelRun0_B.sl.v357 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) ((y 1).val) : ℝ) : EReal) := by
  unfold kernelRun0_B.sl.v357 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v356 (y : S128x128.Idx) : kernelRun0_B.sl.v356 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) ((y 1).val) : ℝ) : EReal) := by
  have hy : (y 0).val < 128 := (y 0).isLt
  have hy1 : (y 1).val < 128 := (y 1).isLt
  unfold kernelRun0_B.sl.v356 kernelRun0_B.sl.v353 kernelRun0_B.sl.cst_34 kernelRun0_B.sl.v352; try simp only [View.readAt_eq_ld, Memref.IsWhole.read_unread]
  pointwise
  simp only [k_v345 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 0) (i := (y 0).val) (q := 256 * t) (by omega) (by omega) (by omega)]
  simp only [Nat.add_assoc]; rfl

theorem k_v368 (y : S128x128.Idx) : kernelRun0_B.sl.v368 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) ((y 1).val) : ℝ) : EReal) := by
  have hy : (y 0).val < 128 := (y 0).isLt
  have hy1 : (y 1).val < 128 := (y 1).isLt
  unfold kernelRun0_B.sl.v368 kernelRun0_B.sl.v365 kernelRun0_B.sl.cst_34 kernelRun0_B.sl.v352; try simp only [View.readAt_eq_ld, Memref.IsWhole.read_unread]
  pointwise
  simp only [k_v357 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 0) (i := (y 0).val) (q := 256 * t + 128) (by omega) (by omega) (by omega)]
  simp only [Nat.add_assoc]; rfl

theorem k_v384 (y : S128x128.Idx) : kernelRun0_B.sl.v384 (F := Ideal) c arg2 harg2 arg4 harg4 arg6 harg6 arg7 harg7 arg8 harg8 arg10 harg10 arg12 harg12 arg20 arg21 arg22 x1 x3 x5 x6 x7 x9 x11 y = ((d.dmix (256 * t + ((y 0).val)) (128 + (y 1).val) : ℝ) : EReal) := by
  unfold kernelRun0_B.sl.v384 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v396 (y : S128x128.Idx) : kernelRun0_B.sl.v396 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (128 + (y 1).val) : ℝ) : EReal) := by
  unfold kernelRun0_B.sl.v396 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v395 (y : S128x128.Idx) : kernelRun0_B.sl.v395 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (128 + (y 1).val) : ℝ) : EReal) := by
  have hy : (y 0).val < 128 := (y 0).isLt
  have hy1 : (y 1).val < 128 := (y 1).isLt
  unfold kernelRun0_B.sl.v395 kernelRun0_B.sl.v392 kernelRun0_B.sl.cst_34 kernelRun0_B.sl.v391; try simp only [View.readAt_eq_ld, Memref.IsWhole.read_unread]
  pointwise
  simp only [k_v384 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 1) (i := (y 0).val) (q := 256 * t) (by omega) (by omega) (by omega)]
  simp only [Nat.add_assoc]; rfl

theorem k_v407 (y : S128x128.Idx) : kernelRun0_B.sl.v407 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (128 + (y 1).val) : ℝ) : EReal) := by
  have hy : (y 0).val < 128 := (y 0).isLt
  have hy1 : (y 1).val < 128 := (y 1).isLt
  unfold kernelRun0_B.sl.v407 kernelRun0_B.sl.v404 kernelRun0_B.sl.cst_34 kernelRun0_B.sl.v391; try simp only [View.readAt_eq_ld, Memref.IsWhole.read_unread]
  pointwise
  simp only [k_v396 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 1) (i := (y 0).val) (q := 256 * t + 128) (by omega) (by omega) (by omega)]
  simp only [Nat.add_assoc]; rfl

theorem k_v423 (y : S128x128.Idx) : kernelRun0_B.sl.v423 (F := Ideal) c arg2 harg2 arg4 harg4 arg6 harg6 arg7 harg7 arg8 harg8 arg10 harg10 arg12 harg12 arg20 arg21 arg22 x1 x3 x5 x6 x7 x9 x11 y = ((d.dmix (256 * t + ((y 0).val)) (256 + (y 1).val) : ℝ) : EReal) := by
  unfold kernelRun0_B.sl.v423 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v435 (y : S128x128.Idx) : kernelRun0_B.sl.v435 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (256 + (y 1).val) : ℝ) : EReal) := by
  unfold kernelRun0_B.sl.v435 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v434 (y : S128x128.Idx) : kernelRun0_B.sl.v434 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (256 + (y 1).val) : ℝ) : EReal) := by
  have hy : (y 0).val < 128 := (y 0).isLt
  have hy1 : (y 1).val < 128 := (y 1).isLt
  unfold kernelRun0_B.sl.v434 kernelRun0_B.sl.v431 kernelRun0_B.sl.cst_34 kernelRun0_B.sl.v430; try simp only [View.readAt_eq_ld, Memref.IsWhole.read_unread]
  pointwise
  simp only [k_v423 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 2) (i := (y 0).val) (q := 256 * t) (by omega) (by omega) (by omega)]
  simp only [Nat.add_assoc]; rfl

theorem k_v446 (y : S128x128.Idx) : kernelRun0_B.sl.v446 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (256 + (y 1).val) : ℝ) : EReal) := by
  have hy : (y 0).val < 128 := (y 0).isLt
  have hy1 : (y 1).val < 128 := (y 1).isLt
  unfold kernelRun0_B.sl.v446 kernelRun0_B.sl.v443 kernelRun0_B.sl.cst_34 kernelRun0_B.sl.v430; try simp only [View.readAt_eq_ld, Memref.IsWhole.read_unread]
  pointwise
  simp only [k_v435 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 2) (i := (y 0).val) (q := 256 * t + 128) (by omega) (by omega) (by omega)]
  simp only [Nat.add_assoc]; rfl

theorem k_v462 (y : S128x128.Idx) : kernelRun0_B.sl.v462 (F := Ideal) c arg2 harg2 arg4 harg4 arg6 harg6 arg7 harg7 arg8 harg8 arg10 harg10 arg12 harg12 arg20 arg21 arg22 x1 x3 x5 x6 x7 x9 x11 y = ((d.dmix (256 * t + ((y 0).val)) (384 + (y 1).val) : ℝ) : EReal) := by
  unfold kernelRun0_B.sl.v462 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v474 (y : S128x128.Idx) : kernelRun0_B.sl.v474 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (384 + (y 1).val) : ℝ) : EReal) := by
  unfold kernelRun0_B.sl.v474 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v473 (y : S128x128.Idx) : kernelRun0_B.sl.v473 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (384 + (y 1).val) : ℝ) : EReal) := by
  have hy : (y 0).val < 128 := (y 0).isLt
  have hy1 : (y 1).val < 128 := (y 1).isLt
  unfold kernelRun0_B.sl.v473 kernelRun0_B.sl.v470 kernelRun0_B.sl.cst_34 kernelRun0_B.sl.v469; try simp only [View.readAt_eq_ld, Memref.IsWhole.read_unread]
  pointwise
  simp only [k_v462 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 3) (i := (y 0).val) (q := 256 * t) (by omega) (by omega) (by omega)]
  simp only [Nat.add_assoc]; rfl

theorem k_v485 (y : S128x128.Idx) : kernelRun0_B.sl.v485 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (384 + (y 1).val) : ℝ) : EReal) := by
  have hy : (y 0).val < 128 := (y 0).isLt
  have hy1 : (y 1).val < 128 := (y 1).isLt
  unfold kernelRun0_B.sl.v485 kernelRun0_B.sl.v482 kernelRun0_B.sl.cst_34 kernelRun0_B.sl.v469; try simp only [View.readAt_eq_ld, Memref.IsWhole.read_unread]
  pointwise
  simp only [k_v474 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 3) (i := (y 0).val) (q := 256 * t + 128) (by omega) (by omega) (by omega)]
  simp only [Nat.add_assoc]; rfl

theorem k_v501 (y : S128x128.Idx) : kernelRun0_B.sl.v501 (F := Ideal) c arg2 harg2 arg4 harg4 arg6 harg6 arg7 harg7 arg8 harg8 arg10 harg10 arg12 harg12 arg20 arg21 arg22 x1 x3 x5 x6 x7 x9 x11 y = ((d.dmix (256 * t + ((y 0).val)) (512 + (y 1).val) : ℝ) : EReal) := by
  unfold kernelRun0_B.sl.v501 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v513 (y : S128x128.Idx) : kernelRun0_B.sl.v513 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (512 + (y 1).val) : ℝ) : EReal) := by
  unfold kernelRun0_B.sl.v513 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v512 (y : S128x128.Idx) : kernelRun0_B.sl.v512 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (512 + (y 1).val) : ℝ) : EReal) := by
  have hy : (y 0).val < 128 := (y 0).isLt
  have hy1 : (y 1).val < 128 := (y 1).isLt
  unfold kernelRun0_B.sl.v512 kernelRun0_B.sl.v509 kernelRun0_B.sl.cst_34 kernelRun0_B.sl.v508; try simp only [View.readAt_eq_ld, Memref.IsWhole.read_unread]
  pointwise
  simp only [k_v501 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 4) (i := (y 0).val) (q := 256 * t) (by omega) (by omega) (by omega)]
  simp only [Nat.add_assoc]; rfl

theorem k_v524 (y : S128x128.Idx) : kernelRun0_B.sl.v524 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (512 + (y 1).val) : ℝ) : EReal) := by
  have hy : (y 0).val < 128 := (y 0).isLt
  have hy1 : (y 1).val < 128 := (y 1).isLt
  unfold kernelRun0_B.sl.v524 kernelRun0_B.sl.v521 kernelRun0_B.sl.cst_34 kernelRun0_B.sl.v508; try simp only [View.readAt_eq_ld, Memref.IsWhole.read_unread]
  pointwise
  simp only [k_v513 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 4) (i := (y 0).val) (q := 256 * t + 128) (by omega) (by omega) (by omega)]
  simp only [Nat.add_assoc]; rfl

theorem k_v540 (y : S128x128.Idx) : kernelRun0_B.sl.v540 (F := Ideal) c arg2 harg2 arg4 harg4 arg6 harg6 arg7 harg7 arg8 harg8 arg10 harg10 arg12 harg12 arg20 arg21 arg22 x1 x3 x5 x6 x7 x9 x11 y = ((d.dmix (256 * t + ((y 0).val)) (640 + (y 1).val) : ℝ) : EReal) := by
  unfold kernelRun0_B.sl.v540 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v552 (y : S128x128.Idx) : kernelRun0_B.sl.v552 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (640 + (y 1).val) : ℝ) : EReal) := by
  unfold kernelRun0_B.sl.v552 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v551 (y : S128x128.Idx) : kernelRun0_B.sl.v551 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (640 + (y 1).val) : ℝ) : EReal) := by
  have hy : (y 0).val < 128 := (y 0).isLt
  have hy1 : (y 1).val < 128 := (y 1).isLt
  unfold kernelRun0_B.sl.v551 kernelRun0_B.sl.v548 kernelRun0_B.sl.cst_34 kernelRun0_B.sl.v547; try simp only [View.readAt_eq_ld, Memref.IsWhole.read_unread]
  pointwise
  simp only [k_v540 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 5) (i := (y 0).val) (q := 256 * t) (by omega) (by omega) (by omega)]
  simp only [Nat.add_assoc]; rfl

theorem k_v563 (y : S128x128.Idx) : kernelRun0_B.sl.v563 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (640 + (y 1).val) : ℝ) : EReal) := by
  have hy : (y 0).val < 128 := (y 0).isLt
  have hy1 : (y 1).val < 128 := (y 1).isLt
  unfold kernelRun0_B.sl.v563 kernelRun0_B.sl.v560 kernelRun0_B.sl.cst_34 kernelRun0_B.sl.v547; try simp only [View.readAt_eq_ld, Memref.IsWhole.read_unread]
  pointwise
  simp only [k_v552 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 5) (i := (y 0).val) (q := 256 * t + 128) (by omega) (by omega) (by omega)]
  simp only [Nat.add_assoc]; rfl

theorem k_v579 (y : S128x128.Idx) : kernelRun0_B.sl.v579 (F := Ideal) c arg2 harg2 arg4 harg4 arg6 harg6 arg7 harg7 arg8 harg8 arg10 harg10 arg12 harg12 arg20 arg21 arg22 x1 x3 x5 x6 x7 x9 x11 y = ((d.dmix (256 * t + ((y 0).val)) (768 + (y 1).val) : ℝ) : EReal) := by
  unfold kernelRun0_B.sl.v579 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v591 (y : S128x128.Idx) : kernelRun0_B.sl.v591 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (768 + (y 1).val) : ℝ) : EReal) := by
  unfold kernelRun0_B.sl.v591 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v590 (y : S128x128.Idx) : kernelRun0_B.sl.v590 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (768 + (y 1).val) : ℝ) : EReal) := by
  have hy : (y 0).val < 128 := (y 0).isLt
  have hy1 : (y 1).val < 128 := (y 1).isLt
  unfold kernelRun0_B.sl.v590 kernelRun0_B.sl.v587 kernelRun0_B.sl.cst_34 kernelRun0_B.sl.v586; try simp only [View.readAt_eq_ld, Memref.IsWhole.read_unread]
  pointwise
  simp only [k_v579 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 6) (i := (y 0).val) (q := 256 * t) (by omega) (by omega) (by omega)]
  simp only [Nat.add_assoc]; rfl

theorem k_v602 (y : S128x128.Idx) : kernelRun0_B.sl.v602 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (768 + (y 1).val) : ℝ) : EReal) := by
  have hy : (y 0).val < 128 := (y 0).isLt
  have hy1 : (y 1).val < 128 := (y 1).isLt
  unfold kernelRun0_B.sl.v602 kernelRun0_B.sl.v599 kernelRun0_B.sl.cst_34 kernelRun0_B.sl.v598 kernelRun0_B.sl.r_9; try simp only [View.readAt_eq_ld, Memref.IsWhole.read_unread]
  pointwise
  simp only [k_v591 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 6) (i := (y 0).val) (q := 256 * t + 128) (by omega) (by omega) (by omega)]
  simp only [Nat.add_assoc]; rfl

theorem k_v618 (y : S128x128.Idx) : kernelRun0_B.sl.v618 (F := Ideal) c arg2 harg2 arg4 harg4 arg6 harg6 arg7 harg7 arg8 harg8 arg10 harg10 arg12 harg12 arg20 arg21 arg22 x1 x3 x5 x6 x7 x9 x11 y = ((d.dmix (256 * t + ((y 0).val)) (896 + (y 1).val) : ℝ) : EReal) := by
  unfold kernelRun0_B.sl.v618 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v630 (y : S128x128.Idx) : kernelRun0_B.sl.v630 (F := Ideal) c arg2 harg2 arg4 harg4 arg6 harg6 arg7 harg7 arg8 harg8 arg10 harg10 arg12 harg12 arg20 arg21 arg22 x1 x3 x5 x6 x7 x9 x11 y = ((d.dmix (256 * t + (128 + (y 0).val)) (896 + (y 1).val) : ℝ) : EReal) := by
  unfold kernelRun0_B.sl.v630 kernelRun0_B.sl.HS2_1
  rw [View.readCov_fill (h := by decide)]
  pointwise
  simp only [k_v288 H, ix2, ix3, Memref.IsWhole.read_unread, bits_zero, bits_one, bits_half, bits_1024, bits_eL, bits_eR, bits_gc, n_ck, n_3ck, mul_c, add_c, sub_c, zadd_c, sum_coe, tanh_coe, th', div_coe _ n1024]

theorem k_v629 (y : S128x128.Idx) : kernelRun0_B.sl.v629 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + ((y 0).val)) (896 + (y 1).val) : ℝ) : EReal) := by
  have hy : (y 0).val < 128 := (y 0).isLt
  have hy1 : (y 1).val < 128 := (y 1).isLt
  unfold kernelRun0_B.sl.v629 kernelRun0_B.sl.v626 kernelRun0_B.sl.cst_34 kernelRun0_B.sl.v625; try simp only [View.readAt_eq_ld, Memref.IsWhole.read_unread]
  pointwise
  simp only [k_v618 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 7) (i := (y 0).val) (q := 256 * t) (by omega) (by omega) (by omega)]
  simp only [Nat.add_assoc]; rfl

theorem k_v641 (y : S128x128.Idx) : kernelRun0_B.sl.v641 (F := Ideal) c arg2 harg2 arg4 harg4 arg6 harg6 arg7 harg7 arg8 harg8 arg9 harg9 arg10 harg10 arg12 harg12 arg20 arg21 arg22 x1 x3 x5 x6 x7 x8 x9 x11 y = ((d.dvn (256 * t + (128 + (y 0).val)) (896 + (y 1).val) : ℝ) : EReal) := by
  have hy : (y 0).val < 128 := (y 0).isLt
  have hy1 : (y 1).val < 128 := (y 1).isLt
  unfold kernelRun0_B.sl.v641 kernelRun0_B.sl.v638 kernelRun0_B.sl.cst_34 kernelRun0_B.sl.v625; try simp only [View.readAt_eq_ld, Memref.IsWhole.read_unread]
  pointwise
  simp only [k_v630 H, H.h8, ix2, ix3, Memref.IsWhole.read_unread, bits_zero, bits_one, bits_half, bits_1024, bits_eL, bits_eR, bits_gc, n_ck, n_3ck, mul_c, add_c, sub_c, zadd_c, sum_coe, tanh_coe, th', div_coe _ n1024]
  refine ec ?_
  rw [dvn_at (h := 7) (i := (y 0).val) (q := 256 * t + 128) (by omega) (by omega) (by omega)]
  simp only [Nat.add_assoc]; rfl

theorem k_HS3_16 (y : S256x1024.Idx) : View.canon (Val := Elt Ideal) (kernelRun0_B.sl.HS3_16 (F := Ideal) c arg2 harg2 arg4 harg4 arg6 harg6 arg7 harg7 arg8 harg8 arg9 harg9 arg10 harg10 arg12 harg12 arg20 arg21 arg22 x1 x3 x5 x6 x7 x8 x9 x11) y = ((d.dvn (256 * t + (y 0).val) (y 1).val : ℝ) : EReal) := by
  refine canon_of (fun x => ((d.dvn (256 * t + (x 0).val) (x 1).val : ℝ) : EReal)) _ ?_ y (by sl_kernel_rfl)
  unfold kernelRun0_B.sl.HS3_16
  simp only [List.forall_mem_cons, List.not_mem_nil, false_imp_iff, implies_true, and_true]
  refine ⟨fun x => (k_v641 H x).trans (ec (c2 _ ?_ ?_)), fun x => (k_v629 H x).trans (ec (c2 _ ?_ ?_)), fun x => (k_v602 H x).trans (ec (c2 _ ?_ ?_)), fun x => (k_v590 H x).trans (ec (c2 _ ?_ ?_)), fun x => (k_v563 H x).trans (ec (c2 _ ?_ ?_)), fun x => (k_v551 H x).trans (ec (c2 _ ?_ ?_)), fun x => (k_v524 H x).trans (ec (c2 _ ?_ ?_)), fun x => (k_v512 H x).trans (ec (c2 _ ?_ ?_)), fun x => (k_v485 H x).trans (ec (c2 _ ?_ ?_)), fun x => (k_v473 H x).trans (ec (c2 _ ?_ ?_)), fun x => (k_v446 H x).trans (ec (c2 _ ?_ ?_)), fun x => (k_v434 H x).trans (ec (c2 _ ?_ ?_)), fun x => (k_v407 H x).trans (ec (c2 _ ?_ ?_)), fun x => (k_v395 H x).trans (ec (c2 _ ?_ ?_)), fun x => (k_v368 H x).trans (ec (c2 _ ?_ ?_)), fun x => (k_v356 H x).trans (ec (c2 _ ?_ ?_))⟩
  · show 256 * t + (128 + (x 0).val) = 256 * t + (128 + 1 * (x 0).val); omega
  · show 896 + (x 1).val = 896 + 1 * (x 1).val; omega
  · show 256 * t + ((x 0).val) = 256 * t + (0 + 1 * (x 0).val); omega
  · show 896 + (x 1).val = 896 + 1 * (x 1).val; omega
  · show 256 * t + (128 + (x 0).val) = 256 * t + (128 + 1 * (x 0).val); omega
  · show 768 + (x 1).val = 768 + 1 * (x 1).val; omega
  · show 256 * t + ((x 0).val) = 256 * t + (0 + 1 * (x 0).val); omega
  · show 768 + (x 1).val = 768 + 1 * (x 1).val; omega
  · show 256 * t + (128 + (x 0).val) = 256 * t + (128 + 1 * (x 0).val); omega
  · show 640 + (x 1).val = 640 + 1 * (x 1).val; omega
  · show 256 * t + ((x 0).val) = 256 * t + (0 + 1 * (x 0).val); omega
  · show 640 + (x 1).val = 640 + 1 * (x 1).val; omega
  · show 256 * t + (128 + (x 0).val) = 256 * t + (128 + 1 * (x 0).val); omega
  · show 512 + (x 1).val = 512 + 1 * (x 1).val; omega
  · show 256 * t + ((x 0).val) = 256 * t + (0 + 1 * (x 0).val); omega
  · show 512 + (x 1).val = 512 + 1 * (x 1).val; omega
  · show 256 * t + (128 + (x 0).val) = 256 * t + (128 + 1 * (x 0).val); omega
  · show 384 + (x 1).val = 384 + 1 * (x 1).val; omega
  · show 256 * t + ((x 0).val) = 256 * t + (0 + 1 * (x 0).val); omega
  · show 384 + (x 1).val = 384 + 1 * (x 1).val; omega
  · show 256 * t + (128 + (x 0).val) = 256 * t + (128 + 1 * (x 0).val); omega
  · show 256 + (x 1).val = 256 + 1 * (x 1).val; omega
  · show 256 * t + ((x 0).val) = 256 * t + (0 + 1 * (x 0).val); omega
  · show 256 + (x 1).val = 256 + 1 * (x 1).val; omega
  · show 256 * t + (128 + (x 0).val) = 256 * t + (128 + 1 * (x 0).val); omega
  · show 128 + (x 1).val = 128 + 1 * (x 1).val; omega
  · show 256 * t + ((x 0).val) = 256 * t + (0 + 1 * (x 0).val); omega
  · show 128 + (x 1).val = 128 + 1 * (x 1).val; omega
  · show 256 * t + (128 + (x 0).val) = 256 * t + (128 + 1 * (x 0).val); omega
  · show (x 1).val = 0 + 1 * (x 1).val; omega
  · show 256 * t + ((x 0).val) = 256 * t + (0 + 1 * (x 0).val); omega
  · show (x 1).val = 0 + 1 * (x 1).val; omega

theorem k_v (y : S256x1024.Idx) : kernelRun0_B.sl.v (F := Ideal) c arg2 harg2 arg4 harg4 arg6 harg6 arg7 harg7 arg8 harg8 arg9 harg9 arg10 harg10 arg12 harg12 arg20 arg21 arg22 arg23 x1 x3 x5 x6 x7 x8 x9 x11 y = ((d.dvn (256 * t + (y 0).val) (y 1).val : ℝ) : EReal) := by
  unfold kernelRun0_B.sl.v
  simp only [View.readCov_eq_canon', k_HS3_16 H]
  refine ec (c2 _ ?_ ?_)
  · show 256 * t + (0 + 1 * (y 0).val) = _; omega
  · show 0 + 1 * (y 1).val = _; omega

theorem k_v660 (y : S1x1024.Idx) : kernelRun0_B.sl.v660 (F := Ideal) c arg2 harg2 arg4 harg4 arg6 harg6 arg7 harg7 arg8 harg8 arg9 harg9 arg10 harg10 arg12 harg12 arg16 harg16 arg20 arg21 arg22 arg23 x1 x3 x5 x6 x7 x8 x9 x11 xo15 y = xo15 (ix2 0 (y 1)) + ((∑ r : Fin 256, d.dvn (256 * t + r.val) (y 1).val : ℝ) : EReal) := by
  unfold kernelRun0_B.sl.v660 kernelRun0_B.sl.v659 kernelRun0_B.sl.v658 kernelRun0_B.sl.v657; try simp only [View.readAt_eq_ld, Memref.IsWhole.read_unread]
  pointwise
  simp only [k_v H, ix2, ix3, Memref.IsWhole.read_unread, bits_zero, bits_one, bits_half, bits_1024, bits_eL, bits_eR, bits_gc, n_ck, n_3ck, mul_c, add_c, sub_c, zadd_c, sum_coe, tanh_coe, th', div_coe _ n1024]
  done

theorem k_v667 (y : S1x1024.Idx) : kernelRun0_B.sl.v667 (F := Ideal) c arg2 harg2 arg4 harg4 arg6 harg6 arg7 harg7 arg8 harg8 arg9 harg9 arg10 harg10 arg12 harg12 arg15 harg15 arg20 arg21 arg22 arg23 x1 x3 x5 x6 x7 x8 x9 x11 xo14 y = xo14 (ix2 0 (y 1)) + ((∑ r : Fin 256, d.gG (256 * t + r.val) (y 1).val : ℝ) : EReal) := by
  unfold kernelRun0_B.sl.v667 kernelRun0_B.sl.v666 kernelRun0_B.sl.v665 kernelRun0_B.sl.v664 kernelRun0_B.sl.v663; try simp only [View.readAt_eq_ld, Memref.IsWhole.read_unread]
  pointwise
  simp only [k_v H, k_r_7 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v672 (y : S256x1024.Idx) : kernelRun0_B.sl.v672 (F := Ideal) c arg2 harg2 arg4 harg4 arg6 harg6 arg7 harg7 arg8 harg8 arg9 harg9 arg10 harg10 arg12 harg12 arg20 arg21 arg22 arg23 x1 x3 x5 x6 x7 x8 x9 x11 y = ((d.dvh (256 * t + (y 0).val) (y 1).val : ℝ) : EReal) := by
  unfold kernelRun0_B.sl.v672 kernelRun0_B.sl.v671 kernelRun0_B.sl.v670; try simp only [View.readAt_eq_ld, Memref.IsWhole.read_unread]
  pointwise
  simp only [k_v H, H.h5, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v690 (y : S256x1024.Idx) : kernelRun0_B.sl.v690 (F := Ideal) c arg2 harg2 arg4 harg4 arg6 harg6 arg7 harg7 arg8 harg8 arg9 harg9 arg10 harg10 arg12 harg12 arg20 arg21 arg22 arg23 x1 x3 x5 x6 x7 x8 x9 x11 y = ((d.dz1 (256 * t + (y 0).val) (y 1).val : ℝ) : EReal) := by
  unfold kernelRun0_B.sl.v690 kernelRun0_B.sl.v689 kernelRun0_B.sl.v688 kernelRun0_B.sl.v686 kernelRun0_B.sl.v685 kernelRun0_B.sl.v684 kernelRun0_B.sl.v683 kernelRun0_B.sl.v681 kernelRun0_B.sl.v680 kernelRun0_B.sl.v679 kernelRun0_B.sl.v678 kernelRun0_B.sl.v677 kernelRun0_B.sl.v676 kernelRun0_B.sl.v250 kernelRun0_B.sl.cst_194 kernelRun0_B.sl.v674 kernelRun0_B.sl.v673 kernelRun0_B.sl.v687; try simp only [View.readAt_eq_ld, Memref.IsWhole.read_unread]
  pointwise
  simp only [k_v672 H, k_r_5 H, k_r_6 H, k_r_7 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

end

end Cert.Mix.Ker
-- ==== Proof.MixerKerW.lean ====
module

public import proofs.«01_k».proof.Proof.MixerKer
import Idealize.ShloMosaic.Lib.Pipeline.ReadBack

/-! The gradients with respect to the mixing weights and biases that one step of the mixer's gradient kernel adds. -/

@[expose] public section
noncomputable section
open Idealize.ShloMosaic Cert.MixerIdeal Cert.MixerIdeal.Gen Cert.Real
namespace Cert.Mix.Ker

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S16x5120 .bf16} {harg3 : arg3.IsWhole}
variable {arg4 : Memref sig .tc .vmem S256x2048 .bf16} {harg4 : arg4.IsWhole}
variable {arg5 : Memref sig .tc .vmem S16x2048 .bf16} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S8x128x128 .f32} {harg10 : arg10.IsWhole}
variable {arg11 : Memref sig .tc .vmem S8x1024 .f32} {harg11 : arg11.IsWhole}
variable {arg12 : Memref sig .tc .vmem S1x2048 .f32} {harg12 : arg12.IsWhole}
variable {arg13 : Memref sig .tc .vmem S256x5120 .bf16} {harg13 : arg13.IsWhole}
variable {arg14 : Memref sig .tc .vmem S1x2048 .f32} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S8x128x128 .f32} {harg17 : arg17.IsWhole}
variable {arg18 : Memref sig .tc .vmem S8x8x128 .f32} {harg18 : arg18.IsWhole}
variable {arg19 : Memref sig .tc .vmem S8x1024 .f32} {harg19 : arg19.IsWhole}
variable {arg20 : Memref sig .tc .vmem S256x1024 .bf16} {harg20 : arg20.IsWhole}
variable {arg21 : Memref sig .tc .vmem S256x1024 .f32} {harg21 : arg21.IsWhole}
variable {arg22 : Memref sig .tc .vmem S256x1024 .bf16} {harg22 : arg22.IsWhole}
variable {arg23 : Memref sig .tc .vmem S256x1024 .f32} {harg23 : arg23.IsWhole}
variable {x0 : Vec Ideal S16x5120 .bf16} {x1 : Vec Ideal S256x5120 .bf16} {x2 : Vec Ideal S16x5120 .bf16} {x3 : Vec Ideal S256x2048 .bf16} {x4 : Vec Ideal S16x2048 .bf16} {x5 : Vec Ideal S1x1024 .f32} {x6 : Vec Ideal S1x1024 .f32} {x7 : Vec Ideal S8x128x128 .bf16} {x8 : Vec Ideal S8x128x128 .bf16} {x9 : Vec Ideal S8x128x128 .f32} {x10 : Vec Ideal S8x1024 .f32} {x11 : Vec Ideal S1x2048 .f32}
variable {xo13 : Vec Ideal S1x2048 .f32} {xo14 : Vec Ideal S1x1024 .f32} {xo15 : Vec Ideal S1x1024 .f32} {xo16 : Vec Ideal S8x128x128 .f32} {xo17 : Vec Ideal S8x8x128 .f32} {xo18 : Vec Ideal S8x1024 .f32}
variable {d : D} {t : ℕ} {zp : ℕ → ℕ → ℝ} (H : Blk d t zp i x0 x1 x2 x3 x4 x5 x6 x7 x8 x9 x10 x11)
include H

omit H in
theorem sle_iff : ∀ a b : Fin 2, IntOp.cmpi .sle (BitVec.ofNat 32 a.val) (BitVec.ofNat 32 b.val) = if a.val ≤ b.val then 1 else 0 := by decide +kernel
omit H in
theorem m1 : ∀ j : Fin 128, kernelRun0_B.sl.v314 (ix2 0 j) = BitVec.ofNat 32 (j.val / 64) := by decide +kernel
omit H in
theorem m0 : ∀ j : Fin 128, kernelRun0_B.sl.v338 (ix2 j 0) = BitVec.ofNat 32 (j.val / 64) := by decide +kernel
omit H in
theorem m1' (a b : Fin 128) : kernelRun0_B.sl.v314 (ix2 a b) = kernelRun0_B.sl.v314 (ix2 0 b) := rfl
omit H in
theorem m0' (a b : Fin 128) : kernelRun0_B.sl.v338 (ix2 a b) = kernelRun0_B.sl.v338 (ix2 a 0) := rfl
omit H in
theorem k_v341 (y : S128x128.Idx) : kernelRun0_B.sl.v341 (F := Ideal) y = (((if (y 1).val / 64 ≤ (y 0).val / 64 then 1 else 0 : ℝ)) : EReal) := by
  obtain ⟨a, b, rfl⟩ : ∃ a b, y = ix2 a b := ⟨y 0, y 1, eq_ix2 y⟩
  have ha : a.val < 128 := a.isLt
  have hb : b.val < 128 := b.isLt
  unfold kernelRun0_B.sl.v341 kernelRun0_B.sl.v340
  pointwise
  rw [m1', m0', m1, m0]
  have e := sle_iff ⟨b.val / 64, by omega⟩ ⟨a.val / 64, by omega⟩
  simp only [] at e
  rw [e]
  show _ = (((if b.val / 64 ≤ a.val / 64 then 1 else 0 : ℝ)) : EReal)
  split
  · show (((BitVec.toInt 1#32 : ℤ) : ℝ) : EReal) = _; simp
  · show (((BitVec.toInt 0#32 : ℤ) : ℝ) : EReal) = _; simp

theorem k_v375 (y : S1x128x128.Idx) : kernelRun0_B.sl.v375 (F := Ideal) c arg2 harg2 arg4 harg4 arg6 harg6 arg7 harg7 arg8 harg8 arg10 harg10 arg12 harg12 arg17 harg17 arg20 arg21 arg22 x1 x3 x5 x6 x7 x9 x11 xo16 y = xo16 (ix3 0 (y 1) (y 2)) + (((d.gW (2 * t) 0 (y 1).val (y 2).val + d.gW (2 * t + 1) 0 (y 1).val (y 2).val) * (if (y 2).val / 64 ≤ (y 1).val / 64 then 1 else 0) : ℝ) : EReal) := by
  unfold kernelRun0_B.sl.v375 kernelRun0_B.sl.v372 kernelRun0_B.sl.v371 kernelRun0_B.sl.v360 kernelRun0_B.sl.v359 kernelRun0_B.sl.v348 kernelRun0_B.sl.v347 kernelRun0_B.sl.cst_34 kernelRun0_B.sl.v343 kernelRun0_B.sl.cst_224 kernelRun0_B.sl.v370; try simp only [View.readAt_eq_ld, Memref.IsWhole.read_unread]
  pointwise
  simp only [k_v345 H, k_v357 H, k_v87 H, k_v167 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v381 (y : S1x8x128.Idx) : kernelRun0_B.sl.v381 (F := Ideal) c arg2 harg2 arg4 harg4 arg6 harg6 arg7 harg7 arg8 harg8 arg10 harg10 arg12 harg12 arg18 harg18 arg20 arg21 arg22 x1 x3 x5 x6 x7 x9 x11 xo17 y = xo17 (ix3 0 (y 1) (y 2)) + ((d.gS (2 * t) 0 (y 2).val + d.gS (2 * t + 1) 0 (y 2).val : ℝ) : EReal) := by
  unfold kernelRun0_B.sl.v381 kernelRun0_B.sl.v378 kernelRun0_B.sl.v362 kernelRun0_B.sl.v361 kernelRun0_B.sl.v350 kernelRun0_B.sl.v349 kernelRun0_B.sl.cst_231 kernelRun0_B.sl.v342 kernelRun0_B.sl.cst_223 kernelRun0_B.sl.v344 kernelRun0_B.sl.cst_224 kernelRun0_B.sl.v377; try simp only [View.readAt_eq_ld, Memref.IsWhole.read_unread]
  pointwise
  simp only [k_v345 H, k_v357 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v414 (y : S1x128x128.Idx) : kernelRun0_B.sl.v414 (F := Ideal) c arg2 harg2 arg4 harg4 arg6 harg6 arg7 harg7 arg8 harg8 arg10 harg10 arg12 harg12 arg17 harg17 arg20 arg21 arg22 x1 x3 x5 x6 x7 x9 x11 xo16 y = xo16 (ix3 1 (y 1) (y 2)) + (((d.gW (2 * t) 1 (y 1).val (y 2).val + d.gW (2 * t + 1) 1 (y 1).val (y 2).val) * (if (y 2).val / 64 ≤ (y 1).val / 64 then 1 else 0) : ℝ) : EReal) := by
  unfold kernelRun0_B.sl.v414 kernelRun0_B.sl.v411 kernelRun0_B.sl.v410 kernelRun0_B.sl.v399 kernelRun0_B.sl.v398 kernelRun0_B.sl.v387 kernelRun0_B.sl.v386 kernelRun0_B.sl.cst_34 kernelRun0_B.sl.v343 kernelRun0_B.sl.cst_224 kernelRun0_B.sl.v409 kernelRun0_B.sl.v408; try simp only [View.readAt_eq_ld, Memref.IsWhole.read_unread]
  pointwise
  simp only [k_v384 H, k_v396 H, k_v97 H, k_v177 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v420 (y : S1x8x128.Idx) : kernelRun0_B.sl.v420 (F := Ideal) c arg2 harg2 arg4 harg4 arg6 harg6 arg7 harg7 arg8 harg8 arg10 harg10 arg12 harg12 arg18 harg18 arg20 arg21 arg22 x1 x3 x5 x6 x7 x9 x11 xo17 y = xo17 (ix3 1 (y 1) (y 2)) + ((d.gS (2 * t) 1 (y 2).val + d.gS (2 * t + 1) 1 (y 2).val : ℝ) : EReal) := by
  unfold kernelRun0_B.sl.v420 kernelRun0_B.sl.v417 kernelRun0_B.sl.v401 kernelRun0_B.sl.v400 kernelRun0_B.sl.v389 kernelRun0_B.sl.v388 kernelRun0_B.sl.cst_231 kernelRun0_B.sl.v342 kernelRun0_B.sl.cst_223 kernelRun0_B.sl.v344 kernelRun0_B.sl.cst_224 kernelRun0_B.sl.v416 kernelRun0_B.sl.v415; try simp only [View.readAt_eq_ld, Memref.IsWhole.read_unread]
  pointwise
  simp only [k_v384 H, k_v396 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v453 (y : S1x128x128.Idx) : kernelRun0_B.sl.v453 (F := Ideal) c arg2 harg2 arg4 harg4 arg6 harg6 arg7 harg7 arg8 harg8 arg10 harg10 arg12 harg12 arg17 harg17 arg20 arg21 arg22 x1 x3 x5 x6 x7 x9 x11 xo16 y = xo16 (ix3 2 (y 1) (y 2)) + (((d.gW (2 * t) 2 (y 1).val (y 2).val + d.gW (2 * t + 1) 2 (y 1).val (y 2).val) * (if (y 2).val / 64 ≤ (y 1).val / 64 then 1 else 0) : ℝ) : EReal) := by
  unfold kernelRun0_B.sl.v453 kernelRun0_B.sl.v450 kernelRun0_B.sl.v449 kernelRun0_B.sl.v438 kernelRun0_B.sl.v437 kernelRun0_B.sl.v426 kernelRun0_B.sl.v425 kernelRun0_B.sl.cst_34 kernelRun0_B.sl.v343 kernelRun0_B.sl.cst_224 kernelRun0_B.sl.v448 kernelRun0_B.sl.v447; try simp only [View.readAt_eq_ld, Memref.IsWhole.read_unread]
  pointwise
  simp only [k_v423 H, k_v435 H, k_v107 H, k_v187 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v459 (y : S1x8x128.Idx) : kernelRun0_B.sl.v459 (F := Ideal) c arg2 harg2 arg4 harg4 arg6 harg6 arg7 harg7 arg8 harg8 arg10 harg10 arg12 harg12 arg18 harg18 arg20 arg21 arg22 x1 x3 x5 x6 x7 x9 x11 xo17 y = xo17 (ix3 2 (y 1) (y 2)) + ((d.gS (2 * t) 2 (y 2).val + d.gS (2 * t + 1) 2 (y 2).val : ℝ) : EReal) := by
  unfold kernelRun0_B.sl.v459 kernelRun0_B.sl.v456 kernelRun0_B.sl.v440 kernelRun0_B.sl.v439 kernelRun0_B.sl.v428 kernelRun0_B.sl.v427 kernelRun0_B.sl.cst_231 kernelRun0_B.sl.v342 kernelRun0_B.sl.cst_223 kernelRun0_B.sl.v344 kernelRun0_B.sl.cst_224 kernelRun0_B.sl.v455 kernelRun0_B.sl.v454; try simp only [View.readAt_eq_ld, Memref.IsWhole.read_unread]
  pointwise
  simp only [k_v423 H, k_v435 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v492 (y : S1x128x128.Idx) : kernelRun0_B.sl.v492 (F := Ideal) c arg2 harg2 arg4 harg4 arg6 harg6 arg7 harg7 arg8 harg8 arg10 harg10 arg12 harg12 arg17 harg17 arg20 arg21 arg22 x1 x3 x5 x6 x7 x9 x11 xo16 y = xo16 (ix3 3 (y 1) (y 2)) + (((d.gW (2 * t) 3 (y 1).val (y 2).val + d.gW (2 * t + 1) 3 (y 1).val (y 2).val) * (if (y 2).val / 64 ≤ (y 1).val / 64 then 1 else 0) : ℝ) : EReal) := by
  unfold kernelRun0_B.sl.v492 kernelRun0_B.sl.v489 kernelRun0_B.sl.v488 kernelRun0_B.sl.v477 kernelRun0_B.sl.v476 kernelRun0_B.sl.v465 kernelRun0_B.sl.v464 kernelRun0_B.sl.cst_34 kernelRun0_B.sl.v343 kernelRun0_B.sl.cst_224 kernelRun0_B.sl.v487 kernelRun0_B.sl.v486; try simp only [View.readAt_eq_ld, Memref.IsWhole.read_unread]
  pointwise
  simp only [k_v462 H, k_v474 H, k_v117 H, k_v197 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v498 (y : S1x8x128.Idx) : kernelRun0_B.sl.v498 (F := Ideal) c arg2 harg2 arg4 harg4 arg6 harg6 arg7 harg7 arg8 harg8 arg10 harg10 arg12 harg12 arg18 harg18 arg20 arg21 arg22 x1 x3 x5 x6 x7 x9 x11 xo17 y = xo17 (ix3 3 (y 1) (y 2)) + ((d.gS (2 * t) 3 (y 2).val + d.gS (2 * t + 1) 3 (y 2).val : ℝ) : EReal) := by
  unfold kernelRun0_B.sl.v498 kernelRun0_B.sl.v495 kernelRun0_B.sl.v479 kernelRun0_B.sl.v478 kernelRun0_B.sl.v467 kernelRun0_B.sl.v466 kernelRun0_B.sl.cst_231 kernelRun0_B.sl.v342 kernelRun0_B.sl.cst_223 kernelRun0_B.sl.v344 kernelRun0_B.sl.cst_224 kernelRun0_B.sl.v494 kernelRun0_B.sl.v493; try simp only [View.readAt_eq_ld, Memref.IsWhole.read_unread]
  pointwise
  simp only [k_v462 H, k_v474 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v531 (y : S1x128x128.Idx) : kernelRun0_B.sl.v531 (F := Ideal) c arg2 harg2 arg4 harg4 arg6 harg6 arg7 harg7 arg8 harg8 arg10 harg10 arg12 harg12 arg17 harg17 arg20 arg21 arg22 x1 x3 x5 x6 x7 x9 x11 xo16 y = xo16 (ix3 4 (y 1) (y 2)) + (((d.gW (2 * t) 4 (y 1).val (y 2).val + d.gW (2 * t + 1) 4 (y 1).val (y 2).val) * (if (y 2).val / 64 ≤ (y 1).val / 64 then 1 else 0) : ℝ) : EReal) := by
  unfold kernelRun0_B.sl.v531 kernelRun0_B.sl.v528 kernelRun0_B.sl.v527 kernelRun0_B.sl.v516 kernelRun0_B.sl.v515 kernelRun0_B.sl.v504 kernelRun0_B.sl.v503 kernelRun0_B.sl.cst_34 kernelRun0_B.sl.v343 kernelRun0_B.sl.cst_224 kernelRun0_B.sl.v526 kernelRun0_B.sl.v525; try simp only [View.readAt_eq_ld, Memref.IsWhole.read_unread]
  pointwise
  simp only [k_v501 H, k_v513 H, k_v127 H, k_v207 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v537 (y : S1x8x128.Idx) : kernelRun0_B.sl.v537 (F := Ideal) c arg2 harg2 arg4 harg4 arg6 harg6 arg7 harg7 arg8 harg8 arg10 harg10 arg12 harg12 arg18 harg18 arg20 arg21 arg22 x1 x3 x5 x6 x7 x9 x11 xo17 y = xo17 (ix3 4 (y 1) (y 2)) + ((d.gS (2 * t) 4 (y 2).val + d.gS (2 * t + 1) 4 (y 2).val : ℝ) : EReal) := by
  unfold kernelRun0_B.sl.v537 kernelRun0_B.sl.v534 kernelRun0_B.sl.v518 kernelRun0_B.sl.v517 kernelRun0_B.sl.v506 kernelRun0_B.sl.v505 kernelRun0_B.sl.cst_231 kernelRun0_B.sl.v342 kernelRun0_B.sl.cst_223 kernelRun0_B.sl.v344 kernelRun0_B.sl.cst_224 kernelRun0_B.sl.v533 kernelRun0_B.sl.v532; try simp only [View.readAt_eq_ld, Memref.IsWhole.read_unread]
  pointwise
  simp only [k_v501 H, k_v513 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v570 (y : S1x128x128.Idx) : kernelRun0_B.sl.v570 (F := Ideal) c arg2 harg2 arg4 harg4 arg6 harg6 arg7 harg7 arg8 harg8 arg10 harg10 arg12 harg12 arg17 harg17 arg20 arg21 arg22 x1 x3 x5 x6 x7 x9 x11 xo16 y = xo16 (ix3 5 (y 1) (y 2)) + (((d.gW (2 * t) 5 (y 1).val (y 2).val + d.gW (2 * t + 1) 5 (y 1).val (y 2).val) * (if (y 2).val / 64 ≤ (y 1).val / 64 then 1 else 0) : ℝ) : EReal) := by
  unfold kernelRun0_B.sl.v570 kernelRun0_B.sl.v567 kernelRun0_B.sl.v566 kernelRun0_B.sl.v555 kernelRun0_B.sl.v554 kernelRun0_B.sl.v543 kernelRun0_B.sl.v542 kernelRun0_B.sl.cst_34 kernelRun0_B.sl.v343 kernelRun0_B.sl.cst_224 kernelRun0_B.sl.v565 kernelRun0_B.sl.v564; try simp only [View.readAt_eq_ld, Memref.IsWhole.read_unread]
  pointwise
  simp only [k_v540 H, k_v552 H, k_v137 H, k_v217 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v576 (y : S1x8x128.Idx) : kernelRun0_B.sl.v576 (F := Ideal) c arg2 harg2 arg4 harg4 arg6 harg6 arg7 harg7 arg8 harg8 arg10 harg10 arg12 harg12 arg18 harg18 arg20 arg21 arg22 x1 x3 x5 x6 x7 x9 x11 xo17 y = xo17 (ix3 5 (y 1) (y 2)) + ((d.gS (2 * t) 5 (y 2).val + d.gS (2 * t + 1) 5 (y 2).val : ℝ) : EReal) := by
  unfold kernelRun0_B.sl.v576 kernelRun0_B.sl.v573 kernelRun0_B.sl.v557 kernelRun0_B.sl.v556 kernelRun0_B.sl.v545 kernelRun0_B.sl.v544 kernelRun0_B.sl.cst_231 kernelRun0_B.sl.v342 kernelRun0_B.sl.cst_223 kernelRun0_B.sl.v344 kernelRun0_B.sl.cst_224 kernelRun0_B.sl.v572 kernelRun0_B.sl.v571; try simp only [View.readAt_eq_ld, Memref.IsWhole.read_unread]
  pointwise
  simp only [k_v540 H, k_v552 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v609 (y : S1x128x128.Idx) : kernelRun0_B.sl.v609 (F := Ideal) c arg2 harg2 arg4 harg4 arg6 harg6 arg7 harg7 arg8 harg8 arg10 harg10 arg12 harg12 arg17 harg17 arg20 arg21 arg22 x1 x3 x5 x6 x7 x9 x11 xo16 y = xo16 (ix3 6 (y 1) (y 2)) + (((d.gW (2 * t) 6 (y 1).val (y 2).val + d.gW (2 * t + 1) 6 (y 1).val (y 2).val) * (if (y 2).val / 64 ≤ (y 1).val / 64 then 1 else 0) : ℝ) : EReal) := by
  unfold kernelRun0_B.sl.v609 kernelRun0_B.sl.v606 kernelRun0_B.sl.v605 kernelRun0_B.sl.v594 kernelRun0_B.sl.v593 kernelRun0_B.sl.v582 kernelRun0_B.sl.v581 kernelRun0_B.sl.cst_34 kernelRun0_B.sl.v343 kernelRun0_B.sl.cst_224 kernelRun0_B.sl.v604 kernelRun0_B.sl.v603; try simp only [View.readAt_eq_ld, Memref.IsWhole.read_unread]
  pointwise
  simp only [k_v579 H, k_v591 H, k_v147 H, k_v227 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v615 (y : S1x8x128.Idx) : kernelRun0_B.sl.v615 (F := Ideal) c arg2 harg2 arg4 harg4 arg6 harg6 arg7 harg7 arg8 harg8 arg10 harg10 arg12 harg12 arg18 harg18 arg20 arg21 arg22 x1 x3 x5 x6 x7 x9 x11 xo17 y = xo17 (ix3 6 (y 1) (y 2)) + ((d.gS (2 * t) 6 (y 2).val + d.gS (2 * t + 1) 6 (y 2).val : ℝ) : EReal) := by
  unfold kernelRun0_B.sl.v615 kernelRun0_B.sl.v612 kernelRun0_B.sl.v596 kernelRun0_B.sl.v595 kernelRun0_B.sl.v584 kernelRun0_B.sl.v583 kernelRun0_B.sl.cst_231 kernelRun0_B.sl.v342 kernelRun0_B.sl.cst_223 kernelRun0_B.sl.v344 kernelRun0_B.sl.cst_224 kernelRun0_B.sl.v611 kernelRun0_B.sl.v610; try simp only [View.readAt_eq_ld, Memref.IsWhole.read_unread]
  pointwise
  simp only [k_v579 H, k_v591 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

theorem k_v648 (y : S1x128x128.Idx) : kernelRun0_B.sl.v648 (F := Ideal) c arg2 harg2 arg4 harg4 arg6 harg6 arg7 harg7 arg8 harg8 arg10 harg10 arg12 harg12 arg17 harg17 arg20 arg21 arg22 x1 x3 x5 x6 x7 x9 x11 xo16 y = xo16 (ix3 7 (y 1) (y 2)) + (((d.gW (2 * t) 7 (y 1).val (y 2).val + d.gW (2 * t + 1) 7 (y 1).val (y 2).val) * (if (y 2).val / 64 ≤ (y 1).val / 64 then 1 else 0) : ℝ) : EReal) := by
  unfold kernelRun0_B.sl.v648 kernelRun0_B.sl.v645 kernelRun0_B.sl.v644 kernelRun0_B.sl.v633 kernelRun0_B.sl.v632 kernelRun0_B.sl.v621 kernelRun0_B.sl.v620 kernelRun0_B.sl.cst_34 kernelRun0_B.sl.v343 kernelRun0_B.sl.cst_224 kernelRun0_B.sl.v643 kernelRun0_B.sl.v642; try simp only [View.readAt_eq_ld, Memref.IsWhole.read_unread]
  pointwise
  simp only [k_v618 H, k_v630 H, k_v157 H, k_v237 H, k_v341, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]; rfl

theorem k_v654 (y : S1x8x128.Idx) : kernelRun0_B.sl.v654 (F := Ideal) c arg2 harg2 arg4 harg4 arg6 harg6 arg7 harg7 arg8 harg8 arg10 harg10 arg12 harg12 arg18 harg18 arg20 arg21 arg22 x1 x3 x5 x6 x7 x9 x11 xo17 y = xo17 (ix3 7 (y 1) (y 2)) + ((d.gS (2 * t) 7 (y 2).val + d.gS (2 * t + 1) 7 (y 2).val : ℝ) : EReal) := by
  unfold kernelRun0_B.sl.v654 kernelRun0_B.sl.v651 kernelRun0_B.sl.v635 kernelRun0_B.sl.v634 kernelRun0_B.sl.v623 kernelRun0_B.sl.v622 kernelRun0_B.sl.cst_231 kernelRun0_B.sl.v342 kernelRun0_B.sl.cst_223 kernelRun0_B.sl.v344 kernelRun0_B.sl.cst_224 kernelRun0_B.sl.v650 kernelRun0_B.sl.v649; try simp only [View.readAt_eq_ld, Memref.IsWhole.read_unread]
  pointwise
  simp only [k_v618 H, k_v630 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec ?_)
  have e1 : ∀ a, 128 * (2 * t) + a = 256 * t + a := fun a => by omega
  have e2 : ∀ a, 128 * (2 * t + 1) + a = 256 * t + (128 + a) := fun a => by omega
  simp only [D.gW, D.gS, e1, e2, Nat.reduceMul, Nat.mul_zero, Nat.zero_add]

end
end Cert.Mix.Ker
-- ==== Proof.MixerKerX.lean ====
module

public import proofs.«01_k».proof.Proof.MixerKer
import Idealize.ShloMosaic.Lib.Pipeline.ReadBack

/-! The convolution half of one step of the mixer's gradient kernel, over its rows with sixteen more on each side. -/

@[expose] public section
noncomputable section
open Idealize.ShloMosaic Cert.MixerIdeal Cert.MixerIdeal.Gen Cert.Real
namespace Cert.Mix.Ker

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S16x5120 .bf16} {harg3 : arg3.IsWhole}
variable {arg4 : Memref sig .tc .vmem S256x2048 .bf16} {harg4 : arg4.IsWhole}
variable {arg5 : Memref sig .tc .vmem S16x2048 .bf16} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S8x128x128 .f32} {harg10 : arg10.IsWhole}
variable {arg11 : Memref sig .tc .vmem S8x1024 .f32} {harg11 : arg11.IsWhole}
variable {arg12 : Memref sig .tc .vmem S1x2048 .f32} {harg12 : arg12.IsWhole}
variable {arg13 : Memref sig .tc .vmem S256x5120 .bf16} {harg13 : arg13.IsWhole}
variable {arg14 : Memref sig .tc .vmem S1x2048 .f32} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S8x128x128 .f32} {harg17 : arg17.IsWhole}
variable {arg18 : Memref sig .tc .vmem S8x8x128 .f32} {harg18 : arg18.IsWhole}
variable {arg19 : Memref sig .tc .vmem S8x1024 .f32} {harg19 : arg19.IsWhole}
variable {arg20 : Memref sig .tc .vmem S256x1024 .bf16} {harg20 : arg20.IsWhole}
variable {arg21 : Memref sig .tc .vmem S256x1024 .f32} {harg21 : arg21.IsWhole}
variable {arg22 : Memref sig .tc .vmem S256x1024 .bf16} {harg22 : arg22.IsWhole}
variable {arg23 : Memref sig .tc .vmem S256x1024 .f32} {harg23 : arg23.IsWhole}
variable {x0 : Vec Ideal S16x5120 .bf16} {x1 : Vec Ideal S256x5120 .bf16} {x2 : Vec Ideal S16x5120 .bf16} {x3 : Vec Ideal S256x2048 .bf16} {x4 : Vec Ideal S16x2048 .bf16} {x5 : Vec Ideal S1x1024 .f32} {x6 : Vec Ideal S1x1024 .f32} {x7 : Vec Ideal S8x128x128 .bf16} {x8 : Vec Ideal S8x128x128 .bf16} {x9 : Vec Ideal S8x128x128 .f32} {x10 : Vec Ideal S8x1024 .f32} {x11 : Vec Ideal S1x2048 .f32}
variable {xo13 : Vec Ideal S1x2048 .f32} {xo14 : Vec Ideal S1x1024 .f32} {xo15 : Vec Ideal S1x1024 .f32} {xo16 : Vec Ideal S8x128x128 .f32} {xo17 : Vec Ideal S8x8x128 .f32} {xo18 : Vec Ideal S8x1024 .f32}

/-! The arrays over the step's rows and the sixteen rows on each side of them, as real numbers. -/
namespace E
variable (d : D) (t : ℕ) (zp : ℕ → ℕ → ℝ)
def ze (e k : ℕ) : ℝ := if e < 16 then zp e k else d.z (256 * t + (e - 16)) k
def p (e k : ℕ) : ℝ := if t = 0 ∧ e < 16 then 0 else ze d t zp e (3072 + k) * ze d t zp e (4096 + k)
def cv (e k : ℕ) : ℝ := d.cw 2 k * p d t zp e k + d.cw 1 k * p d t zp ((e + 288 - 1) % 288) k + d.cw 0 k * p d t zp ((e + 288 - 2) % 288) k
def yb (e k : ℕ) : ℝ := ze d t zp e (2048 + k) * cv d t zp e k
def yhb (e k : ℕ) : ℝ := yb d t zp e k * rms eR (yb d t zp e)
def dy (e k : ℕ) : ℝ := if e < 16 then 0 else d.dy (256 * t + (e - 16)) (1024 + k)
def q (e k : ℕ) : ℝ := dy d t e k * d.gn (1024 + k)
def dyb (e k : ℕ) : ℝ := rmsGrad eR (yb d t zp e) (q d t e) k
def dcv (e k : ℕ) : ℝ := dyb d t zp e k * ze d t zp e (2048 + k)
def dp (e k : ℕ) : ℝ := d.cw 2 k * dcv d t zp e k + d.cw 1 k * dcv d t zp ((e + 288 - 287) % 288) k + d.cw 0 k * dcv d t zp ((e + 288 - 286) % 288) k

variable {d t zp}
theorem ze_eq {e k : ℕ} (h : 16 ≤ e) : ze d t zp e k = d.z (256 * t + (e - 16)) k := if_neg (by omega)
theorem p_eq {e k : ℕ} (h : 16 ≤ e) : p d t zp e k = d.p (256 * t + (e - 16)) k := by
  unfold p D.p; rw [if_neg (by omega), ze_eq h, ze_eq h]
theorem p_ps (hz : t ≠ 0 → ∀ r k, r < 16 → zp r k = d.z (256 * t - 16 + r) k) {e j k : ℕ} (h : 16 ≤ e) (hj : j ≤ 16) :
    p d t zp (e - j) k = d.ps j (256 * t + (e - 16)) k := by
  unfold D.ps
  by_cases h0 : t = 0
  · by_cases h1 : e - j < 16
    · rw [if_neg (by omega)]; unfold p; rw [if_pos ⟨h0, h1⟩]
    · rw [if_pos (by omega), p_eq (by omega)]; congr 1; omega
  · rw [if_pos (by omega)]
    by_cases h1 : e - j < 16
    · unfold p D.p ze; rw [if_neg (by omega), if_pos h1, if_pos h1, hz h0 _ _ h1, hz h0 _ _ h1]
      rw [show 256 * t - 16 + (e - j) = 256 * t + (e - 16) - j by omega]
    · rw [p_eq (by omega)]; congr 1; omega
variable (hz : t ≠ 0 → ∀ r k, r < 16 → zp r k = d.z (256 * t - 16 + r) k)
include hz
theorem cv_eq {e k : ℕ} (h : 16 ≤ e) (h' : e < 288) : cv d t zp e k = d.cv (256 * t + (e - 16)) k := by
  unfold cv D.cv
  rw [p_eq h, show (e + 288 - 1) % 288 = e - 1 by omega, show (e + 288 - 2) % 288 = e - 2 by omega, p_ps hz h (by omega), p_ps hz h (by omega)]
theorem yb_eq {e k : ℕ} (h : 16 ≤ e) (h' : e < 288) : yb d t zp e k = d.yb (256 * t + (e - 16)) k := by
  unfold yb D.yb; rw [ze_eq h, cv_eq hz h h']
theorem yhb_eq {e k : ℕ} (h : 16 ≤ e) (h' : e < 288) : yhb d t zp e k = d.yhb (256 * t + (e - 16)) k := by
  unfold yhb D.yhb
  rw [yb_eq hz h h', show yb d t zp e = d.yb (256 * t + (e - 16)) from funext fun k => yb_eq hz h h']
omit hz in
theorem dy_eq {e k : ℕ} (h : 16 ≤ e) : dy d t e k = d.dy (256 * t + (e - 16)) (1024 + k) := if_neg (by omega)
theorem dyb_eq {e k : ℕ} (h : 16 ≤ e) (h' : e < 288) : dyb d t zp e k = d.dyb (256 * t + (e - 16)) k := by
  unfold dyb D.dyb
  rw [show yb d t zp e = d.yb (256 * t + (e - 16)) from funext fun k => yb_eq hz h h',
    show q d t e = d.qb (256 * t + (e - 16)) from funext fun k => by unfold q D.qb; rw [dy_eq h]]
variable (hdy : ∀ s k, 4096 ≤ s → d.dy s k = 0)
include hdy
theorem dcv_eq {e k : ℕ} (h : 16 ≤ e) (h' : e < 288) : dcv d t zp e k = d.dcv (256 * t + (e - 16)) k := by
  unfold dcv D.dcv
  rw [dyb_eq hz h h', ze_eq h]
  split
  · rfl
  · have hq : d.qb (256 * t + (e - 16)) = fun _ => 0 := funext fun k => by unfold D.qb; rw [hdy _ _ (by omega), zero_mul]
    unfold D.dyb rmsGrad mean
    rw [hq]; simp
theorem dp_eq {e k : ℕ} (h : 16 ≤ e) (h' : e < 272) : dp d t zp e k = d.dp (256 * t + (e - 16)) k := by
  unfold dp D.dp
  rw [show (e + 288 - 287) % 288 = e + 1 by omega, show (e + 288 - 286) % 288 = e + 2 by omega, dcv_eq hz hdy h (by omega), dcv_eq hz hdy (by omega : 16 ≤ e + 1) (by omega),
    dcv_eq hz hdy (by omega : 16 ≤ e + 2) (by omega), show 256 * t + (e + 1 - 16) = 256 * t + (e - 16) + 1 by omega,
    show 256 * t + (e + 2 - 16) = 256 * t + (e - 16) + 2 by omega]
end E

theorem first_iff : ∀ (e : Fin 288) (t : Fin 16), IntOp.andi (IntOp.cmpi CmpIPredicate.slt (BitVec.ofNat 32 e.val) 16#32) (Scalar.cmpi CmpIPredicate.eq (BitVec.ofNat 32 t.val) 0#32) = if t.val = 0 ∧ e.val < 16 then 1 else 0 := by decide +kernel
theorem last_iff : ∀ t : Fin 16, Scalar.cmpi CmpIPredicate.slt (BitVec.ofNat 32 t.val) 15#32 = if t.val < 15 then 1 else 0 := by decide +kernel

theorem sel_one (a b : EReal) : Scalar.select 1 a b = a := rfl
theorem sel_zero (a b : EReal) : Scalar.select 0 a b = b := rfl

variable {d : D} {t : ℕ} {zp : ℕ → ℕ → ℝ} (H : Blk d t zp i x0 x1 x2 x3 x4 x5 x6 x7 x8 x9 x10 x11)
include H

theorem k_v698 (y : S288x1024.Idx) : kernelRun0_B.sl.v698 (F := Ideal) c arg1 harg1 arg2 harg2 arg3 harg3 x0 x1 x2 y = ((E.ze d t zp (y 0).val (2048 + (y 1).val) : ℝ) : EReal) := by
  unfold kernelRun0_B.sl.v698 kernelRun0_B.sl.v697 kernelRun0_B.sl.v693 kernelRun0_B.sl.r_10 kernelRun0_B.sl.v695; try simp only [View.readAt_eq_ld, Memref.IsWhole.read_unread]
  pointwise
  simp only [H.h0, H.h1, H.h2, ix2, ix3, Memref.IsWhole.read_unread, bits_zero, bits_one, bits_half, bits_1024, bits_eL, bits_eR, bits_gc, n_ck, n_3ck, mul_c, add_c, sub_c, zadd_c, sum_coe, tanh_coe, th', div_coe _ n1024]
  unfold E.ze
  by_cases h1 : (y 0).val < 16
  · rw [dif_pos h1, if_pos h1]
  · rw [dif_neg h1, if_neg h1]
    split
    · rfl
    · exact ec (c2 _ (by omega) rfl)

theorem k_v705 (y : S288x1024.Idx) : kernelRun0_B.sl.v705 (F := Ideal) c arg1 harg1 arg2 harg2 arg3 harg3 x0 x1 x2 y = ((E.ze d t zp (y 0).val (3072 + (y 1).val) : ℝ) : EReal) := by
  unfold kernelRun0_B.sl.v705 kernelRun0_B.sl.v704 kernelRun0_B.sl.v700 kernelRun0_B.sl.v702; try simp only [View.readAt_eq_ld, Memref.IsWhole.read_unread]
  pointwise
  simp only [H.h0, H.h1, H.h2, ix2, ix3, Memref.IsWhole.read_unread, bits_zero, bits_one, bits_half, bits_1024, bits_eL, bits_eR, bits_gc, n_ck, n_3ck, mul_c, add_c, sub_c, zadd_c, sum_coe, tanh_coe, th', div_coe _ n1024]
  unfold E.ze
  by_cases h1 : (y 0).val < 16
  · rw [dif_pos h1, if_pos h1]
  · rw [dif_neg h1, if_neg h1]
    split
    · rfl
    · exact ec (c2 _ (by omega) rfl)

theorem k_v712 (y : S288x1024.Idx) : kernelRun0_B.sl.v712 (F := Ideal) c arg1 harg1 arg2 harg2 arg3 harg3 x0 x1 x2 y = ((E.ze d t zp (y 0).val (4096 + (y 1).val) : ℝ) : EReal) := by
  unfold kernelRun0_B.sl.v712 kernelRun0_B.sl.v711 kernelRun0_B.sl.v707 kernelRun0_B.sl.v709; try simp only [View.readAt_eq_ld, Memref.IsWhole.read_unread]
  pointwise
  simp only [H.h0, H.h1, H.h2, ix2, ix3, Memref.IsWhole.read_unread, bits_zero, bits_one, bits_half, bits_1024, bits_eL, bits_eR, bits_gc, n_ck, n_3ck, mul_c, add_c, sub_c, zadd_c, sum_coe, tanh_coe, th', div_coe _ n1024]
  unfold E.ze
  by_cases h1 : (y 0).val < 16
  · rw [dif_pos h1, if_pos h1]
  · rw [dif_neg h1, if_neg h1]
    split
    · rfl
    · exact ec (c2 _ (by omega) rfl)

theorem k_v723 (y : S288x1024.Idx) : kernelRun0_B.sl.v723 (F := Ideal) c i arg1 harg1 arg2 harg2 arg3 harg3 x0 x1 x2 y = ((E.p d t zp (y 0).val (y 1).val : ℝ) : EReal) := by
  have hy : (y 0).val < 288 := (y 0).isLt
  unfold kernelRun0_B.sl.v723 kernelRun0_B.sl.v714 kernelRun0_B.sl.v722 kernelRun0_B.sl.cst_224 kernelRun0_B.sl.v721 kernelRun0_B.sl.v720 kernelRun0_B.sl.v719 kernelRun0_B.sl.v718 kernelRun0_B.sl.v0 kernelRun0_B.sl.v715 kernelRun0_B.sl.v713; try simp only [View.readAt_eq_ld, Memref.IsWhole.read_unread]
  pointwise
  simp only [k_v705 H, k_v712 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rw [H.ht]
  have ht := H.h16
  have e := first_iff ⟨(y 0).val, hy⟩ ⟨t, ht⟩
  simp only [] at e
  rw [e]
  unfold E.p
  by_cases h1 : t = 0 ∧ (y 0).val < 16
  · rw [if_pos h1, if_pos h1]; exact sel_one ..
  · rw [if_neg h1, if_neg h1]; exact sel_zero ..

theorem k_v739 (y : S288x1024.Idx) : kernelRun0_B.sl.v739 (F := Ideal) c i arg1 harg1 arg2 harg2 arg3 harg3 arg11 harg11 x0 x1 x2 x10 y = ((E.cv d t zp (y 0).val (y 1).val : ℝ) : EReal) := by
  unfold kernelRun0_B.sl.v739 kernelRun0_B.sl.v738 kernelRun0_B.sl.v736 kernelRun0_B.sl.v737 kernelRun0_B.sl.v735 kernelRun0_B.sl.v733 kernelRun0_B.sl.v732 kernelRun0_B.sl.v730 kernelRun0_B.sl.v731 kernelRun0_B.sl.v729 kernelRun0_B.sl.v727 kernelRun0_B.sl.v726 kernelRun0_B.sl.v725; try simp only [View.readAt_eq_ld, Memref.IsWhole.read_unread]
  pointwise
  simp only [k_v723 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine (congrArg₂ (· + ·) (congrArg₂ (· + ·) (congrArg (· * _) (H.h10 (ix2 2 (y 1)) (by decide : 2 < 3))) (congrArg (· * _) (H.h10 (ix2 1 (y 1)) (by decide : 1 < 3)))) (congrArg (· * _) (H.h10 (ix2 0 (y 1)) (by decide : 0 < 3)))).trans ?_
  simp only [ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v740 (y : S288x1024.Idx) : kernelRun0_B.sl.v740 (F := Ideal) c i arg1 harg1 arg2 harg2 arg3 harg3 arg11 harg11 x0 x1 x2 x10 y = ((E.yb d t zp (y 0).val (y 1).val : ℝ) : EReal) := by
  unfold kernelRun0_B.sl.v740; try simp only [View.readAt_eq_ld, Memref.IsWhole.read_unread]
  pointwise
  simp only [k_v698 H, k_v739 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v749 (y : S288x1024.Idx) : kernelRun0_B.sl.v749 (F := Ideal) c i arg1 harg1 arg2 harg2 arg3 harg3 arg11 harg11 x0 x1 x2 x10 y = ((rms eR (E.yb d t zp (y 0).val) : ℝ) : EReal) := by
  unfold kernelRun0_B.sl.v749 kernelRun0_B.sl.v748 kernelRun0_B.sl.v747 kernelRun0_B.sl.v746 kernelRun0_B.sl.cst_195 kernelRun0_B.sl.v745 kernelRun0_B.sl.v744 kernelRun0_B.sl.cst_194 kernelRun0_B.sl.v743 kernelRun0_B.sl.v742 kernelRun0_B.sl.v741; try simp only [View.readAt_eq_ld, Memref.IsWhole.read_unread]
  pointwise
  simp only [k_v740 H, ix2, ix3, Memref.IsWhole.read_unread, bits_zero, bits_one, bits_half, bits_1024, bits_eL, bits_eR, bits_gc, n_ck, n_3ck, mul_c, add_c, sub_c, zadd_c, sum_coe, tanh_coe, th', div_coe _ n1024]
  exact rsqrt_coe (msq_pos eR_pos (E.yb d t zp _))

theorem k_v750 (y : S288x1024.Idx) : kernelRun0_B.sl.v750 (F := Ideal) c i arg1 harg1 arg2 harg2 arg3 harg3 arg11 harg11 x0 x1 x2 x10 y = ((E.yhb d t zp (y 0).val (y 1).val : ℝ) : EReal) := by
  unfold kernelRun0_B.sl.v750; try simp only [View.readAt_eq_ld, Memref.IsWhole.read_unread]
  pointwise
  simp only [k_v740 H, k_v749 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v759 (y : S288x1024.Idx) : kernelRun0_B.sl.v759 (F := Ideal) c i arg4 harg4 arg5 harg5 x3 x4 y = ((E.dy d t (y 0).val (y 1).val : ℝ) : EReal) := by
  have hy : (y 0).val < 288 := (y 0).isLt
  unfold kernelRun0_B.sl.v759 kernelRun0_B.sl.v755 kernelRun0_B.sl.v753 kernelRun0_B.sl.v751 kernelRun0_B.sl.v758 kernelRun0_B.sl.v754 kernelRun0_B.sl.cst_224; try simp only [View.readAt_eq_ld, Memref.IsWhole.read_unread]
  pointwise
  simp only [H.h3, ix2, ix3, Memref.IsWhole.read_unread, bits_zero, bits_one, bits_half, bits_1024, bits_eL, bits_eR, bits_gc, n_ck, n_3ck, mul_c, add_c, sub_c, zadd_c, sum_coe, tanh_coe, th', div_coe _ n1024]
  unfold E.dy
  by_cases h1 : (y 0).val < 16
  · rw [dif_pos h1, if_pos h1]; rfl
  · rw [dif_neg h1, if_neg h1]
    split
    · rfl
    · rw [H.ht]
      have ht := H.h16
      have e := last_iff ⟨t, ht⟩
      simp only [] at e
      rw [e]
      by_cases h3 : t < 15
      · rw [if_pos h3, sel_one, H.h4 h3]
        exact ec (c2 _ (by show 256 * t + 256 + ((y 0).val - 16 - 256) = _; omega) rfl)
      · rw [if_neg h3, sel_zero, H.hdy _ _ (by omega)]; rfl

theorem k_v771 (y : S288x1024.Idx) : kernelRun0_B.sl.v771 (F := Ideal) c i arg4 harg4 arg5 harg5 arg12 harg12 x3 x4 x11 y = ((E.q d t (y 0).val (y 1).val : ℝ) : EReal) := by
  unfold kernelRun0_B.sl.v771 kernelRun0_B.sl.v770 kernelRun0_B.sl.v769; try simp only [View.readAt_eq_ld, Memref.IsWhole.read_unread]
  pointwise
  simp only [k_v759 H, H.h11, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v781 (y : S288x1024.Idx) : kernelRun0_B.sl.v781 (F := Ideal) c i arg1 harg1 arg2 harg2 arg3 harg3 arg4 harg4 arg5 harg5 arg11 harg11 arg12 harg12 x0 x1 x2 x3 x4 x10 x11 y = ((E.dyb d t zp (y 0).val (y 1).val : ℝ) : EReal) := by
  unfold kernelRun0_B.sl.v781 kernelRun0_B.sl.v779 kernelRun0_B.sl.v778 kernelRun0_B.sl.v777 kernelRun0_B.sl.v776 kernelRun0_B.sl.v744 kernelRun0_B.sl.cst_194 kernelRun0_B.sl.v774 kernelRun0_B.sl.v773 kernelRun0_B.sl.v772; try simp only [View.readAt_eq_ld, Memref.IsWhole.read_unread]
  pointwise
  simp only [k_v771 H, k_v749 H, k_v750 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v782 (y : S288x1024.Idx) : kernelRun0_B.sl.v782 (F := Ideal) c i arg1 harg1 arg2 harg2 arg3 harg3 arg4 harg4 arg5 harg5 arg11 harg11 arg12 harg12 x0 x1 x2 x3 x4 x10 x11 y = ((E.dcv d t zp (y 0).val (y 1).val : ℝ) : EReal) := by
  unfold kernelRun0_B.sl.v782; try simp only [View.readAt_eq_ld, Memref.IsWhole.read_unread]
  pointwise
  simp only [k_v781 H, k_v698 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v798 (y : S288x1024.Idx) : kernelRun0_B.sl.v798 (F := Ideal) c i arg1 harg1 arg2 harg2 arg3 harg3 arg4 harg4 arg5 harg5 arg11 harg11 arg12 harg12 x0 x1 x2 x3 x4 x10 x11 y = ((E.dp d t zp (y 0).val (y 1).val : ℝ) : EReal) := by
  unfold kernelRun0_B.sl.v798 kernelRun0_B.sl.v797 kernelRun0_B.sl.v795 kernelRun0_B.sl.v737 kernelRun0_B.sl.v735 kernelRun0_B.sl.v792 kernelRun0_B.sl.v791 kernelRun0_B.sl.v789 kernelRun0_B.sl.v731 kernelRun0_B.sl.v729 kernelRun0_B.sl.v786 kernelRun0_B.sl.v726 kernelRun0_B.sl.v725; try simp only [View.readAt_eq_ld, Memref.IsWhole.read_unread]
  pointwise
  simp only [k_v782 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine (congrArg₂ (· + ·) (congrArg₂ (· + ·) (congrArg (· * _) (H.h10 (ix2 2 (y 1)) (by decide : 2 < 3))) (congrArg (· * _) (H.h10 (ix2 1 (y 1)) (by decide : 1 < 3)))) (congrArg (· * _) (H.h10 (ix2 0 (y 1)) (by decide : 0 < 3)))).trans ?_
  simp only [ix2, ix3, Memref.IsWhole.read_unread, bits_zero, bits_one, bits_half, bits_1024, bits_eL, bits_eR, bits_gc, n_ck, n_3ck, mul_c, add_c, sub_c, zadd_c, sum_coe, tanh_coe, th', div_coe _ n1024]
  rfl

theorem k_v801 (y : S256x1024.Idx) : kernelRun0_B.sl.v801 (F := Ideal) c i arg1 harg1 arg2 harg2 arg3 harg3 arg4 harg4 arg5 harg5 arg11 harg11 arg12 harg12 x0 x1 x2 x3 x4 x10 x11 y = ((d.dz2 (256 * t + (y 0).val) (y 1).val : ℝ) : EReal) := by
  have hy : (y 0).val < 256 := (y 0).isLt
  unfold kernelRun0_B.sl.v801 kernelRun0_B.sl.v800 kernelRun0_B.sl.v799; try simp only [View.readAt_eq_ld, Memref.IsWhole.read_unread]
  pointwise
  simp only [k_v781 H, k_v739 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rw [E.dyb_eq H.hz (by omega) (by omega), E.cv_eq H.hz (by omega) (by omega), Nat.add_sub_cancel_left]; rfl

theorem k_v805 (y : S256x1024.Idx) : kernelRun0_B.sl.v805 (F := Ideal) c i arg1 harg1 arg2 harg2 arg3 harg3 arg4 harg4 arg5 harg5 arg11 harg11 arg12 harg12 x0 x1 x2 x3 x4 x10 x11 y = ((d.dz3 (256 * t + (y 0).val) (y 1).val : ℝ) : EReal) := by
  have hy : (y 0).val < 256 := (y 0).isLt
  unfold kernelRun0_B.sl.v805 kernelRun0_B.sl.v804 kernelRun0_B.sl.v803; try simp only [View.readAt_eq_ld, Memref.IsWhole.read_unread]
  pointwise
  simp only [k_v798 H, k_v712 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rw [E.dp_eq H.hz H.hdy (by omega) (by omega), E.ze_eq (by omega), Nat.add_sub_cancel_left]; rfl

theorem k_v809 (y : S256x1024.Idx) : kernelRun0_B.sl.v809 (F := Ideal) c i arg1 harg1 arg2 harg2 arg3 harg3 arg4 harg4 arg5 harg5 arg11 harg11 arg12 harg12 x0 x1 x2 x3 x4 x10 x11 y = ((d.dz4 (256 * t + (y 0).val) (y 1).val : ℝ) : EReal) := by
  have hy : (y 0).val < 256 := (y 0).isLt
  unfold kernelRun0_B.sl.v809 kernelRun0_B.sl.v808 kernelRun0_B.sl.v807; try simp only [View.readAt_eq_ld, Memref.IsWhole.read_unread]
  pointwise
  simp only [k_v798 H, k_v705 H, ix2, ix3, Memref.IsWhole.read_unread, bits_zero, bits_one, bits_half, bits_1024, bits_eL, bits_eR, bits_gc, n_ck, n_3ck, mul_c, add_c, sub_c, zadd_c, sum_coe, tanh_coe, th', div_coe _ n1024]
  rw [E.dp_eq H.hz H.hdy (by omega) (by omega), E.ze_eq (by omega), Nat.add_sub_cancel_left]; rfl

theorem k_v766 (y : S1x1024.Idx) : kernelRun0_B.sl.v766 (F := Ideal) c i arg1 harg1 arg2 harg2 arg3 harg3 arg4 harg4 arg5 harg5 arg11 harg11 arg14 harg14 x0 x1 x2 x3 x4 x10 xo13 y = xo13 (ix2 0 ⟨1024 + (y 1).val, by have : (y 1).val < 1024 := (y 1).isLt; omega⟩) + ((∑ r : Fin 256, d.gB (256 * t + r.val) (y 1).val : ℝ) : EReal) := by
  unfold kernelRun0_B.sl.v766 kernelRun0_B.sl.v765 kernelRun0_B.sl.v764 kernelRun0_B.sl.v763 kernelRun0_B.sl.v762 kernelRun0_B.sl.v761 kernelRun0_B.sl.v760; try simp only [View.readAt_eq_ld, Memref.IsWhole.read_unread]
  pointwise
  simp only [k_v759 H, k_v750 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec (Finset.sum_congr rfl fun r _ => ?_))
  rw [E.dy_eq (by omega), E.yhb_eq H.hz (by omega) (by omega), Nat.add_sub_cancel_left]; rfl

theorem k_k0_pay134 (a : Vec Ideal S1x1024 .f32) (y : S1x1024.Idx) : k0_pay134 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) a y = a y + ((∑ r : Fin 256, d.gC 0 (256 * t + r.val) (y 1).val : ℝ) : EReal) := by
  unfold k0_pay134
  pointwise
  simp only [k_v723 H, k_v782 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec (Finset.sum_congr rfl fun r _ => ?_))
  have hr := r.isLt
  rw [E.dcv_eq H.hz H.hdy (by omega) (by omega)]
  have e := E.p_ps H.hz (e := 16 + r.val) (j := 0) (k := (y 1).val) (by omega) (by omega)
  simp only [Nat.sub_zero] at e
  rw [e, Nat.add_sub_cancel_left]; rfl

theorem k_k0_pay135 (a : Vec Ideal S1x1024 .f32) (y : S1x1024.Idx) : k0_pay135 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) a y = a y + ((∑ r : Fin 256, d.gC 1 (256 * t + r.val) (y 1).val : ℝ) : EReal) := by
  unfold k0_pay135
  pointwise
  simp only [k_v723 H, k_v782 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec (Finset.sum_congr rfl fun r _ => ?_))
  have hr := r.isLt
  rw [E.dcv_eq H.hz H.hdy (by omega) (by omega), show (16 + r.val + 288 - 1) % 288 = 16 + r.val - 1 by omega]
  have e := E.p_ps H.hz (e := 16 + r.val) (j := 1) (k := (y 1).val) (by omega) (by omega)
  rw [e, Nat.add_sub_cancel_left]; rfl

theorem k_k0_pay1 (a : Vec Ideal S1x1024 .f32) (y : S1x1024.Idx) : k0_pay1 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) a y = a y + ((∑ r : Fin 256, d.gC 2 (256 * t + r.val) (y 1).val : ℝ) : EReal) := by
  unfold k0_pay1
  pointwise
  simp only [k_v723 H, k_v782 H, ix2, ix3, Memref.IsWhole.read_unread, bits_zero, bits_one, bits_half, bits_1024, bits_eL, bits_eR, bits_gc, n_ck, n_3ck, mul_c, add_c, sub_c, zadd_c, sum_coe, tanh_coe, th', div_coe _ n1024]
  refine congrArg (_ + ·) (ec (Finset.sum_congr rfl fun r _ => ?_))
  have hr := r.isLt
  rw [E.dcv_eq H.hz H.hdy (by omega) (by omega), show (16 + r.val + 288 - 2) % 288 = 16 + r.val - 2 by omega]
  have e := E.p_ps H.hz (e := 16 + r.val) (j := 2) (k := (y 1).val) (by omega) (by omega)
  rw [e, Nat.add_sub_cancel_left]; rfl

end
end Cert.Mix.Ker
-- ==== Proof.MixerKerA.lean ====
module

public import proofs.«01_k».proof.Proof.MixerKerW
public import proofs.«01_k».proof.Proof.MixerKerX
import Idealize.ShloMosaic.Lib.Pipeline.ReadBack

/-! The first step of the mixer's gradient kernel, which starts its sums at zero, as a later step that finds zeros. -/

@[expose] public section
noncomputable section
open Idealize.ShloMosaic Cert.MixerIdeal Cert.MixerIdeal.Gen Cert.Real
namespace Cert.Mix.Ker

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S16x5120 .bf16} {harg3 : arg3.IsWhole}
variable {arg4 : Memref sig .tc .vmem S256x2048 .bf16} {harg4 : arg4.IsWhole}
variable {arg5 : Memref sig .tc .vmem S16x2048 .bf16} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S8x128x128 .f32} {harg10 : arg10.IsWhole}
variable {arg11 : Memref sig .tc .vmem S8x1024 .f32} {harg11 : arg11.IsWhole}
variable {arg12 : Memref sig .tc .vmem S1x2048 .f32} {harg12 : arg12.IsWhole}
variable {arg13 : Memref sig .tc .vmem S256x5120 .bf16} {harg13 : arg13.IsWhole}
variable {arg14 : Memref sig .tc .vmem S1x2048 .f32} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S8x128x128 .f32} {harg17 : arg17.IsWhole}
variable {arg18 : Memref sig .tc .vmem S8x8x128 .f32} {harg18 : arg18.IsWhole}
variable {arg19 : Memref sig .tc .vmem S8x1024 .f32} {harg19 : arg19.IsWhole}
variable {arg20 : Memref sig .tc .vmem S256x1024 .bf16} {harg20 : arg20.IsWhole}
variable {arg21 : Memref sig .tc .vmem S256x1024 .f32} {harg21 : arg21.IsWhole}
variable {arg22 : Memref sig .tc .vmem S256x1024 .bf16} {harg22 : arg22.IsWhole}
variable {arg23 : Memref sig .tc .vmem S256x1024 .f32} {harg23 : arg23.IsWhole}
variable {x0 : Vec Ideal S16x5120 .bf16} {x1 : Vec Ideal S256x5120 .bf16} {x2 : Vec Ideal S16x5120 .bf16} {x3 : Vec Ideal S256x2048 .bf16} {x4 : Vec Ideal S16x2048 .bf16} {x5 : Vec Ideal S1x1024 .f32} {x6 : Vec Ideal S1x1024 .f32} {x7 : Vec Ideal S8x128x128 .bf16} {x8 : Vec Ideal S8x128x128 .bf16} {x9 : Vec Ideal S8x128x128 .f32} {x10 : Vec Ideal S8x1024 .f32} {x11 : Vec Ideal S1x2048 .f32}
variable {xo13 : Vec Ideal S1x2048 .f32} {xo14 : Vec Ideal S1x1024 .f32} {xo15 : Vec Ideal S1x1024 .f32} {xo16 : Vec Ideal S8x128x128 .f32} {xo17 : Vec Ideal S8x8x128 .f32} {xo18 : Vec Ideal S8x1024 .f32}

/-- Pieces that are each a block of `G`, written over contents that already are `G` wherever no piece lies, leave `G`. -/
theorem rw_of {sg : RefSig} {κ : Kind} {sp : Space} {s : Shape} {e : EltTy} (v : View sg κ sp s e) (f : v.ty.Contents (Elt Ideal)) (G : s.Idx → Elt Ideal e)
    (L : List (View.Piece (Elt Ideal) s e)) (hL : ∀ p ∈ L, ∀ x : p.1.shape.Idx, p.2 x = G (p.1.emb x)) (y : s.Idx)
    (hf : (¬ ∃ p ∈ L, y ∈ p.1.set) → v.read (Elt Ideal) f y = G y) : v.read (Elt Ideal) (v.writes (Elt Ideal) f L) y = G y := by
  by_cases hc : ∃ p ∈ L, y ∈ p.1.set
  · rw [View.read_writes_apply_eq_canon v f y L hc, View.canon_apply_of_pieces G L hL y hc]
  · rw [← hf hc]
    clear hL hf
    induction L with
    | nil => rfl
    | cons p L ih =>
      have hm : y ∉ p.1.set := fun h => hc ⟨p, List.mem_cons_self, h⟩
      rw [View.writes_cons, View.read_slice_write_of_not_mem p.1 _ _ _ (by rwa [Rect.map_emb_univ])]
      exact ih fun ⟨q, hq, hy⟩ => hc ⟨q, List.mem_cons_of_mem _ hq, hy⟩

theorem z_k0_pay2 : k0_pay2 (F := Ideal) = fun _ => 0 := by
  funext y; unfold k0_pay2; pointwise

theorem z_k0_pay3 : k0_pay3 (F := Ideal) = fun _ => 0 := by
  funext y; unfold k0_pay3; pointwise

theorem z_k0_pay4 : k0_pay4 (F := Ideal) = fun _ => 0 := by
  funext y; unfold k0_pay4; pointwise

theorem z_k0_pay5 : k0_pay5 (F := Ideal) = fun _ => 0 := by
  funext y; unfold k0_pay5; pointwise

theorem z_k0_pay6 : k0_pay6 (F := Ideal) = fun _ => 0 := by
  funext y; unfold k0_pay6; pointwise

theorem z_k0_pay7 : k0_pay7 (F := Ideal) = fun _ => 0 := by
  funext y; unfold k0_pay7; pointwise

theorem a_v259 : kernelRun0_A.sl.v259 (F := Ideal) c arg14 = fun _ => (0 : EReal) := by
  unfold kernelRun0_A.sl.v259 kernelRun0_A.sl.H13_1
  simp (disch := decide) only [↓ View.readCov_skip, ↓ View.readCov_fill]
  rw [z_k0_pay2]

theorem a_v264 : kernelRun0_A.sl.v264 (F := Ideal) c arg2 harg2 arg4 harg4 arg6 harg6 arg7 harg7 arg8 harg8 arg10 harg10 arg14 arg20 arg21 x1 x3 x5 x6 x7 x9 = kernelRun0_B.sl.v264 (F := Ideal) c arg2 harg2 arg4 harg4 arg6 harg6 arg7 harg7 arg8 harg8 arg10 harg10 arg14 harg14 arg20 arg21 x1 x3 x5 x6 x7 x9 (fun _ => 0) := by
  unfold kernelRun0_A.sl.v264 kernelRun0_A.sl.v260 kernelRun0_B.sl.v264 kernelRun0_B.sl.v260
  rw [a_v259]
  simp only [View.readAt_eq_ld, Memref.IsWhole.read_unread]
  rfl

theorem a_v760 : kernelRun0_A.sl.v760 (F := Ideal) c arg2 harg2 arg4 harg4 arg6 harg6 arg7 harg7 arg8 harg8 arg10 harg10 arg14 arg20 arg21 x1 x3 x5 x6 x7 x9 = fun _ => (0 : EReal) := by
  unfold kernelRun0_A.sl.v760 kernelRun0_A.sl.H13_2 kernelRun0_A.sl.H13_1
  simp (disch := decide) only [↓ View.readCov_skip, ↓ View.readCov_fill]
  rw [z_k0_pay2]

theorem a_v766 : kernelRun0_A.sl.v766 (F := Ideal) c i arg1 harg1 arg2 harg2 arg3 harg3 arg4 harg4 arg5 harg5 arg6 harg6 arg7 harg7 arg8 harg8 arg10 harg10 arg11 harg11 arg14 arg20 arg21 x0 x1 x2 x3 x4 x5 x6 x7 x9 x10 = kernelRun0_B.sl.v766 (F := Ideal) c i arg1 harg1 arg2 harg2 arg3 harg3 arg4 harg4 arg5 harg5 arg11 harg11 arg14 harg14 x0 x1 x2 x3 x4 x10 (fun _ => 0) := by
  unfold kernelRun0_A.sl.v766 kernelRun0_A.sl.v761 kernelRun0_B.sl.v766 kernelRun0_B.sl.v761 kernelRun0_B.sl.v760
  rw [a_v760]
  simp only [View.readAt_eq_ld, Memref.IsWhole.read_unread]
  rfl

theorem a_v662 : kernelRun0_A.sl.v662 (F := Ideal) c arg15 = fun _ => (0 : EReal) := by
  unfold kernelRun0_A.sl.v662 kernelRun0_A.sl.H14_1
  simp (disch := decide) only [↓ View.readCov_skip, ↓ View.readCov_fill]
  rw [z_k0_pay3]

theorem a_v667 : kernelRun0_A.sl.v667 (F := Ideal) c arg2 harg2 arg4 harg4 arg6 harg6 arg7 harg7 arg8 harg8 arg9 harg9 arg10 harg10 arg12 harg12 arg15 arg20 arg21 arg22 arg23 x1 x3 x5 x6 x7 x8 x9 x11 = kernelRun0_B.sl.v667 (F := Ideal) c arg2 harg2 arg4 harg4 arg6 harg6 arg7 harg7 arg8 harg8 arg9 harg9 arg10 harg10 arg12 harg12 arg15 harg15 arg20 arg21 arg22 arg23 x1 x3 x5 x6 x7 x8 x9 x11 (fun _ => 0) := by
  unfold kernelRun0_A.sl.v667 kernelRun0_A.sl.v663 kernelRun0_B.sl.v667 kernelRun0_B.sl.v663
  rw [a_v662]
  simp only [View.readAt_eq_ld, Memref.IsWhole.read_unread]
  rfl

theorem a_v656 : kernelRun0_A.sl.v656 (F := Ideal) c arg16 = fun _ => (0 : EReal) := by
  unfold kernelRun0_A.sl.v656 kernelRun0_A.sl.H15_1
  simp (disch := decide) only [↓ View.readCov_skip, ↓ View.readCov_fill]
  rw [z_k0_pay4]

theorem a_v660 : kernelRun0_A.sl.v660 (F := Ideal) c arg2 harg2 arg4 harg4 arg6 harg6 arg7 harg7 arg8 harg8 arg9 harg9 arg10 harg10 arg12 harg12 arg16 arg20 arg21 arg22 arg23 x1 x3 x5 x6 x7 x8 x9 x11 = kernelRun0_B.sl.v660 (F := Ideal) c arg2 harg2 arg4 harg4 arg6 harg6 arg7 harg7 arg8 harg8 arg9 harg9 arg10 harg10 arg12 harg12 arg16 harg16 arg20 arg21 arg22 arg23 x1 x3 x5 x6 x7 x8 x9 x11 (fun _ => 0) := by
  unfold kernelRun0_A.sl.v660 kernelRun0_A.sl.v657 kernelRun0_B.sl.v660 kernelRun0_B.sl.v657
  rw [a_v656]
  simp only [View.readAt_eq_ld, Memref.IsWhole.read_unread]
  rfl

theorem a_v369 : kernelRun0_A.sl.v369 (F := Ideal) c arg17 = fun _ => (0 : EReal) := by
  unfold kernelRun0_A.sl.v369 kernelRun0_A.sl.H16_1
  simp (disch := decide) only [↓ View.readCov_skip, ↓ View.readCov_fill]
  rw [z_k0_pay5]

theorem a_v375 : kernelRun0_A.sl.v375 (F := Ideal) c arg2 harg2 arg4 harg4 arg6 harg6 arg7 harg7 arg8 harg8 arg10 harg10 arg12 harg12 arg17 arg20 arg21 arg22 x1 x3 x5 x6 x7 x9 x11 = kernelRun0_B.sl.v375 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v375 kernelRun0_A.sl.v372 kernelRun0_A.sl.v370 kernelRun0_B.sl.v375 kernelRun0_B.sl.v372 kernelRun0_B.sl.v370
  rw [a_v369]
  simp only [View.readAt_eq_ld, Memref.IsWhole.read_unread]
  rfl

theorem a_v376 : kernelRun0_A.sl.v376 (F := Ideal) c arg18 = fun _ => (0 : EReal) := by
  unfold kernelRun0_A.sl.v376 kernelRun0_A.sl.H17_1
  simp (disch := decide) only [↓ View.readCov_skip, ↓ View.readCov_fill]
  rw [z_k0_pay6]

theorem a_v381 : kernelRun0_A.sl.v381 (F := Ideal) c arg2 harg2 arg4 harg4 arg6 harg6 arg7 harg7 arg8 harg8 arg10 harg10 arg12 harg12 arg18 arg20 arg21 arg22 x1 x3 x5 x6 x7 x9 x11 = kernelRun0_B.sl.v381 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v381 kernelRun0_A.sl.v378 kernelRun0_A.sl.v377 kernelRun0_B.sl.v381 kernelRun0_B.sl.v378 kernelRun0_B.sl.v377
  rw [a_v376]
  simp only [View.readAt_eq_ld, Memref.IsWhole.read_unread]
  rfl

theorem a_v408 : kernelRun0_A.sl.v408 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v408 kernelRun0_A.sl.H16_2 kernelRun0_A.sl.H16_1
  simp (disch := decide) only [↓ View.readCov_skip, ↓ View.readCov_fill]
  rw [z_k0_pay5]

theorem a_v414 : kernelRun0_A.sl.v414 (F := Ideal) c arg2 harg2 arg4 harg4 arg6 harg6 arg7 harg7 arg8 harg8 arg10 harg10 arg12 harg12 arg17 arg20 arg21 arg22 x1 x3 x5 x6 x7 x9 x11 = kernelRun0_B.sl.v414 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v414 kernelRun0_A.sl.v411 kernelRun0_A.sl.v409 kernelRun0_B.sl.v414 kernelRun0_B.sl.v411 kernelRun0_B.sl.v409 kernelRun0_B.sl.v408
  rw [a_v408]
  simp only [View.readAt_eq_ld, Memref.IsWhole.read_unread]
  rfl

theorem a_v415 : kernelRun0_A.sl.v415 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v415 kernelRun0_A.sl.H17_2 kernelRun0_A.sl.H17_1
  simp (disch := decide) only [↓ View.readCov_skip, ↓ View.readCov_fill]
  rw [z_k0_pay6]

theorem a_v420 : kernelRun0_A.sl.v420 (F := Ideal) c arg2 harg2 arg4 harg4 arg6 harg6 arg7 harg7 arg8 harg8 arg10 harg10 arg12 harg12 arg18 arg20 arg21 arg22 x1 x3 x5 x6 x7 x9 x11 = kernelRun0_B.sl.v420 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v420 kernelRun0_A.sl.v417 kernelRun0_A.sl.v416 kernelRun0_B.sl.v420 kernelRun0_B.sl.v417 kernelRun0_B.sl.v416 kernelRun0_B.sl.v415
  rw [a_v415]
  simp only [View.readAt_eq_ld, Memref.IsWhole.read_unread]
  rfl

theorem a_v447 : kernelRun0_A.sl.v447 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v447 kernelRun0_A.sl.H16_3 kernelRun0_A.sl.H16_2 kernelRun0_A.sl.H16_1
  simp (disch := decide) only [↓ View.readCov_skip, ↓ View.readCov_fill]
  rw [z_k0_pay5]

theorem a_v453 : kernelRun0_A.sl.v453 (F := Ideal) c arg2 harg2 arg4 harg4 arg6 harg6 arg7 harg7 arg8 harg8 arg10 harg10 arg12 harg12 arg17 arg20 arg21 arg22 x1 x3 x5 x6 x7 x9 x11 = kernelRun0_B.sl.v453 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v453 kernelRun0_A.sl.v450 kernelRun0_A.sl.v448 kernelRun0_B.sl.v453 kernelRun0_B.sl.v450 kernelRun0_B.sl.v448 kernelRun0_B.sl.v447
  rw [a_v447]
  simp only [View.readAt_eq_ld, Memref.IsWhole.read_unread]
  rfl

theorem a_v454 : kernelRun0_A.sl.v454 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v454 kernelRun0_A.sl.H17_3 kernelRun0_A.sl.H17_2 kernelRun0_A.sl.H17_1
  simp (disch := decide) only [↓ View.readCov_skip, ↓ View.readCov_fill]
  rw [z_k0_pay6]

theorem a_v459 : kernelRun0_A.sl.v459 (F := Ideal) c arg2 harg2 arg4 harg4 arg6 harg6 arg7 harg7 arg8 harg8 arg10 harg10 arg12 harg12 arg18 arg20 arg21 arg22 x1 x3 x5 x6 x7 x9 x11 = kernelRun0_B.sl.v459 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v459 kernelRun0_A.sl.v456 kernelRun0_A.sl.v455 kernelRun0_B.sl.v459 kernelRun0_B.sl.v456 kernelRun0_B.sl.v455 kernelRun0_B.sl.v454
  rw [a_v454]
  simp only [View.readAt_eq_ld, Memref.IsWhole.read_unread]
  rfl

theorem a_v486 : kernelRun0_A.sl.v486 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v486 kernelRun0_A.sl.H16_4 kernelRun0_A.sl.H16_3 kernelRun0_A.sl.H16_2 kernelRun0_A.sl.H16_1
  simp (disch := decide) only [↓ View.readCov_skip, ↓ View.readCov_fill]
  rw [z_k0_pay5]

theorem a_v492 : kernelRun0_A.sl.v492 (F := Ideal) c arg2 harg2 arg4 harg4 arg6 harg6 arg7 harg7 arg8 harg8 arg10 harg10 arg12 harg12 arg17 arg20 arg21 arg22 x1 x3 x5 x6 x7 x9 x11 = kernelRun0_B.sl.v492 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v492 kernelRun0_A.sl.v489 kernelRun0_A.sl.v487 kernelRun0_B.sl.v492 kernelRun0_B.sl.v489 kernelRun0_B.sl.v487 kernelRun0_B.sl.v486
  rw [a_v486]
  simp only [View.readAt_eq_ld, Memref.IsWhole.read_unread]
  rfl

theorem a_v493 : kernelRun0_A.sl.v493 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v493 kernelRun0_A.sl.H17_4 kernelRun0_A.sl.H17_3 kernelRun0_A.sl.H17_2 kernelRun0_A.sl.H17_1
  simp (disch := decide) only [↓ View.readCov_skip, ↓ View.readCov_fill]
  rw [z_k0_pay6]

theorem a_v498 : kernelRun0_A.sl.v498 (F := Ideal) c arg2 harg2 arg4 harg4 arg6 harg6 arg7 harg7 arg8 harg8 arg10 harg10 arg12 harg12 arg18 arg20 arg21 arg22 x1 x3 x5 x6 x7 x9 x11 = kernelRun0_B.sl.v498 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v498 kernelRun0_A.sl.v495 kernelRun0_A.sl.v494 kernelRun0_B.sl.v498 kernelRun0_B.sl.v495 kernelRun0_B.sl.v494 kernelRun0_B.sl.v493
  rw [a_v493]
  simp only [View.readAt_eq_ld, Memref.IsWhole.read_unread]
  rfl

theorem a_v525 : kernelRun0_A.sl.v525 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v525 kernelRun0_A.sl.H16_5 kernelRun0_A.sl.H16_4 kernelRun0_A.sl.H16_3 kernelRun0_A.sl.H16_2 kernelRun0_A.sl.H16_1
  simp (disch := decide) only [↓ View.readCov_skip, ↓ View.readCov_fill]
  rw [z_k0_pay5]

theorem a_v531 : kernelRun0_A.sl.v531 (F := Ideal) c arg2 harg2 arg4 harg4 arg6 harg6 arg7 harg7 arg8 harg8 arg10 harg10 arg12 harg12 arg17 arg20 arg21 arg22 x1 x3 x5 x6 x7 x9 x11 = kernelRun0_B.sl.v531 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v531 kernelRun0_A.sl.v528 kernelRun0_A.sl.v526 kernelRun0_B.sl.v531 kernelRun0_B.sl.v528 kernelRun0_B.sl.v526 kernelRun0_B.sl.v525
  rw [a_v525]
  simp only [View.readAt_eq_ld, Memref.IsWhole.read_unread]
  rfl

theorem a_v532 : kernelRun0_A.sl.v532 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v532 kernelRun0_A.sl.H17_5 kernelRun0_A.sl.H17_4 kernelRun0_A.sl.H17_3 kernelRun0_A.sl.H17_2 kernelRun0_A.sl.H17_1
  simp (disch := decide) only [↓ View.readCov_skip, ↓ View.readCov_fill]
  rw [z_k0_pay6]

theorem a_v537 : kernelRun0_A.sl.v537 (F := Ideal) c arg2 harg2 arg4 harg4 arg6 harg6 arg7 harg7 arg8 harg8 arg10 harg10 arg12 harg12 arg18 arg20 arg21 arg22 x1 x3 x5 x6 x7 x9 x11 = kernelRun0_B.sl.v537 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v537 kernelRun0_A.sl.v534 kernelRun0_A.sl.v533 kernelRun0_B.sl.v537 kernelRun0_B.sl.v534 kernelRun0_B.sl.v533 kernelRun0_B.sl.v532
  rw [a_v532]
  simp only [View.readAt_eq_ld, Memref.IsWhole.read_unread]
  rfl

theorem a_v564 : kernelRun0_A.sl.v564 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v564 kernelRun0_A.sl.H16_6 kernelRun0_A.sl.H16_5 kernelRun0_A.sl.H16_4 kernelRun0_A.sl.H16_3 kernelRun0_A.sl.H16_2 kernelRun0_A.sl.H16_1
  simp (disch := decide) only [↓ View.readCov_skip, ↓ View.readCov_fill]
  rw [z_k0_pay5]

theorem a_v570 : kernelRun0_A.sl.v570 (F := Ideal) c arg2 harg2 arg4 harg4 arg6 harg6 arg7 harg7 arg8 harg8 arg10 harg10 arg12 harg12 arg17 arg20 arg21 arg22 x1 x3 x5 x6 x7 x9 x11 = kernelRun0_B.sl.v570 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v570 kernelRun0_A.sl.v567 kernelRun0_A.sl.v565 kernelRun0_B.sl.v570 kernelRun0_B.sl.v567 kernelRun0_B.sl.v565 kernelRun0_B.sl.v564
  rw [a_v564]
  simp only [View.readAt_eq_ld, Memref.IsWhole.read_unread]
  rfl

theorem a_v571 : kernelRun0_A.sl.v571 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v571 kernelRun0_A.sl.H17_6 kernelRun0_A.sl.H17_5 kernelRun0_A.sl.H17_4 kernelRun0_A.sl.H17_3 kernelRun0_A.sl.H17_2 kernelRun0_A.sl.H17_1
  simp (disch := decide) only [↓ View.readCov_skip, ↓ View.readCov_fill]
  rw [z_k0_pay6]

theorem a_v576 : kernelRun0_A.sl.v576 (F := Ideal) c arg2 harg2 arg4 harg4 arg6 harg6 arg7 harg7 arg8 harg8 arg10 harg10 arg12 harg12 arg18 arg20 arg21 arg22 x1 x3 x5 x6 x7 x9 x11 = kernelRun0_B.sl.v576 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v576 kernelRun0_A.sl.v573 kernelRun0_A.sl.v572 kernelRun0_B.sl.v576 kernelRun0_B.sl.v573 kernelRun0_B.sl.v572 kernelRun0_B.sl.v571
  rw [a_v571]
  simp only [View.readAt_eq_ld, Memref.IsWhole.read_unread]
  rfl

theorem a_v603 : kernelRun0_A.sl.v603 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v603 kernelRun0_A.sl.H16_7 kernelRun0_A.sl.H16_6 kernelRun0_A.sl.H16_5 kernelRun0_A.sl.H16_4 kernelRun0_A.sl.H16_3 kernelRun0_A.sl.H16_2 kernelRun0_A.sl.H16_1
  simp (disch := decide) only [↓ View.readCov_skip, ↓ View.readCov_fill]
  rw [z_k0_pay5]

theorem a_v609 : kernelRun0_A.sl.v609 (F := Ideal) c arg2 harg2 arg4 harg4 arg6 harg6 arg7 harg7 arg8 harg8 arg10 harg10 arg12 harg12 arg17 arg20 arg21 arg22 x1 x3 x5 x6 x7 x9 x11 = kernelRun0_B.sl.v609 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v609 kernelRun0_A.sl.v606 kernelRun0_A.sl.v604 kernelRun0_B.sl.v609 kernelRun0_B.sl.v606 kernelRun0_B.sl.v604 kernelRun0_B.sl.v603
  rw [a_v603]
  simp only [View.readAt_eq_ld, Memref.IsWhole.read_unread]
  rfl

theorem a_v610 : kernelRun0_A.sl.v610 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v610 kernelRun0_A.sl.H17_7 kernelRun0_A.sl.H17_6 kernelRun0_A.sl.H17_5 kernelRun0_A.sl.H17_4 kernelRun0_A.sl.H17_3 kernelRun0_A.sl.H17_2 kernelRun0_A.sl.H17_1
  simp (disch := decide) only [↓ View.readCov_skip, ↓ View.readCov_fill]
  rw [z_k0_pay6]

theorem a_v615 : kernelRun0_A.sl.v615 (F := Ideal) c arg2 harg2 arg4 harg4 arg6 harg6 arg7 harg7 arg8 harg8 arg10 harg10 arg12 harg12 arg18 arg20 arg21 arg22 x1 x3 x5 x6 x7 x9 x11 = kernelRun0_B.sl.v615 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v615 kernelRun0_A.sl.v612 kernelRun0_A.sl.v611 kernelRun0_B.sl.v615 kernelRun0_B.sl.v612 kernelRun0_B.sl.v611 kernelRun0_B.sl.v610
  rw [a_v610]
  simp only [View.readAt_eq_ld, Memref.IsWhole.read_unread]
  rfl

theorem a_v642 : kernelRun0_A.sl.v642 (F := Ideal) c arg2 harg2 arg4 harg4 arg6 harg6 arg7 harg7 arg8 harg8 arg10 harg10 arg12 harg12 arg17 arg20 arg21 arg22 x1 x3 x5 x6 x7 x9 x11 = fun _ => (0 : EReal) := by
  unfold kernelRun0_A.sl.v642 kernelRun0_A.sl.H16_8 kernelRun0_A.sl.H16_7 kernelRun0_A.sl.H16_6 kernelRun0_A.sl.H16_5 kernelRun0_A.sl.H16_4 kernelRun0_A.sl.H16_3 kernelRun0_A.sl.H16_2 kernelRun0_A.sl.H16_1
  simp (disch := decide) only [↓ View.readCov_skip, ↓ View.readCov_fill]
  rw [z_k0_pay5]

theorem a_v648 : kernelRun0_A.sl.v648 (F := Ideal) c arg2 harg2 arg4 harg4 arg6 harg6 arg7 harg7 arg8 harg8 arg10 harg10 arg12 harg12 arg17 arg20 arg21 arg22 x1 x3 x5 x6 x7 x9 x11 = kernelRun0_B.sl.v648 (F := Ideal) c arg2 harg2 arg4 harg4 arg6 harg6 arg7 harg7 arg8 harg8 arg10 harg10 arg12 harg12 arg17 harg17 arg20 arg21 arg22 x1 x3 x5 x6 x7 x9 x11 (fun _ => 0) := by
  unfold kernelRun0_A.sl.v648 kernelRun0_A.sl.v645 kernelRun0_A.sl.v643 kernelRun0_B.sl.v648 kernelRun0_B.sl.v645 kernelRun0_B.sl.v643 kernelRun0_B.sl.v642
  rw [a_v642]
  simp only [View.readAt_eq_ld, Memref.IsWhole.read_unread]
  rfl

theorem a_v649 : kernelRun0_A.sl.v649 (F := Ideal) c arg2 harg2 arg4 harg4 arg6 harg6 arg7 harg7 arg8 harg8 arg10 harg10 arg12 harg12 arg18 arg20 arg21 arg22 x1 x3 x5 x6 x7 x9 x11 = fun _ => (0 : EReal) := by
  unfold kernelRun0_A.sl.v649 kernelRun0_A.sl.H17_8 kernelRun0_A.sl.H17_7 kernelRun0_A.sl.H17_6 kernelRun0_A.sl.H17_5 kernelRun0_A.sl.H17_4 kernelRun0_A.sl.H17_3 kernelRun0_A.sl.H17_2 kernelRun0_A.sl.H17_1
  simp (disch := decide) only [↓ View.readCov_skip, ↓ View.readCov_fill]
  rw [z_k0_pay6]

theorem a_v654 : kernelRun0_A.sl.v654 (F := Ideal) c arg2 harg2 arg4 harg4 arg6 harg6 arg7 harg7 arg8 harg8 arg10 harg10 arg12 harg12 arg18 arg20 arg21 arg22 x1 x3 x5 x6 x7 x9 x11 = kernelRun0_B.sl.v654 (F := Ideal) c arg2 harg2 arg4 harg4 arg6 harg6 arg7 harg7 arg8 harg8 arg10 harg10 arg12 harg12 arg18 harg18 arg20 arg21 arg22 x1 x3 x5 x6 x7 x9 x11 (fun _ => 0) := by
  unfold kernelRun0_A.sl.v654 kernelRun0_A.sl.v651 kernelRun0_A.sl.v650 kernelRun0_B.sl.v654 kernelRun0_B.sl.v651 kernelRun0_B.sl.v650 kernelRun0_B.sl.v649
  rw [a_v649]
  simp only [View.readAt_eq_ld, Memref.IsWhole.read_unread]
  rfl

theorem a_v811 : kernelRun0_A.sl.v811 (F := Ideal) c arg19 = fun _ => (0 : EReal) := by
  unfold kernelRun0_A.sl.v811 kernelRun0_A.sl.H18_1
  simp (disch := decide) only [↓ View.readCov_skip, ↓ View.readCov_fill]
  rw [z_k0_pay7]

theorem a_v819 : kernelRun0_A.sl.v819 (F := Ideal) c i arg1 harg1 arg2 harg2 arg3 harg3 arg4 harg4 arg5 harg5 arg11 harg11 arg12 harg12 arg19 x0 x1 x2 x3 x4 x10 x11 = fun _ => (0 : EReal) := by
  unfold kernelRun0_A.sl.v819 kernelRun0_A.sl.H18_2 kernelRun0_A.sl.H18_1
  simp (disch := decide) only [↓ View.readCov_skip, ↓ View.readCov_fill]
  rw [z_k0_pay7]

theorem a_v828 : kernelRun0_A.sl.v828 (F := Ideal) c i arg1 harg1 arg2 harg2 arg3 harg3 arg4 harg4 arg5 harg5 arg11 harg11 arg12 harg12 arg19 x0 x1 x2 x3 x4 x10 x11 = fun _ => (0 : EReal) := by
  unfold kernelRun0_A.sl.v828 kernelRun0_A.sl.H18_3 kernelRun0_A.sl.H18_2 kernelRun0_A.sl.H18_1
  simp (disch := decide) only [↓ View.readCov_skip, ↓ View.readCov_fill]
  rw [z_k0_pay7]

end
end Cert.Mix.Ker
-- ==== Proof.MixerOut.lean ====
module

public import proofs.«01_k».proof.Proof.MixerKerA
import Idealize.ShloMosaic.Lib.Pipeline.ReadBack

/-! What one step of the mixer's gradient kernel leaves in each of its outputs: at the first step, over zeros, and at a later step, over what the step before left. -/

@[expose] public section
noncomputable section
open Idealize.ShloMosaic Cert.MixerIdeal Cert.MixerIdeal.Gen Cert.Real
namespace Cert.Mix.Ker

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S16x5120 .bf16} {harg3 : arg3.IsWhole}
variable {arg4 : Memref sig .tc .vmem S256x2048 .bf16} {harg4 : arg4.IsWhole}
variable {arg5 : Memref sig .tc .vmem S16x2048 .bf16} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S8x128x128 .f32} {harg10 : arg10.IsWhole}
variable {arg11 : Memref sig .tc .vmem S8x1024 .f32} {harg11 : arg11.IsWhole}
variable {arg12 : Memref sig .tc .vmem S1x2048 .f32} {harg12 : arg12.IsWhole}
variable {arg13 : Memref sig .tc .vmem S256x5120 .bf16} {harg13 : arg13.IsWhole}
variable {arg14 : Memref sig .tc .vmem S1x2048 .f32} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S8x128x128 .f32} {harg17 : arg17.IsWhole}
variable {arg18 : Memref sig .tc .vmem S8x8x128 .f32} {harg18 : arg18.IsWhole}
variable {arg19 : Memref sig .tc .vmem S8x1024 .f32} {harg19 : arg19.IsWhole}
variable {arg20 : Memref sig .tc .vmem S256x1024 .bf16} {harg20 : arg20.IsWhole}
variable {arg21 : Memref sig .tc .vmem S256x1024 .f32} {harg21 : arg21.IsWhole}
variable {arg22 : Memref sig .tc .vmem S256x1024 .bf16} {harg22 : arg22.IsWhole}
variable {arg23 : Memref sig .tc .vmem S256x1024 .f32} {harg23 : arg23.IsWhole}
variable {x0 : Vec Ideal S16x5120 .bf16} {x1 : Vec Ideal S256x5120 .bf16} {x2 : Vec Ideal S16x5120 .bf16} {x3 : Vec Ideal S256x2048 .bf16} {x4 : Vec Ideal S16x2048 .bf16} {x5 : Vec Ideal S1x1024 .f32} {x6 : Vec Ideal S1x1024 .f32} {x7 : Vec Ideal S8x128x128 .bf16} {x8 : Vec Ideal S8x128x128 .bf16} {x9 : Vec Ideal S8x128x128 .f32} {x10 : Vec Ideal S8x1024 .f32} {x11 : Vec Ideal S1x2048 .f32}
variable {xo13 : Vec Ideal S1x2048 .f32} {xo14 : Vec Ideal S1x1024 .f32} {xo15 : Vec Ideal S1x1024 .f32} {xo16 : Vec Ideal S8x128x128 .f32} {xo17 : Vec Ideal S8x8x128 .f32} {xo18 : Vec Ideal S8x1024 .f32}

variable {d : D} {t : ℕ} {zp : ℕ → ℕ → ℝ} (H : Blk d t zp i x0 x1 x2 x3 x4 x5 x6 x7 x8 x9 x10 x11)

theorem ext2 {n0 n1 : ℕ} (y z : (⟨2, ![n0, n1]⟩ : Shape).Idx) (h0 : (y 0).val = (z 0).val) (h1 : (y 1).val = (z 1).val) : y = z := by
  funext a; apply Fin.ext
  match a with
  | ⟨0, _⟩ => exact h0
  | ⟨1, _⟩ => exact h1
theorem ext3 {n0 n1 n2 : ℕ} (y z : (⟨3, ![n0, n1, n2]⟩ : Shape).Idx) (h0 : (y 0).val = (z 0).val) (h1 : (y 1).val = (z 1).val) (h2 : (y 2).val = (z 2).val) : y = z := by
  funext a; apply Fin.ext
  match a with
  | ⟨0, _⟩ => exact h0
  | ⟨1, _⟩ => exact h1
  | ⟨2, _⟩ => exact h2
theorem c3 (f : ℕ → ℕ → ℕ → ℝ) {a b c a' b' c' : ℕ} (h0 : a = a') (h1 : b = b') (h2 : c = c') : f a b c = f a' b' c' := by rw [h0, h1, h2]
theorem dz_0 {s k k' s' : ℕ} (h : k < 1024) (hk : k' = 0 + 1 * k) (hs : s' = s) : d.dz0 s k = d.dz s' k' := by
  subst hk hs; unfold D.dz; rw [if_pos (by omega), show 0 + 1 * k = k by omega]
theorem dz_1 {s k k' s' : ℕ} (h : k < 1024) (hk : k' = 1024 + 1 * k) (hs : s' = s) : d.dz1 s k = d.dz s' k' := by
  subst hk hs; unfold D.dz; rw [if_neg (by omega), if_pos (by omega), show 1024 + 1 * k - 1024 = k by omega]
theorem dz_2 {s k k' s' : ℕ} (h : k < 1024) (hk : k' = 2048 + 1 * k) (hs : s' = s) : d.dz2 s k = d.dz s' k' := by
  subst hk hs; unfold D.dz; rw [if_neg (by omega), if_neg (by omega), if_pos (by omega), show 2048 + 1 * k - 2048 = k by omega]
theorem dz_3 {s k k' s' : ℕ} (h : k < 1024) (hk : k' = 3072 + 1 * k) (hs : s' = s) : d.dz3 s k = d.dz s' k' := by
  subst hk hs; unfold D.dz; rw [if_neg (by omega), if_neg (by omega), if_neg (by omega), if_pos (by omega), show 3072 + 1 * k - 3072 = k by omega]
theorem dz_4 {s k k' s' : ℕ} (h : k < 1024) (hk : k' = 4096 + 1 * k) (hs : s' = s) : d.dz4 s k = d.dz s' k' := by
  subst hk hs; unfold D.dz; rw [if_neg (by omega), if_neg (by omega), if_neg (by omega), if_neg (by omega), show 4096 + 1 * k - 4096 = k by omega]
/-- What a step adds to the gradient with respect to the scale of the last norm. -/
def s13 (d : D) (t k : ℕ) : ℝ := if k < 1024 then ∑ r : Fin 256, d.gA (256 * t + r.val) k else ∑ r : Fin 256, d.gB (256 * t + r.val) (k - 1024)
/-- What a step adds to the gradient with respect to the scale of the layer norm. -/
def s14 (d : D) (t k : ℕ) : ℝ := ∑ r : Fin 256, d.gG (256 * t + r.val) k
/-- What a step adds to the gradient with respect to the offset of the layer norm. -/
def s15 (d : D) (t k : ℕ) : ℝ := ∑ r : Fin 256, d.dvn (256 * t + r.val) k
/-- What a step adds to the gradient with respect to the mixing weights. -/
def s16 (d : D) (t h i j : ℕ) : ℝ := (d.gW (2 * t) h i j + d.gW (2 * t + 1) h i j) * (if j / 64 ≤ i / 64 then 1 else 0)
/-- What a step adds to the gradient with respect to the mixing biases. -/
def s17 (d : D) (t h i : ℕ) : ℝ := d.gS (2 * t) h i + d.gS (2 * t + 1) h i
/-- What a step adds to the gradient with respect to the convolution weights. -/
def s18 (d : D) (t r k : ℕ) : ℝ := if r < 3 then ∑ s : Fin 256, d.gC (2 - r) (256 * t + s.val) k else 0
theorem s13_0 {k k' : ℕ} (h : k < 1024) (hk : k' = 0 + 1 * k) : ∑ r : Fin 256, d.gA (256 * t + r.val) k = s13 d t k' := by
  subst hk; unfold s13; rw [if_pos (by omega), show 0 + 1 * k = k by omega]
theorem s13_1 {k k' : ℕ} (hk : k' = 1024 + 1 * k) : ∑ r : Fin 256, d.gB (256 * t + r.val) k = s13 d t k' := by
  subst hk; unfold s13; rw [if_neg (by omega), show 1024 + 1 * k - 1024 = k by omega]
theorem s18_r {r r' k k' : ℕ} (h : r < 3) (hr : r' = r) (hk : k' = 0 + 1 * k) : ∑ s : Fin 256, d.gC (2 - r) (256 * t + s.val) k = s18 d t r' k' := by
  subst hk hr; unfold s18; rw [if_pos h, show 0 + 1 * k = k by omega]
include H

theorem o_B_12 (y : S256x5120.Idx) : ∀ hc0, out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = ((d.dz (256 * t + (y 0).val) (y 1).val : ℝ) : EReal) := by
  intro hc0
  have e : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_12.read (Elt Ideal) (VO0_12.writes (Elt Ideal) VO0_12.junk [⟨Rect.unit ![0, 4096] S256x1024.size (by decide), kernelRun0_B.sl.v809 (F := Ideal) c i arg1 harg1 arg2 harg2 arg3 harg3 arg4 harg4 arg5 harg5 arg11 harg11 arg12 harg12 x0 x1 x2 x3 x4 x10 x11⟩, ⟨Rect.unit ![0, 3072] S256x1024.size (by decide), kernelRun0_B.sl.v805 (F := Ideal) c i arg1 harg1 arg2 harg2 arg3 harg3 arg4 harg4 arg5 harg5 arg11 harg11 arg12 harg12 x0 x1 x2 x3 x4 x10 x11⟩, ⟨Rect.unit ![0, 2048] S256x1024.size (by decide), kernelRun0_B.sl.v801 (F := Ideal) c i arg1 harg1 arg2 harg2 arg3 harg3 arg4 harg4 arg5 harg5 arg11 harg11 arg12 harg12 x0 x1 x2 x3 x4 x10 x11⟩, ⟨Rect.unit ![0, 1024] S256x1024.size (by decide), kernelRun0_B.sl.v690 (F := Ideal) c arg2 harg2 arg4 harg4 arg6 harg6 arg7 harg7 arg8 harg8 arg9 harg9 arg10 harg10 arg12 harg12 arg20 arg21 arg22 arg23 x1 x3 x5 x6 x7 x8 x9 x11⟩, ⟨Rect.unit ![0, 0] S256x1024.size (by decide), kernelRun0_B.sl.v282 (F := Ideal) c arg2 harg2 arg4 harg4 arg6 harg6 arg7 harg7 arg8 harg8 arg10 harg10 arg12 harg12 arg20 arg21 x1 x3 x5 x6 x7 x9 x11⟩]) := by
    unfold out0_B_12
    rfl
  rw [e]
  refine rw_of VO0_12 _ (fun y => ((d.dz (256 * t + (y 0).val) (y 1).val : ℝ) : EReal)) _ ?_ y (fun h => absurd (View.cover_of_tiledL (s := S256x5120) _ S256x1024.size (by sl_kernel_rfl) y) h)
  simp only [List.forall_mem_cons, List.not_mem_nil, false_imp_iff, implies_true, and_true]
  refine ⟨fun x => (k_v809 H x).trans ?_, fun x => (k_v805 H x).trans ?_, fun x => (k_v801 H x).trans ?_, fun x => (k_v690 H x).trans ?_, fun x => (k_v282 H x).trans ?_⟩
  · have h1 : (x 1).val < 1024 := (x 1).isLt
    exact ec (dz_4 h1 rfl (by show 256 * t + (0 + 1 * (x 0).val) = _; omega))
  · have h1 : (x 1).val < 1024 := (x 1).isLt
    exact ec (dz_3 h1 rfl (by show 256 * t + (0 + 1 * (x 0).val) = _; omega))
  · have h1 : (x 1).val < 1024 := (x 1).isLt
    exact ec (dz_2 h1 rfl (by show 256 * t + (0 + 1 * (x 0).val) = _; omega))
  · have h1 : (x 1).val < 1024 := (x 1).isLt
    exact ec (dz_1 h1 rfl (by show 256 * t + (0 + 1 * (x 0).val) = _; omega))
  · have h1 : (x 1).val < 1024 := (x 1).isLt
    exact ec (dz_0 h1 rfl (by show 256 * t + (0 + 1 * (x 0).val) = _; omega))

theorem o_A_12 (y : S256x5120.Idx) : ∀ hc0, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = ((d.dz (256 * t + (y 0).val) (y 1).val : ℝ) : EReal) := by
  intro hc0
  have e : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_12.read (Elt Ideal) (VO0_12.writes (Elt Ideal) VO0_12.junk [⟨Rect.unit ![0, 4096] S256x1024.size (by decide), kernelRun0_B.sl.v809 (F := Ideal) c i arg1 harg1 arg2 harg2 arg3 harg3 arg4 harg4 arg5 harg5 arg11 harg11 arg12 harg12 x0 x1 x2 x3 x4 x10 x11⟩, ⟨Rect.unit ![0, 3072] S256x1024.size (by decide), kernelRun0_B.sl.v805 (F := Ideal) c i arg1 harg1 arg2 harg2 arg3 harg3 arg4 harg4 arg5 harg5 arg11 harg11 arg12 harg12 x0 x1 x2 x3 x4 x10 x11⟩, ⟨Rect.unit ![0, 2048] S256x1024.size (by decide), kernelRun0_B.sl.v801 (F := Ideal) c i arg1 harg1 arg2 harg2 arg3 harg3 arg4 harg4 arg5 harg5 arg11 harg11 arg12 harg12 x0 x1 x2 x3 x4 x10 x11⟩, ⟨Rect.unit ![0, 1024] S256x1024.size (by decide), kernelRun0_B.sl.v690 (F := Ideal) c arg2 harg2 arg4 harg4 arg6 harg6 arg7 harg7 arg8 harg8 arg9 harg9 arg10 harg10 arg12 harg12 arg20 arg21 arg22 arg23 x1 x3 x5 x6 x7 x8 x9 x11⟩, ⟨Rect.unit ![0, 0] S256x1024.size (by decide), kernelRun0_B.sl.v282 (F := Ideal) c arg2 harg2 arg4 harg4 arg6 harg6 arg7 harg7 arg8 harg8 arg10 harg10 arg12 harg12 arg20 arg21 x1 x3 x5 x6 x7 x9 x11⟩]) := by
    unfold out0_A_12
    rfl
  rw [e]
  refine rw_of VO0_12 _ (fun y => ((d.dz (256 * t + (y 0).val) (y 1).val : ℝ) : EReal)) _ ?_ y (fun h => absurd (View.cover_of_tiledL (s := S256x5120) _ S256x1024.size (by sl_kernel_rfl) y) h)
  simp only [List.forall_mem_cons, List.not_mem_nil, false_imp_iff, implies_true, and_true]
  refine ⟨fun x => (k_v809 H x).trans ?_, fun x => (k_v805 H x).trans ?_, fun x => (k_v801 H x).trans ?_, fun x => (k_v690 H x).trans ?_, fun x => (k_v282 H x).trans ?_⟩
  · have h1 : (x 1).val < 1024 := (x 1).isLt
    exact ec (dz_4 h1 rfl (by show 256 * t + (0 + 1 * (x 0).val) = _; omega))
  · have h1 : (x 1).val < 1024 := (x 1).isLt
    exact ec (dz_3 h1 rfl (by show 256 * t + (0 + 1 * (x 0).val) = _; omega))
  · have h1 : (x 1).val < 1024 := (x 1).isLt
    exact ec (dz_2 h1 rfl (by show 256 * t + (0 + 1 * (x 0).val) = _; omega))
  · have h1 : (x 1).val < 1024 := (x 1).isLt
    exact ec (dz_1 h1 rfl (by show 256 * t + (0 + 1 * (x 0).val) = _; omega))
  · have h1 : (x 1).val < 1024 := (x 1).isLt
    exact ec (dz_0 h1 rfl (by show 256 * t + (0 + 1 * (x 0).val) = _; omega))

theorem o_B_13 (y : S1x2048.Idx) : ∀ hc0, out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo13 y + ((s13 d t (y 1).val : ℝ) : EReal) := by
  intro hc0
  have e : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_13.read (Elt Ideal) (VO0_13.writes (Elt Ideal) VO0_13.junk [⟨Rect.unit ![0, 1024] S1x1024.size (by decide), kernelRun0_B.sl.v766 (F := Ideal) c i arg1 harg1 arg2 harg2 arg3 harg3 arg4 harg4 arg5 harg5 arg11 harg11 arg14 harg14 x0 x1 x2 x3 x4 x10 xo13⟩, ⟨Rect.unit ![0, 0] S1x1024.size (by decide), kernelRun0_B.sl.v264 (F := Ideal) c arg2 harg2 arg4 harg4 arg6 harg6 arg7 harg7 arg8 harg8 arg10 harg10 arg14 harg14 arg20 arg21 x1 x3 x5 x6 x7 x9 xo13⟩]) := by
    unfold out0_B_13
    rfl
  rw [e]
  refine rw_of VO0_13 _ (fun y => xo13 y + ((s13 d t (y 1).val : ℝ) : EReal)) _ ?_ y (fun h => absurd (View.cover_of_tiledL (s := S1x2048) _ S1x1024.size (by sl_kernel_rfl) y) h)
  simp only [List.forall_mem_cons, List.not_mem_nil, false_imp_iff, implies_true, and_true]
  refine ⟨fun x => (k_v766 H x).trans ?_, fun x => (k_v264 H x).trans ?_⟩
  · have h0 : (x 0).val < 1 := (x 0).isLt
    exact congrArg₂ (· + ·) (congrArg xo13 (ext2 _ _ (by show 0 = 0 + 1 * (x 0).val; omega) (by show 1024 + (x 1).val = 1024 + 1 * (x 1).val; omega))) (ec (s13_1 rfl))
  · have h0 : (x 0).val < 1 := (x 0).isLt
    exact congrArg₂ (· + ·) (congrArg xo13 (ext2 _ _ (by show 0 = 0 + 1 * (x 0).val; omega) (by show (x 1).val = 0 + 1 * (x 1).val; omega))) (ec (s13_0 (x 1).isLt rfl))

theorem o_A_13 (y : S1x2048.Idx) : ∀ hc0, out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s13 d t (y 1).val : ℝ) : EReal) := by
  intro hc0
  have e : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_13.read (Elt Ideal) (VO0_13.writes (Elt Ideal) (VO0_13.writes (Elt Ideal) VO0_13.junk kernelRun0_A.sl.H13_1) [⟨Rect.unit ![0, 1024] S1x1024.size (by decide), kernelRun0_B.sl.v766 (F := Ideal) c i arg1 harg1 arg2 harg2 arg3 harg3 arg4 harg4 arg5 harg5 arg11 harg11 arg14 harg14 x0 x1 x2 x3 x4 x10 (fun _ => 0)⟩, ⟨Rect.unit ![0, 0] S1x1024.size (by decide), kernelRun0_B.sl.v264 (F := Ideal) c arg2 harg2 arg4 harg4 arg6 harg6 arg7 harg7 arg8 harg8 arg10 harg10 arg14 harg14 arg20 arg21 x1 x3 x5 x6 x7 x9 (fun _ => 0)⟩]) := by
    unfold out0_A_13
    show VO0_13.read (Elt Ideal) (VO0_13.writes (Elt Ideal) VO0_13.junk (⟨Rect.unit ![0, 1024] S1x1024.size (by decide), kernelRun0_A.sl.v766 (F := Ideal) c i arg1 harg1 arg2 harg2 arg3 harg3 arg4 harg4 arg5 harg5 arg6 harg6 arg7 harg7 arg8 harg8 arg10 harg10 arg11 harg11 arg14 arg20 arg21 x0 x1 x2 x3 x4 x5 x6 x7 x9 x10⟩ :: (kernelRun0_A.sl.H13_2 (F := Ideal) c arg2 harg2 arg4 harg4 arg6 harg6 arg7 harg7 arg8 harg8 arg10 harg10 arg14 arg20 arg21 x1 x3 x5 x6 x7 x9))) = _
    unfold kernelRun0_A.sl.H13_2
    rw [a_v766, a_v264]
    rfl
  rw [e]
  refine rw_of VO0_13 _ (fun y => (0 : EReal) + ((s13 d t (y 1).val : ℝ) : EReal)) _ ?_ y (fun h => absurd (View.cover_of_tiledL (s := S1x2048) _ S1x1024.size (by sl_kernel_rfl) y) h)
  simp only [List.forall_mem_cons, List.not_mem_nil, false_imp_iff, implies_true, and_true]
  refine ⟨fun x => (k_v766 H x).trans ?_, fun x => (k_v264 H x).trans ?_⟩
  · have h0 : (x 0).val < 1 := (x 0).isLt
    exact congrArg₂ (· + ·) rfl (ec (s13_1 rfl))
  · have h0 : (x 0).val < 1 := (x 0).isLt
    exact congrArg₂ (· + ·) rfl (ec (s13_0 (x 1).isLt rfl))

theorem o_B_14 (y : S1x1024.Idx) : ∀ hc0, out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo14 y + ((s14 d t (y 1).val : ℝ) : EReal) := by
  intro hc0
  have e : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_14.read (Elt Ideal) (VO0_14.writes (Elt Ideal) VO0_14.junk [⟨Rect.unit ![0, 0] S1x1024.size (by decide), kernelRun0_B.sl.v667 (F := Ideal) c arg2 harg2 arg4 harg4 arg6 harg6 arg7 harg7 arg8 harg8 arg9 harg9 arg10 harg10 arg12 harg12 arg15 harg15 arg20 arg21 arg22 arg23 x1 x3 x5 x6 x7 x8 x9 x11 xo14⟩]) := by
    unfold out0_B_14
    rfl
  rw [e]
  refine rw_of VO0_14 _ (fun y => xo14 y + ((s14 d t (y 1).val : ℝ) : EReal)) _ ?_ y (fun h => absurd (View.cover_of_tiledL (s := S1x1024) _ S1x1024.size (by sl_kernel_rfl) y) h)
  simp only [List.forall_mem_cons, List.not_mem_nil, false_imp_iff, implies_true, and_true]
  refine fun x => (k_v667 H x).trans ?_
  · have h0 : (x 0).val < 1 := (x 0).isLt
    exact congrArg₂ (· + ·) (congrArg xo14 (ext2 _ _ (by show 0 = 0 + 1 * (x 0).val; omega) (by show (x 1).val = 0 + 1 * (x 1).val; omega))) (ec (congrArg (s14 d t) (by show (x 1).val = 0 + 1 * (x 1).val; omega)))

theorem o_A_14 (y : S1x1024.Idx) : ∀ hc0, out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s14 d t (y 1).val : ℝ) : EReal) := by
  intro hc0
  have e : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_14.read (Elt Ideal) (VO0_14.writes (Elt Ideal) (VO0_14.writes (Elt Ideal) VO0_14.junk kernelRun0_A.sl.H14_1) [⟨Rect.unit ![0, 0] S1x1024.size (by decide), kernelRun0_B.sl.v667 (F := Ideal) c arg2 harg2 arg4 harg4 arg6 harg6 arg7 harg7 arg8 harg8 arg9 harg9 arg10 harg10 arg12 harg12 arg15 harg15 arg20 arg21 arg22 arg23 x1 x3 x5 x6 x7 x8 x9 x11 (fun _ => 0)⟩]) := by
    unfold out0_A_14
    show VO0_14.read (Elt Ideal) (VO0_14.writes (Elt Ideal) VO0_14.junk (⟨Rect.unit ![0, 0] S1x1024.size (by decide), kernelRun0_A.sl.v667 (F := Ideal) c arg2 harg2 arg4 harg4 arg6 harg6 arg7 harg7 arg8 harg8 arg9 harg9 arg10 harg10 arg12 harg12 arg15 arg20 arg21 arg22 arg23 x1 x3 x5 x6 x7 x8 x9 x11⟩ :: kernelRun0_A.sl.H14_1)) = _
    rw [a_v667]
    rfl
  rw [e]
  refine rw_of VO0_14 _ (fun y => (0 : EReal) + ((s14 d t (y 1).val : ℝ) : EReal)) _ ?_ y (fun h => absurd (View.cover_of_tiledL (s := S1x1024) _ S1x1024.size (by sl_kernel_rfl) y) h)
  simp only [List.forall_mem_cons, List.not_mem_nil, false_imp_iff, implies_true, and_true]
  refine fun x => (k_v667 H x).trans ?_
  · have h0 : (x 0).val < 1 := (x 0).isLt
    exact congrArg₂ (· + ·) rfl (ec (congrArg (s14 d t) (by show (x 1).val = 0 + 1 * (x 1).val; omega)))

theorem o_B_15 (y : S1x1024.Idx) : ∀ hc0, out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo15 y + ((s15 d t (y 1).val : ℝ) : EReal) := by
  intro hc0
  have e : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_15.read (Elt Ideal) (VO0_15.writes (Elt Ideal) VO0_15.junk [⟨Rect.unit ![0, 0] S1x1024.size (by decide), kernelRun0_B.sl.v660 (F := Ideal) c arg2 harg2 arg4 harg4 arg6 harg6 arg7 harg7 arg8 harg8 arg9 harg9 arg10 harg10 arg12 harg12 arg16 harg16 arg20 arg21 arg22 arg23 x1 x3 x5 x6 x7 x8 x9 x11 xo15⟩]) := by
    unfold out0_B_15
    rfl
  rw [e]
  refine rw_of VO0_15 _ (fun y => xo15 y + ((s15 d t (y 1).val : ℝ) : EReal)) _ ?_ y (fun h => absurd (View.cover_of_tiledL (s := S1x1024) _ S1x1024.size (by sl_kernel_rfl) y) h)
  simp only [List.forall_mem_cons, List.not_mem_nil, false_imp_iff, implies_true, and_true]
  refine fun x => (k_v660 H x).trans ?_
  · have h0 : (x 0).val < 1 := (x 0).isLt
    exact congrArg₂ (· + ·) (congrArg xo15 (ext2 _ _ (by show 0 = 0 + 1 * (x 0).val; omega) (by show (x 1).val = 0 + 1 * (x 1).val; omega))) (ec (congrArg (s15 d t) (by show (x 1).val = 0 + 1 * (x 1).val; omega)))

theorem o_A_15 (y : S1x1024.Idx) : ∀ hc0, out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s15 d t (y 1).val : ℝ) : EReal) := by
  intro hc0
  have e : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_15.read (Elt Ideal) (VO0_15.writes (Elt Ideal) (VO0_15.writes (Elt Ideal) VO0_15.junk kernelRun0_A.sl.H15_1) [⟨Rect.unit ![0, 0] S1x1024.size (by decide), kernelRun0_B.sl.v660 (F := Ideal) c arg2 harg2 arg4 harg4 arg6 harg6 arg7 harg7 arg8 harg8 arg9 harg9 arg10 harg10 arg12 harg12 arg16 harg16 arg20 arg21 arg22 arg23 x1 x3 x5 x6 x7 x8 x9 x11 (fun _ => 0)⟩]) := by
    unfold out0_A_15
    show VO0_15.read (Elt Ideal) (VO0_15.writes (Elt Ideal) VO0_15.junk (⟨Rect.unit ![0, 0] S1x1024.size (by decide), kernelRun0_A.sl.v660 (F := Ideal) c arg2 harg2 arg4 harg4 arg6 harg6 arg7 harg7 arg8 harg8 arg9 harg9 arg10 harg10 arg12 harg12 arg16 arg20 arg21 arg22 arg23 x1 x3 x5 x6 x7 x8 x9 x11⟩ :: kernelRun0_A.sl.H15_1)) = _
    rw [a_v660]
    rfl
  rw [e]
  refine rw_of VO0_15 _ (fun y => (0 : EReal) + ((s15 d t (y 1).val : ℝ) : EReal)) _ ?_ y (fun h => absurd (View.cover_of_tiledL (s := S1x1024) _ S1x1024.size (by sl_kernel_rfl) y) h)
  simp only [List.forall_mem_cons, List.not_mem_nil, false_imp_iff, implies_true, and_true]
  refine fun x => (k_v660 H x).trans ?_
  · have h0 : (x 0).val < 1 := (x 0).isLt
    exact congrArg₂ (· + ·) rfl (ec (congrArg (s15 d t) (by show (x 1).val = 0 + 1 * (x 1).val; omega)))

theorem o_B_16 (y : S8x128x128.Idx) : ∀ hc0, out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo16 y + ((s16 d t (y 0).val (y 1).val (y 2).val : ℝ) : EReal) := by
  intro hc0
  have e : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_16.read (Elt Ideal) (VO0_16.writes (Elt Ideal) VO0_16.junk [⟨Rect.unit ![7, 0, 0] S1x128x128.size (by decide), kernelRun0_B.sl.v648 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![6, 0, 0] S1x128x128.size (by decide), kernelRun0_B.sl.v609 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![5, 0, 0] S1x128x128.size (by decide), kernelRun0_B.sl.v570 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![4, 0, 0] S1x128x128.size (by decide), kernelRun0_B.sl.v531 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![3, 0, 0] S1x128x128.size (by decide), kernelRun0_B.sl.v492 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![2, 0, 0] S1x128x128.size (by decide), kernelRun0_B.sl.v453 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![1, 0, 0] S1x128x128.size (by decide), kernelRun0_B.sl.v414 (F := Ideal) c arg2 harg2 arg4 harg4 arg6 harg6 arg7 harg7 arg8 harg8 arg10 harg10 arg12 harg12 arg17 harg17 arg20 arg21 arg22 x1 x3 x5 x6 x7 x9 x11 xo16⟩, ⟨Rect.unit ![0, 0, 0] S1x128x128.size (by decide), kernelRun0_B.sl.v375 (F := Ideal) c arg2 harg2 arg4 harg4 arg6 harg6 arg7 harg7 arg8 harg8 arg10 harg10 arg12 harg12 arg17 harg17 arg20 arg21 arg22 x1 x3 x5 x6 x7 x9 x11 xo16⟩]) := by
    unfold out0_B_16
    rfl
  rw [e]
  refine rw_of VO0_16 _ (fun y => xo16 y + ((s16 d t (y 0).val (y 1).val (y 2).val : ℝ) : EReal)) _ ?_ y (fun h => absurd (View.cover_of_tiledL (s := S8x128x128) _ S1x128x128.size (by sl_kernel_rfl) y) h)
  simp only [List.forall_mem_cons, List.not_mem_nil, false_imp_iff, implies_true, and_true]
  refine ⟨fun x => (k_v648 H x).trans ?_, fun x => (k_v609 H x).trans ?_, fun x => (k_v570 H x).trans ?_, fun x => (k_v531 H x).trans ?_, fun x => (k_v492 H x).trans ?_, fun x => (k_v453 H x).trans ?_, fun x => (k_v414 H x).trans ?_, fun x => (k_v375 H x).trans ?_⟩
  · have h0 : (x 0).val < 1 := (x 0).isLt
    exact congrArg₂ (· + ·) (congrArg xo16 (ext3 _ _ (by show 7 = 7 + 1 * (x 0).val; omega) (by show (x 1).val = 0 + 1 * (x 1).val; omega) (by show (x 2).val = 0 + 1 * (x 2).val; omega))) (ec (c3 (s16 d t) (by show 7 = 7 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 6 = 6 + 1 * (x 0).val; omega) (by show (x 1).val = 0 + 1 * (x 1).val; omega) (by show (x 2).val = 0 + 1 * (x 2).val; omega))) (ec (c3 (s16 d t) (by show 6 = 6 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 5 = 5 + 1 * (x 0).val; omega) (by show (x 1).val = 0 + 1 * (x 1).val; omega) (by show (x 2).val = 0 + 1 * (x 2).val; omega))) (ec (c3 (s16 d t) (by show 5 = 5 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 4 = 4 + 1 * (x 0).val; omega) (by show (x 1).val = 0 + 1 * (x 1).val; omega) (by show (x 2).val = 0 + 1 * (x 2).val; omega))) (ec (c3 (s16 d t) (by show 4 = 4 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 3 = 3 + 1 * (x 0).val; omega) (by show (x 1).val = 0 + 1 * (x 1).val; omega) (by show (x 2).val = 0 + 1 * (x 2).val; omega))) (ec (c3 (s16 d t) (by show 3 = 3 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 2 = 2 + 1 * (x 0).val; omega) (by show (x 1).val = 0 + 1 * (x 1).val; omega) (by show (x 2).val = 0 + 1 * (x 2).val; omega))) (ec (c3 (s16 d t) (by show 2 = 2 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 1 = 1 + 1 * (x 0).val; omega) (by show (x 1).val = 0 + 1 * (x 1).val; omega) (by show (x 2).val = 0 + 1 * (x 2).val; omega))) (ec (c3 (s16 d t) (by show 1 = 1 + 1 * (x 0).val; omega) (by show (x 1).val = 0 + 1 * (x 1).val; omega) (by show (x 2).val = 0 + 1 * (x 2).val; omega)))
  · have h0 : (x 0).val < 1 := (x 0).isLt
    exact congrArg₂ (· + ·) (congrArg xo16 (ext3 _ _ (by show 0 = 0 + 1 * (x 0).val; omega) (by show (x 1).val = 0 + 1 * (x 1).val; omega) (by show (x 2).val = 0 + 1 * (x 2).val; omega))) (ec (c3 (s16 d t) (by show 0 = 0 + 1 * (x 0).val; omega) (by show (x 1).val = 0 + 1 * (x 1).val; omega) (by show (x 2).val = 0 + 1 * (x 2).val; omega)))

theorem o_A_16 (y : S8x128x128.Idx) : ∀ hc0, out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s16 d t (y 0).val (y 1).val (y 2).val : ℝ) : EReal) := by
  intro hc0
  have e : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_16.read (Elt Ideal) (VO0_16.writes (Elt Ideal) (VO0_16.writes (Elt Ideal) VO0_16.junk kernelRun0_A.sl.H16_1) [⟨Rect.unit ![7, 0, 0] S1x128x128.size (by decide), kernelRun0_B.sl.v648 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![6, 0, 0] S1x128x128.size (by decide), kernelRun0_B.sl.v609 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![5, 0, 0] S1x128x128.size (by decide), kernelRun0_B.sl.v570 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![4, 0, 0] S1x128x128.size (by decide), kernelRun0_B.sl.v531 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![3, 0, 0] S1x128x128.size (by decide), kernelRun0_B.sl.v492 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![2, 0, 0] S1x128x128.size (by decide), kernelRun0_B.sl.v453 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![1, 0, 0] S1x128x128.size (by decide), kernelRun0_B.sl.v414 (F := Ideal) c arg2 harg2 arg4 harg4 arg6 harg6 arg7 harg7 arg8 harg8 arg10 harg10 arg12 harg12 arg17 harg17 arg20 arg21 arg22 x1 x3 x5 x6 x7 x9 x11 (fun _ => 0)⟩, ⟨Rect.unit ![0, 0, 0] S1x128x128.size (by decide), kernelRun0_B.sl.v375 (F := Ideal) c arg2 harg2 arg4 harg4 arg6 harg6 arg7 harg7 arg8 harg8 arg10 harg10 arg12 harg12 arg17 harg17 arg20 arg21 arg22 x1 x3 x5 x6 x7 x9 x11 (fun _ => 0)⟩]) := by
    unfold out0_A_16
    show VO0_16.read (Elt Ideal) (VO0_16.writes (Elt Ideal) VO0_16.junk (⟨Rect.unit ![7, 0, 0] S1x128x128.size (by decide), kernelRun0_A.sl.v648 (F := Ideal) c arg2 harg2 arg4 harg4 arg6 harg6 arg7 harg7 arg8 harg8 arg10 harg10 arg12 harg12 arg17 arg20 arg21 arg22 x1 x3 x5 x6 x7 x9 x11⟩ :: (kernelRun0_A.sl.H16_8 (F := Ideal) c arg2 harg2 arg4 harg4 arg6 harg6 arg7 harg7 arg8 harg8 arg10 harg10 arg12 harg12 arg17 arg20 arg21 arg22 x1 x3 x5 x6 x7 x9 x11))) = _
    unfold kernelRun0_A.sl.H16_8 kernelRun0_A.sl.H16_7 kernelRun0_A.sl.H16_6 kernelRun0_A.sl.H16_5 kernelRun0_A.sl.H16_4 kernelRun0_A.sl.H16_3 kernelRun0_A.sl.H16_2
    rw [a_v648, a_v609, a_v570, a_v531, a_v492, a_v453, a_v414, a_v375]
    rfl
  rw [e]
  refine rw_of VO0_16 _ (fun y => (0 : EReal) + ((s16 d t (y 0).val (y 1).val (y 2).val : ℝ) : EReal)) _ ?_ y (fun h => absurd (View.cover_of_tiledL (s := S8x128x128) _ S1x128x128.size (by sl_kernel_rfl) y) h)
  simp only [List.forall_mem_cons, List.not_mem_nil, false_imp_iff, implies_true, and_true]
  refine ⟨fun x => (k_v648 H x).trans ?_, fun x => (k_v609 H x).trans ?_, fun x => (k_v570 H x).trans ?_, fun x => (k_v531 H x).trans ?_, fun x => (k_v492 H x).trans ?_, fun x => (k_v453 H x).trans ?_, fun x => (k_v414 H x).trans ?_, fun x => (k_v375 H x).trans ?_⟩
  · have h0 : (x 0).val < 1 := (x 0).isLt
    exact congrArg₂ (· + ·) rfl (ec (c3 (s16 d t) (by show 7 = 7 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 6 = 6 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 5 = 5 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 4 = 4 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 3 = 3 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 2 = 2 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 1 = 1 + 1 * (x 0).val; omega) (by show (x 1).val = 0 + 1 * (x 1).val; omega) (by show (x 2).val = 0 + 1 * (x 2).val; omega)))
  · have h0 : (x 0).val < 1 := (x 0).isLt
    exact congrArg₂ (· + ·) rfl (ec (c3 (s16 d t) (by show 0 = 0 + 1 * (x 0).val; omega) (by show (x 1).val = 0 + 1 * (x 1).val; omega) (by show (x 2).val = 0 + 1 * (x 2).val; omega)))

theorem o_B_17 (y : S8x8x128.Idx) : ∀ hc0, out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo17 y + ((s17 d t (y 0).val (y 2).val : ℝ) : EReal) := by
  intro hc0
  have e : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = VO0_17.read (Elt Ideal) (VO0_17.writes (Elt Ideal) VO0_17.junk [⟨Rect.unit ![7, 0, 0] S1x8x128.size (by decide), kernelRun0_B.sl.v654 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![6, 0, 0] S1x8x128.size (by decide), kernelRun0_B.sl.v615 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![5, 0, 0] S1x8x128.size (by decide), kernelRun0_B.sl.v576 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![4, 0, 0] S1x8x128.size (by decide), kernelRun0_B.sl.v537 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![3, 0, 0] S1x8x128.size (by decide), kernelRun0_B.sl.v498 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![2, 0, 0] S1x8x128.size (by decide), kernelRun0_B.sl.v459 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![1, 0, 0] S1x8x128.size (by decide), kernelRun0_B.sl.v420 (F := Ideal) c arg2 harg2 arg4 harg4 arg6 harg6 arg7 harg7 arg8 harg8 arg10 harg10 arg12 harg12 arg18 harg18 arg20 arg21 arg22 x1 x3 x5 x6 x7 x9 x11 xo17⟩, ⟨Rect.unit ![0, 0, 0] S1x8x128.size (by decide), kernelRun0_B.sl.v381 (F := Ideal) c arg2 harg2 arg4 harg4 arg6 harg6 arg7 harg7 arg8 harg8 arg10 harg10 arg12 harg12 arg18 harg18 arg20 arg21 arg22 x1 x3 x5 x6 x7 x9 x11 xo17⟩]) := by
    unfold out0_B_17
    rfl
  rw [e]
  refine rw_of VO0_17 _ (fun y => xo17 y + ((s17 d t (y 0).val (y 2).val : ℝ) : EReal)) _ ?_ y (fun h => absurd (View.cover_of_tiledL (s := S8x8x128) _ S1x8x128.size (by sl_kernel_rfl) y) h)
  simp only [List.forall_mem_cons, List.not_mem_nil, false_imp_iff, implies_true, and_true]
  refine ⟨fun x => (k_v654 H x).trans ?_, fun x => (k_v615 H x).trans ?_, fun x => (k_v576 H x).trans ?_, fun x => (k_v537 H x).trans ?_, fun x => (k_v498 H x).trans ?_, fun x => (k_v459 H x).trans ?_, fun x => (k_v420 H x).trans ?_, fun x => (k_v381 H x).trans ?_⟩
  · have h0 : (x 0).val < 1 := (x 0).isLt
    exact congrArg₂ (· + ·) (congrArg xo17 (ext3 _ _ (by show 7 = 7 + 1 * (x 0).val; omega) (by show (x 1).val = 0 + 1 * (x 1).val; omega) (by show (x 2).val = 0 + 1 * (x 2).val; omega))) (ec (c2 (s17 d t) (by show 7 = 7 + 1 * (x 0).val; omega) (by show (x 2).val = 0 + 1 * (x 2).val; omega)))
  · have h0 : (x 0).val < 1 := (x 0).isLt
    exact congrArg₂ (· + ·) (congrArg xo17 (ext3 _ _ (by show 6 = 6 + 1 * (x 0).val; omega) (by show (x 1).val = 0 + 1 * (x 1).val; omega) (by show (x 2).val = 0 + 1 * (x 2).val; omega))) (ec (c2 (s17 d t) (by show 6 = 6 + 1 * (x 0).val; omega) (by show (x 2).val = 0 + 1 * (x 2).val; omega)))
  · have h0 : (x 0).val < 1 := (x 0).isLt
    exact congrArg₂ (· + ·) (congrArg xo17 (ext3 _ _ (by show 5 = 5 + 1 * (x 0).val; omega) (by show (x 1).val = 0 + 1 * (x 1).val; omega) (by show (x 2).val = 0 + 1 * (x 2).val; omega))) (ec (c2 (s17 d t) (by show 5 = 5 + 1 * (x 0).val; omega) (by show (x 2).val = 0 + 1 * (x 2).val; omega)))
  · have h0 : (x 0).val < 1 := (x 0).isLt
    exact congrArg₂ (· + ·) (congrArg xo17 (ext3 _ _ (by show 4 = 4 + 1 * (x 0).val; omega) (by show (x 1).val = 0 + 1 * (x 1).val; omega) (by show (x 2).val = 0 + 1 * (x 2).val; omega))) (ec (c2 (s17 d t) (by show 4 = 4 + 1 * (x 0).val; omega) (by show (x 2).val = 0 + 1 * (x 2).val; omega)))
  · have h0 : (x 0).val < 1 := (x 0).isLt
    exact congrArg₂ (· + ·) (congrArg xo17 (ext3 _ _ (by show 3 = 3 + 1 * (x 0).val; omega) (by show (x 1).val = 0 + 1 * (x 1).val; omega) (by show (x 2).val = 0 + 1 * (x 2).val; omega))) (ec (c2 (s17 d t) (by show 3 = 3 + 1 * (x 0).val; omega) (by show (x 2).val = 0 + 1 * (x 2).val; omega)))
  · have h0 : (x 0).val < 1 := (x 0).isLt
    exact congrArg₂ (· + ·) (congrArg xo17 (ext3 _ _ (by show 2 = 2 + 1 * (x 0).val; omega) (by show (x 1).val = 0 + 1 * (x 1).val; omega) (by show (x 2).val = 0 + 1 * (x 2).val; omega))) (ec (c2 (s17 d t) (by show 2 = 2 + 1 * (x 0).val; omega) (by show (x 2).val = 0 + 1 * (x 2).val; omega)))
  · have h0 : (x 0).val < 1 := (x 0).isLt
    exact congrArg₂ (· + ·) (congrArg xo17 (ext3 _ _ (by show 1 = 1 + 1 * (x 0).val; omega) (by show (x 1).val = 0 + 1 * (x 1).val; omega) (by show (x 2).val = 0 + 1 * (x 2).val; omega))) (ec (c2 (s17 d t) (by show 1 = 1 + 1 * (x 0).val; omega) (by show (x 2).val = 0 + 1 * (x 2).val; omega)))
  · have h0 : (x 0).val < 1 := (x 0).isLt
    exact congrArg₂ (· + ·) (congrArg xo17 (ext3 _ _ (by show 0 = 0 + 1 * (x 0).val; omega) (by show (x 1).val = 0 + 1 * (x 1).val; omega) (by show (x 2).val = 0 + 1 * (x 2).val; omega))) (ec (c2 (s17 d t) (by show 0 = 0 + 1 * (x 0).val; omega) (by show (x 2).val = 0 + 1 * (x 2).val; omega)))

theorem o_A_17 (y : S8x8x128.Idx) : ∀ hc0, out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s17 d t (y 0).val (y 2).val : ℝ) : EReal) := by
  intro hc0
  have e : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_17.read (Elt Ideal) (VO0_17.writes (Elt Ideal) (VO0_17.writes (Elt Ideal) VO0_17.junk kernelRun0_A.sl.H17_1) [⟨Rect.unit ![7, 0, 0] S1x8x128.size (by decide), kernelRun0_B.sl.v654 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![6, 0, 0] S1x8x128.size (by decide), kernelRun0_B.sl.v615 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![5, 0, 0] S1x8x128.size (by decide), kernelRun0_B.sl.v576 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![4, 0, 0] S1x8x128.size (by decide), kernelRun0_B.sl.v537 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![3, 0, 0] S1x8x128.size (by decide), kernelRun0_B.sl.v498 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![2, 0, 0] S1x8x128.size (by decide), kernelRun0_B.sl.v459 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![1, 0, 0] S1x8x128.size (by decide), kernelRun0_B.sl.v420 (F := Ideal) c arg2 harg2 arg4 harg4 arg6 harg6 arg7 harg7 arg8 harg8 arg10 harg10 arg12 harg12 arg18 harg18 arg20 arg21 arg22 x1 x3 x5 x6 x7 x9 x11 (fun _ => 0)⟩, ⟨Rect.unit ![0, 0, 0] S1x8x128.size (by decide), kernelRun0_B.sl.v381 (F := Ideal) c arg2 harg2 arg4 harg4 arg6 harg6 arg7 harg7 arg8 harg8 arg10 harg10 arg12 harg12 arg18 harg18 arg20 arg21 arg22 x1 x3 x5 x6 x7 x9 x11 (fun _ => 0)⟩]) := by
    unfold out0_A_17
    show VO0_17.read (Elt Ideal) (VO0_17.writes (Elt Ideal) VO0_17.junk (⟨Rect.unit ![7, 0, 0] S1x8x128.size (by decide), kernelRun0_A.sl.v654 (F := Ideal) c arg2 harg2 arg4 harg4 arg6 harg6 arg7 harg7 arg8 harg8 arg10 harg10 arg12 harg12 arg18 arg20 arg21 arg22 x1 x3 x5 x6 x7 x9 x11⟩ :: (kernelRun0_A.sl.H17_8 (F := Ideal) c arg2 harg2 arg4 harg4 arg6 harg6 arg7 harg7 arg8 harg8 arg10 harg10 arg12 harg12 arg18 arg20 arg21 arg22 x1 x3 x5 x6 x7 x9 x11))) = _
    unfold kernelRun0_A.sl.H17_8 kernelRun0_A.sl.H17_7 kernelRun0_A.sl.H17_6 kernelRun0_A.sl.H17_5 kernelRun0_A.sl.H17_4 kernelRun0_A.sl.H17_3 kernelRun0_A.sl.H17_2
    rw [a_v654, a_v615, a_v576, a_v537, a_v498, a_v459, a_v420, a_v381]
    rfl
  rw [e]
  refine rw_of VO0_17 _ (fun y => (0 : EReal) + ((s17 d t (y 0).val (y 2).val : ℝ) : EReal)) _ ?_ y (fun h => absurd (View.cover_of_tiledL (s := S8x8x128) _ S1x8x128.size (by sl_kernel_rfl) y) h)
  simp only [List.forall_mem_cons, List.not_mem_nil, false_imp_iff, implies_true, and_true]
  refine ⟨fun x => (k_v654 H x).trans ?_, fun x => (k_v615 H x).trans ?_, fun x => (k_v576 H x).trans ?_, fun x => (k_v537 H x).trans ?_, fun x => (k_v498 H x).trans ?_, fun x => (k_v459 H x).trans ?_, fun x => (k_v420 H x).trans ?_, fun x => (k_v381 H x).trans ?_⟩
  · have h0 : (x 0).val < 1 := (x 0).isLt
    exact congrArg₂ (· + ·) rfl (ec (c2 (s17 d t) (by show 7 = 7 + 1 * (x 0).val; omega) (by show (x 2).val = 0 + 1 * (x 2).val; omega)))
  · have h0 : (x 0).val < 1 := (x 0).isLt
    exact congrArg₂ (· + ·) rfl (ec (c2 (s17 d t) (by show 6 = 6 + 1 * (x 0).val; omega) (by show (x 2).val = 0 + 1 * (x 2).val; omega)))
  · have h0 : (x 0).val < 1 := (x 0).isLt
    exact congrArg₂ (· + ·) rfl (ec (c2 (s17 d t) (by show 5 = 5 + 1 * (x 0).val; omega) (by show (x 2).val = 0 + 1 * (x 2).val; omega)))
  · have h0 : (x 0).val < 1 := (x 0).isLt
    exact congrArg₂ (· + ·) rfl (ec (c2 (s17 d t) (by show 4 = 4 + 1 * (x 0).val; omega) (by show (x 2).val = 0 + 1 * (x 2).val; omega)))
  · have h0 : (x 0).val < 1 := (x 0).isLt
    exact congrArg₂ (· + ·) rfl (ec (c2 (s17 d t) (by show 3 = 3 + 1 * (x 0).val; omega) (by show (x 2).val = 0 + 1 * (x 2).val; omega)))
  · have h0 : (x 0).val < 1 := (x 0).isLt
    exact congrArg₂ (· + ·) rfl (ec (c2 (s17 d t) (by show 2 = 2 + 1 * (x 0).val; omega) (by show (x 2).val = 0 + 1 * (x 2).val; omega)))
  · have h0 : (x 0).val < 1 := (x 0).isLt
    exact congrArg₂ (· + ·) rfl (ec (c2 (s17 d t) (by show 1 = 1 + 1 * (x 0).val; omega) (by show (x 2).val = 0 + 1 * (x 2).val; omega)))
  · have h0 : (x 0).val < 1 := (x 0).isLt
    exact congrArg₂ (· + ·) rfl (ec (c2 (s17 d t) (by show 0 = 0 + 1 * (x 0).val; omega) (by show (x 2).val = 0 + 1 * (x 2).val; omega)))

theorem o_B_18 (y : S8x1024.Idx) : ∀ hc0, out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 y = xo18 y + ((s18 d t (y 0).val (y 1).val : ℝ) : EReal) := by
  intro hc0
  have e : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 = arg19.view.read (Elt Ideal) (arg19.view.writes (Elt Ideal) (harg19.unread xo18) [⟨Rect.unit (s := S8x1024) ![0, 0] S1x1024.size (by decide), k0_pay1 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (kernelRun0_B.sl.v828 (F := Ideal) c arg19 harg19 xo18)⟩, ⟨Rect.unit (s := S8x1024) ![1, 0] S1x1024.size (by decide), k0_pay135 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (kernelRun0_B.sl.v819 (F := Ideal) c arg19 harg19 xo18)⟩, ⟨Rect.unit (s := S8x1024) ![2, 0] S1x1024.size (by decide), k0_pay134 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (View.readAt (Elt Ideal) arg19.view (Rect.unit (s := S8x1024) ![2, 0] S1x1024.size (by decide)).toLoadRect (harg19.unread xo18))⟩]) := by
    unfold out0_B_18
    rfl
  rw [e]
  refine rw_of arg19.view _ (fun y => xo18 y + ((s18 d t (y 0).val (y 1).val : ℝ) : EReal)) _ ?_ y (fun h => ?_)
  · simp only [List.forall_mem_cons, List.not_mem_nil, false_imp_iff, implies_true, and_true]
    refine ⟨fun x => ?_, fun x => ?_, fun x => ?_⟩
    · have h0 : (x 0).val < 1 := (x 0).isLt
      exact (k_k0_pay1 H _ x).trans (congrArg₂ (· + ·) (by unfold kernelRun0_B.sl.v828; simp only [View.readAt_eq_ld, Memref.IsWhole.read_unread]; rfl) (ec (s18_r (r := 0) (by omega) (by show 0 + 1 * (x 0).val = 0; omega) rfl)))
    · have h0 : (x 0).val < 1 := (x 0).isLt
      exact (k_k0_pay135 H _ x).trans (congrArg₂ (· + ·) (by unfold kernelRun0_B.sl.v819; simp only [View.readAt_eq_ld, Memref.IsWhole.read_unread]; rfl) (ec (s18_r (r := 1) (by omega) (by show 1 + 1 * (x 0).val = 1; omega) rfl)))
    · have h0 : (x 0).val < 1 := (x 0).isLt
      exact (k_k0_pay134 H _ x).trans (congrArg₂ (· + ·) (by simp only [View.readAt_eq_ld, Memref.IsWhole.read_unread]; rfl) (ec (s18_r (r := 2) (by omega) (by show 2 + 1 * (x 0).val = 2; omega) rfl)))
  · have h3 : 3 ≤ (y 0).val := by
      have hy1 : (y 1).val < 1024 := (y 1).isLt
      by_contra hlt
      obtain h0 | h0 | h0 : (y 0).val = 0 ∨ (y 0).val = 1 ∨ (y 0).val = 2 := by omega
      · exact h ⟨_, List.mem_cons_self, (Rect.mem_set_unit (s := S8x1024) (off := ![0, 0]) (size := S1x1024.size) (inb := by decide) (i := y)).2 fun a => match a with
        | ⟨0, _⟩ => ⟨by show 0 ≤ (y 0).val; omega, by show (y 0).val < 0 + 1; omega⟩
        | ⟨1, _⟩ => ⟨Nat.zero_le _, by show (y 1).val < 0 + 1024; omega⟩⟩
      · exact h ⟨_, List.mem_cons_of_mem _ List.mem_cons_self, (Rect.mem_set_unit (s := S8x1024) (off := ![1, 0]) (size := S1x1024.size) (inb := by decide) (i := y)).2 fun a => match a with
        | ⟨0, _⟩ => ⟨by show 1 ≤ (y 0).val; omega, by show (y 0).val < 1 + 1; omega⟩
        | ⟨1, _⟩ => ⟨Nat.zero_le _, by show (y 1).val < 0 + 1024; omega⟩⟩
      · exact h ⟨_, List.mem_cons_of_mem _ (List.mem_cons_of_mem _ List.mem_cons_self), (Rect.mem_set_unit (s := S8x1024) (off := ![2, 0]) (size := S1x1024.size) (inb := by decide) (i := y)).2 fun a => match a with
        | ⟨0, _⟩ => ⟨by show 2 ≤ (y 0).val; omega, by show (y 0).val < 2 + 1; omega⟩
        | ⟨1, _⟩ => ⟨Nat.zero_le _, by show (y 1).val < 0 + 1024; omega⟩⟩
    have hs : s18 d t (y 0).val (y 1).val = 0 := if_neg (by omega)
    rw [hs, EReal.coe_zero, add_zero]
    rw [Memref.IsWhole.read_unread]

theorem o_A_18 (y : S8x1024.Idx) : ∀ hc0, out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 y = (0 : EReal) + ((s18 d t (y 0).val (y 1).val : ℝ) : EReal) := by
  intro hc0
  have e : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 = VO0_18.read (Elt Ideal) (VO0_18.writes (Elt Ideal) (VO0_18.writes (Elt Ideal) VO0_18.junk kernelRun0_A.sl.H18_1) [⟨Rect.unit (s := S8x1024) ![0, 0] S1x1024.size (by decide), k0_pay1 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (fun _ => (0 : EReal))⟩, ⟨Rect.unit (s := S8x1024) ![1, 0] S1x1024.size (by decide), k0_pay135 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (fun _ => (0 : EReal))⟩, ⟨Rect.unit (s := S8x1024) ![2, 0] S1x1024.size (by decide), k0_pay134 (F := Ideal) (kernelRun0_B.sl.v723 (F := Ideal) c i arg1 harg1 arg2 harg2 arg3 harg3 x0 x1 x2) (kernelRun0_B.sl.v782 (F := Ideal) c i arg1 harg1 arg2 harg2 arg3 harg3 arg4 harg4 arg5 harg5 arg11 harg11 arg12 harg12 x0 x1 x2 x3 x4 x10 x11) (fun _ => (0 : EReal))⟩]) := by
    unfold out0_A_18
    show VO0_18.read (Elt Ideal) (VO0_18.writes (Elt Ideal) VO0_18.junk (⟨Rect.unit ![0, 0] ![1, 1024] (by decide), k0_pay1 (kernelRun0_A.sl.v723 (F := Ideal) c i arg1 harg1 arg2 harg2 arg3 harg3 x0 x1 x2) (kernelRun0_A.sl.v782 (F := Ideal) c i arg1 harg1 arg2 harg2 arg3 harg3 arg4 harg4 arg5 harg5 arg11 harg11 arg12 harg12 x0 x1 x2 x3 x4 x10 x11) (kernelRun0_A.sl.v828 (F := Ideal) c i arg1 harg1 arg2 harg2 arg3 harg3 arg4 harg4 arg5 harg5 arg11 harg11 arg12 harg12 arg19 x0 x1 x2 x3 x4 x10 x11)⟩ :: (kernelRun0_A.sl.H18_3 (F := Ideal) c i arg1 harg1 arg2 harg2 arg3 harg3 arg4 harg4 arg5 harg5 arg11 harg11 arg12 harg12 arg19 x0 x1 x2 x3 x4 x10 x11))) = _
    unfold kernelRun0_A.sl.H18_3 kernelRun0_A.sl.H18_2
    rw [a_v828, a_v819, a_v811]
    rfl
  rw [e]
  refine rw_of VO0_18 _ (fun y => (0 : EReal) + ((s18 d t (y 0).val (y 1).val : ℝ) : EReal)) _ ?_ y (fun h => ?_)
  · simp only [List.forall_mem_cons, List.not_mem_nil, false_imp_iff, implies_true, and_true]
    refine ⟨fun x => ?_, fun x => ?_, fun x => ?_⟩
    · have h0 : (x 0).val < 1 := (x 0).isLt
      exact (k_k0_pay1 H _ x).trans (congrArg₂ (· + ·) rfl (ec (s18_r (r := 0) (by omega) (by show 0 + 1 * (x 0).val = 0; omega) rfl)))
    · have h0 : (x 0).val < 1 := (x 0).isLt
      exact (k_k0_pay135 H _ x).trans (congrArg₂ (· + ·) rfl (ec (s18_r (r := 1) (by omega) (by show 1 + 1 * (x 0).val = 1; omega) rfl)))
    · have h0 : (x 0).val < 1 := (x 0).isLt
      exact (k_k0_pay134 H _ x).trans (congrArg₂ (· + ·) rfl (ec (s18_r (r := 2) (by omega) (by show 2 + 1 * (x 0).val = 2; omega) rfl)))
  · have h3 : 3 ≤ (y 0).val := by
      have hy1 : (y 1).val < 1024 := (y 1).isLt
      by_contra hlt
      obtain h0 | h0 | h0 : (y 0).val = 0 ∨ (y 0).val = 1 ∨ (y 0).val = 2 := by omega
      · exact h ⟨_, List.mem_cons_self, (Rect.mem_set_unit (s := S8x1024) (off := ![0, 0]) (size := S1x1024.size) (inb := by decide) (i := y)).2 fun a => match a with
        | ⟨0, _⟩ => ⟨by show 0 ≤ (y 0).val; omega, by show (y 0).val < 0 + 1; omega⟩
        | ⟨1, _⟩ => ⟨Nat.zero_le _, by show (y 1).val < 0 + 1024; omega⟩⟩
      · exact h ⟨_, List.mem_cons_of_mem _ List.mem_cons_self, (Rect.mem_set_unit (s := S8x1024) (off := ![1, 0]) (size := S1x1024.size) (inb := by decide) (i := y)).2 fun a => match a with
        | ⟨0, _⟩ => ⟨by show 1 ≤ (y 0).val; omega, by show (y 0).val < 1 + 1; omega⟩
        | ⟨1, _⟩ => ⟨Nat.zero_le _, by show (y 1).val < 0 + 1024; omega⟩⟩
      · exact h ⟨_, List.mem_cons_of_mem _ (List.mem_cons_of_mem _ List.mem_cons_self), (Rect.mem_set_unit (s := S8x1024) (off := ![2, 0]) (size := S1x1024.size) (inb := by decide) (i := y)).2 fun a => match a with
        | ⟨0, _⟩ => ⟨by show 2 ≤ (y 0).val; omega, by show (y 0).val < 2 + 1; omega⟩
        | ⟨1, _⟩ => ⟨Nat.zero_le _, by show (y 1).val < 0 + 1024; omega⟩⟩
    have hs : s18 d t (y 0).val (y 1).val = 0 := if_neg (by omega)
    rw [hs, EReal.coe_zero, add_zero]
    unfold kernelRun0_A.sl.H18_1; rw [z_k0_pay7, View.read_writes_junk_eq_canon, View.canon_cons_unit_lit (h := by decide)]

end
end Cert.Mix.Ker
-- ==== Proof.MixerRefVal.lean ====
module

public import proofs.«01_k».proof.Proof.MixerSpec
public import proofs.«01_k».proof.Proof.Gen.MixerRefIdeal.Read
public import Idealize.ShloMosaic.Lib.TwoAxisContraction

/-! The reference's gradients of the mixer over the real numbers: every intermediate array at an index is the real number
the specification names, at the row and the column that the index gives. -/

@[expose] public section

noncomputable section

open Idealize.ShloMosaic Idealize.ShloMosaic.StableHlo Cert.MixerRefIdeal Cert.MixerRefIdeal.Gen Cert.MixerRefIdeal.Read Cert.Real
open Idealize.ShloMosaic.ValueIdx (contrEquiv2 contrEquiv2_symm_val0 contrEquiv2_symm_val1)

namespace Cert.Mix.Ref

/-- The reference's arguments hold the numbers of `d`. -/
structure Ok (d : D) (x0 : (⟨S4096x5120, .bf16⟩ : BufTy).Contents (Elt Ideal)) (x1 : (⟨S4096x2048, .bf16⟩ : BufTy).Contents (Elt Ideal))
    (x2 x3 : (⟨S1024, .f32⟩ : BufTy).Contents (Elt Ideal)) (x4 : (⟨S8x128x128, .f32⟩ : BufTy).Contents (Elt Ideal))
    (x5 : (⟨S8x128, .f32⟩ : BufTy).Contents (Elt Ideal)) (x6 : (⟨S3x1024, .f32⟩ : BufTy).Contents (Elt Ideal))
    (x7 : (⟨S2048, .f32⟩ : BufTy).Contents (Elt Ideal)) : Prop where
  h0 : ∀ i : S4096x5120.Idx, x0 i = ((d.z (i 0).val (i 1).val : ℝ) : EReal)
  h1 : ∀ i : S4096x2048.Idx, x1 i = ((d.dy (i 0).val (i 1).val : ℝ) : EReal)
  h2 : ∀ i : S1024.Idx, x2 i = ((d.lg (i 0).val : ℝ) : EReal)
  h3 : ∀ i : S1024.Idx, x3 i = ((d.lb (i 0).val : ℝ) : EReal)
  h4 : ∀ i : S8x128x128.Idx, x4 i = ((d.ws (i 0).val (i 1).val (i 2).val : ℝ) : EReal)
  h5 : ∀ i : S8x128.Idx, x5 i = ((d.bs (i 0).val (i 1).val : ℝ) : EReal)
  h6 : ∀ i : S3x1024.Idx, x6 i = ((d.cw (i 0).val (i 1).val : ℝ) : EReal)
  h7 : ∀ i : S2048.Idx, x7 i = ((d.gn (i 0).val : ℝ) : EReal)

theorem n1024 : (1024 : ℝ) ≠ 0 := by norm_num
theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sum_one (f : Fin 1 → ℝ) : ∑ k : Fin 1, f k = f 0 := Fin.sum_univ_one f
theorem ext_eq (x : EReal) (h) : FloatOps.extf (F := Ideal) (φ := .bf16) .f32 h (x : Ideal .bf16) = x := rfl
theorem trunc_eq (x : EReal) (h) : FloatOps.truncf (F := Ideal) (φ := .f32) .bf16 h (x : Ideal .f32) = x := rfl
theorem zadd (x : EReal) : ((0 : ℝ) : EReal) + x = x := zero_add x
theorem co2 (f : ℕ → ℕ → ℝ) {a b a' b' : ℕ} (h : a = a') (h' : b = b') : f a b = f a' b' := by rw [h, h']
theorem ec {a b : ℝ} (h : a = b) : (a : EReal) = (b : EReal) := by rw [h]

variable {d : D} {x0 : (⟨S4096x5120, .bf16⟩ : BufTy).Contents (Elt Ideal)} {x1 : (⟨S4096x2048, .bf16⟩ : BufTy).Contents (Elt Ideal)}
  {x2 x3 : (⟨S1024, .f32⟩ : BufTy).Contents (Elt Ideal)} {x4 : (⟨S8x128x128, .f32⟩ : BufTy).Contents (Elt Ideal)}
  {x5 : (⟨S8x128, .f32⟩ : BufTy).Contents (Elt Ideal)} {x6 : (⟨S3x1024, .f32⟩ : BufTy).Contents (Elt Ideal)}
  {x7 : (⟨S2048, .f32⟩ : BufTy).Contents (Elt Ideal)} (H : Ok d x0 x1 x2 x3 x4 x5 x6 x7)
include H

theorem s_v0 (i : S4096x5120.Idx) : val_main_v0 (F := Ideal) x0 i = ((d.z (i 0).val (i 1).val : ℝ) : EReal) := by
  simp only [val_main_v0_apply, H.h0, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]

theorem s_v1 (i : S4096x2048.Idx) : val_main_v1 (F := Ideal) x0 i = ((d.z (i 0).val (i 1).val : ℝ) : EReal) := by
  simp only [val_main_v1_apply, s_v0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v12 (i : S4096x2048.Idx) : val_main_v12 (F := Ideal) x0 i = ((th (d.z (i 0).val (i 1).val) : ℝ) : EReal) := by
  simp only [val_main_v12_apply, val_main_v11_apply, val_main_v10_apply, val_main_cst_1_apply, val_main_v9_apply, val_main_v8_apply, val_main_v7_apply, val_main_cst_0_apply, val_main_v3_apply, val_main_v2_apply, s_v1 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v17 (i : S4096x2048.Idx) : val_main_v17 (F := Ideal) x0 i = (((1 + th (d.z (i 0).val (i 1).val)) * (1 - th (d.z (i 0).val (i 1).val)) : ℝ) : EReal) := by
  simp only [val_main_v17_apply, val_main_v14_apply, val_main_v13_apply, val_main_cst_2_apply, val_main_v16_apply, val_main_v15_apply, val_main_cst_3_apply, s_v12 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]

theorem s_v21 (i : S4096x2048.Idx) : val_main_v21 (F := Ideal) x0 i = ((1 / 2 * (1 + th (d.z (i 0).val (i 1).val)) : ℝ) : EReal) := by
  simp only [val_main_v21_apply, val_main_v20_apply, val_main_cst_5_apply, val_main_v19_apply, val_main_v18_apply, val_main_cst_4_apply, s_v12 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]

theorem s_v6 (i : S4096x2048.Idx) : val_main_v6 (F := Ideal) x0 i = ((3 * (d.z (i 0).val (i 1).val * d.z (i 0).val (i 1).val) : ℝ) : EReal) := by
  simp only [val_main_v6_apply, val_main_v5_apply, val_main_cst_apply, val_main_v4_apply, s_v1 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]

theorem s_v22 (i : S4096x2048.Idx) : val_main_v22 (F := Ideal) x0 i = ((gelu (d.z (i 0).val (i 1).val) : ℝ) : EReal) := by
  simp only [val_main_v22_apply, s_v1 H, s_v21 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v23 (i : S4096x1024.Idx) : val_main_v23 (F := Ideal) x0 i = ((d.u (i 0).val (i 1).val : ℝ) : EReal) := by
  simp only [val_main_v23_apply, s_v22 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v24 (i : S4096x1024.Idx) : val_main_v24 (F := Ideal) x0 i = ((d.vg (i 0).val (i 1).val : ℝ) : EReal) := by
  simp only [val_main_v24_apply, s_v22 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v25 (i : S4096x1024.Idx) : val_main_v25 (F := Ideal) x0 i = ((d.z (i 0).val (2048 + (i 1).val) : ℝ) : EReal) := by
  simp only [val_main_v25_apply, s_v0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v26 (i : S4096x1024.Idx) : val_main_v26 (F := Ideal) x0 i = ((d.z (i 0).val (3072 + (i 1).val) : ℝ) : EReal) := by
  simp only [val_main_v26_apply, s_v0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v27 (i : S4096x1024.Idx) : val_main_v27 (F := Ideal) x0 i = ((d.z (i 0).val (4096 + (i 1).val) : ℝ) : EReal) := by
  simp only [val_main_v27_apply, s_v0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v33 (i : S4096x1024.Idx) : val_main_v33 (F := Ideal) x0 i = ((d.xc (i 0).val (i 1).val : ℝ) : EReal) := by
  simp only [val_main_v33_apply, val_main_v32_apply, val_main_v31_apply, val_main_v29_apply, val_main_v28_apply, val_main_cst_6_apply, val_main_v30_apply, val_main_cst_7_apply, s_v24 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v40 (i : S4096x1.Idx) : val_main_v40 (F := Ideal) x0 i = ((msq eL (d.xc (i 0).val) : ℝ) : EReal) := by
  simp only [val_main_v40_apply, val_main_v38_apply, val_main_v36_apply, val_main_v35_apply, val_main_v34_apply, val_main_cst_8_apply, val_main_v37_apply, val_main_cst_9_apply, val_main_v39_apply, val_main_cst_10_apply, s_v33 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v41 (i : S4096x1.Idx) : val_main_v41 (F := Ideal) x0 i = ((rms eL (d.xc (i 0).val) : ℝ) : EReal) := by
  simp only [val_main_v41_apply, s_v40 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hrsqrt_coe (msq_pos eL_pos _), rms]

theorem s_v44 (i : S4096x1.Idx) : val_main_v44 (F := Ideal) x0 i = ((-(1 / 2) * (rms eL (d.xc (i 0).val) / msq eL (d.xc (i 0).val)) : ℝ) : EReal) := by
  simp only [val_main_v44_apply, val_main_v43_apply, val_main_cst_11_apply, val_main_v42_apply, s_v41 H, s_v40 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hdiv_coe _ (msq_pos eL_pos _).ne']

theorem s_v46 (i : S4096x1024.Idx) : val_main_v46 (F := Ideal) x0 i = ((d.vh (i 0).val (i 1).val : ℝ) : EReal) := by
  simp only [val_main_v46_apply, val_main_v45_apply, s_v33 H, s_v41 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v52 (i : S4096x1024.Idx) : val_main_v52 (F := Ideal) x0 x2 x3 i = ((d.vn (i 0).val (i 1).val : ℝ) : EReal) := by
  simp only [val_main_v52_apply, val_main_v49_apply, val_main_v48_apply, val_main_v47_apply, val_main_v51_apply, val_main_v50_apply, s_v46 H, H.h2, H.h3, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v53 (i : S32x128x8x128.Idx) : val_main_v53 (F := Ideal) x0 x2 x3 i = ((d.vn ((i 0).val * 128 + (i 1).val) ((i 2).val * 128 + (i 3).val) : ℝ) : EReal) := by
  simp only [val_main_v53_apply, s_v52 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 32 := (i 0).isLt; have h1 : (i 1).val < 128 := (i 1).isLt; have h2 : (i 2).val < 8 := (i 2).isLt; have h3 : (i 3).val < 128 := (i 3).isLt
  refine ec (co2 _ ?_ ?_)
  · show ((((i 0).val * 128 + (i 1).val) * 8 + (i 2).val) * 128 + (i 3).val) / 1024 = _; omega
  · show ((((i 0).val * 128 + (i 1).val) * 8 + (i 2).val) * 128 + (i 3).val) % 1024 = _; omega

omit H in
theorem fdiv : ∀ j : Fin 128, val_main_v56 (F := Ideal) (ix2 0 j) = BitVec.ofNat 32 (j.val / 64) := by decide +kernel
omit H in
theorem fdiv' : ∀ j : Fin 128, val_main_v58 (F := Ideal) (ix2 j 0) = BitVec.ofNat 32 (j.val / 64) := by decide +kernel
omit H in
theorem sle_iff : ∀ a b : Fin 2, IntOp.cmpi .sle (BitVec.ofNat 32 a.val) (BitVec.ofNat 32 b.val) = if a.val ≤ b.val then 1 else 0 := by decide +kernel
omit H in
theorem mask_eq (i : S128x128.Idx) : val_main_v61 (F := Ideal) i = if (i 1).val / 64 ≤ (i 0).val / 64 then 1 else 0 := by
  have h0 : (i 0).val < 128 := (i 0).isLt; have h1 : (i 1).val < 128 := (i 1).isLt
  rw [val_main_v61_apply, val_main_v59_apply, val_main_v60_apply]
  have e : idx_main_v59 i = ix2 0 ⟨(i 1).val, h1⟩ := by funext a; match a with | ⟨0, _⟩ => rfl | ⟨1, _⟩ => rfl
  have e' : idx_main_v60 i = ix2 ⟨(i 0).val, h0⟩ 0 := by funext a; match a with | ⟨0, _⟩ => rfl | ⟨1, _⟩ => rfl
  rw [e, e', fdiv ⟨_, h1⟩, fdiv' ⟨_, h0⟩]
  exact sle_iff ⟨(i 1).val / 64, by omega⟩ ⟨(i 0).val / 64, by omega⟩

theorem s_v63_0 (i : S8x128x128.Idx) : val_main_v63_0 (F := Ideal) x4 i = ((d.wm (i 0).val (i 1).val (i 2).val : ℝ) : EReal) := by
  simp only [val_main_v63_0_apply, val_main_v63_1_apply, val_main_v62_apply, mask_eq, H.h4, val_main_call2_v1_apply, val_main_call2_cst_apply, fbits_zero]
  show Scalar.select (if (i 2).val / 64 ≤ (i 1).val / 64 then 1 else 0) _ _ = _
  unfold D.wm
  split
  · exact if_pos rfl
  · exact (if_neg (show ¬((0 : BitVec 1) = 1) by decide)).trans ((val_main_cst_13_apply _).trans fbits_zero)

theorem s_v64 (i : S8x32x128x128.Idx) : val_main_v64 (F := Ideal) x0 x2 x3 x4 i = ((∑ k : Fin 128, d.vn ((i 1).val * 128 + k.val) ((i 0).val * 128 + (i 2).val) * d.wm (i 0).val (i 3).val k.val : ℝ) : EReal) := by
  simp only [val_main_v64_apply, s_v53 H, s_v63_0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v68 (i : S32x128x8x128.Idx) : val_main_v68 (F := Ideal) x5 i = ((d.bs (i 2).val (i 1).val : ℝ) : EReal) := by
  simp only [val_main_v68_apply, val_main_v67_apply, val_main_v66_apply, H.h5, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v69 (i : S32x128x8x128.Idx) : val_main_v69 (F := Ideal) x0 x2 x3 x4 x5 i = (((∑ k : Fin 128, d.vn ((i 0).val * 128 + k.val) ((i 2).val * 128 + (i 3).val) * d.wm (i 2).val (i 1).val k.val) + d.bs (i 2).val (i 1).val : ℝ) : EReal) := by
  simp only [val_main_v69_apply, val_main_v65_apply, s_v64 H, s_v68 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v70 (i : S4096x1024.Idx) : val_main_v70 (F := Ideal) x0 x2 x3 x4 x5 i = ((d.mixed (i 0).val (i 1).val : ℝ) : EReal) := by
  have h0 : (i 0).val < 4096 := (i 0).isLt; have h1 : (i 1).val < 1024 := (i 1).isLt
  rw [val_main_v70_apply, s_v69 H]
  have e0 : (idx_main_v70 i 0).val = (i 0).val / 128 := by show ((i 0).val * 1024 + (i 1).val) / 131072 = _; omega
  have e1 : (idx_main_v70 i 1).val = (i 0).val % 128 := by show ((i 0).val * 1024 + (i 1).val) / 1024 % 128 = _; omega
  have e2 : (idx_main_v70 i 2).val = (i 1).val / 128 := by show ((i 0).val * 1024 + (i 1).val) / 128 % 8 = _; omega
  have e3 : (idx_main_v70 i 3).val = (i 1).val % 128 := by show ((i 0).val * 1024 + (i 1).val) % 128 = _; omega
  rw [e0, e1, e2, e3, show (i 1).val / 128 * 128 + (i 1).val % 128 = (i 1).val by omega]
  unfold D.mixed
  exact ec (congrArg (· + _) (Finset.sum_congr rfl fun k _ => mul_comm _ _))

theorem s_v71 (i : S4096x1024.Idx) : val_main_v71 (F := Ideal) x0 x2 x3 x4 x5 i = ((d.ya (i 0).val (i 1).val : ℝ) : EReal) := by
  simp only [val_main_v71_apply, s_v23 H, s_v70 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v72 (i : S4096x1024.Idx) : val_main_v72 (F := Ideal) x0 i = ((d.p (i 0).val (i 1).val : ℝ) : EReal) := by
  simp only [val_main_v72_apply, s_v26 H, s_v27 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v75 (i : S4096x1024.Idx) : val_main_v75 (F := Ideal) x0 i = ((d.ps 1 (i 0).val (i 1).val : ℝ) : EReal) := by
  have h0 : (i 0).val < 4096 := (i 0).isLt; have h1 : (i 1).val < 1024 := (i 1).isLt
  unfold val_main_v75
  rw [concatenate_pair_apply]
  unfold D.ps
  split
  · rename_i h
    rw [if_neg (by have h : (i 0).val < 1 := h; omega), val_main_v73_apply, val_main_cst_14_apply, fbits_zero]
  · rename_i h
    rw [if_pos (by have h : ¬ (i 0).val < 1 := h; omega), val_main_v74_apply, s_v72 H]
    rfl

theorem s_v79 (i : S4096x1024.Idx) : val_main_v79 (F := Ideal) x0 i = ((d.ps 2 (i 0).val (i 1).val : ℝ) : EReal) := by
  have h0 : (i 0).val < 4096 := (i 0).isLt; have h1 : (i 1).val < 1024 := (i 1).isLt
  unfold val_main_v79
  rw [concatenate_pair_apply]
  unfold D.ps
  split
  · rename_i h
    rw [if_neg (by have h : (i 0).val < 2 := h; omega), val_main_v77_apply, val_main_cst_16_apply, fbits_zero]
  · rename_i h
    rw [if_pos (by have h : ¬ (i 0).val < 2 := h; omega), val_main_v78_apply, s_v72 H]
    rfl

theorem s_v97 (i : S4096x1024.Idx) : val_main_v97 (F := Ideal) x0 x6 i = ((d.cv (i 0).val (i 1).val : ℝ) : EReal) := by
  simp only [val_main_v97_apply, val_main_v91_apply, val_main_v85_apply, val_main_v84_apply, val_main_v83_apply, val_main_v82_apply, val_main_v81_apply, val_main_v90_apply, val_main_v89_apply, val_main_v88_apply, val_main_v87_apply, val_main_v86_apply, val_main_v96_apply, val_main_v95_apply, val_main_v94_apply, val_main_v93_apply, val_main_v92_apply, s_v79 H, s_v75 H, s_v72 H, H.h6, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  refine ec ?_
  unfold D.cv
  have hm : (i 1).val % 1024 = (i 1).val := Nat.mod_eq_of_lt (i 1).isLt
  show d.cw 0 ((i 1).val % 1024) * d.ps 2 _ _ + d.cw 1 ((i 1).val % 1024) * d.ps 1 _ _ + d.cw 2 ((i 1).val % 1024) * d.p _ _ = _
  rw [hm]
  ring

theorem s_v98 (i : S4096x1024.Idx) : val_main_v98 (F := Ideal) x0 x6 i = ((d.yb (i 0).val (i 1).val : ℝ) : EReal) := by
  simp only [val_main_v98_apply, s_v25 H, s_v97 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v123 (i : S4096x1.Idx) : val_main_v123 (F := Ideal) x0 x6 i = ((msq eR (d.yb (i 0).val) : ℝ) : EReal) := by
  simp only [val_main_v123_apply, val_main_v121_apply, val_main_v119_apply, val_main_v118_apply, val_main_v117_apply, val_main_cst_22_apply, val_main_v120_apply, val_main_cst_23_apply, val_main_v122_apply, val_main_cst_24_apply, s_v98 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v124 (i : S4096x1.Idx) : val_main_v124 (F := Ideal) x0 x6 i = ((rms eR (d.yb (i 0).val) : ℝ) : EReal) := by
  simp only [val_main_v124_apply, s_v123 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hrsqrt_coe (msq_pos eR_pos _), rms]

theorem s_v127 (i : S4096x1.Idx) : val_main_v127 (F := Ideal) x0 x6 i = ((-(1 / 2) * (rms eR (d.yb (i 0).val) / msq eR (d.yb (i 0).val)) : ℝ) : EReal) := by
  simp only [val_main_v127_apply, val_main_v126_apply, val_main_cst_25_apply, val_main_v125_apply, s_v124 H, s_v123 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hdiv_coe _ (msq_pos eR_pos _).ne']

theorem s_v129 (i : S4096x1024.Idx) : val_main_v129 (F := Ideal) x0 x6 i = ((d.yhb (i 0).val (i 1).val : ℝ) : EReal) := by
  simp only [val_main_v129_apply, val_main_v128_apply, s_v98 H, s_v124 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v136 (i : S4096x1024.Idx) : val_main_v136 (F := Ideal) x1 i = ((d.dy (i 0).val (1024 + (i 1).val) : ℝ) : EReal) := by
  simp only [val_main_v136_apply, val_main_v134_apply, H.h1, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v141 (i : S4096x1024.Idx) : val_main_v141 (F := Ideal) x1 x7 i = ((d.qb (i 0).val (i 1).val : ℝ) : EReal) := by
  simp only [val_main_v141_apply, val_main_v140_apply, val_main_v130_apply, val_main_v116_apply, s_v136 H, H.h7, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v137 (i : S4096x1024.Idx) : val_main_v137 (F := Ideal) x0 x1 x6 i = ((d.gB (i 0).val (i 1).val : ℝ) : EReal) := by
  simp only [val_main_v137_apply, s_v129 H, s_v136 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (mul_comm _ _)

theorem s_v138 (i : S1024.Idx) : val_main_v138 (F := Ideal) x0 x1 x6 i = ((∑ s : Fin 4096, d.gB s.val (i 0).val : ℝ) : EReal) := by
  simp only [val_main_v138_apply, val_main_cst_26_apply, s_v137 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v139 (i : S1x1024.Idx) : val_main_v139 (F := Ideal) x0 x1 x6 i = ((∑ s : Fin 4096, d.gB s.val (i 1).val : ℝ) : EReal) := by
  simp only [val_main_v139_apply, s_v138 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v142 (i : S1024.Idx) : val_main_v142 (F := Ideal) x0 x1 x6 i = ((∑ s : Fin 4096, d.gB s.val (i 0).val : ℝ) : EReal) := by
  simp only [val_main_v142_apply, val_main_cst_27_apply, s_v139 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v144 (i : S4096.Idx) : val_main_v144 (F := Ideal) x0 x1 x6 x7 i = ((∑ k : Fin 1024, d.yb (i 0).val k.val * d.qb (i 0).val k.val : ℝ) : EReal) := by
  simp only [val_main_v144_apply, val_main_v143_apply, val_main_cst_28_apply, s_v98 H, s_v141 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v145 (i : S4096x1.Idx) : val_main_v145 (F := Ideal) x0 x1 x6 x7 i = ((∑ k : Fin 1024, d.yb (i 0).val k.val * d.qb (i 0).val k.val : ℝ) : EReal) := by
  simp only [val_main_v145_apply, s_v144 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 1 := (i 1).isLt
  have e : (i 0).val * 1 + (i 1).val = (i 0).val := by omega
  rw [e]

theorem s_v152 (i : S4096x1024.Idx) : val_main_v152 (F := Ideal) x0 x1 x6 x7 i = (((∑ k : Fin 1024, d.yb (i 0).val k.val * d.qb (i 0).val k.val) * (-(1 / 2) * (rms eR (d.yb (i 0).val) / msq eR (d.yb (i 0).val))) / 1024 : ℝ) : EReal) := by
  simp only [val_main_v152_apply, val_main_v151_apply, val_main_v150_apply, val_main_v148_apply, val_main_v149_apply, val_main_cst_29_apply, val_main_cst_30_apply, s_v145 H, s_v127 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v156 (i : S4096x1024.Idx) : val_main_v156 (F := Ideal) x0 x1 x6 x7 i = ((d.dyb (i 0).val (i 1).val : ℝ) : EReal) := by
  simp only [val_main_v156_apply, val_main_v154_apply, val_main_v147_apply, val_main_v146_apply, val_main_v153_apply, val_main_v155_apply, s_v141 H, s_v124 H, s_v98 H, s_v152 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (rmsGrad_eq eR_pos _ _ _).symm

theorem s_v106 (i : S4096x1.Idx) : val_main_v106 (F := Ideal) x0 x2 x3 x4 x5 i = ((msq eR (d.ya (i 0).val) : ℝ) : EReal) := by
  simp only [val_main_v106_apply, val_main_v104_apply, val_main_v102_apply, val_main_v101_apply, val_main_v100_apply, val_main_cst_18_apply, val_main_v103_apply, val_main_cst_19_apply, val_main_v105_apply, val_main_cst_20_apply, s_v71 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v107 (i : S4096x1.Idx) : val_main_v107 (F := Ideal) x0 x2 x3 x4 x5 i = ((rms eR (d.ya (i 0).val) : ℝ) : EReal) := by
  simp only [val_main_v107_apply, s_v106 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hrsqrt_coe (msq_pos eR_pos _), rms]

theorem s_v110 (i : S4096x1.Idx) : val_main_v110 (F := Ideal) x0 x2 x3 x4 x5 i = ((-(1 / 2) * (rms eR (d.ya (i 0).val) / msq eR (d.ya (i 0).val)) : ℝ) : EReal) := by
  simp only [val_main_v110_apply, val_main_v109_apply, val_main_cst_21_apply, val_main_v108_apply, s_v107 H, s_v106 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one, hdiv_coe _ (msq_pos eR_pos _).ne']

theorem s_v112 (i : S4096x1024.Idx) : val_main_v112 (F := Ideal) x0 x2 x3 x4 x5 i = ((d.yha (i 0).val (i 1).val : ℝ) : EReal) := by
  simp only [val_main_v112_apply, val_main_v111_apply, s_v71 H, s_v107 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v135 (i : S4096x1024.Idx) : val_main_v135 (F := Ideal) x1 i = ((d.dy (i 0).val (i 1).val : ℝ) : EReal) := by
  simp only [val_main_v135_apply, val_main_v134_apply, H.h1, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v162 (i : S4096x1024.Idx) : val_main_v162 (F := Ideal) x1 x7 i = ((d.qa (i 0).val (i 1).val : ℝ) : EReal) := by
  simp only [val_main_v162_apply, val_main_v161_apply, val_main_v113_apply, val_main_v99_apply, s_v135 H, H.h7, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v158 (i : S4096x1024.Idx) : val_main_v158 (F := Ideal) x0 x1 x2 x3 x4 x5 i = ((d.gA (i 0).val (i 1).val : ℝ) : EReal) := by
  simp only [val_main_v158_apply, s_v112 H, s_v135 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (mul_comm _ _)

theorem s_v159 (i : S1024.Idx) : val_main_v159 (F := Ideal) x0 x1 x2 x3 x4 x5 i = ((∑ s : Fin 4096, d.gA s.val (i 0).val : ℝ) : EReal) := by
  simp only [val_main_v159_apply, val_main_cst_32_apply, s_v158 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v160 (i : S1x1024.Idx) : val_main_v160 (F := Ideal) x0 x1 x2 x3 x4 x5 i = ((∑ s : Fin 4096, d.gA s.val (i 1).val : ℝ) : EReal) := by
  simp only [val_main_v160_apply, s_v159 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v163 (i : S1024.Idx) : val_main_v163 (F := Ideal) x0 x1 x2 x3 x4 x5 i = ((∑ s : Fin 4096, d.gA s.val (i 0).val : ℝ) : EReal) := by
  simp only [val_main_v163_apply, val_main_cst_33_apply, s_v160 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v165 (i : S4096.Idx) : val_main_v165 (F := Ideal) x0 x1 x2 x3 x4 x5 x7 i = ((∑ k : Fin 1024, d.ya (i 0).val k.val * d.qa (i 0).val k.val : ℝ) : EReal) := by
  simp only [val_main_v165_apply, val_main_v164_apply, val_main_cst_34_apply, s_v71 H, s_v162 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v166 (i : S4096x1.Idx) : val_main_v166 (F := Ideal) x0 x1 x2 x3 x4 x5 x7 i = ((∑ k : Fin 1024, d.ya (i 0).val k.val * d.qa (i 0).val k.val : ℝ) : EReal) := by
  simp only [val_main_v166_apply, s_v165 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 1 := (i 1).isLt
  have e : (i 0).val * 1 + (i 1).val = (i 0).val := by omega
  rw [e]

theorem s_v173 (i : S4096x1024.Idx) : val_main_v173 (F := Ideal) x0 x1 x2 x3 x4 x5 x7 i = (((∑ k : Fin 1024, d.ya (i 0).val k.val * d.qa (i 0).val k.val) * (-(1 / 2) * (rms eR (d.ya (i 0).val) / msq eR (d.ya (i 0).val))) / 1024 : ℝ) : EReal) := by
  simp only [val_main_v173_apply, val_main_v172_apply, val_main_v171_apply, val_main_v169_apply, val_main_v170_apply, val_main_cst_35_apply, val_main_cst_36_apply, s_v166 H, s_v110 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v177 (i : S4096x1024.Idx) : val_main_v177 (F := Ideal) x0 x1 x2 x3 x4 x5 x7 i = ((d.dya (i 0).val (i 1).val : ℝ) : EReal) := by
  simp only [val_main_v177_apply, val_main_v175_apply, val_main_v168_apply, val_main_v167_apply, val_main_v174_apply, val_main_v176_apply, s_v162 H, s_v107 H, s_v71 H, s_v173 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (rmsGrad_eq eR_pos _ _ _).symm

omit H in
/-- A padded column vector. -/
theorem pad1 {m n lo hi : ℕ} (x : (⟨1, ![m]⟩ : Shape).Idx → EReal) (v : S_.Idx → EReal) (f : ℕ → ℝ) (hx : ∀ i, x i = ((f (i 0).val : ℝ) : EReal))
    (hv : ∀ i, v i = ((0 : ℝ) : EReal)) (h : (⟨1, ![m]⟩ : Shape).Pads ![lo] ![hi] ![0] ⟨1, ![n]⟩) (hu : 0 < S_.numel) (i : (⟨1, ![n]⟩ : Shape).Idx) :
    pad ⟨1, ![n]⟩ ![lo] ![hi] ![0] x v h hu i = (((if lo ≤ (i 0).val ∧ (i 0).val < lo + m then f ((i 0).val - lo) else 0 : ℝ)) : EReal) := by
  rw [pad_apply]
  split
  · rename_i c
    obtain ⟨a, -, b⟩ := c 0
    have a : lo ≤ (i 0).val := a
    have b : ((i 0).val - lo) / 1 < m := b
    rw [hx, if_pos ⟨a, by rw [Nat.div_one] at b; omega⟩]
    exact ec (congrArg f (Nat.div_one _))
  · rename_i c
    rw [hv, if_neg]
    rintro ⟨a, b⟩
    refine c fun k => ?_
    match k with
    | ⟨0, _⟩ => exact ⟨a, Nat.mod_one _, by show ((i 0).val - lo) / 1 < m; rw [Nat.div_one]; omega⟩

omit H in
/-- A padded matrix. -/
theorem pad2 {m m' n n' lo lo' hi hi' : ℕ} (x : (⟨2, ![m, m']⟩ : Shape).Idx → EReal) (v : S_.Idx → EReal) (f : ℕ → ℕ → ℝ)
    (hx : ∀ i, x i = ((f (i 0).val (i 1).val : ℝ) : EReal)) (hv : ∀ i, v i = ((0 : ℝ) : EReal))
    (h : (⟨2, ![m, m']⟩ : Shape).Pads ![lo, lo'] ![hi, hi'] ![0, 0] ⟨2, ![n, n']⟩) (hu : 0 < S_.numel) (i : (⟨2, ![n, n']⟩ : Shape).Idx) :
    pad ⟨2, ![n, n']⟩ ![lo, lo'] ![hi, hi'] ![0, 0] x v h hu i
      = (((if (lo ≤ (i 0).val ∧ (i 0).val < lo + m) ∧ lo' ≤ (i 1).val ∧ (i 1).val < lo' + m' then f ((i 0).val - lo) ((i 1).val - lo') else 0 : ℝ)) : EReal) := by
  rw [pad_apply]
  split
  · rename_i c
    obtain ⟨a, -, b⟩ := c 0
    obtain ⟨a', -, b'⟩ := c 1
    have a : lo ≤ (i 0).val := a
    have b : ((i 0).val - lo) / 1 < m := b
    have a' : lo' ≤ (i 1).val := a'
    have b' : ((i 1).val - lo') / 1 < m' := b'
    rw [Nat.div_one] at b b'
    rw [hx, if_pos ⟨⟨a, by omega⟩, a', by omega⟩]
    exact ec (co2 f (Nat.div_one _) (Nat.div_one _))
  · rename_i c
    rw [hv, if_neg]
    rintro ⟨⟨a, b⟩, a', b'⟩
    refine c fun k => ?_
    match k with
    | ⟨0, _⟩ => exact ⟨a, Nat.mod_one _, by show ((i 0).val - lo) / 1 < m; rw [Nat.div_one]; omega⟩
    | ⟨1, _⟩ => exact ⟨a', Nat.mod_one _, by show ((i 1).val - lo') / 1 < m'; rw [Nat.div_one]; omega⟩

theorem s_v157 (i : S2048.Idx) : val_main_v157 (F := Ideal) x0 x1 x6 i = ((if 1024 ≤ (i 0).val ∧ (i 0).val < 1024 + 1024 then (fun k => ∑ s : Fin 4096, d.gB s.val k) ((i 0).val - 1024) else 0 : ℝ) : EReal) := by
  unfold val_main_v157
  exact pad1 (m := 1024) (n := 2048) (lo := 1024) (hi := 0) _ _ (fun k => ∑ s : Fin 4096, d.gB s.val k) (s_v142 H) (fun j => (val_main_cst_31_apply j).trans fbits_zero) _ _ i

theorem s_v178 (i : S2048.Idx) : val_main_v178 (F := Ideal) x0 x1 x2 x3 x4 x5 i = ((if 0 ≤ (i 0).val ∧ (i 0).val < 0 + 1024 then (fun k => ∑ s : Fin 4096, d.gA s.val k) ((i 0).val - 0) else 0 : ℝ) : EReal) := by
  unfold val_main_v178
  exact pad1 (m := 1024) (n := 2048) (lo := 0) (hi := 1024) _ _ (fun k => ∑ s : Fin 4096, d.gA s.val k) (s_v163 H) (fun j => (val_main_cst_37_apply j).trans fbits_zero) _ _ i

theorem s_v285 (i : S1x2048.Idx) : val_main_v285 (F := Ideal) x0 x1 x2 x3 x4 x5 x6 i = ((d.rgn (i 1).val : ℝ) : EReal) := by
  simp only [val_main_v285_apply, val_main_v179_apply, s_v157 H, s_v178 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 2048 := (i 1).isLt
  refine ec ?_
  unfold D.rgn
  show (if 1024 ≤ (i 1).val ∧ (i 1).val < 1024 + 1024 then (∑ s : Fin 4096, d.gB s.val ((i 1).val - 1024)) else 0) + (if 0 ≤ (i 1).val ∧ (i 1).val < 0 + 1024 then (∑ s : Fin 4096, d.gA s.val (i 1).val) else 0) = _
  by_cases h : (i 1).val < 1024
  · rw [if_pos h, if_neg (by omega), if_pos (by omega), _root_.zero_add]
  · rw [if_neg h, if_pos (by omega), if_neg (by omega), _root_.add_zero]

theorem s_v180 (i : S4096x1024.Idx) : val_main_v180 (F := Ideal) x0 x1 x6 x7 i = ((d.dcv (i 0).val (i 1).val : ℝ) : EReal) := by
  simp only [val_main_v180_apply, s_v25 H, s_v156 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 4096 := (i 0).isLt
  unfold D.dcv
  rw [if_pos h0]
  exact ec (mul_comm _ _)

theorem s_v181 (i : S4096x1024.Idx) : val_main_v181 (F := Ideal) x0 x1 x6 x7 i = ((d.dz2 (i 0).val (i 1).val : ℝ) : EReal) := by
  simp only [val_main_v181_apply, s_v156 H, s_v97 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v184 (i : S4096x1024.Idx) : val_main_v184 (F := Ideal) x0 x1 x6 x7 i = ((d.gC 0 (i 0).val (i 1).val : ℝ) : EReal) := by
  simp only [val_main_v184_apply, s_v180 H, s_v72 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  unfold D.gC D.ps
  rw [if_pos (Nat.zero_le _)] <;> rfl

theorem s_v185 (i : S1024.Idx) : val_main_v185 (F := Ideal) x0 x1 x6 x7 i = ((∑ s : Fin 4096, d.gC 0 s.val (i 0).val : ℝ) : EReal) := by
  simp only [val_main_v185_apply, val_main_cst_38_apply, s_v184 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v186 (i : S1x1024.Idx) : val_main_v186 (F := Ideal) x0 x1 x6 x7 i = ((∑ s : Fin 4096, d.gC 0 s.val (i 1).val : ℝ) : EReal) := by
  simp only [val_main_v186_apply, s_v185 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v188 (i : S1x1024.Idx) : val_main_v188 (F := Ideal) x0 x1 x6 x7 i = ((∑ s : Fin 4096, d.gC 0 s.val (i 1).val : ℝ) : EReal) := by
  simp only [val_main_v188_apply, val_main_v187_apply, val_main_cst_39_apply, s_v186 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v189 (i : S3x1024.Idx) : val_main_v189 (F := Ideal) x0 x1 x6 x7 i = ((if (i 0).val = 2 then ∑ s : Fin 4096, d.gC 0 s.val (i 1).val else 0 : ℝ) : EReal) := by
  have h1 : (i 1).val < 1024 := (i 1).isLt
  unfold val_main_v189
  refine (pad2 _ _ (fun _ k => ∑ s : Fin 4096, d.gC 0 s.val k) (s_v188 H) (fun j => (val_main_cst_40_apply j).trans fbits_zero) _ _ i).trans (ec ?_)
  by_cases h : (i 0).val = 2
  · rw [if_pos h, if_pos (by omega)]; rfl
  · rw [if_neg h, if_neg (by omega)]

theorem s_v192 (i : S4096x1024.Idx) : val_main_v192 (F := Ideal) x0 x1 x6 x7 i = ((d.gC 1 (i 0).val (i 1).val : ℝ) : EReal) := by
  simp only [val_main_v192_apply, s_v180 H, s_v75 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v193 (i : S1024.Idx) : val_main_v193 (F := Ideal) x0 x1 x6 x7 i = ((∑ s : Fin 4096, d.gC 1 s.val (i 0).val : ℝ) : EReal) := by
  simp only [val_main_v193_apply, val_main_cst_41_apply, s_v192 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v194 (i : S1x1024.Idx) : val_main_v194 (F := Ideal) x0 x1 x6 x7 i = ((∑ s : Fin 4096, d.gC 1 s.val (i 1).val : ℝ) : EReal) := by
  simp only [val_main_v194_apply, s_v193 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v196 (i : S1x1024.Idx) : val_main_v196 (F := Ideal) x0 x1 x6 x7 i = ((∑ s : Fin 4096, d.gC 1 s.val (i 1).val : ℝ) : EReal) := by
  simp only [val_main_v196_apply, val_main_v195_apply, val_main_cst_42_apply, s_v194 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v197 (i : S3x1024.Idx) : val_main_v197 (F := Ideal) x0 x1 x6 x7 i = ((if (i 0).val = 1 then ∑ s : Fin 4096, d.gC 1 s.val (i 1).val else 0 : ℝ) : EReal) := by
  have h1 : (i 1).val < 1024 := (i 1).isLt
  unfold val_main_v197
  refine (pad2 _ _ (fun _ k => ∑ s : Fin 4096, d.gC 1 s.val k) (s_v196 H) (fun j => (val_main_cst_43_apply j).trans fbits_zero) _ _ i).trans (ec ?_)
  by_cases h : (i 0).val = 1
  · rw [if_pos h, if_pos (by omega)]; rfl
  · rw [if_neg h, if_neg (by omega)]

theorem s_v201 (i : S4096x1024.Idx) : val_main_v201 (F := Ideal) x0 x1 x6 x7 i = ((d.gC 2 (i 0).val (i 1).val : ℝ) : EReal) := by
  simp only [val_main_v201_apply, s_v180 H, s_v79 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v202 (i : S1024.Idx) : val_main_v202 (F := Ideal) x0 x1 x6 x7 i = ((∑ s : Fin 4096, d.gC 2 s.val (i 0).val : ℝ) : EReal) := by
  simp only [val_main_v202_apply, val_main_cst_44_apply, s_v201 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v203 (i : S1x1024.Idx) : val_main_v203 (F := Ideal) x0 x1 x6 x7 i = ((∑ s : Fin 4096, d.gC 2 s.val (i 1).val : ℝ) : EReal) := by
  simp only [val_main_v203_apply, s_v202 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v205 (i : S1x1024.Idx) : val_main_v205 (F := Ideal) x0 x1 x6 x7 i = ((∑ s : Fin 4096, d.gC 2 s.val (i 1).val : ℝ) : EReal) := by
  simp only [val_main_v205_apply, val_main_v204_apply, val_main_cst_45_apply, s_v203 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v206 (i : S3x1024.Idx) : val_main_v206 (F := Ideal) x0 x1 x6 x7 i = ((if (i 0).val = 0 then ∑ s : Fin 4096, d.gC 2 s.val (i 1).val else 0 : ℝ) : EReal) := by
  have h1 : (i 1).val < 1024 := (i 1).isLt
  unfold val_main_v206
  refine (pad2 _ _ (fun _ k => ∑ s : Fin 4096, d.gC 2 s.val k) (s_v205 H) (fun j => (val_main_cst_46_apply j).trans fbits_zero) _ _ i).trans (ec ?_)
  by_cases h : (i 0).val = 0
  · rw [if_pos h, if_pos (by omega)]; rfl
  · rw [if_neg h, if_neg (by omega)]

theorem s_v207 (i : S3x1024.Idx) : val_main_v207 (F := Ideal) x0 x1 x6 x7 i = ((d.rcw (i 0).val (i 1).val : ℝ) : EReal) := by
  simp only [val_main_v207_apply, val_main_v198_apply, s_v189 H, s_v197 H, s_v206 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 3 := (i 0).isLt
  refine ec ?_
  unfold D.rcw
  rw [if_pos h0]
  obtain h | h | h : (i 0).val = 0 ∨ (i 0).val = 1 ∨ (i 0).val = 2 := by omega
  all_goals rw [h]; simp

theorem s_v183 (i : S4096x1024.Idx) : val_main_v183 (F := Ideal) x0 x1 x6 x7 i = ((d.cw 2 (i 1).val * d.dcv (i 0).val (i 1).val : ℝ) : EReal) := by
  simp only [val_main_v183_apply, val_main_v182_apply, val_main_v94_apply, val_main_v93_apply, val_main_v92_apply, s_v180 H, H.h6, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (congrArg (· * _) (co2 _ rfl (Nat.mod_eq_of_lt (i 1).isLt)))

theorem s_v200 (i : S4096x1024.Idx) : val_main_v200 (F := Ideal) x0 x1 x6 x7 i = ((d.cw 0 (i 1).val * d.dcv (i 0).val (i 1).val : ℝ) : EReal) := by
  simp only [val_main_v200_apply, val_main_v199_apply, val_main_v83_apply, val_main_v82_apply, val_main_v81_apply, s_v180 H, H.h6, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (congrArg (· * _) (co2 _ rfl (Nat.mod_eq_of_lt (i 1).isLt)))

theorem s_v209 (i : S4094x1024.Idx) : val_main_v209 (F := Ideal) x0 x1 x6 x7 i = ((d.cw 0 (i 1).val * d.dcv (2 + (i 0).val) (i 1).val : ℝ) : EReal) := by
  simp only [val_main_v209_apply, s_v200 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v210 (i : S4096x1024.Idx) : val_main_v210 (F := Ideal) x0 x1 x6 x7 i = ((d.cw 0 (i 1).val * d.dcv ((i 0).val + 2) (i 1).val : ℝ) : EReal) := by
  have h0 : (i 0).val < 4096 := (i 0).isLt; have h1 : (i 1).val < 1024 := (i 1).isLt
  unfold val_main_v210
  refine (pad2 _ _ (fun s k => d.cw 0 k * d.dcv (2 + s) k) (s_v209 H) (fun j => (val_main_cst_47_apply j).trans fbits_zero) _ _ i).trans (ec ?_)
  by_cases h : (i 0).val < 4094
  · rw [if_pos (by omega)]
    exact congrArg (d.cw 0 _ * ·) (co2 _ (Nat.add_comm _ _) rfl)
  · rw [if_neg (by omega)]
    unfold D.dcv
    rw [if_neg (by omega), MulZeroClass.mul_zero]

theorem s_v191 (i : S4096x1024.Idx) : val_main_v191 (F := Ideal) x0 x1 x6 x7 i = ((d.cw 1 (i 1).val * d.dcv (i 0).val (i 1).val : ℝ) : EReal) := by
  simp only [val_main_v191_apply, val_main_v190_apply, val_main_v88_apply, val_main_v87_apply, val_main_v86_apply, s_v180 H, H.h6, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (congrArg (· * _) (co2 _ rfl (Nat.mod_eq_of_lt (i 1).isLt)))

theorem s_v213 (i : S4095x1024.Idx) : val_main_v213 (F := Ideal) x0 x1 x6 x7 i = ((d.cw 1 (i 1).val * d.dcv (1 + (i 0).val) (i 1).val : ℝ) : EReal) := by
  simp only [val_main_v213_apply, s_v191 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v214 (i : S4096x1024.Idx) : val_main_v214 (F := Ideal) x0 x1 x6 x7 i = ((d.cw 1 (i 1).val * d.dcv ((i 0).val + 1) (i 1).val : ℝ) : EReal) := by
  have h0 : (i 0).val < 4096 := (i 0).isLt; have h1 : (i 1).val < 1024 := (i 1).isLt
  unfold val_main_v214
  refine (pad2 _ _ (fun s k => d.cw 1 k * d.dcv (1 + s) k) (s_v213 H) (fun j => (val_main_cst_48_apply j).trans fbits_zero) _ _ i).trans (ec ?_)
  by_cases h : (i 0).val < 4095
  · rw [if_pos (by omega)]
    exact congrArg (d.cw 1 _ * ·) (co2 _ (Nat.add_comm _ _) rfl)
  · rw [if_neg (by omega)]
    unfold D.dcv
    rw [if_neg (by omega), MulZeroClass.mul_zero]

theorem s_v215 (i : S4096x1024.Idx) : val_main_v215 (F := Ideal) x0 x1 x6 x7 i = ((d.dp (i 0).val (i 1).val : ℝ) : EReal) := by
  simp only [val_main_v215_apply, val_main_v211_apply, s_v183 H, s_v210 H, s_v214 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  refine ec ?_
  unfold D.dp
  ring

theorem s_v216 (i : S4096x1024.Idx) : val_main_v216 (F := Ideal) x0 x1 x6 x7 i = ((d.dz4 (i 0).val (i 1).val : ℝ) : EReal) := by
  simp only [val_main_v216_apply, s_v26 H, s_v215 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (mul_comm _ _)

theorem s_v217 (i : S4096x1024.Idx) : val_main_v217 (F := Ideal) x0 x1 x6 x7 i = ((d.dz3 (i 0).val (i 1).val : ℝ) : EReal) := by
  simp only [val_main_v217_apply, s_v215 H, s_v27 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v218 (i : S4096x1024.Idx) : val_main_v218 (F := Ideal) x0 x1 x2 x3 x4 x5 x7 i = ((d.dmix (i 0).val (i 1).val : ℝ) : EReal) := by
  simp only [val_main_v218_apply, s_v23 H, s_v177 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (mul_comm _ _)

theorem s_v219 (i : S4096x1024.Idx) : val_main_v219 (F := Ideal) x0 x1 x2 x3 x4 x5 x7 i = ((d.dya (i 0).val (i 1).val * d.mixed (i 0).val (i 1).val : ℝ) : EReal) := by
  simp only [val_main_v219_apply, s_v177 H, s_v70 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]

theorem s_v220 (i : S32x128x8x128.Idx) : val_main_v220 (F := Ideal) x0 x1 x2 x3 x4 x5 x7 i = ((d.dmix ((i 0).val * 128 + (i 1).val) ((i 2).val * 128 + (i 3).val) : ℝ) : EReal) := by
  simp only [val_main_v220_apply, s_v218 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 32 := (i 0).isLt; have h1 : (i 1).val < 128 := (i 1).isLt; have h2 : (i 2).val < 8 := (i 2).isLt; have h3 : (i 3).val < 128 := (i 3).isLt
  refine ec (co2 _ ?_ ?_)
  · show ((((i 0).val * 128 + (i 1).val) * 8 + (i 2).val) * 128 + (i 3).val) / 1024 = _; omega
  · show ((((i 0).val * 128 + (i 1).val) * 8 + (i 2).val) * 128 + (i 3).val) % 1024 = _; omega

omit H in
/-- A sum of a rank-four array along its first and last axes. -/
theorem red03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ b : Fin n3, v (ix4 a (j 0) (j 1) b) := by
  have hf : ∀ i : (⟨4, ![n0, n1, n2, n3]⟩ : Shape).Idx, h.drop i = j ↔ ∃ k : Fin n0 × Fin n3, ix4 k.1 (j 0) (j 1) k.2 = i := by
    intro i
    constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  unfold Ideal.hostReduceAdd
  classical
  have e := Finset.sum_filter_eq_sum_of_fiber (fun i => h.drop i = j) (fun k : Fin n0 × Fin n3 => ix4 k.1 (j 0) (j 1) k.2)
    (fun _ _ e => Prod.ext (congrFun e 0) (congrFun e 3)) hf v
  rw [Fintype.sum_prod_type] at e
  refine congrArg (init + ·) (Eq.trans ?_ e)
  exact Finset.sum_congr (by ext i; simp only [Finset.mem_filter]) fun _ _ => rfl

theorem s_v221 (i : S128x8.Idx) : val_main_v221 (F := Ideal) x0 x1 x2 x3 x4 x5 x7 i = ((∑ c : Fin 32, ∑ l : Fin 128, d.dmix (c.val * 128 + (i 0).val) ((i 1).val * 128 + l.val) : ℝ) : EReal) := by
  unfold val_main_v221
  rw [Host.reduceAdd_apply, Ideal.hostReduceAdd_def]
  refine (red03 _ _ _ i).trans ?_
  simp only [s_v220 H, val_main_cst_49_apply, fbits_zero, sum_coe, add_coe, zero_add] <;> rfl

theorem s_v222 (i : S1x128x8x1.Idx) : val_main_v222 (F := Ideal) x0 x1 x2 x3 x4 x5 x7 i = ((∑ c : Fin 32, ∑ l : Fin 128, d.dmix (c.val * 128 + (i 1).val) ((i 2).val * 128 + l.val) : ℝ) : EReal) := by
  simp only [val_main_v222_apply, s_v221 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt; have h1 : (i 1).val < 128 := (i 1).isLt; have h2 : (i 2).val < 8 := (i 2).isLt; have h3 : (i 3).val < 1 := (i 3).isLt
  have e0 : ((((i 0).val * 128 + (i 1).val) * 8 + (i 2).val) * 1 + (i 3).val) / 8 = (i 1).val := by omega
  have e1 : ((((i 0).val * 128 + (i 1).val) * 8 + (i 2).val) * 1 + (i 3).val) % 8 = (i 2).val := by omega
  rw [e0, e1]

theorem s_v223 (i : S128x8.Idx) : val_main_v223 (F := Ideal) x0 x1 x2 x3 x4 x5 x7 i = ((∑ c : Fin 32, ∑ l : Fin 128, d.dmix (c.val * 128 + (i 0).val) ((i 1).val * 128 + l.val) : ℝ) : EReal) := by
  unfold val_main_v223
  rw [Host.reduceAdd_apply, Ideal.hostReduceAdd_def]
  refine (red03 _ _ _ i).trans ?_
  simp only [s_v222 H, val_main_cst_50_apply, fbits_zero, sum_coe, sum_one, add_coe, zero_add] <;> rfl

theorem s_v289 (i : S8x8x128.Idx) : val_main_v289 (F := Ideal) x0 x1 x2 x3 x4 x5 x7 i = ((∑ c : Fin 32, d.gS c.val (i 0).val (i 2).val : ℝ) : EReal) := by
  simp only [val_main_v289_apply, val_main_v288_apply, val_main_v224_apply, s_v223 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  refine ec (Finset.sum_congr rfl fun c _ => Finset.sum_congr rfl fun l _ => co2 _ ?_ ?_)
  · show c.val * 128 + (i 2).val = 128 * c.val + (i 2).val; omega
  · show (i 0).val * 128 + l.val = 128 * (i 0).val + l.val; omega

theorem s_v225 (i : S8x32x128x128.Idx) : val_main_v225 (F := Ideal) x0 x1 x2 x3 x4 x5 x7 i = ((d.dmix ((i 1).val * 128 + (i 3).val) ((i 0).val * 128 + (i 2).val) : ℝ) : EReal) := by
  simp only [val_main_v225_apply, s_v220 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v227 (i : S8x32x128x128.Idx) : val_main_v227 (F := Ideal) x0 x1 x2 x3 x4 x5 x7 i = ((∑ k : Fin 128, d.dmix ((i 1).val * 128 + k.val) ((i 0).val * 128 + (i 2).val) * d.wm (i 0).val k.val (i 3).val : ℝ) : EReal) := by
  simp only [val_main_v227_apply, s_v225 H, s_v63_0 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v228 (i : S32x128x8x128.Idx) : val_main_v228 (F := Ideal) x0 x1 x2 x3 x4 x5 x7 i = ((∑ k : Fin 128, d.dmix ((i 0).val * 128 + k.val) ((i 2).val * 128 + (i 3).val) * d.wm (i 2).val k.val (i 1).val : ℝ) : EReal) := by
  simp only [val_main_v228_apply, s_v227 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v230 (i : S4096x1024.Idx) : val_main_v230 (F := Ideal) x0 x1 x2 x3 x4 x5 x7 i = ((d.dvn (i 0).val (i 1).val : ℝ) : EReal) := by
  have h0 : (i 0).val < 4096 := (i 0).isLt; have h1 : (i 1).val < 1024 := (i 1).isLt
  rw [val_main_v230_apply, s_v228 H]
  have e0 : (idx_main_v230 i 0).val = (i 0).val / 128 := by show ((i 0).val * 1024 + (i 1).val) / 131072 = _; omega
  have e1 : (idx_main_v230 i 1).val = (i 0).val % 128 := by show ((i 0).val * 1024 + (i 1).val) / 1024 % 128 = _; omega
  have e2 : (idx_main_v230 i 2).val = (i 1).val / 128 := by show ((i 0).val * 1024 + (i 1).val) / 128 % 8 = _; omega
  have e3 : (idx_main_v230 i 3).val = (i 1).val % 128 := by show ((i 0).val * 1024 + (i 1).val) % 128 = _; omega
  rw [e0, e1, e2, e3, show (i 1).val / 128 * 128 + (i 1).val % 128 = (i 1).val by omega]
  unfold D.dvn
  exact ec (Finset.sum_congr rfl fun k _ => mul_comm _ _)

omit H in
theorem lhs226_0 (i : S8x128x128.Idx) (q : dot_S8x32x128x128_S32x128x8x128_S8x128x128_12_03_3_1_0_2.contr.Idx) : (dot_S8x32x128x128_S32x128x8x128_S8x128x128_12_03_3_1_0_2.lhsIdx i q 0).val = (i 0).val := by
  unfold DotDims.lhsIdx
  rw [dif_pos (show (0 : Fin S8x32x128x128.rank) ∈ dot_S8x32x128x128_S32x128x8x128_S8x128x128_12_03_3_1_0_2.lhsBatch by decide)] <;> rfl
omit H in
theorem lhs226_1 (i : S8x128x128.Idx) (q : dot_S8x32x128x128_S32x128x8x128_S8x128x128_12_03_3_1_0_2.contr.Idx) : (dot_S8x32x128x128_S32x128x8x128_S8x128x128_12_03_3_1_0_2.lhsIdx i q 1).val = (q ⟨0, by decide⟩).val := by
  unfold DotDims.lhsIdx
  rw [dif_neg (show ¬(1 : Fin S8x32x128x128.rank) ∈ dot_S8x32x128x128_S32x128x8x128_S8x128x128_12_03_3_1_0_2.lhsBatch by decide), dif_neg (show ¬(1 : Fin S8x32x128x128.rank) ∈ dot_S8x32x128x128_S32x128x8x128_S8x128x128_12_03_3_1_0_2.lhsNonContracting by decide)] <;> rfl
omit H in
theorem lhs226_2 (i : S8x128x128.Idx) (q : dot_S8x32x128x128_S32x128x8x128_S8x128x128_12_03_3_1_0_2.contr.Idx) : (dot_S8x32x128x128_S32x128x8x128_S8x128x128_12_03_3_1_0_2.lhsIdx i q 2).val = (q ⟨1, by decide⟩).val := by
  unfold DotDims.lhsIdx
  rw [dif_neg (show ¬(2 : Fin S8x32x128x128.rank) ∈ dot_S8x32x128x128_S32x128x8x128_S8x128x128_12_03_3_1_0_2.lhsBatch by decide), dif_neg (show ¬(2 : Fin S8x32x128x128.rank) ∈ dot_S8x32x128x128_S32x128x8x128_S8x128x128_12_03_3_1_0_2.lhsNonContracting by decide)] <;> rfl
omit H in
theorem lhs226_3 (i : S8x128x128.Idx) (q : dot_S8x32x128x128_S32x128x8x128_S8x128x128_12_03_3_1_0_2.contr.Idx) : (dot_S8x32x128x128_S32x128x8x128_S8x128x128_12_03_3_1_0_2.lhsIdx i q 3).val = (i 1).val := by
  unfold DotDims.lhsIdx
  rw [dif_neg (show ¬(3 : Fin S8x32x128x128.rank) ∈ dot_S8x32x128x128_S32x128x8x128_S8x128x128_12_03_3_1_0_2.lhsBatch by decide), dif_pos (show (3 : Fin S8x32x128x128.rank) ∈ dot_S8x32x128x128_S32x128x8x128_S8x128x128_12_03_3_1_0_2.lhsNonContracting by decide)] <;> rfl

omit H in
theorem rhs226_0 (i : S8x128x128.Idx) (q : dot_S8x32x128x128_S32x128x8x128_S8x128x128_12_03_3_1_0_2.contr.Idx) : (dot_S8x32x128x128_S32x128x8x128_S8x128x128_12_03_3_1_0_2.rhsIdx i q 0).val = (q ⟨0, by decide⟩).val := by
  unfold DotDims.rhsIdx
  rw [dif_neg (show ¬(0 : Fin S32x128x8x128.rank) ∈ dot_S8x32x128x128_S32x128x8x128_S8x128x128_12_03_3_1_0_2.rhsBatch by decide), dif_neg (show ¬(0 : Fin S32x128x8x128.rank) ∈ dot_S8x32x128x128_S32x128x8x128_S8x128x128_12_03_3_1_0_2.rhsNonContracting by decide)] <;> rfl
omit H in
theorem rhs226_1 (i : S8x128x128.Idx) (q : dot_S8x32x128x128_S32x128x8x128_S8x128x128_12_03_3_1_0_2.contr.Idx) : (dot_S8x32x128x128_S32x128x8x128_S8x128x128_12_03_3_1_0_2.rhsIdx i q 1).val = (i 2).val := by
  unfold DotDims.rhsIdx
  rw [dif_neg (show ¬(1 : Fin S32x128x8x128.rank) ∈ dot_S8x32x128x128_S32x128x8x128_S8x128x128_12_03_3_1_0_2.rhsBatch by decide), dif_pos (show (1 : Fin S32x128x8x128.rank) ∈ dot_S8x32x128x128_S32x128x8x128_S8x128x128_12_03_3_1_0_2.rhsNonContracting by decide)] <;> rfl
omit H in
theorem rhs226_2 (i : S8x128x128.Idx) (q : dot_S8x32x128x128_S32x128x8x128_S8x128x128_12_03_3_1_0_2.contr.Idx) : (dot_S8x32x128x128_S32x128x8x128_S8x128x128_12_03_3_1_0_2.rhsIdx i q 2).val = (i 0).val := by
  unfold DotDims.rhsIdx
  rw [dif_pos (show (2 : Fin S32x128x8x128.rank) ∈ dot_S8x32x128x128_S32x128x8x128_S8x128x128_12_03_3_1_0_2.rhsBatch by decide)] <;> rfl
omit H in
theorem rhs226_3 (i : S8x128x128.Idx) (q : dot_S8x32x128x128_S32x128x8x128_S8x128x128_12_03_3_1_0_2.contr.Idx) : (dot_S8x32x128x128_S32x128x8x128_S8x128x128_12_03_3_1_0_2.rhsIdx i q 3).val = (q ⟨1, by decide⟩).val := by
  unfold DotDims.rhsIdx
  rw [dif_neg (show ¬(3 : Fin S32x128x8x128.rank) ∈ dot_S8x32x128x128_S32x128x8x128_S8x128x128_12_03_3_1_0_2.rhsBatch by decide), dif_neg (show ¬(3 : Fin S32x128x8x128.rank) ∈ dot_S8x32x128x128_S32x128x8x128_S8x128x128_12_03_3_1_0_2.rhsNonContracting by decide)] <;> rfl

theorem s_v226 (i : S8x128x128.Idx) : val_main_v226 (F := Ideal) x0 x1 x2 x3 x4 x5 x7 i = ((∑ c : Fin 32, d.gW c.val (i 0).val (i 1).val (i 2).val : ℝ) : EReal) := by
  unfold val_main_v226
  simp only [Host.dotGeneral]
  rw [Ideal.dotGeneral_apply, ← Equiv.sum_comp (contrEquiv2 dot_S8x32x128x128_S32x128x8x128_S8x128x128_12_03_3_1_0_2 32 128 rfl rfl rfl).symm, Fintype.sum_prod_type]
  refine Eq.trans ?_ (sum_coe _ _)
  refine Finset.sum_congr rfl fun c _ => Eq.trans ?_ (sum_coe _ _)
  refine Finset.sum_congr rfl fun l _ => ?_
  have k0 : ((contrEquiv2 dot_S8x32x128x128_S32x128x8x128_S8x128x128_12_03_3_1_0_2 32 128 rfl rfl rfl).symm (c, l) ⟨0, by decide⟩ : ℕ) = c.val := contrEquiv2_symm_val0 dot_S8x32x128x128_S32x128x8x128_S8x128x128_12_03_3_1_0_2 32 128 rfl rfl rfl (c, l)
  have k1 : ((contrEquiv2 dot_S8x32x128x128_S32x128x8x128_S8x128x128_12_03_3_1_0_2 32 128 rfl rfl rfl).symm (c, l) ⟨1, by decide⟩ : ℕ) = l.val := contrEquiv2_symm_val1 dot_S8x32x128x128_S32x128x8x128_S8x128x128_12_03_3_1_0_2 32 128 rfl rfl rfl (c, l)
  rw [s_v225 H, s_v53 H, lhs226_0, lhs226_1, lhs226_2, lhs226_3, rhs226_0, rhs226_1, rhs226_2, rhs226_3, mul_coe]
  refine ec (congrArg₂ (· * ·) (co2 _ ?_ ?_) (co2 _ ?_ ?_))
  all_goals omega

theorem s_v229 (i : S8x128x128.Idx) : val_main_v229 (F := Ideal) x0 x1 x2 x3 x4 x5 x7 i = ((d.rws (i 0).val (i 1).val (i 2).val : ℝ) : EReal) := by
  simp only [val_main_v229_apply, val_main_v63_1_apply, val_main_v62_apply, mask_eq, s_v226 H, val_main_call3_v0_apply, val_main_call3_cst_apply, fbits_zero]
  show Scalar.select (if (i 2).val / 64 ≤ (i 1).val / 64 then 1 else 0) _ _ = _
  unfold D.rws
  split
  · exact if_pos rfl
  · exact if_neg (show ¬((0 : BitVec 1) = 1) by decide)

theorem s_v231 (i : S1024.Idx) : val_main_v231 (F := Ideal) x0 x1 x2 x3 x4 x5 x7 i = ((∑ s : Fin 4096, d.dvn s.val (i 0).val : ℝ) : EReal) := by
  simp only [val_main_v231_apply, val_main_cst_51_apply, s_v230 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v232 (i : S1x1024.Idx) : val_main_v232 (F := Ideal) x0 x1 x2 x3 x4 x5 x7 i = ((∑ s : Fin 4096, d.dvn s.val (i 1).val : ℝ) : EReal) := by
  simp only [val_main_v232_apply, s_v231 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v287 (i : S1x1024.Idx) : val_main_v287 (F := Ideal) x0 x1 x2 x3 x4 x5 x7 i = ((∑ s : Fin 4096, d.dvn s.val (i 1).val : ℝ) : EReal) := by
  simp only [val_main_v287_apply, val_main_v233_apply, val_main_cst_52_apply, s_v232 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v234 (i : S4096x1024.Idx) : val_main_v234 (F := Ideal) x0 x1 x2 x3 x4 x5 x7 i = ((d.gG (i 0).val (i 1).val : ℝ) : EReal) := by
  simp only [val_main_v234_apply, s_v46 H, s_v230 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (mul_comm _ _)

theorem s_v235 (i : S1024.Idx) : val_main_v235 (F := Ideal) x0 x1 x2 x3 x4 x5 x7 i = ((∑ s : Fin 4096, d.gG s.val (i 0).val : ℝ) : EReal) := by
  simp only [val_main_v235_apply, val_main_cst_53_apply, s_v234 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v236 (i : S1x1024.Idx) : val_main_v236 (F := Ideal) x0 x1 x2 x3 x4 x5 x7 i = ((∑ s : Fin 4096, d.gG s.val (i 1).val : ℝ) : EReal) := by
  simp only [val_main_v236_apply, s_v235 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h0 : (i 0).val < 1 := (i 0).isLt
  refine ec (Finset.sum_congr rfl fun k _ => co2 _ rfl ?_)
  show (i 0).val * 1024 + (i 1).val = _
  omega

theorem s_v286 (i : S1x1024.Idx) : val_main_v286 (F := Ideal) x0 x1 x2 x3 x4 x5 x7 i = ((∑ s : Fin 4096, d.gG s.val (i 1).val : ℝ) : EReal) := by
  simp only [val_main_v286_apply, val_main_v239_apply, val_main_cst_54_apply, s_v236 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v238 (i : S4096x1024.Idx) : val_main_v238 (F := Ideal) x0 x1 x2 x3 x4 x5 x7 i = ((d.dvh (i 0).val (i 1).val : ℝ) : EReal) := by
  simp only [val_main_v238_apply, val_main_v237_apply, val_main_v47_apply, s_v230 H, H.h2, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v241 (i : S4096.Idx) : val_main_v241 (F := Ideal) x0 x1 x2 x3 x4 x5 x7 i = ((∑ k : Fin 1024, d.xc (i 0).val k.val * d.dvh (i 0).val k.val : ℝ) : EReal) := by
  simp only [val_main_v241_apply, val_main_v240_apply, val_main_cst_55_apply, s_v33 H, s_v238 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v242 (i : S4096x1.Idx) : val_main_v242 (F := Ideal) x0 x1 x2 x3 x4 x5 x7 i = ((∑ k : Fin 1024, d.xc (i 0).val k.val * d.dvh (i 0).val k.val : ℝ) : EReal) := by
  simp only [val_main_v242_apply, s_v241 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 1 := (i 1).isLt
  have e : (i 0).val * 1 + (i 1).val = (i 0).val := by omega
  rw [e]

theorem s_v249 (i : S4096x1024.Idx) : val_main_v249 (F := Ideal) x0 x1 x2 x3 x4 x5 x7 i = (((∑ k : Fin 1024, d.xc (i 0).val k.val * d.dvh (i 0).val k.val) * (-(1 / 2) * (rms eL (d.xc (i 0).val) / msq eL (d.xc (i 0).val))) / 1024 : ℝ) : EReal) := by
  simp only [val_main_v249_apply, val_main_v248_apply, val_main_v247_apply, val_main_v245_apply, val_main_v246_apply, val_main_cst_56_apply, val_main_cst_57_apply, s_v242 H, s_v44 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v253 (i : S4096x1024.Idx) : val_main_v253 (F := Ideal) x0 x1 x2 x3 x4 x5 x7 i = ((rmsGrad eL (d.xc (i 0).val) (d.dvh (i 0).val) (i 1).val : ℝ) : EReal) := by
  simp only [val_main_v253_apply, val_main_v251_apply, val_main_v244_apply, val_main_v243_apply, val_main_v250_apply, val_main_v252_apply, s_v238 H, s_v41 H, s_v33 H, s_v249 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (rmsGrad_eq eL_pos _ _ _).symm

theorem s_v255 (i : S4096.Idx) : val_main_v255 (F := Ideal) x0 x1 x2 x3 x4 x5 x7 i = ((∑ k : Fin 1024, -rmsGrad eL (d.xc (i 0).val) (d.dvh (i 0).val) k.val : ℝ) : EReal) := by
  simp only [val_main_v255_apply, val_main_v254_apply, val_main_cst_58_apply, s_v253 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one] <;> rfl

theorem s_v256 (i : S4096x1.Idx) : val_main_v256 (F := Ideal) x0 x1 x2 x3 x4 x5 x7 i = ((∑ k : Fin 1024, -rmsGrad eL (d.xc (i 0).val) (d.dvh (i 0).val) k.val : ℝ) : EReal) := by
  simp only [val_main_v256_apply, s_v255 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 1 := (i 1).isLt
  have e : (i 0).val * 1 + (i 1).val = (i 0).val := by omega
  rw [e]

theorem s_v261 (i : S4096x1024.Idx) : val_main_v261 (F := Ideal) x0 x1 x2 x3 x4 x5 x7 i = ((d.dvg (i 0).val (i 1).val : ℝ) : EReal) := by
  simp only [val_main_v261_apply, val_main_v260_apply, val_main_v259_apply, val_main_v258_apply, val_main_v257_apply, val_main_cst_59_apply, val_main_cst_60_apply, s_v253 H, s_v256 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  exact ec (lnGrad_eq eL_pos _ _ _).symm

theorem s_v262 (i : S4096x5120.Idx) : val_main_v262 (F := Ideal) x0 x1 x6 x7 i = ((if 4096 ≤ (i 1).val ∧ (i 1).val < 5120 then d.dz4 (i 0).val ((i 1).val - 4096) else 0 : ℝ) : EReal) := by
  have h0 : (i 0).val < 4096 := (i 0).isLt
  unfold val_main_v262
  refine (pad2 _ _ (fun s k => d.dz4 s (k)) (s_v216 H) (fun j => (val_main_cst_61_apply j).trans fbits_zero) _ _ i).trans (ec ?_)
  by_cases h : 4096 ≤ (i 1).val ∧ (i 1).val < 5120
  · rw [if_pos h, if_pos (by omega)]; rfl
  · rw [if_neg h, if_neg (by omega)]

theorem s_v263 (i : S4096x5120.Idx) : val_main_v263 (F := Ideal) x0 x1 x6 x7 i = ((if 3072 ≤ (i 1).val ∧ (i 1).val < 4096 then d.dz3 (i 0).val ((i 1).val - 3072) else 0 : ℝ) : EReal) := by
  have h0 : (i 0).val < 4096 := (i 0).isLt
  unfold val_main_v263
  refine (pad2 _ _ (fun s k => d.dz3 s (k)) (s_v217 H) (fun j => (val_main_cst_62_apply j).trans fbits_zero) _ _ i).trans (ec ?_)
  by_cases h : 3072 ≤ (i 1).val ∧ (i 1).val < 4096
  · rw [if_pos h, if_pos (by omega)]; rfl
  · rw [if_neg h, if_neg (by omega)]

theorem s_v265 (i : S4096x5120.Idx) : val_main_v265 (F := Ideal) x0 x1 x6 x7 i = ((if 2048 ≤ (i 1).val ∧ (i 1).val < 3072 then d.dz2 (i 0).val ((i 1).val - 2048) else 0 : ℝ) : EReal) := by
  have h0 : (i 0).val < 4096 := (i 0).isLt
  unfold val_main_v265
  refine (pad2 _ _ (fun s k => d.dz2 s (k)) (s_v181 H) (fun j => (val_main_cst_63_apply j).trans fbits_zero) _ _ i).trans (ec ?_)
  by_cases h : 2048 ≤ (i 1).val ∧ (i 1).val < 3072
  · rw [if_pos h, if_pos (by omega)]; rfl
  · rw [if_neg h, if_neg (by omega)]

theorem s_v267 (i : S4096x2048.Idx) : val_main_v267 (F := Ideal) x0 x1 x2 x3 x4 x5 x7 i = ((if 1024 ≤ (i 1).val ∧ (i 1).val < 2048 then d.dvg (i 0).val ((i 1).val - 1024) else 0 : ℝ) : EReal) := by
  have h0 : (i 0).val < 4096 := (i 0).isLt
  unfold val_main_v267
  refine (pad2 _ _ (fun s k => d.dvg s (k)) (s_v261 H) (fun j => (val_main_cst_64_apply j).trans fbits_zero) _ _ i).trans (ec ?_)
  by_cases h : 1024 ≤ (i 1).val ∧ (i 1).val < 2048
  · rw [if_pos h, if_pos (by omega)]; rfl
  · rw [if_neg h, if_neg (by omega)]

theorem s_v268 (i : S4096x2048.Idx) : val_main_v268 (F := Ideal) x0 x1 x2 x3 x4 x5 x7 i = ((if (i 1).val < 1024 then d.dya (i 0).val ((i 1).val - 0) * d.mixed (i 0).val ((i 1).val - 0) else 0 : ℝ) : EReal) := by
  have h0 : (i 0).val < 4096 := (i 0).isLt
  unfold val_main_v268
  refine (pad2 _ _ (fun s k => d.dya s (k) * d.mixed s (k)) (s_v219 H) (fun j => (val_main_cst_65_apply j).trans fbits_zero) _ _ i).trans (ec ?_)
  by_cases h : (i 1).val < 1024
  · rw [if_pos h, if_pos (by omega)]; rfl
  · rw [if_neg h, if_neg (by omega)]

theorem s_v269 (i : S4096x2048.Idx) : val_main_v269 (F := Ideal) x0 x1 x2 x3 x4 x5 x7 i = ((d.gin (i 0).val (i 1).val : ℝ) : EReal) := by
  simp only [val_main_v269_apply, s_v267 H, s_v268 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 2048 := (i 1).isLt
  refine ec ?_
  unfold D.gin
  by_cases h : (i 1).val < 1024
  · rw [if_pos h, if_pos h, if_neg (by omega)]; exact _root_.zero_add _
  · rw [if_neg h, if_neg h, if_pos (by omega)]; exact _root_.add_zero _

theorem s_v281 (i : S4096x2048.Idx) : val_main_v281 (F := Ideal) x0 x1 x2 x3 x4 x5 x7 i = ((d.gin (i 0).val (i 1).val * gelu' (d.z (i 0).val (i 1).val) : ℝ) : EReal) := by
  simp only [val_main_v281_apply, val_main_v277_apply, val_main_v271_apply, val_main_v276_apply, val_main_v275_apply, val_main_cst_67_apply, val_main_v274_apply, val_main_v273_apply, val_main_v272_apply, val_main_cst_66_apply, val_main_v270_apply, val_main_v280_apply, val_main_v279_apply, val_main_v278_apply, val_main_cst_68_apply, s_v269 H, s_v21 H, s_v1 H, s_v17 H, s_v6 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  refine ec ?_
  unfold gelu'
  ring

theorem s_v282 (i : S4096x5120.Idx) : val_main_v282 (F := Ideal) x0 x1 x2 x3 x4 x5 x7 i = ((if (i 1).val < 2048 then d.gin (i 0).val ((i 1).val - 0) * gelu' (d.z (i 0).val ((i 1).val - 0)) else 0 : ℝ) : EReal) := by
  have h0 : (i 0).val < 4096 := (i 0).isLt
  unfold val_main_v282
  refine (pad2 _ _ (fun s k => d.gin s (k) * gelu' (d.z s (k))) (s_v281 H) (fun j => (val_main_cst_69_apply j).trans fbits_zero) _ _ i).trans (ec ?_)
  by_cases h : (i 1).val < 2048
  · rw [if_pos h, if_pos (by omega)]; rfl
  · rw [if_neg h, if_neg (by omega)]

theorem s_v284 (i : S4096x5120.Idx) : val_main_v284 (F := Ideal) x0 x1 x2 x3 x4 x5 x6 x7 i = ((d.dz (i 0).val (i 1).val : ℝ) : EReal) := by
  simp only [val_main_v284_apply, val_main_v283_apply, val_main_v266_apply, val_main_v264_apply, s_v262 H, s_v263 H, s_v265 H, s_v282 H, addf_coe, subf_coe, mulf_coe, hneg_coe, htanh_coe, hdiv_coe _ n1024, sum_coe, mul_coe, ext_eq, trunc_eq, zadd, fbits_zero, fbits_one, fbits_half, fbits_nhalf, fbits_three, fbits_1024, fbits_eL, fbits_eR, fbits_gc, fbits_gk, zero_add, sum_one]
  have h1 : (i 1).val < 5120 := (i 1).isLt
  refine ec ?_
  unfold D.dz
  by_cases c0 : (i 1).val < 1024
  · rw [if_neg (by omega), if_neg (by omega), if_neg (by omega), if_pos (by omega), if_pos c0]
    unfold D.gin D.dz0
    rw [if_pos (by omega)]
    simp only [_root_.zero_add, Nat.sub_zero]
  rw [if_neg c0]
  by_cases c1 : (i 1).val < 2048
  · rw [if_neg (by omega), if_neg (by omega), if_neg (by omega), if_pos (by omega), if_pos c1]
    unfold D.gin D.dz1
    rw [if_neg (by omega)]
    simp only [_root_.zero_add, Nat.sub_zero]
    rw [show 1024 + ((i 1).val - 1024) = (i 1).val by omega]
  rw [if_neg c1]
  by_cases c2 : (i 1).val < 3072
  · rw [if_neg (by omega), if_neg (by omega), if_pos (by omega), if_neg (by omega), if_pos c2]
    simp only [_root_.zero_add, _root_.add_zero]
  rw [if_neg c2]
  by_cases c3 : (i 1).val < 4096
  · rw [if_neg (by omega), if_pos (by omega), if_neg (by omega), if_neg (by omega), if_pos c3]
    simp only [_root_.zero_add, _root_.add_zero]
  · rw [if_pos (by omega), if_neg (by omega), if_neg (by omega), if_neg (by omega), if_neg c3]
    simp only [_root_.zero_add, _root_.add_zero]

omit H in
theorem zcast (j : S_.Idx) : val_main_call4_v0 (F := Ideal) j = ((0 : ℝ) : EReal) := by
  rw [val_main_call4_v0_apply, val_main_c_70_apply]
  show (((BitVec.toInt 0#32 : ℤ) : ℝ) : EReal) = _
  simp

theorem s_v290 (i : S8x1024.Idx) : val_main_v290 (F := Ideal) x0 x1 x6 x7 i = ((d.rcw (i 0).val (i 1).val : ℝ) : EReal) := by
  have h1 : (i 1).val < 1024 := (i 1).isLt
  unfold val_main_v290
  refine (pad2 _ _ (fun s k => d.rcw s k) (s_v207 H) (fun j => zcast j) _ _ i).trans (ec ?_)
  by_cases h : (i 0).val < 3
  · rw [if_pos (by omega)]; rfl
  · rw [if_neg (by omega)]
    unfold D.rcw
    rw [if_neg h]

end Cert.Mix.Ref
-- ==== Proof.MixerArgs.lean ====
module
public import proofs.«01_k».proof.Proof.MixerOut
public import proofs.«01_k».proof.Proof.MixerRefVal
public import proofs.«01_k».proof.Proof.Gen.MixerRefIdeal.Read
public import Idealize.ShloMosaic.Lib.Pipeline.ValueKit
public import Idealize.ShloMosaic.Lib.Pointwise

/-! The arguments of the mixer's gradient over the real numbers, and the blocks of them that the kernel reads at each grid point. -/

@[expose] public section

set_option maxRecDepth 16384

noncomputable section

open Idealize.ShloMosaic Idealize.ShloMosaic.TcCoe Idealize.SL.Sem
open Idealize.ShloMosaic.Pipeline (Dat)
open Cert.MixerIdeal Cert.MixerIdeal.Gen

namespace Cert.Mix.Ker

/-! ## Arrays of real numbers as functions of natural numbers -/

/-- The entry of a vector at a natural number, zero outside. -/
def at1 {n : ℕ} (x : (⟨1, ![n]⟩ : Shape).Idx → EReal) (a : ℕ) : ℝ := if h : a < n then (x (ix1 ⟨a, h⟩)).toReal else 0
/-- The entry of a matrix at two natural numbers, zero outside. -/
def at2 {n k : ℕ} (x : (⟨2, ![n, k]⟩ : Shape).Idx → EReal) (a b : ℕ) : ℝ :=
  if h : a < n ∧ b < k then (x (ix2 ⟨a, h.1⟩ ⟨b, h.2⟩)).toReal else 0
/-- The entry of an array of three axes at three natural numbers, zero outside. -/
def at3 {n k l : ℕ} (x : (⟨3, ![n, k, l]⟩ : Shape).Idx → EReal) (a b c : ℕ) : ℝ :=
  if h : a < n ∧ b < k ∧ c < l then (x (ix3 ⟨a, h.1⟩ ⟨b, h.2.1⟩ ⟨c, h.2.2⟩)).toReal else 0

/-- A vector of real numbers at an index. -/
theorem at1_eq {n : ℕ} {x : (⟨1, ![n]⟩ : Shape).Idx → EReal} (hx : ∀ i, ∃ r : ℝ, x i = (r : EReal)) (i : (⟨1, ![n]⟩ : Shape).Idx)
    {a : ℕ} (h0 : (i 0).val = a) : x i = ((at1 x a : ℝ) : EReal) := by
  subst h0
  have h0 : (i 0).val < n := (i 0).isLt
  have hi : i = ix1 ⟨(i 0).val, h0⟩ := by funext j; match j with | ⟨0, _⟩ => rfl
  obtain ⟨r, hr⟩ := hx i
  have e : x (ix1 ⟨(i 0).val, h0⟩) = r := (congrArg x hi.symm).trans hr
  unfold at1
  rw [hr, dif_pos h0, e, EReal.toReal_coe]

/-- A matrix of real numbers at an index. -/
theorem at2_eq {n k : ℕ} {x : (⟨2, ![n, k]⟩ : Shape).Idx → EReal} (hx : ∀ i, ∃ r : ℝ, x i = (r : EReal)) (i : (⟨2, ![n, k]⟩ : Shape).Idx)
    {a b : ℕ} (h0 : (i 0).val = a) (h1 : (i 1).val = b) : x i = ((at2 x a b : ℝ) : EReal) := by
  subst h0; subst h1
  have h0 : (i 0).val < n := (i 0).isLt; have h1 : (i 1).val < k := (i 1).isLt
  have hi : i = ix2 ⟨(i 0).val, h0⟩ ⟨(i 1).val, h1⟩ := by funext j; match j with | ⟨0, _⟩ => rfl | ⟨1, _⟩ => rfl
  obtain ⟨r, hr⟩ := hx i
  have e : x (ix2 ⟨(i 0).val, h0⟩ ⟨(i 1).val, h1⟩) = r := (congrArg x hi.symm).trans hr
  unfold at2
  rw [hr, dif_pos ⟨h0, h1⟩, e, EReal.toReal_coe]

/-- An array of real numbers of three axes at an index. -/
theorem at3_eq {n k l : ℕ} {x : (⟨3, ![n, k, l]⟩ : Shape).Idx → EReal} (hx : ∀ i, ∃ r : ℝ, x i = (r : EReal)) (i : (⟨3, ![n, k, l]⟩ : Shape).Idx)
    {a b c : ℕ} (h0 : (i 0).val = a) (h1 : (i 1).val = b) (h2 : (i 2).val = c) : x i = ((at3 x a b c : ℝ) : EReal) := by
  subst h0; subst h1; subst h2
  have h0 : (i 0).val < n := (i 0).isLt; have h1 : (i 1).val < k := (i 1).isLt; have h2 : (i 2).val < l := (i 2).isLt
  have hi : i = ix3 ⟨(i 0).val, h0⟩ ⟨(i 1).val, h1⟩ ⟨(i 2).val, h2⟩ := by funext j; match j with | ⟨0, _⟩ => rfl | ⟨1, _⟩ => rfl | ⟨2, _⟩ => rfl
  obtain ⟨r, hr⟩ := hx i
  have e : x (ix3 ⟨(i 0).val, h0⟩ ⟨(i 1).val, h1⟩ ⟨(i 2).val, h2⟩) = r := (congrArg x hi.symm).trans hr
  unfold at3
  rw [hr, dif_pos ⟨h0, h1, h2⟩, e, EReal.toReal_coe]

variable (m : (ℓ : Loc nD τ sig) → Buf (Elt Ideal) ℓ)

/-! ## The arguments -/

abbrev a0 (c : Dev nD) : FVec Ideal S4096x5120 .bf16 := m ((c : Thread nD τ).loc main_arg0)
abbrev a1 (c : Dev nD) : FVec Ideal S4096x2048 .bf16 := m ((c : Thread nD τ).loc main_arg1)
abbrev a2 (c : Dev nD) : FVec Ideal S1024 .f32 := m ((c : Thread nD τ).loc main_arg2)
abbrev a3 (c : Dev nD) : FVec Ideal S1024 .f32 := m ((c : Thread nD τ).loc main_arg3)
abbrev a4 (c : Dev nD) : FVec Ideal S8x128x128 .f32 := m ((c : Thread nD τ).loc main_arg4)
abbrev a5 (c : Dev nD) : FVec Ideal S8x128 .f32 := m ((c : Thread nD τ).loc main_arg5)
abbrev a6 (c : Dev nD) : FVec Ideal S3x1024 .f32 := m ((c : Thread nD τ).loc main_arg6)
abbrev a7 (c : Dev nD) : FVec Ideal S2048 .f32 := m ((c : Thread nD τ).loc main_arg7)

/-- All arguments are real numbers everywhere. -/
structure AllReal (c : Dev nD) : Prop where
  r0 : ∀ i, ∃ r : ℝ, a0 m c i = (r : EReal)
  r1 : ∀ i, ∃ r : ℝ, a1 m c i = (r : EReal)
  r2 : ∀ i, ∃ r : ℝ, a2 m c i = (r : EReal)
  r3 : ∀ i, ∃ r : ℝ, a3 m c i = (r : EReal)
  r4 : ∀ i, ∃ r : ℝ, a4 m c i = (r : EReal)
  r5 : ∀ i, ∃ r : ℝ, a5 m c i = (r : EReal)
  r6 : ∀ i, ∃ r : ℝ, a6 m c i = (r : EReal)
  r7 : ∀ i, ∃ r : ℝ, a7 m c i = (r : EReal)

/-- The arguments as real numbers. Below the last row the input repeats its last sixteen rows and the arriving gradient is
    zero. -/
def dat (c : Dev nD) : D where
  z s k := if s < 4096 then at2 (a0 m c) s k else at2 (a0 m c) (s - 16) k
  dy s k := if s < 4096 then at2 (a1 m c) s k else 0
  lg := at1 (a2 m c)
  lb := at1 (a3 m c)
  ws := at3 (a4 m c)
  bs := at2 (a5 m c)
  cw := at2 (a6 m c)
  gn := at1 (a7 m c)

variable {m} {c : Dev nD}

/-- The reference's arguments are these real numbers. -/
theorem ok (h : AllReal m c) : Cert.Mix.Ref.Ok (dat m c) (a0 m c) (a1 m c) (a2 m c) (a3 m c) (a4 m c) (a5 m c) (a6 m c) (a7 m c) where
  h0 i := (at2_eq h.r0 i rfl rfl).trans (congrArg _ (if_pos (show (i 0).val < 4096 from (i 0).isLt)).symm)
  h1 i := (at2_eq h.r1 i rfl rfl).trans (congrArg _ (if_pos (show (i 0).val < 4096 from (i 0).isLt)).symm)
  h2 i := at1_eq h.r2 i rfl
  h3 i := at1_eq h.r3 i rfl
  h4 i := at3_eq h.r4 i rfl rfl rfl
  h5 i := at2_eq h.r5 i rfl rfl
  h6 i := at2_eq h.r6 i rfl rfl
  h7 i := at1_eq h.r7 i rfl

/-! ## The operands the host computes -/

variable (m c)

theorem V14 : V m c main_v14 = shapeCast S1x1024 (a2 m c) shapeCasts_S1024_S1x1024 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V15 : V m c main_v15 = shapeCast S1x1024 (a3 m c) shapeCasts_S1024_S1x1024 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V16 : V m c main_v16 = shapeCast S1x2048 (a7 m c) shapeCasts_S2048_S1x2048 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V13 : V m c main_v13 = pad S8x1024 ![0, 0] ![5, 0] ![0, 0] (a6 m c) (sitofp (F := Ideal) FTy.f32 (constantI S_ 32 0#32))
      pads_S3x1024_S8x1024_050_000 h_S_ := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V12 : V m c main_v12 = broadcastInDim S8x128x128 ![0, 1, 2] bcast_S8x128x1_S8x128x128_0_1_2 (broadcastInDim S8x128x1 ![0, 1] bcast_S8x128_S8x128x1_0_1 (a5 m c)) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V10 : V m c main_v10 = truncf (F := Ideal) FTy.bf16 (Cert.MixerRefIdeal.Read.val_main_v63_0 (F := Ideal) (a4 m c)) bitsLt_bf16_f32 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V17 : V m c main_v17 = transpose S8x128x128 [0, 2, 1] (truncf (F := Ideal) FTy.bf16 (Cert.MixerRefIdeal.Read.val_main_v63_0 (F := Ideal) (a4 m c)) bitsLt_bf16_f32) transposes_S8x128x128_S8x128x128_0_2_1 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- Which block each window is at, at grid point `t`. -/
theorem idx : ∀ t : Fin cfg0.N, win0_0.index t = ![16 * t.val - 1, 0] ∧ win0_1.index t = ![t.val, 0] ∧ win0_2.index t = ![min (16 * (t.val + 1)) 255, 0]
    ∧ win0_3.index t = ![t.val, 0] ∧ win0_4.index t = ![min (16 * (t.val + 1)) 255, 0] ∧ win0_5.index t = ![0, 0] ∧ win0_6.index t = ![0, 0]
    ∧ win0_7.index t = ![0, 0, 0] ∧ win0_8.index t = ![0, 0, 0] ∧ win0_9.index t = ![0, 0, 0] ∧ win0_10.index t = ![0, 0] ∧ win0_11.index t = ![0, 0]
    ∧ win0_12.index t = ![t.val, 0] ∧ win0_13.index t = ![0, 0] ∧ win0_14.index t = ![0, 0] ∧ win0_15.index t = ![0, 0] ∧ win0_16.index t = ![0, 0, 0] ∧ win0_17.index t = ![0, 0, 0] ∧ win0_18.index t = ![0, 0] :=
  (by decide +kernel : ∀ t : Fin grid0.N, _)

/-- The rows before the step's rows, as the step reads them. -/
theorem b0 (t : Fin cfg0.N) (ht : t.val < 16) (y : S16x5120.Idx) : iblk m c 0 t y = a0 m c (ix2 ⟨(16 * t.val - 1) * 16 + (y 0).val, by have : (y 0).val < 16 := (y 0).isLt; omega⟩ (y 1)) := by
  idx_vars y
  blk_point [iblk, V_main_arg0, idx t]
/-- The step's rows. -/
theorem b1 (t : Fin cfg0.N) (ht : t.val < 16) (y : S256x5120.Idx) : iblk m c 1 t y = a0 m c (ix2 ⟨t.val * 256 + (y 0).val, by have : (y 0).val < 256 := (y 0).isLt; omega⟩ (y 1)) := by
  idx_vars y
  blk_point [iblk, V_main_arg0, idx t]
/-- The rows after the step's rows. -/
theorem b2 (t : Fin cfg0.N) (ht : t.val < 16) (y : S16x5120.Idx) : iblk m c 2 t y = a0 m c (ix2 ⟨(min (16 * (t.val + 1)) 255) * 16 + (y 0).val, by have : (y 0).val < 16 := (y 0).isLt; omega⟩ (y 1)) := by
  idx_vars y
  blk_point [iblk, V_main_arg0, idx t]
/-- The arriving gradient at the step's rows. -/
theorem b3 (t : Fin cfg0.N) (ht : t.val < 16) (y : S256x2048.Idx) : iblk m c 3 t y = a1 m c (ix2 ⟨t.val * 256 + (y 0).val, by have : (y 0).val < 256 := (y 0).isLt; omega⟩ (y 1)) := by
  idx_vars y
  blk_point [iblk, V_main_arg1, idx t]
/-- The arriving gradient at the rows after the step's rows. -/
theorem b4 (t : Fin cfg0.N) (ht : t.val < 16) (y : S16x2048.Idx) : iblk m c 4 t y = a1 m c (ix2 ⟨(min (16 * (t.val + 1)) 255) * 16 + (y 0).val, by have : (y 0).val < 16 := (y 0).isLt; omega⟩ (y 1)) := by
  idx_vars y
  blk_point [iblk, V_main_arg1, idx t]
theorem b5 (t : Fin cfg0.N) (y : S1x1024.Idx) : iblk m c 5 t y = V m c main_v14 y := by
  idx_vars y
  blk_point [iblk, idx t]
theorem b6 (t : Fin cfg0.N) (y : S1x1024.Idx) : iblk m c 6 t y = V m c main_v15 y := by
  idx_vars y
  blk_point [iblk, idx t]
theorem b7 (t : Fin cfg0.N) (y : S8x128x128.Idx) : iblk m c 7 t y = V m c main_v10 y := by
  idx_vars y
  blk_point [iblk, idx t]
theorem b8 (t : Fin cfg0.N) (y : S8x128x128.Idx) : iblk m c 8 t y = V m c main_v17 y := by
  idx_vars y
  blk_point [iblk, idx t]
theorem b9 (t : Fin cfg0.N) (y : S8x128x128.Idx) : iblk m c 9 t y = V m c main_v12 y := by
  idx_vars y
  blk_point [iblk, idx t]
theorem b10 (t : Fin cfg0.N) (y : S8x1024.Idx) : iblk m c 10 t y = V m c main_v13 y := by
  idx_vars y
  blk_point [iblk, idx t]
theorem b11 (t : Fin cfg0.N) (y : S1x2048.Idx) : iblk m c 11 t y = V m c main_v16 y := by
  idx_vars y
  blk_point [iblk, idx t]

/-! ## The blocks at real numbers -/

/-- The rows before the step's rows, as real numbers. -/
def zprev (t r k : ℕ) : ℝ := (dat m c).z ((16 * t - 1) * 16 + r) k

variable {m c}

/-- What the step at grid point `t` reads. -/
theorem blk (h : AllReal m c) (t : Fin cfg0.N) : Blk (dat m c) t.val (zprev m c t.val) (grid0.coords t)
    (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) := by
  have ht : t.val < 16 := t.isLt
  constructor
  · exact (by decide +kernel : ∀ t : Fin grid0.N, (grid0.coords t 0).val = t.val) t
  · exact ht
  · intro h0 r k hr
    unfold zprev
    congr 1
    omega
  · intro s k hs
    exact if_neg (by omega)
  · intro y
    have hy : (y 0).val < 16 := (y 0).isLt
    refine (b0 m c t ht y).trans ((at2_eq h.r0 _ rfl rfl).trans (congrArg _ ?_))
    exact (if_pos (by omega)).symm
  · intro y
    have hy : (y 0).val < 256 := (y 0).isLt
    refine (b1 m c t ht y).trans ((at2_eq h.r0 _ (Nat.add_comm _ _) rfl).trans (congrArg _ ?_))
    refine Eq.trans ?_ (if_pos (by omega)).symm
    congr 1
    show (y 0).val + t.val * 256 = _
    omega
  · intro y
    have hy : (y 0).val < 16 := (y 0).isLt
    refine (b2 m c t ht y).trans ?_
    by_cases h15 : t.val < 15
    · refine (at2_eq h.r0 _ (show _ = 256 * t.val + 256 + (y 0).val from ?_) rfl).trans (congrArg _ ?_)
      · show min (16 * (t.val + 1)) 255 * 16 + (y 0).val = _
        omega
      · exact (if_pos (by omega)).symm
    · refine (at2_eq h.r0 _ (show _ = 256 * t.val + 256 + (y 0).val - 16 from ?_) rfl).trans (congrArg _ ?_)
      · show min (16 * (t.val + 1)) 255 * 16 + (y 0).val = _
        omega
      · exact (if_neg (by omega)).symm
  · intro y
    have hy : (y 0).val < 256 := (y 0).isLt
    refine (b3 m c t ht y).trans ((at2_eq h.r1 _ (show _ = 256 * t.val + (y 0).val from ?_) rfl).trans (congrArg _ ?_))
    · show t.val * 256 + (y 0).val = _
      omega
    · exact (if_pos (by omega)).symm
  · intro h15 y
    have hy : (y 0).val < 16 := (y 0).isLt
    refine (b4 m c t ht y).trans ((at2_eq h.r1 _ (show _ = 256 * t.val + 256 + (y 0).val from ?_) rfl).trans (congrArg _ ?_))
    · show min (16 * (t.val + 1)) 255 * 16 + (y 0).val = _
      omega
    · exact (if_pos (by omega)).symm
  · intro y
    rw [b5, V14]
    idx_vars y
    pointwise
    exact at1_eq h.r2 _ rfl
  · intro y
    rw [b6, V15]
    idx_vars y
    pointwise
    exact at1_eq h.r3 _ rfl
  · intro y
    rw [b7, V10]
    exact Cert.Mix.Ref.s_v63_0 (ok h) y
  · intro y
    rw [b8, V17]
    idx_vars y
    pointwise
    exact Cert.Mix.Ref.s_v63_0 (ok h) _
  · intro y
    rw [b9, V12]
    idx_vars y
    pointwise
    exact at2_eq h.r5 _ rfl rfl
  · intro y hy
    rw [b10, V13]
    idx_vars y
    pointwise
    rw [dif_pos hy]
    exact at2_eq h.r6 _ rfl rfl
  · intro y
    rw [b11, V16]
    idx_vars y
    pointwise
    exact at1_eq h.r7 _ rfl

end Cert.Mix.Ker
-- ==== Proof.MixerRun.lean ====
module

public import proofs.«01_k».proof.Proof.MixerArgs

/-! What the mixer's gradient kernel leaves in its seven results after all sixteen steps: the six accumulated results are
sums over the steps, and each of the seven is the reference's. -/

@[expose] public section

set_option maxRecDepth 16384

noncomputable section

open Idealize.ShloMosaic Idealize.ShloMosaic.TcCoe Idealize.SL.Sem
open Idealize.ShloMosaic.Pipeline (Dat)
open Cert.MixerIdeal Cert.MixerIdeal.Gen

namespace Cert.Mix.Ker

/-! ## Sums over the steps -/

/-- A sum over `n` blocks of `b` terms is a sum over all terms. -/
theorem sum_blocks (b : ℕ) (f : ℕ → ℝ) (n : ℕ) : ∑ u ∈ Finset.range n, ∑ r ∈ Finset.range b, f (b * u + r) = ∑ s ∈ Finset.range (b * n), f s := by
  induction n with
  | zero => simp
  | succ n ih => rw [Finset.sum_range_succ, ih, Nat.mul_succ, Finset.sum_range_add]

/-- Sixteen steps of 256 rows are 4096 rows. -/
theorem sum_rows (f : ℕ → ℝ) : ∑ u ∈ Finset.range 16, ∑ r : Fin 256, f (256 * u + r.val) = ∑ s : Fin 4096, f s.val := by
  rw [Fin.sum_univ_eq_sum_range f 4096, ← sum_blocks 256 f 16]
  exact Finset.sum_congr rfl fun u _ => Fin.sum_univ_eq_sum_range (fun r => f (256 * u + r)) 256

/-- Sixteen steps of two chunks are 32 chunks. -/
theorem sum_chunks (f : ℕ → ℝ) : ∑ u ∈ Finset.range 16, (f (2 * u) + f (2 * u + 1)) = ∑ c : Fin 32, f c.val := by
  rw [Fin.sum_univ_eq_sum_range f 32, ← sum_blocks 2 f 16]
  exact Finset.sum_congr rfl fun u _ => by rw [Finset.sum_range_succ, Finset.sum_range_one]; rfl

variable (d : D)

theorem sum13 (k : ℕ) : ∑ u ∈ Finset.range 16, s13 d u k = d.rgn k := by
  unfold s13 D.rgn
  split
  · exact sum_rows (fun s => d.gA s k)
  · exact sum_rows (fun s => d.gB s (k - 1024))
theorem sum14 (k : ℕ) : ∑ u ∈ Finset.range 16, s14 d u k = ∑ s : Fin 4096, d.gG s.val k := sum_rows (fun s => d.gG s k)
theorem sum15 (k : ℕ) : ∑ u ∈ Finset.range 16, s15 d u k = ∑ s : Fin 4096, d.dvn s.val k := sum_rows (fun s => d.dvn s k)
theorem sum16 (h i j : ℕ) : ∑ u ∈ Finset.range 16, s16 d u h i j = d.rws h i j := by
  unfold s16 D.rws
  rw [← Finset.sum_mul, sum_chunks (fun c => d.gW c h i j)]
  split
  · exact mul_one _
  · exact mul_zero _
theorem sum17 (h i : ℕ) : ∑ u ∈ Finset.range 16, s17 d u h i = ∑ c : Fin 32, d.gS c.val h i := sum_chunks (fun c => d.gS c h i)
theorem sum18 (r k : ℕ) : ∑ u ∈ Finset.range 16, s18 d u r k = d.rcw r k := by
  unfold s18 D.rcw
  split
  · exact sum_rows (fun s => d.gC (2 - r) s k)
  · exact Finset.sum_const_zero

/-! ## The contents of the accumulated results after each step -/

variable {m : (ℓ : Loc nD τ sig) → Buf (Elt Ideal) ℓ} {c : Dev nD}

/-- The first component of a pair given as one. -/
theorem fst_of {α β : Type} {p : α × β} {a : α} {b : β} (h : p = (a, b)) : p.1 = a := by rw [h]
/-- The second component of a pair given as one. -/
theorem snd_of {α β : Type} {p : α × β} {a : α} {b : β} (h : p = (a, b)) : p.2 = b := by rw [h]
theorem zero_coe (a : ℝ) : (0 : EReal) + (a : EReal) = (a : EReal) := zero_add _

theorem p_A_12 (h : AllReal m c) (t : Fin cfg0.N) (h0 : t.val % 16 = 0) (y : S256x5120.Idx) : (outsAt0 m c t.val t.isLt).1 y = (((dat m c).dz (256 * t.val + (y 0).val) (y 1).val : ℝ) : EReal) := by
  have e : (outsAt0 m c t.val t.isLt).1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (outsAt0_A m c t h0)
  exact (congrFun e y).trans (o_A_12 (blk h t) y ((hcond0_0 t).mpr h0))
theorem p_B_12 (h : AllReal m c) (t : Fin cfg0.N) (h0 : ¬t.val % 16 = 0) (y : S256x5120.Idx) : (outsAt0 m c t.val t.isLt).1 y = (((dat m c).dz (256 * t.val + (y 0).val) (y 1).val : ℝ) : EReal) := by
  have e : (outsAt0 m c t.val t.isLt).1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (outsAt0_B m c t h0)
  exact (congrFun e y).trans (o_B_12 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_13 (h : AllReal m c) (t : Fin cfg0.N) (h0 : t.val % 16 = 0) (y : S1x2048.Idx) : (outsAt0 m c t.val t.isLt).2.1 y = (0 : EReal) + ((s13 (dat m c) t.val (y 1).val : ℝ) : EReal) := by
  have e : (outsAt0 m c t.val t.isLt).2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (snd_of (outsAt0_A m c t h0))
  exact (congrFun e y).trans (o_A_13 (blk h t) y ((hcond0_0 t).mpr h0))
theorem p_B_13 (h : AllReal m c) (t : Fin cfg0.N) (h0 : ¬t.val % 16 = 0) (y : S1x2048.Idx) : (outsAt0 m c t.val t.isLt).2.1 y = (outsAt0 m c (t.val - 1) (Nat.lt_of_le_of_lt (Nat.sub_le _ _) t.isLt)).2.1 y + ((s13 (dat m c) t.val (y 1).val : ℝ) : EReal) := by
  have e : (outsAt0 m c t.val t.isLt).2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (snd_of (outsAt0_B m c t h0))
  exact (congrFun e y).trans (o_B_13 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_14 (h : AllReal m c) (t : Fin cfg0.N) (h0 : t.val % 16 = 0) (y : S1x1024.Idx) : (outsAt0 m c t.val t.isLt).2.2.1 y = (0 : EReal) + ((s14 (dat m c) t.val (y 1).val : ℝ) : EReal) := by
  have e : (outsAt0 m c t.val t.isLt).2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (snd_of (snd_of (outsAt0_A m c t h0)))
  exact (congrFun e y).trans (o_A_14 (blk h t) y ((hcond0_0 t).mpr h0))
theorem p_B_14 (h : AllReal m c) (t : Fin cfg0.N) (h0 : ¬t.val % 16 = 0) (y : S1x1024.Idx) : (outsAt0 m c t.val t.isLt).2.2.1 y = (outsAt0 m c (t.val - 1) (Nat.lt_of_le_of_lt (Nat.sub_le _ _) t.isLt)).2.2.1 y + ((s14 (dat m c) t.val (y 1).val : ℝ) : EReal) := by
  have e : (outsAt0 m c t.val t.isLt).2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (snd_of (snd_of (outsAt0_B m c t h0)))
  exact (congrFun e y).trans (o_B_14 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_15 (h : AllReal m c) (t : Fin cfg0.N) (h0 : t.val % 16 = 0) (y : S1x1024.Idx) : (outsAt0 m c t.val t.isLt).2.2.2.1 y = (0 : EReal) + ((s15 (dat m c) t.val (y 1).val : ℝ) : EReal) := by
  have e : (outsAt0 m c t.val t.isLt).2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (snd_of (snd_of (snd_of (outsAt0_A m c t h0))))
  exact (congrFun e y).trans (o_A_15 (blk h t) y ((hcond0_0 t).mpr h0))
theorem p_B_15 (h : AllReal m c) (t : Fin cfg0.N) (h0 : ¬t.val % 16 = 0) (y : S1x1024.Idx) : (outsAt0 m c t.val t.isLt).2.2.2.1 y = (outsAt0 m c (t.val - 1) (Nat.lt_of_le_of_lt (Nat.sub_le _ _) t.isLt)).2.2.2.1 y + ((s15 (dat m c) t.val (y 1).val : ℝ) : EReal) := by
  have e : (outsAt0 m c t.val t.isLt).2.2.2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (snd_of (snd_of (snd_of (outsAt0_B m c t h0))))
  exact (congrFun e y).trans (o_B_15 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_16 (h : AllReal m c) (t : Fin cfg0.N) (h0 : t.val % 16 = 0) (y : S8x128x128.Idx) : (outsAt0 m c t.val t.isLt).2.2.2.2.1 y = (0 : EReal) + ((s16 (dat m c) t.val (y 0).val (y 1).val (y 2).val : ℝ) : EReal) := by
  have e : (outsAt0 m c t.val t.isLt).2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (snd_of (snd_of (snd_of (snd_of (outsAt0_A m c t h0)))))
  exact (congrFun e y).trans (o_A_16 (blk h t) y ((hcond0_0 t).mpr h0))
theorem p_B_16 (h : AllReal m c) (t : Fin cfg0.N) (h0 : ¬t.val % 16 = 0) (y : S8x128x128.Idx) : (outsAt0 m c t.val t.isLt).2.2.2.2.1 y = (outsAt0 m c (t.val - 1) (Nat.lt_of_le_of_lt (Nat.sub_le _ _) t.isLt)).2.2.2.2.1 y + ((s16 (dat m c) t.val (y 0).val (y 1).val (y 2).val : ℝ) : EReal) := by
  have e : (outsAt0 m c t.val t.isLt).2.2.2.2.1 = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (snd_of (snd_of (snd_of (snd_of (outsAt0_B m c t h0)))))
  exact (congrFun e y).trans (o_B_16 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_17 (h : AllReal m c) (t : Fin cfg0.N) (h0 : t.val % 16 = 0) (y : S8x8x128.Idx) : (outsAt0 m c t.val t.isLt).2.2.2.2.2.1 y = (0 : EReal) + ((s17 (dat m c) t.val (y 0).val (y 2).val : ℝ) : EReal) := by
  have e : (outsAt0 m c t.val t.isLt).2.2.2.2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    fst_of (snd_of (snd_of (snd_of (snd_of (snd_of (outsAt0_A m c t h0))))))
  exact (congrFun e y).trans (o_A_17 (blk h t) y ((hcond0_0 t).mpr h0))
theorem p_B_17 (h : AllReal m c) (t : Fin cfg0.N) (h0 : ¬t.val % 16 = 0) (y : S8x8x128.Idx) : (outsAt0 m c t.val t.isLt).2.2.2.2.2.1 y = (outsAt0 m c (t.val - 1) (Nat.lt_of_le_of_lt (Nat.sub_le _ _) t.isLt)).2.2.2.2.2.1 y + ((s17 (dat m c) t.val (y 0).val (y 2).val : ℝ) : EReal) := by
  have e : (outsAt0 m c t.val t.isLt).2.2.2.2.2.1 = out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    fst_of (snd_of (snd_of (snd_of (snd_of (snd_of (outsAt0_B m c t h0))))))
  exact (congrFun e y).trans (o_B_17 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))
theorem p_A_18 (h : AllReal m c) (t : Fin cfg0.N) (h0 : t.val % 16 = 0) (y : S8x1024.Idx) : (outsAt0 m c t.val t.isLt).2.2.2.2.2.2 y = (0 : EReal) + ((s18 (dat m c) t.val (y 0).val (y 1).val : ℝ) : EReal) := by
  have e : (outsAt0 m c t.val t.isLt).2.2.2.2.2.2 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
    snd_of (snd_of (snd_of (snd_of (snd_of (snd_of (outsAt0_A m c t h0))))))
  exact (congrFun e y).trans (o_A_18 (blk h t) y ((hcond0_0 t).mpr h0))
theorem p_B_18 (h : AllReal m c) (t : Fin cfg0.N) (h0 : ¬t.val % 16 = 0) (y : S8x1024.Idx) : (outsAt0 m c t.val t.isLt).2.2.2.2.2.2 y = (outsAt0 m c (t.val - 1) (Nat.lt_of_le_of_lt (Nat.sub_le _ _) t.isLt)).2.2.2.2.2.2 y + ((s18 (dat m c) t.val (y 0).val (y 1).val : ℝ) : EReal) := by
  have e : (outsAt0 m c t.val t.isLt).2.2.2.2.2.2 = out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 :=
    snd_of (snd_of (snd_of (snd_of (snd_of (snd_of (outsAt0_B m c t h0))))))
  exact (congrFun e y).trans (o_B_18 (xo13 := (outsAt0 m c (t.val - 1) (Nat.lt_of_le_of_lt (Nat.sub_le _ _) t.isLt)).2.1) (xo14 := (outsAt0 m c (t.val - 1) (Nat.lt_of_le_of_lt (Nat.sub_le _ _) t.isLt)).2.2.1) (xo15 := (outsAt0 m c (t.val - 1) (Nat.lt_of_le_of_lt (Nat.sub_le _ _) t.isLt)).2.2.2.1) (xo16 := (outsAt0 m c (t.val - 1) (Nat.lt_of_le_of_lt (Nat.sub_le _ _) t.isLt)).2.2.2.2.1) (xo17 := (outsAt0 m c (t.val - 1) (Nat.lt_of_le_of_lt (Nat.sub_le _ _) t.isLt)).2.2.2.2.2.1) (xo18 := (outsAt0 m c (t.val - 1) (Nat.lt_of_le_of_lt (Nat.sub_le _ _) t.isLt)).2.2.2.2.2.2) (blk h t) y (fun h => h0 ((hcond0_0 t).mp h)))

/-- The first result's block after a step. -/
theorem acc12 (h : AllReal m c) (t : Fin cfg0.N) (y : S256x5120.Idx) :
    (outsAt0 m c t.val t.isLt).1 y = (((dat m c).dz (256 * t.val + (y 0).val) (y 1).val : ℝ) : EReal) := by
  by_cases h0 : t.val % 16 = 0
  · exact p_A_12 h t h0 y
  · exact p_B_12 h t h0 y

/-- The gradient with respect to the weight of the output norm after `n + 1` steps. -/
theorem acc13 (h : AllReal m c) (y : S1x2048.Idx) : ∀ (n : ℕ) (hn : n < cfg0.N), (outsAt0 m c n hn).2.1 y
    = ((∑ u ∈ Finset.range (n + 1), s13 (dat m c) u (y 1).val : ℝ) : EReal)
  | 0, hn => by
    rw [Finset.sum_range_one]
    exact (p_A_13 h ⟨0, hn⟩ rfl y).trans (zero_coe _)
  | n + 1, hn => by
    have h0 : ¬(n + 1) % 16 = 0 := by
      have : n + 1 < 16 := hn
      omega
    rw [Finset.sum_range_succ, EReal.coe_add, ← acc13 h y n (Nat.lt_of_succ_lt hn)]
    exact p_B_13 h ⟨n + 1, hn⟩ h0 y

/-- The gradient with respect to the scale of the layer norm after `n + 1` steps. -/
theorem acc14 (h : AllReal m c) (y : S1x1024.Idx) : ∀ (n : ℕ) (hn : n < cfg0.N), (outsAt0 m c n hn).2.2.1 y
    = ((∑ u ∈ Finset.range (n + 1), s14 (dat m c) u (y 1).val : ℝ) : EReal)
  | 0, hn => by
    rw [Finset.sum_range_one]
    exact (p_A_14 h ⟨0, hn⟩ rfl y).trans (zero_coe _)
  | n + 1, hn => by
    have h0 : ¬(n + 1) % 16 = 0 := by
      have : n + 1 < 16 := hn
      omega
    rw [Finset.sum_range_succ, EReal.coe_add, ← acc14 h y n (Nat.lt_of_succ_lt hn)]
    exact p_B_14 h ⟨n + 1, hn⟩ h0 y

/-- The gradient with respect to the shift of the layer norm after `n + 1` steps. -/
theorem acc15 (h : AllReal m c) (y : S1x1024.Idx) : ∀ (n : ℕ) (hn : n < cfg0.N), (outsAt0 m c n hn).2.2.2.1 y
    = ((∑ u ∈ Finset.range (n + 1), s15 (dat m c) u (y 1).val : ℝ) : EReal)
  | 0, hn => by
    rw [Finset.sum_range_one]
    exact (p_A_15 h ⟨0, hn⟩ rfl y).trans (zero_coe _)
  | n + 1, hn => by
    have h0 : ¬(n + 1) % 16 = 0 := by
      have : n + 1 < 16 := hn
      omega
    rw [Finset.sum_range_succ, EReal.coe_add, ← acc15 h y n (Nat.lt_of_succ_lt hn)]
    exact p_B_15 h ⟨n + 1, hn⟩ h0 y

/-- The gradient with respect to the mixing weights after `n + 1` steps. -/
theorem acc16 (h : AllReal m c) (y : S8x128x128.Idx) : ∀ (n : ℕ) (hn : n < cfg0.N), (outsAt0 m c n hn).2.2.2.2.1 y
    = ((∑ u ∈ Finset.range (n + 1), s16 (dat m c) u (y 0).val (y 1).val (y 2).val : ℝ) : EReal)
  | 0, hn => by
    rw [Finset.sum_range_one]
    exact (p_A_16 h ⟨0, hn⟩ rfl y).trans (zero_coe _)
  | n + 1, hn => by
    have h0 : ¬(n + 1) % 16 = 0 := by
      have : n + 1 < 16 := hn
      omega
    rw [Finset.sum_range_succ, EReal.coe_add, ← acc16 h y n (Nat.lt_of_succ_lt hn)]
    exact p_B_16 h ⟨n + 1, hn⟩ h0 y

/-- The gradient with respect to the mixing biases after `n + 1` steps. -/
theorem acc17 (h : AllReal m c) (y : S8x8x128.Idx) : ∀ (n : ℕ) (hn : n < cfg0.N), (outsAt0 m c n hn).2.2.2.2.2.1 y
    = ((∑ u ∈ Finset.range (n + 1), s17 (dat m c) u (y 0).val (y 2).val : ℝ) : EReal)
  | 0, hn => by
    rw [Finset.sum_range_one]
    exact (p_A_17 h ⟨0, hn⟩ rfl y).trans (zero_coe _)
  | n + 1, hn => by
    have h0 : ¬(n + 1) % 16 = 0 := by
      have : n + 1 < 16 := hn
      omega
    rw [Finset.sum_range_succ, EReal.coe_add, ← acc17 h y n (Nat.lt_of_succ_lt hn)]
    exact p_B_17 h ⟨n + 1, hn⟩ h0 y

/-- The gradient with respect to the convolution's taps after `n + 1` steps. -/
theorem acc18 (h : AllReal m c) (y : S8x1024.Idx) : ∀ (n : ℕ) (hn : n < cfg0.N), (outsAt0 m c n hn).2.2.2.2.2.2 y
    = ((∑ u ∈ Finset.range (n + 1), s18 (dat m c) u (y 0).val (y 1).val : ℝ) : EReal)
  | 0, hn => by
    rw [Finset.sum_range_one]
    exact (p_A_18 h ⟨0, hn⟩ rfl y).trans (zero_coe _)
  | n + 1, hn => by
    have h0 : ¬(n + 1) % 16 = 0 := by
      have : n + 1 < 16 := hn
      omega
    rw [Finset.sum_range_succ, EReal.coe_add, ← acc18 h y n (Nat.lt_of_succ_lt hn)]
    exact p_B_18 h ⟨n + 1, hn⟩ h0 y

/-! ## The seven results -/

/-- The gradient with respect to the input is the reference's. -/
theorem final12 (h : AllReal m c) : (dats m 0 c).arrAt 12 (cfgs 0).N = Cert.MixerRefIdeal.Read.val_main_v284 (F := Ideal) (a0 m c) (a1 m c) (a2 m c) (a3 m c) (a4 m c) (a5 m c) (a6 m c) (a7 m c) := by
  refine (dats m 0 c).arrAt_eq_of_covers 12 _ (by decide +kernel) fun t _ y => ?_
  blk_simp
  rw [after0_12]
  refine (acc12 h t y).trans (Eq.trans ?_ (Cert.Mix.Ref.s_v284 (ok h) _).symm)
  refine ec (c2 _ ?_ ?_)
  · blk_simp [idx t]
    omega
  · blk_simp [idx t]

/-- The gradient with respect to the weight of the output norm is the reference's. -/
theorem final13 (h : AllReal m c) : (dats m 0 c).arrAt 13 (cfgs 0).N = Cert.MixerRefIdeal.Read.val_main_v285 (F := Ideal) (a0 m c) (a1 m c) (a2 m c) (a3 m c) (a4 m c) (a5 m c) (a6 m c) := by
  refine (dats m 0 c).arrAt_eq_of_after_last 13 t0_15 (by decide +kernel) _ fun y => ?_
  blk_simp
  rw [after0_13]
  exact (acc13 h y 15 (by decide)).trans ((ec (sum13 _ (y 1).val)).trans (Cert.Mix.Ref.s_v285 (ok h) y).symm)

/-- The gradient with respect to the scale of the layer norm is the reference's. -/
theorem final14 (h : AllReal m c) : (dats m 0 c).arrAt 14 (cfgs 0).N = Cert.MixerRefIdeal.Read.val_main_v286 (F := Ideal) (a0 m c) (a1 m c) (a2 m c) (a3 m c) (a4 m c) (a5 m c) (a7 m c) := by
  refine (dats m 0 c).arrAt_eq_of_after_last 14 t0_15 (by decide +kernel) _ fun y => ?_
  blk_simp
  rw [after0_14]
  exact (acc14 h y 15 (by decide)).trans ((ec (sum14 _ (y 1).val)).trans (Cert.Mix.Ref.s_v286 (ok h) y).symm)

/-- The gradient with respect to the shift of the layer norm is the reference's. -/
theorem final15 (h : AllReal m c) : (dats m 0 c).arrAt 15 (cfgs 0).N = Cert.MixerRefIdeal.Read.val_main_v287 (F := Ideal) (a0 m c) (a1 m c) (a2 m c) (a3 m c) (a4 m c) (a5 m c) (a7 m c) := by
  refine (dats m 0 c).arrAt_eq_of_after_last 15 t0_15 (by decide +kernel) _ fun y => ?_
  blk_simp
  rw [after0_15]
  exact (acc15 h y 15 (by decide)).trans ((ec (sum15 _ (y 1).val)).trans (Cert.Mix.Ref.s_v287 (ok h) y).symm)

/-- The gradient with respect to the mixing weights is the reference's. -/
theorem final16 (h : AllReal m c) : (dats m 0 c).arrAt 16 (cfgs 0).N = Cert.MixerRefIdeal.Read.val_main_v229 (F := Ideal) (a0 m c) (a1 m c) (a2 m c) (a3 m c) (a4 m c) (a5 m c) (a7 m c) := by
  refine (dats m 0 c).arrAt_eq_of_after_last 16 t0_15 (by decide +kernel) _ fun y => ?_
  blk_simp
  rw [after0_16]
  exact (acc16 h y 15 (by decide)).trans ((ec (sum16 _ (y 0).val (y 1).val (y 2).val)).trans (Cert.Mix.Ref.s_v229 (ok h) y).symm)

/-- The gradient with respect to the mixing biases is the reference's. -/
theorem final17 (h : AllReal m c) : (dats m 0 c).arrAt 17 (cfgs 0).N = Cert.MixerRefIdeal.Read.val_main_v289 (F := Ideal) (a0 m c) (a1 m c) (a2 m c) (a3 m c) (a4 m c) (a5 m c) (a7 m c) := by
  refine (dats m 0 c).arrAt_eq_of_after_last 17 t0_15 (by decide +kernel) _ fun y => ?_
  blk_simp
  rw [after0_17]
  exact (acc17 h y 15 (by decide)).trans ((ec (sum17 _ (y 0).val (y 2).val)).trans (Cert.Mix.Ref.s_v289 (ok h) y).symm)

/-- The gradient with respect to the convolution's taps is the reference's. -/
theorem final18 (h : AllReal m c) : (dats m 0 c).arrAt 18 (cfgs 0).N = Cert.MixerRefIdeal.Read.val_main_v290 (F := Ideal) (a0 m c) (a1 m c) (a6 m c) (a7 m c) := by
  refine (dats m 0 c).arrAt_eq_of_after_last 18 t0_15 (by decide +kernel) _ fun y => ?_
  blk_simp
  rw [after0_18]
  exact (acc18 h y 15 (by decide)).trans ((ec (sum18 _ (y 0).val (y 1).val)).trans (Cert.Mix.Ref.s_v290 (ok h) y).symm)

end Cert.Mix.Ker
-- ==== Proof.Finite.lean ====
module

public import proofs.«01_k».proof.Proof.Real
public import Idealize.ShloMosaic.Lib.ReduceAll
public import Idealize.ShloMosaic.Lib.StableHlo

/-! What a precondition says that compares the magnitude of every entry of an array with infinity. -/

@[expose] public section

open Idealize.ShloMosaic

namespace Cert.Real

/-- The float word of infinity stands for the largest extended real. -/
theorem ofBits_inf : Ideal.ofBits .f32 (0x7F800000#32) = ⊤ := by
  simp [Ideal.ofBits, Ideal.ieee]

/-- If the magnitude of every entry is found to be below infinity, every entry is a real number. -/
theorem real_of_all {s t u : Shape} {axes : List (Fin s.rank)} [Subsingleton t.Idx] (x : s.Idx → EReal)
    (init : u.Idx → BitVec 1) (h : s.ReducesTo axes t) (hu : 0 < u.numel) (j : t.Idx)
    (e : Host.reduce IntOp.andi (fun i => Ideal.cmp .olt (max (x i) (-x i)) (Ideal.ofBits .f32 0x7F800000#32)) init h hu j = 1#1)
    (i : s.Idx) : ∃ r : ℝ, x i = (r : EReal) :=
  real_of_cmp (ofBits_inf ▸ Host.reduce_andi_all _ init h hu j e i)

end Cert.Real
-- ==== Proof.Mixer.lean ====
module

public import proofs.«01_k».proof.Proof.MixerRun
public import proofs.«01_k».proof.Proof.Finite
public import proofs.«01_k».proof.Proof.Gen.Pre_finite_mixer
public import proofs.«01_k».proof.Defs
public import Idealize.ShloMosaic.Lib.Claim

/-! The gradient of the token mixer: with real arguments the kernel's seven results are the reference's. -/

@[expose] public section

set_option maxRecDepth 16384

noncomputable section

open Idealize.ShloMosaic Idealize.ShloMosaic.TcCoe Idealize.SL.Sem

namespace Cert.Proof

/-- The precondition says that all eight arguments are real numbers everywhere. -/
theorem real_mixer (m : (ℓ : Loc Cert.MixerIdeal.nD Cert.MixerIdeal.τ Cert.MixerIdeal.sig) → Buf (Elt Ideal) ℓ)
    (h : Cert.Pre_MixerIdeal_finite_mixer m) (c : Dev Cert.MixerIdeal.nD) : Cert.Mix.Ker.AllReal m c := by
  have e := congrFun (h c) (ix0)
  dsimp only [Cert.Pre_finite_mixer.fn, Cert.Pre_finite_mixer.fn_part1, Cert.Pre_finite_mixer.fn_part2] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.Real.real_of_all _ _ _ _ _ e0, Cert.Real.real_of_all _ _ _ _ _ e1, Cert.Real.real_of_all _ _ _ _ _ e2,
    Cert.Real.real_of_all _ _ _ _ _ e3, Cert.Real.real_of_all _ _ _ _ _ e4, Cert.Real.real_of_all _ _ _ _ _ e5,
    Cert.Real.real_of_all _ _ _ _ _ e6, Cert.Real.real_of_all _ _ _ _ _ e7⟩

/-- Result 0 in a final state of the kernel. -/
theorem mem_12 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_0) = Cert.MixerRefIdeal.Read.val_main_v284 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a6 m c) (Cert.Mix.Ker.a7 m c) :=
  Eq.trans (b := (Cert.MixerIdeal.Gen.dats m 0 c).arrAt 12 (Cert.MixerIdeal.cfgs 0).N) ((hr c).1 12) (Cert.Mix.Ker.final12 h)

/-- Result 1 in a final state of the kernel. -/
theorem mem_13 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_1) = Cert.MixerRefIdeal.Read.val_main_v285 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a6 m c) :=
  Eq.trans (b := (Cert.MixerIdeal.Gen.dats m 0 c).arrAt 13 (Cert.MixerIdeal.cfgs 0).N) ((hr c).1 13) (Cert.Mix.Ker.final13 h)

/-- Result 2 in a final state of the kernel. -/
theorem mem_14 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_2) = Cert.MixerRefIdeal.Read.val_main_v286 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c) :=
  Eq.trans (b := (Cert.MixerIdeal.Gen.dats m 0 c).arrAt 14 (Cert.MixerIdeal.cfgs 0).N) ((hr c).1 14) (Cert.Mix.Ker.final14 h)

/-- Result 3 in a final state of the kernel. -/
theorem mem_15 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_3) = Cert.MixerRefIdeal.Read.val_main_v287 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c) :=
  Eq.trans (b := (Cert.MixerIdeal.Gen.dats m 0 c).arrAt 15 (Cert.MixerIdeal.cfgs 0).N) ((hr c).1 15) (Cert.Mix.Ker.final15 h)

/-- Result 4 in a final state of the kernel. -/
theorem mem_16 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_4) = Cert.MixerRefIdeal.Read.val_main_v229 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c) :=
  Eq.trans (b := (Cert.MixerIdeal.Gen.dats m 0 c).arrAt 16 (Cert.MixerIdeal.cfgs 0).N) ((hr c).1 16) (Cert.Mix.Ker.final16 h)

/-- Result 5 in a final state of the kernel. -/
theorem mem_17 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_5) = Cert.MixerRefIdeal.Read.val_main_v289 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c) :=
  Eq.trans (b := (Cert.MixerIdeal.Gen.dats m 0 c).arrAt 17 (Cert.MixerIdeal.cfgs 0).N) ((hr c).1 17) (Cert.Mix.Ker.final17 h)

/-- Result 6 in a final state of the kernel. -/
theorem mem_18 (m : (ℓ : Loc Cert.MixerIdeal.nD Cert.MixerIdeal.τ Cert.MixerIdeal.sig) → Buf (Elt Ideal) ℓ) (c : Dev Cert.MixerIdeal.nD)
    (r : PUnit × MemSt Cert.MixerIdeal.nD Cert.MixerIdeal.τ Cert.MixerIdeal.sig (Elt Ideal))
    (hr : Pipeline.FramePost Cert.MixerIdeal.cfgs (Cert.MixerIdeal.Gen.dats m) 0 (Cert.MixerIdeal.Gen.V m) r) (h : Cert.Mix.Ker.AllReal m c) :
    r.2.mem ((c.tc : Thread Cert.MixerIdeal.nD Cert.MixerIdeal.τ).loc Cert.MixerIdeal.main_v18_6) = Cert.MixerRefIdeal.Read.val_main_v290 (F := Ideal) (Cert.Mix.Ker.a0 m c) (Cert.Mix.Ker.a1 m c) (Cert.Mix.Ker.a6 m c) (Cert.Mix.Ker.a7 m c) :=
  Eq.trans (b := (Cert.MixerIdeal.Gen.dats m 0 c).arrAt 18 (Cert.MixerIdeal.cfgs 0).N) ((hr c).1 18) (Cert.Mix.Ker.final18 h)

/-- The kernel with real arguments ends with the reference's seven results and unchanged arguments. -/
theorem kernel_mixer (m : (ℓ : Loc Cert.MixerIdeal.nD Cert.MixerIdeal.τ Cert.MixerIdeal.sig) → Buf (Elt Ideal) ℓ) (g : Dev Cert.MixerIdeal.nD → PrngReg)
    (h : ∀ c, Cert.Mix.Ker.AllReal m c) :
    θ_run (Cert.MixerIdeal.defs (F := Ideal)) (onTc (τ := Cert.MixerIdeal.τ) (Cert.MixerIdeal.main (F := Ideal))) ⟨m, fun _ => 0, g⟩ (fun r => ∀ c : Dev Cert.MixerIdeal.nD,
      r.2.mem ((c.tc : Thread Cert.MixerIdeal.nD Cert.MixerIdeal.τ).loc Cert.MixerIdeal.main_v18_0) = Cert.MixerRefIdeal.Read.val_main_v284 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a6 m c) (Cert.Mix.Ker.a7 m c)
      ∧ r.2.mem ((c.tc : Thread Cert.MixerIdeal.nD Cert.MixerIdeal.τ).loc Cert.MixerIdeal.main_v18_1) = Cert.MixerRefIdeal.Read.val_main_v285 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a6 m c)
      ∧ r.2.mem ((c.tc : Thread Cert.MixerIdeal.nD Cert.MixerIdeal.τ).loc Cert.MixerIdeal.main_v18_2) = Cert.MixerRefIdeal.Read.val_main_v286 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c)
      ∧ r.2.mem ((c.tc : Thread Cert.MixerIdeal.nD Cert.MixerIdeal.τ).loc Cert.MixerIdeal.main_v18_3) = Cert.MixerRefIdeal.Read.val_main_v287 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c)
      ∧ r.2.mem ((c.tc : Thread Cert.MixerIdeal.nD Cert.MixerIdeal.τ).loc Cert.MixerIdeal.main_v18_4) = Cert.MixerRefIdeal.Read.val_main_v229 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c)
      ∧ r.2.mem ((c.tc : Thread Cert.MixerIdeal.nD Cert.MixerIdeal.τ).loc Cert.MixerIdeal.main_v18_5) = Cert.MixerRefIdeal.Read.val_main_v289 (F := Ideal) (Cert.Mix.Ker.a0 m c) (Cert.Mix.Ker.a1 m c) (Cert.Mix.Ker.a2 m c) (Cert.Mix.Ker.a3 m c) (Cert.Mix.Ker.a4 m c) (Cert.Mix.Ker.a5 m c) (Cert.Mix.Ker.a7 m c)
      ∧ r.2.mem ((c.tc : Thread Cert.MixerIdeal.nD Cert.MixerIdeal.τ).loc Cert.MixerIdeal.main_v18_6) = Cert.MixerRefIdeal.Read.val_main_v290 (F := Ideal) (Cert.Mix.Ker.a0 m c) (Cert.Mix.Ker.a1 m c) (Cert.Mix.Ker.a6 m c) (Cert.Mix.Ker.a7 m c)
      ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)) := by
  refine Idealize.ShloMosaic.θ_run_mono (Idealize.ShloMosaic.θ_run_and (Cert.MixerIdeal.Gen.run_main m g) (Cert.MixerIdeal.Gen.unchanged m g)) ?_
  rintro r ⟨hr, hu⟩ c
  exact ⟨mem_12 m c r hr (h c), mem_13 m c r hr (h c), mem_14 m c r hr (h c), mem_15 m c r hr (h c), mem_16 m c r hr (h c), mem_17 m c r hr (h c), mem_18 m c r hr (h c), hu c⟩

/-- The reference ends with its seven results, read as functions of its arguments. -/
theorem reference_mixer (m : (ℓ : Loc Cert.MixerRefIdeal.nD Cert.MixerRefIdeal.τ Cert.MixerRefIdeal.sig) → Buf (Elt Ideal) ℓ) (g : Dev Cert.MixerRefIdeal.nD → PrngReg) :
    θ_run (Cert.MixerRefIdeal.defs (F := Ideal)) (onTc (τ := Cert.MixerRefIdeal.τ) (Cert.MixerRefIdeal.main (F := Ideal))) ⟨m, fun _ => 0, g⟩ (fun r => ∀ c : Dev Cert.MixerRefIdeal.nD,
      r.2.mem ((c.tc : Thread Cert.MixerRefIdeal.nD Cert.MixerRefIdeal.τ).loc Cert.MixerRefIdeal.main_v284) = Cert.MixerRefIdeal.Read.val_main_v284 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_v285) = Cert.MixerRefIdeal.Read.val_main_v285 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))
      ∧ r.2.mem ((c.tc : Thread Cert.MixerRefIdeal.nD Cert.MixerRefIdeal.τ).loc Cert.MixerRefIdeal.main_v286) = Cert.MixerRefIdeal.Read.val_main_v286 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_v287) = Cert.MixerRefIdeal.Read.val_main_v287 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_v229) = Cert.MixerRefIdeal.Read.val_main_v229 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_v289) = Cert.MixerRefIdeal.Read.val_main_v289 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_v290) = Cert.MixerRefIdeal.Read.val_main_v290 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7))
      ∧ r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)) := by
  refine Idealize.ShloMosaic.θ_run_mono (Cert.MixerRefIdeal.Value.run m g) ?_
  intro r hr c
  obtain ⟨h0, h1, h2, h3, h4, h5, h6, hu⟩ := hr c
  exact ⟨h0.trans (Cert.MixerRefIdeal.Read.val_main_v284_eq _), h1.trans (Cert.MixerRefIdeal.Read.val_main_v285_eq _), h2.trans (Cert.MixerRefIdeal.Read.val_main_v286_eq _), h3.trans (Cert.MixerRefIdeal.Read.val_main_v287_eq _), h4.trans (Cert.MixerRefIdeal.Read.val_main_v229_eq _), h5.trans (Cert.MixerRefIdeal.Read.val_main_v289_eq _), h6.trans (Cert.MixerRefIdeal.Read.val_main_v290_eq _), hu⟩

/-- With real arguments, the seven results of the mixer's gradient kernel and the reference's are equal at the ideal
    instance. -/
theorem algebraic_Mixer : Cert.algebraic_MixerIdeal_MixerRefIdeal_pre_finite_mixer := by
  pair_intro
  · exact kernel_mixer m g fun c => real_mixer m hpre c
  · have e := reference_mixer m' g'
    refine Idealize.ShloMosaic.θ_run_mono e ?_
    intro r hr c
    have hc := hr c
    rw [(hagree c).1, (hagree c).2.1, (hagree c).2.2.1, (hagree c).2.2.2.1, (hagree c).2.2.2.2.1, (hagree c).2.2.2.2.2.1,
      (hagree c).2.2.2.2.2.2.1, (hagree c).2.2.2.2.2.2.2] at hc ⊢
    exact hc

end Cert.Proof

end
-- ==== Proof.MixFwdSpec.lean ====
module

public import proofs.«01_k».proof.Proof.MixerSpec

/-! The mixer's forward pass over the extended reals: every intermediate array as a function of the row and the column,
both natural numbers. -/

@[expose] public section

noncomputable section

open Idealize.ShloMosaic

namespace Cert.MixF

/-- The width of a half, as a number. -/
def w : EReal := Ideal.ofBits .f32 0x44800000#32
/-- The constant added to a variance. -/
def cL : EReal := Ideal.ofBits .f32 0x3727C5AC#32
/-- The constant added to a mean square. -/
def cR : EReal := Ideal.ofBits .f32 0x358637BD#32

theorem bits0 : (Ideal.ofBits .f32 0x00000000#32 : EReal) = 0 := Cert.Mix.bits_zero

/-- The GELU at a number, which is used at real numbers only. -/
def ge (x : EReal) : EReal := ((Cert.Mix.gelu x.toReal : ℝ) : EReal)

theorem ge_of {x : EReal} (h : ∃ r : ℝ, x = r) :
    ge x = x * (Ideal.ofBits .f32 0x3F000000#32 * (Ideal.ofBits .f32 0x3F800000#32 +
      Ideal.tanh (Ideal.ofBits .f32 0x3F4C422A#32 * (x + Ideal.ofBits .f32 0x3D372713#32 * (x * x * x))))) := by
  obtain ⟨r, rfl⟩ := h
  rw [Cert.Mix.bits_half, Cert.Mix.bits_one, Cert.Mix.bits_gc, Cert.Mix.bits_gk]
  simp only [← EReal.coe_mul, ← EReal.coe_add, Cert.Real.tanh_coe]
  rfl

/-- The mean of a row. -/
def mean (x : ℕ → EReal) : EReal := Ideal.div (∑ k : Fin 1024, x k) w
/-- The reciprocal root mean square of a row, with the constant `e` added to the mean square. -/
def rms (e : EReal) (x : ℕ → EReal) : EReal := Ideal.rsqrt (mean (fun k => x k * x k) + e)

/-- The arguments: the projection, the gate's normalisation, the mixing weights and their biases, the taps and the output scales. -/
structure X where
  z : ℕ → ℕ → EReal
  lg : ℕ → EReal
  lb : ℕ → EReal
  ws : ℕ → ℕ → ℕ → EReal
  bs : ℕ → ℕ → EReal
  cw : ℕ → ℕ → EReal
  gn : ℕ → EReal

namespace X
variable (d : X)

def u (s k : ℕ) : EReal := ge (d.z s k)
def vg (s k : ℕ) : EReal := ge (d.z s (1024 + k))
def xc (s k : ℕ) : EReal := d.vg s k - mean (d.vg s)
def vn (s k : ℕ) : EReal := d.xc s k * rms cL (d.xc s) * d.lg k + d.lb k
/-- The mixing weights, zero where the source lies in a later block of sixty-four than the target. -/
def wm (h i j : ℕ) : EReal := if j / 64 ≤ i / 64 then d.ws h i j else 0
def mixed (s k : ℕ) : EReal := (∑ j : Fin 128, d.wm (k / 128) (s % 128) j * d.vn (s / 128 * 128 + j) k) + d.bs (k / 128) (s % 128)
def ya (s k : ℕ) : EReal := d.u s k * d.mixed s k
def p (s k : ℕ) : EReal := d.z s (3072 + k) * d.z s (4096 + k)
/-- The product `j` rows earlier, zero before the first row. -/
def ps (j s k : ℕ) : EReal := if j ≤ s then d.p (s - j) k else 0
def cv (s k : ℕ) : EReal := d.cw 2 k * d.p s k + d.cw 1 k * d.ps 1 s k + d.cw 0 k * d.ps 2 s k
def yb (s k : ℕ) : EReal := d.z s (2048 + k) * d.cv s k
/-- The output: each half normalised by its root mean square and scaled. -/
def out (s k : ℕ) : EReal :=
  if k < 1024 then d.ya s k * rms cR (d.ya s) * d.gn k else d.yb s (k - 1024) * rms cR (d.yb s) * d.gn k

end X

end Cert.MixF
-- ==== Proof.MixFwdRef.lean ====
module

public import proofs.«01_k».proof.Proof.MixFwdSpec
public import proofs.«01_k».proof.Proof.Gen.MixerFwdRefIdeal.Run

/-! The reference's forward pass of the mixer: every intermediate array at an index is the number the specification names,
at the row and the column that the index gives. -/

@[expose] public section

noncomputable section

open Idealize.ShloMosaic Idealize.ShloMosaic.StableHlo Cert.MixerFwdRefIdeal Cert.MixerFwdRefIdeal.Gen

namespace Cert.MixF.Ref

/-! ## The reference's arrays, by name -/

def aZ (x0 : FVec Ideal S4096x5120 .bf16) : FVec Ideal S4096x5120 .f32 := (extf .f32 x0 bitsLt_bf16_f32)
def aA (Z : FVec Ideal S4096x5120 .f32) : FVec Ideal S4096x2048 .f32 := (extractStridedSlice S4096x2048 ![0, 0] Z slices_S4096x5120_S4096x2048_0_0)
def aG (A : FVec Ideal S4096x2048 .f32) : FVec Ideal S4096x2048 .f32 := (mulf A (mulf (broadcastInDim S4096x2048 ![] bcast_S_S4096x2048 (constant S_ .f32 0x3F000000#32)) (addf (broadcastInDim S4096x2048 ![] bcast_S_S4096x2048 (constant S_ .f32 0x3F800000#32)) (Host.tanh (mulf (broadcastInDim S4096x2048 ![] bcast_S_S4096x2048 (constant S_ .f32 0x3F4C422A#32)) (addf A (mulf (broadcastInDim S4096x2048 ![] bcast_S_S4096x2048 (constant S_ .f32 0x3D372713#32)) (mulf (mulf A A) A))))))))
def aU (G : FVec Ideal S4096x2048 .f32) : FVec Ideal S4096x1024 .f32 := (extractStridedSlice S4096x1024 ![0, 0] G slices_S4096x2048_S4096x1024_0_0)
def aVG (G : FVec Ideal S4096x2048 .f32) : FVec Ideal S4096x1024 .f32 := (extractStridedSlice S4096x1024 ![0, 1024] G slices_S4096x2048_S4096x1024_0_1024)
def aXC (VG : FVec Ideal S4096x1024 .f32) : FVec Ideal S4096x1024 .f32 := (subf VG (broadcastInDim S4096x1024 ![0, 1] bcast_S4096x1_S4096x1024_0_1 (Host.divf (broadcastInDim S4096x1 ![0] bcast_S4096_S4096x1_0 (Host.reduceAdd VG (constant S_ .f32 0x00000000#32) reducesTo_S4096x1024_S4096_d1 h_S_)) (broadcastInDim S4096x1 ![] bcast_S_S4096x1 (constant S_ .f32 0x44800000#32)))))
def aVN (XC : FVec Ideal S4096x1024 .f32) (x1 : FVec Ideal S1024 .f32) (x2 : FVec Ideal S1024 .f32) : FVec Ideal S4096x1024 .f32 := (addf (mulf (mulf XC (broadcastInDim S4096x1024 ![0, 1] bcast_S4096x1_S4096x1024_0_1 (Host.rsqrt (addf (Host.divf (broadcastInDim S4096x1 ![0] bcast_S4096_S4096x1_0 (Host.reduceAdd (mulf XC XC) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 (broadcastInDim S1x1024 ![1] bcast_S1024_S1x1024_1 x1))) (broadcastInDim S4096x1024 ![0, 1] bcast_S1x1024_S4096x1024_0_1 (broadcastInDim S1x1024 ![1] bcast_S1024_S1x1024_1 x2)))
def aF1  : IVec S1x128 32 := (select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32)))))
def aF2  : IVec S128x1 32 := (select (andi (cmpi .ne (signi (broadcastInDim S128x1 ![0] bcast_S128_S128x1_0 (iotaInDim S128 32 0))) (broadcastInDim S128x1 ![] bcast_S_S128x1 (signi (id (constantI S_ 32 64#32))))) (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (id (constantI S_ 32 64#32)))))
def aMK  : IVec S128x128 1 := (cmpi .sle (broadcastInDim S128x128 ![0, 1] bcast_S1x128_S128x128_0_1 aF1) (broadcastInDim S128x128 ![0, 1] bcast_S128x1_S128x128_0_1 aF2))
def aWM (x3 : FVec Ideal S8x128x128 .f32) : FVec Ideal S8x128x128 .f32 := (select (broadcastInDim S8x128x128 ![0, 1, 2] bcast_S1x128x128_S8x128x128_0_1_2 (broadcastInDim S1x128x128 ![1, 2] bcast_S128x128_S1x128x128_1_2 aMK)) x3 (broadcastInDim S8x128x128 ![] bcast_S_S8x128x128 (constant S_ .f32 0x00000000#32)))
def aTR (VN : FVec Ideal S4096x1024 .f32) (WM : FVec Ideal S8x128x128 .f32) : FVec Ideal S32x128x8x128 .f32 := (transpose S32x128x8x128 [1, 3, 0, 2] (Host.dotGeneral dot_S32x128x8x128_S8x128x128_S8x32x128x128_1_2_03_1_2_0 none (shapeCast _ VN shapeCasts_S4096x1024_S32x128x8x128) WM) transposes_S8x32x128x128_S32x128x8x128_1_3_0_2)
def aMX (TR : FVec Ideal S32x128x8x128 .f32) (x4 : FVec Ideal S8x128 .f32) : FVec Ideal S4096x1024 .f32 := (shapeCast _ (addf TR (broadcastInDim S32x128x8x128 ![0, 1, 2, 3] bcast_S1x128x8x1_S32x128x8x128_0_1_2_3 (broadcastInDim S1x128x8x1 ![1, 2] bcast_S128x8_S1x128x8x1_1_2 (transpose S128x8 [1, 0] x4 transposes_S8x128_S128x8_1_0)))) shapeCasts_S32x128x8x128_S4096x1024)
def aYA (U : FVec Ideal S4096x1024 .f32) (MX : FVec Ideal S4096x1024 .f32) : FVec Ideal S4096x1024 .f32 := (mulf U MX)
def aGB (Z : FVec Ideal S4096x5120 .f32) : FVec Ideal S4096x1024 .f32 := (extractStridedSlice S4096x1024 ![0, 2048] Z slices_S4096x5120_S4096x1024_0_2048)
def aGC (Z : FVec Ideal S4096x5120 .f32) : FVec Ideal S4096x1024 .f32 := (extractStridedSlice S4096x1024 ![0, 3072] Z slices_S4096x5120_S4096x1024_0_3072)
def aHB (Z : FVec Ideal S4096x5120 .f32) : FVec Ideal S4096x1024 .f32 := (extractStridedSlice S4096x1024 ![0, 4096] Z slices_S4096x5120_S4096x1024_0_4096)
def aP (GC : FVec Ideal S4096x1024 .f32) (HB : FVec Ideal S4096x1024 .f32) : FVec Ideal S4096x1024 .f32 := (mulf GC HB)
def aS1 (P : FVec Ideal S4096x1024 .f32) : FVec Ideal S4096x1024 .f32 := (concatenate S4096x1024 0 [⟨S1x1024, (broadcastInDim S1x1024 ![] bcast_S_S1x1024 (constant S_ .f32 0x00000000#32))⟩, ⟨S4095x1024, (extractStridedSlice S4095x1024 ![0, 0] P slices_S4096x1024_S4095x1024_0_0)⟩] concatenates_S1x1024_S4095x1024_S4096x1024_d0)
def aS2 (P : FVec Ideal S4096x1024 .f32) : FVec Ideal S4096x1024 .f32 := (concatenate S4096x1024 0 [⟨S2x1024, (broadcastInDim S2x1024 ![] bcast_S_S2x1024 (constant S_ .f32 0x00000000#32))⟩, ⟨S4094x1024, (extractStridedSlice S4094x1024 ![0, 0] P slices_S4096x1024_S4094x1024_0_0)⟩] concatenates_S2x1024_S4094x1024_S4096x1024_d0)
def aCV (S1 : FVec Ideal S4096x1024 .f32) (S2 : FVec Ideal S4096x1024 .f32) (P : FVec Ideal S4096x1024 .f32) (x5 : FVec Ideal S3x1024 .f32) : FVec Ideal S4096x1024 .f32 := (addf (addf (mulf (broadcastInDim S4096x1024 ![0, 1] bcast_S1x1024_S4096x1024_0_1 (broadcastInDim S1x1024 ![1] bcast_S1024_S1x1024_1 (shapeCast _ (extractStridedSlice S1x1024 ![0, 0] x5 slices_S3x1024_S1x1024_0_0) shapeCasts_S1x1024_S1024))) S2) (mulf (broadcastInDim S4096x1024 ![0, 1] bcast_S1x1024_S4096x1024_0_1 (broadcastInDim S1x1024 ![1] bcast_S1024_S1x1024_1 (shapeCast _ (extractStridedSlice S1x1024 ![1, 0] x5 slices_S3x1024_S1x1024_1_0) shapeCasts_S1x1024_S1024))) S1)) (mulf (broadcastInDim S4096x1024 ![0, 1] bcast_S1x1024_S4096x1024_0_1 (broadcastInDim S1x1024 ![1] bcast_S1024_S1x1024_1 (shapeCast _ (extractStridedSlice S1x1024 ![2, 0] x5 slices_S3x1024_S1x1024_2_0) shapeCasts_S1x1024_S1024))) P))
def aYB (GB : FVec Ideal S4096x1024 .f32) (CV : FVec Ideal S4096x1024 .f32) : FVec Ideal S4096x1024 .f32 := (mulf GB CV)
def aOA (YA : FVec Ideal S4096x1024 .f32) (x6 : FVec Ideal S2048 .f32) : FVec Ideal S4096x1024 .f32 := (mulf (mulf YA (broadcastInDim S4096x1024 ![0, 1] bcast_S4096x1_S4096x1024_0_1 (Host.rsqrt (addf (Host.divf (broadcastInDim S4096x1 ![0] bcast_S4096_S4096x1_0 (Host.reduceAdd (mulf YA YA) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (extractStridedSlice S1024 ![0] x6 slices_S2048_S1024_0))))
def aOB (YB : FVec Ideal S4096x1024 .f32) (x6 : FVec Ideal S2048 .f32) : FVec Ideal S4096x1024 .f32 := (mulf (mulf YB (broadcastInDim S4096x1024 ![0, 1] bcast_S4096x1_S4096x1024_0_1 (Host.rsqrt (addf (Host.divf (broadcastInDim S4096x1 ![0] bcast_S4096_S4096x1_0 (Host.reduceAdd (mulf YB YB) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 (extractStridedSlice S1024 ![1024] x6 slices_S2048_S1024_1024))))
def aOUT (OA : FVec Ideal S4096x1024 .f32) (OB : FVec Ideal S4096x1024 .f32) : FVec Ideal S4096x2048 .bf16 := truncf .bf16 (concatenate S4096x2048 1 [⟨S4096x1024, OA⟩, ⟨S4096x1024, OB⟩] concatenates_S4096x1024_S4096x1024_S4096x2048_d1) bitsLt_bf16_f32

variable {x0 : FVec Ideal S4096x5120 .bf16} {x1 x2 : FVec Ideal S1024 .f32} {x3 : FVec Ideal S8x128x128 .f32} {x4 : FVec Ideal S8x128 .f32}
  {x5 : FVec Ideal S3x1024 .f32} {x6 : FVec Ideal S2048 .f32} {d : X}

theorem co2 (f : ℕ → ℕ → EReal) {a b a' b' : ℕ} (h : a = a') (h' : b = b') : f a b = f a' b' := by rw [h, h']

theorem G_at (hr : ∀ s k, ∃ r : ℝ, d.z s k = r) (h : ∀ i, x0 i = d.z (i 0).val (i 1).val) (i) : aG (aA (aZ x0)) i = ge (d.z (i 0).val (i 1).val) := by
  rw [ge_of (hr _ _)]
  idx_vars i
  pointwise [aG, aA, aZ]
  simp only [h, ix2]

theorem XC_at {v} (h : ∀ i, v i = d.vg (i 0).val (i 1).val) (i) : aXC v i = d.xc (i 0).val (i 1).val := by
  idx_vars i
  pointwise [aXC]
  simp only [h, ix2, bits0, zero_add]
  rfl

theorem VN_at {v} (h : ∀ i, v i = d.xc (i 0).val (i 1).val) (h1 : ∀ i, x1 i = d.lg (i 0).val) (h2 : ∀ i, x2 i = d.lb (i 0).val) (i) : aVN v x1 x2 i = d.vn (i 0).val (i 1).val := by
  idx_vars i
  pointwise [aVN]
  simp only [h, h1, h2, ix1, ix2, bits0, zero_add]
  rfl

theorem F1_at : ∀ i j, aF1 (ix2 i j) = BitVec.ofNat 32 (j.val / 64) := by decide +kernel
theorem F2_at : ∀ i j, aF2 (ix2 i j) = BitVec.ofNat 32 (i.val / 64) := by decide +kernel

theorem mask_sel (i j : Fin 128) (a b : EReal) :
    Scalar.select (IntOp.cmpi CmpIPredicate.sle (BitVec.ofNat 32 (j.val / 64)) (BitVec.ofNat 32 (i.val / 64))) a b = if j.val / 64 ≤ i.val / 64 then a else b := by
  have h : ∀ i j : Fin 128, IntOp.cmpi CmpIPredicate.sle (BitVec.ofNat 32 (j.val / 64)) (BitVec.ofNat 32 (i.val / 64)) = if j.val / 64 ≤ i.val / 64 then 1 else 0 := by
    decide +kernel
  rw [h]
  split <;> rfl

theorem WM_at (h3 : ∀ i, x3 i = d.ws (i 0).val (i 1).val (i 2).val) (i) : aWM x3 i = d.wm (i 0).val (i 1).val (i 2).val := by
  idx_vars i
  pointwise [aWM, aMK]
  simp only [h3, F1_at, F2_at, ix3, bits0, mask_sel]
  rfl

theorem P_at (h : ∀ i, x0 i = d.z (i 0).val (i 1).val) (i) : aP (aGC (aZ x0)) (aHB (aZ x0)) i = d.p (i 0).val (i 1).val := by
  idx_vars i
  pointwise [aP, aGC, aHB, aZ]
  simp only [h, ix2]
  rfl

theorem CV_at {s1 s2 p} (h : ∀ i, p i = d.p (i 0).val (i 1).val) (h1 : ∀ i, s1 i = d.ps 1 (i 0).val (i 1).val) (h2 : ∀ i, s2 i = d.ps 2 (i 0).val (i 1).val)
    (h5 : ∀ i, x5 i = d.cw (i 0).val (i 1).val) (i) : aCV s1 s2 p x5 i = d.cv (i 0).val (i 1).val := by
  idx_vars i
  pointwise [aCV]
  simp only [h, h1, h2, h5, ix2]
  unfold X.cv
  exact (add_comm _ _).trans ((congrArg _ (add_comm _ _)).trans (add_assoc _ _ _).symm)

theorem OA_at {y} (h : ∀ i, y i = d.ya (i 0).val (i 1).val) (h6 : ∀ i, x6 i = d.gn (i 0).val) (i) :
    aOA y x6 i = d.ya (i 0).val (i 1).val * rms cR (d.ya (i 0).val) * d.gn (i 1).val := by
  idx_vars i
  pointwise [aOA]
  simp only [h, h6, ix1, ix2, bits0, zero_add]
  rfl

theorem OB_at {y} (h : ∀ i, y i = d.yb (i 0).val (i 1).val) (h6 : ∀ i, x6 i = d.gn (i 0).val) (i) :
    aOB y x6 i = d.yb (i 0).val (i 1).val * rms cR (d.yb (i 0).val) * d.gn (1024 + (i 1).val) := by
  idx_vars i
  pointwise [aOB]
  simp only [h, h6, ix1, ix2, bits0, zero_add]
  rfl

theorem YB_at {cv} (h : ∀ i, x0 i = d.z (i 0).val (i 1).val) (h1 : ∀ i, cv i = d.cv (i 0).val (i 1).val) (i) : aYB (aGB (aZ x0)) cv i = d.yb (i 0).val (i 1).val := by
  idx_vars i
  pointwise [aYB, aGB, aZ]
  simp only [h, h1, ix2]
  rfl

theorem YA_at {g mx} (h : ∀ i, g i = ge (d.z (i 0).val (i 1).val)) (h1 : ∀ i, mx i = d.mixed (i 0).val (i 1).val) (i) : aYA (aU g) mx i = d.ya (i 0).val (i 1).val := by
  idx_vars i
  pointwise [aYA, aU]
  simp only [h, h1, ix2]
  rfl

theorem VG_at {g} (h : ∀ i, g i = ge (d.z (i 0).val (i 1).val)) (i) : aVG g i = d.vg (i 0).val (i 1).val := by
  idx_vars i
  pointwise [aVG]
  simp only [h, ix2]
  rfl

theorem MX_at {tr} (h : ∀ i : S32x128x8x128.Idx, tr i = ∑ j : Fin 128, d.wm (i 2).val (i 1).val j * d.vn ((i 0).val * 128 + j) ((i 2).val * 128 + (i 3).val))
    (h4 : ∀ i, x4 i = d.bs (i 0).val (i 1).val) (i) : aMX tr x4 i = d.mixed (i 0).val (i 1).val := by
  idx_vars i
  pointwise [aMX]
  simp only [h, h4, ix2, ix4]
  unfold X.mixed
  rw [Nat.div_add_mod']

theorem TR_at {vn wm} (h : ∀ i, vn i = d.vn (i 0).val (i 1).val) (h3 : ∀ i, wm i = d.wm (i 0).val (i 1).val (i 2).val) (i) :
    aTR vn wm i = ∑ j : Fin 128, d.wm (i 2).val (i 1).val j * d.vn ((i 0).val * 128 + j) ((i 2).val * 128 + (i 3).val) := by
  idx_vars i
  pointwise [aTR]
  simp only [h, h3, ix2, ix3, ix4]
  exact Finset.sum_congr rfl fun _ _ => mul_comm _ _

theorem S1_at {p} (h : ∀ i, p i = d.p (i 0).val (i 1).val) (i) : aS1 p i = d.ps 1 (i 0).val (i 1).val := by
  unfold aS1 X.ps
  rw [concatenate_pair_apply]
  split
  · rename_i h'
    rw [if_neg (by have h : (i 0).val < 1 := h'; omega)]; exact bits0
  · rename_i h'
    rw [if_pos (by have h : ¬ (i 0).val < 1 := h'; omega)]
    pointwise
    rw [h]
    rfl

theorem S2_at {p} (h : ∀ i, p i = d.p (i 0).val (i 1).val) (i) : aS2 p i = d.ps 2 (i 0).val (i 1).val := by
  unfold aS2 X.ps
  rw [concatenate_pair_apply]
  split
  · rename_i h'
    rw [if_neg (by have h : (i 0).val < 2 := h'; omega)]; exact bits0
  · rename_i h'
    rw [if_pos (by have h : ¬ (i 0).val < 2 := h'; omega)]
    pointwise
    rw [h]
    rfl

theorem OUT_at {ya yb} (h : ∀ i, ya i = d.ya (i 0).val (i 1).val * rms cR (d.ya (i 0).val) * d.gn (i 1).val)
    (h1 : ∀ i, yb i = d.yb (i 0).val (i 1).val * rms cR (d.yb (i 0).val) * d.gn (1024 + (i 1).val)) (i) :
    aOUT ya yb i = d.out (i 0).val (i 1).val := by
  show concatenate S4096x2048 1 [⟨S4096x1024, ya⟩, ⟨S4096x1024, yb⟩] concatenates_S4096x1024_S4096x1024_S4096x2048_d1 i = _
  unfold X.out
  rw [concatenate_pair_apply]
  split
  · rename_i h'
    rw [if_pos (show (i 1).val < 1024 from h'), h]; rfl
  · rename_i h'
    have h2 : ¬ (i 1).val < 1024 := h'
    rw [if_neg h2, h1]
    show d.yb (i 0).val ((i 1).val - 1024) * rms cR (d.yb (i 0).val) * d.gn (1024 + ((i 1).val - 1024)) = _
    rw [show 1024 + ((i 1).val - 1024) = (i 1).val by omega]

/-- The reference's output at a row and a column, where the projection is real. -/
theorem ref_at (hr : ∀ s k, ∃ r : ℝ, d.z s k = r) (h : ∀ i, x0 i = d.z (i 0).val (i 1).val) (h1 : ∀ i, x1 i = d.lg (i 0).val)
    (h2 : ∀ i, x2 i = d.lb (i 0).val) (h3 : ∀ i, x3 i = d.ws (i 0).val (i 1).val (i 2).val) (h4 : ∀ i, x4 i = d.bs (i 0).val (i 1).val)
    (h5 : ∀ i, x5 i = d.cw (i 0).val (i 1).val) (h6 : ∀ i, x6 i = d.gn (i 0).val) (i) :
    (aOUT (aOA (aYA (aU (aG (aA (aZ x0)))) (aMX (aTR (aVN (aXC (aVG (aG (aA (aZ x0))))) x1 x2) (aWM x3)) x4)) x6) (aOB (aYB (aGB (aZ x0)) (aCV (aS1 (aP (aGC (aZ x0)) (aHB (aZ x0)))) (aS2 (aP (aGC (aZ x0)) (aHB (aZ x0)))) (aP (aGC (aZ x0)) (aHB (aZ x0))) x5)) x6)) i = d.out (i 0).val (i 1).val := by
  have hg := G_at hr h
  have hp := P_at h
  refine OUT_at (OA_at (YA_at hg (MX_at (TR_at (VN_at (XC_at (VG_at hg)) h1 h2) (WM_at h3)) h4)) h6)
    (OB_at (YB_at h (CV_at hp (S1_at hp) (S2_at hp) h5)) h6) i

end Cert.MixF.Ref
-- ==== Proof.MixFwdKer.lean ====
module

public import proofs.«01_k».proof.Proof.MixFwdSpec
public import proofs.«01_k».proof.Proof.Gen.MixerFwdIdeal.Frame
import Idealize.ShloMosaic.Lib.Pipeline.ReadBack

/-! The values the mixer's forward kernel computes at one step: every intermediate array of a block of 256 rows is the
mixer's own array at those rows. -/

@[expose] public section

noncomputable section

open Idealize.ShloMosaic Cert.MixerFwdIdeal Cert.MixerFwdIdeal.Gen

namespace Cert.MixF.Ker

/-- The product of two constants of the GELU, which the kernel holds as one constant. -/
def ck : EReal := ((Cert.Mix.gc * Cert.Mix.gk : ℝ) : EReal)

theorem n_ck : (Named.named (F := Ideal) (φ := .f32) κ "gelu_ck" 0x3D122279#32 : EReal) = ck := by
  unfold ck
  rw [← show (80338380498831 / 2251799813685248 : ℝ) = Cert.Mix.gc * Cert.Mix.gk by unfold Cert.Mix.gc Cert.Mix.gk; norm_num]
  exact IdealRules.named_const.ideal_named_scalar _ _ _ _ rfl

/-- The kernel's GELU of a real number. -/
theorem ge_ker {x : EReal} (h : ∃ r : ℝ, x = r) :
    Ideal.ofBits .f32 0x3F000000#32 * x + Ideal.ofBits .f32 0x3F000000#32 * x *
      Ideal.tanh (x * (Ideal.ofBits .f32 0x3F4C422A#32 + ck * (x * x))) = ge x := by
  obtain ⟨r, rfl⟩ := h
  unfold ck
  rw [Cert.Mix.bits_half, Cert.Mix.bits_gc]
  simp only [← EReal.coe_mul, ← EReal.coe_add, Cert.Real.tanh_coe]
  unfold ge
  refine congrArg _ ?_
  rw [EReal.toReal_coe]
  unfold Cert.Mix.gelu Cert.Mix.th
  rw [show r * (Cert.Mix.gc + Cert.Mix.gc * Cert.Mix.gk * (r * r)) = Cert.Mix.gc * (r + Cert.Mix.gk * (r * r * r)) by ring]
  ring

theorem c2 (f : ℕ → ℕ → EReal) {a b a' b' : ℕ} (h : a = a') (h' : b = b') : f a b = f a' b' := by rw [h, h']

/-- The blocks of one step: `z` at the step's rows, the sixteen rows before them, and the weights. -/
structure Blk (d : X) (t : ℕ) (zp : ℕ → ℕ → EReal) (i : grid0.Coords) (x0 : Vec Ideal S16x5120 .bf16) (x1 : Vec Ideal S256x5120 .bf16) (x2 : Vec Ideal S1x1024 .f32) (x3 : Vec Ideal S1x1024 .f32) (x4 : Vec Ideal S8x128x128 .bf16) (x5 : Vec Ideal S8x128x128 .f32) (x6 : Vec Ideal S8x1024 .f32) (x7 : Vec Ideal S1x2048 .f32) : Prop where
  hr : ∀ s k, ∃ r : ℝ, d.z s k = r
  ht : (i 0).val = t
  h16 : t < 16
  hz : t ≠ 0 → ∀ r k, r < 16 → zp r k = d.z (256 * t - 16 + r) k
  h0 : ∀ y : S16x5120.Idx, x0 y = zp (y 0).val (y 1).val
  h1 : ∀ y : S256x5120.Idx, x1 y = d.z (256 * t + (y 0).val) (y 1).val
  h2 : ∀ y : S1x1024.Idx, x2 y = d.lg (y 1).val
  h3 : ∀ y : S1x1024.Idx, x3 y = d.lb (y 1).val
  h4 : ∀ y : S8x128x128.Idx, x4 y = d.wm (y 0).val (y 1).val (y 2).val
  h5 : ∀ y : S8x128x128.Idx, x5 y = d.bs (y 0).val (y 1).val
  h6 : ∀ y : S8x1024.Idx, (y 0).val < 3 → x6 y = d.cw (y 0).val (y 1).val
  h7 : ∀ y : S1x2048.Idx, x7 y = d.gn (y 1).val

/-- Pieces that are each a block of `G`, written over contents that they cover, leave `G`. -/
theorem canon_of {s : Shape} {e : EltTy} (G : s.Idx → Elt Ideal e) (L : List (View.Piece (Elt Ideal) s e))
    (hL : ∀ p ∈ L, ∀ x : p.1.shape.Idx, p.2 x = G (p.1.emb x)) (y : s.Idx) (hc : ∃ p ∈ L, y ∈ p.1.set) :
    View.canon L y = G y := View.canon_apply_of_pieces G L hL y hc

section
variable {c : Dev nD} {i : grid0.Coords}
variable {arg1 : Memref sig .tc .vmem S16x5120 .bf16} {harg1 : arg1.IsWhole}
variable {arg2 : Memref sig .tc .vmem S256x5120 .bf16} {harg2 : arg2.IsWhole}
variable {arg3 : Memref sig .tc .vmem S1x1024 .f32} {harg3 : arg3.IsWhole}
variable {arg4 : Memref sig .tc .vmem S1x1024 .f32} {harg4 : arg4.IsWhole}
variable {arg5 : Memref sig .tc .vmem S8x128x128 .bf16} {harg5 : arg5.IsWhole}
variable {arg6 : Memref sig .tc .vmem S8x128x128 .f32} {harg6 : arg6.IsWhole}
variable {arg7 : Memref sig .tc .vmem S8x1024 .f32} {harg7 : arg7.IsWhole}
variable {arg8 : Memref sig .tc .vmem S1x2048 .f32} {harg8 : arg8.IsWhole}
variable {arg9 : Memref sig .tc .vmem S256x2048 .bf16} {harg9 : arg9.IsWhole}
variable {arg10 : Memref sig .tc .vmem S256x1024 .bf16} {harg10 : arg10.IsWhole}
variable {arg11 : Memref sig .tc .vmem S256x1024 .f32} {harg11 : arg11.IsWhole}
variable {x0 : Vec Ideal S16x5120 .bf16} {x1 : Vec Ideal S256x5120 .bf16} {x2 : Vec Ideal S1x1024 .f32} {x3 : Vec Ideal S1x1024 .f32} {x4 : Vec Ideal S8x128x128 .bf16} {x5 : Vec Ideal S8x128x128 .f32} {x6 : Vec Ideal S8x1024 .f32} {x7 : Vec Ideal S1x2048 .f32}
variable {d : X} {t : ℕ} {zp : ℕ → ℕ → EReal} (H : Blk d t zp i x0 x1 x2 x3 x4 x5 x6 x7)

/-- A tile of the mixed values. -/
theorem mixed_at {d : X} {s k h i q : ℕ} (hk : k / 128 = h) (hi : s % 128 = i) (hq : s / 128 * 128 = q) :
    d.mixed s k = (∑ j : Fin 128, d.wm h i j * d.vn (q + j) k) + d.bs h i := by subst hk hi hq; rfl

/-- The sixteen rows before the step's are used at every step but the first. -/
theorem first_sel {t : ℕ} (h : t < 16) (a b : EReal) :
    Scalar.select (Scalar.cmpi CmpIPredicate.sgt (BitVec.ofNat 32 t) 0#32) a b = if t = 0 then b else a := by
  have e : ∀ t : Fin 16, Scalar.cmpi CmpIPredicate.sgt (BitVec.ofNat 32 t.val) 0#32 = if t.val = 0 then 0 else 1 := by decide +kernel
  rw [show Scalar.cmpi CmpIPredicate.sgt (BitVec.ofNat 32 t) 0#32 = if t = 0 then 0 else 1 from e ⟨t, h⟩]
  split <;> rfl

/-- The product `j` rows earlier, read off the rows of the step and the sixteen before them, turned by `j`. -/
theorem prev (d : X) {t j r k : ℕ} (h1 : 1 ≤ j) (h2 : j ≤ 16) (hr : r < 256) :
    (if _ : (16 + r + 272 - j) % 272 < 16 then (if t = 0 then 0 else d.p (256 * t - 16 + (16 + r + 272 - j) % 272) k)
      else d.p (256 * t + ((16 + r + 272 - j) % 272 - 16)) k) = d.ps j (256 * t + r) k := by
  rw [show (16 + r + 272 - j) % 272 = 16 + r - j by omega]
  unfold X.ps
  split
  · split
    · rw [if_neg (by omega)]
    · rw [if_pos (by omega)]; exact c2 _ (by omega) rfl
  · rw [if_pos (by omega)]; exact c2 _ (by omega) rfl

include H

theorem k_r (y : S256x1024.Idx) : kernelRun0_A.sl.r (F := Ideal) c arg2 harg2 x1 y = d.u (256 * t + (y 0).val) (y 1).val := by
  unfold kernelRun0_A.sl.r; unfold k0_pay1; try simp only [View.readAt_eq_ld, Memref.IsWhole.read_unread]
  pointwise
  simp only [H.h1, ix2, ix3, Memref.IsWhole.read_unread, bits0, zero_add, n_ck]
  exact ge_ker (H.hr _ _)

theorem k_r_1 (y : S256x1024.Idx) : kernelRun0_A.sl.r_1 (F := Ideal) c arg2 harg2 x1 y = d.xc (256 * t + (y 0).val) (y 1).val * rms cL (d.xc (256 * t + (y 0).val)) := by
  unfold kernelRun0_A.sl.r_1; unfold k0_pay2; try simp only [View.readAt_eq_ld, Memref.IsWhole.read_unread]
  pointwise
  simp only [H.h1, ix2, ix3, Memref.IsWhole.read_unread, bits0, zero_add, n_ck]
  simp only [ge_ker (H.hr _ _)]
  rfl

theorem k_v53 (y : S256x1024.Idx) : kernelRun0_A.sl.v53 (F := Ideal) c arg2 harg2 arg3 harg3 arg4 harg4 x1 x2 x3 y = d.vn (256 * t + (y 0).val) (y 1).val := by
  unfold kernelRun0_A.sl.v53 kernelRun0_A.sl.v50 kernelRun0_A.sl.v49 kernelRun0_A.sl.v48 kernelRun0_A.sl.v47 kernelRun0_A.sl.v45 kernelRun0_A.sl.v44 kernelRun0_A.sl.v43; try simp only [View.readAt_eq_ld, Memref.IsWhole.read_unread]
  pointwise
  simp only [k_r_1 H, H.h2, H.h3, ix2, ix3, Memref.IsWhole.read_unread, bits0, zero_add, n_ck]
  rfl

theorem k_v56 (y : S128x128.Idx) : kernelRun0_A.sl.v56 (F := Ideal) c arg2 harg2 arg3 harg3 arg4 harg4 arg10 x1 x2 x3 y = d.vn (256 * t + (y 0).val) (y 1).val := by
  unfold kernelRun0_A.sl.v56 kernelRun0_A.sl.HS0_1
  rw [View.readCov_fill (h := by decide)]
  pointwise
  simp only [k_v53 H, ix2, ix3, Memref.IsWhole.read_unread, bits0, zero_add, n_ck]

theorem k_v63 (y : S128x128.Idx) : kernelRun0_A.sl.v63 (F := Ideal) c arg2 harg2 arg3 harg3 arg4 harg4 arg5 harg5 arg6 harg6 arg10 x1 x2 x3 x4 x5 y = d.mixed (256 * t + (y 0).val) (y 1).val := by
  have hy : (y 0).val < 128 := (y 0).isLt
  have hy1 : (y 1).val < 128 := (y 1).isLt
  unfold kernelRun0_A.sl.v63 kernelRun0_A.sl.v60 kernelRun0_A.sl.v57 kernelRun0_A.sl.cst_23 kernelRun0_A.sl.v55 kernelRun0_A.sl.v59; try simp only [View.readAt_eq_ld, Memref.IsWhole.read_unread]
  pointwise
  simp only [k_v56 H, H.h4, H.h5, ix2, ix3, Memref.IsWhole.read_unread, bits0, zero_add, n_ck]
  rw [mixed_at (h := 0) (i := (y 0).val) (q := 256 * t) (by omega) (by omega) (by omega)]
  simp only [Nat.add_assoc]; rfl

theorem k_v66 (y : S128x128.Idx) : kernelRun0_A.sl.v66 (F := Ideal) c arg2 harg2 arg3 harg3 arg4 harg4 arg10 x1 x2 x3 y = d.vn (256 * t + (y 0).val) (128 + (y 1).val) := by
  unfold kernelRun0_A.sl.v66 kernelRun0_A.sl.HS0_1
  rw [View.readCov_fill (h := by decide)]
  pointwise
  simp only [k_v53 H, ix2, ix3, Memref.IsWhole.read_unread, bits0, zero_add, n_ck]

theorem k_v73 (y : S128x128.Idx) : kernelRun0_A.sl.v73 (F := Ideal) c arg2 harg2 arg3 harg3 arg4 harg4 arg5 harg5 arg6 harg6 arg10 x1 x2 x3 x4 x5 y = d.mixed (256 * t + (y 0).val) (128 + (y 1).val) := by
  have hy : (y 0).val < 128 := (y 0).isLt
  have hy1 : (y 1).val < 128 := (y 1).isLt
  unfold kernelRun0_A.sl.v73 kernelRun0_A.sl.v70 kernelRun0_A.sl.v67 kernelRun0_A.sl.cst_23 kernelRun0_A.sl.v65 kernelRun0_A.sl.v69; try simp only [View.readAt_eq_ld, Memref.IsWhole.read_unread]
  pointwise
  simp only [k_v66 H, H.h4, H.h5, ix2, ix3, Memref.IsWhole.read_unread, bits0, zero_add, n_ck]
  rw [mixed_at (h := 1) (i := (y 0).val) (q := 256 * t) (by omega) (by omega) (by omega)]
  simp only [Nat.add_assoc]; rfl

theorem k_v76 (y : S128x128.Idx) : kernelRun0_A.sl.v76 (F := Ideal) c arg2 harg2 arg3 harg3 arg4 harg4 arg10 x1 x2 x3 y = d.vn (256 * t + (y 0).val) (256 + (y 1).val) := by
  unfold kernelRun0_A.sl.v76 kernelRun0_A.sl.HS0_1
  rw [View.readCov_fill (h := by decide)]
  pointwise
  simp only [k_v53 H, ix2, ix3, Memref.IsWhole.read_unread, bits0, zero_add, n_ck]

theorem k_v83 (y : S128x128.Idx) : kernelRun0_A.sl.v83 (F := Ideal) c arg2 harg2 arg3 harg3 arg4 harg4 arg5 harg5 arg6 harg6 arg10 x1 x2 x3 x4 x5 y = d.mixed (256 * t + (y 0).val) (256 + (y 1).val) := by
  have hy : (y 0).val < 128 := (y 0).isLt
  have hy1 : (y 1).val < 128 := (y 1).isLt
  unfold kernelRun0_A.sl.v83 kernelRun0_A.sl.v80 kernelRun0_A.sl.v77 kernelRun0_A.sl.cst_23 kernelRun0_A.sl.v75 kernelRun0_A.sl.v79; try simp only [View.readAt_eq_ld, Memref.IsWhole.read_unread]
  pointwise
  simp only [k_v76 H, H.h4, H.h5, ix2, ix3, Memref.IsWhole.read_unread, bits0, zero_add, n_ck]
  rw [mixed_at (h := 2) (i := (y 0).val) (q := 256 * t) (by omega) (by omega) (by omega)]
  simp only [Nat.add_assoc]; rfl

theorem k_v86 (y : S128x128.Idx) : kernelRun0_A.sl.v86 (F := Ideal) c arg2 harg2 arg3 harg3 arg4 harg4 arg10 x1 x2 x3 y = d.vn (256 * t + (y 0).val) (384 + (y 1).val) := by
  unfold kernelRun0_A.sl.v86 kernelRun0_A.sl.HS0_1
  rw [View.readCov_fill (h := by decide)]
  pointwise
  simp only [k_v53 H, ix2, ix3, Memref.IsWhole.read_unread, bits0, zero_add, n_ck]

theorem k_v93 (y : S128x128.Idx) : kernelRun0_A.sl.v93 (F := Ideal) c arg2 harg2 arg3 harg3 arg4 harg4 arg5 harg5 arg6 harg6 arg10 x1 x2 x3 x4 x5 y = d.mixed (256 * t + (y 0).val) (384 + (y 1).val) := by
  have hy : (y 0).val < 128 := (y 0).isLt
  have hy1 : (y 1).val < 128 := (y 1).isLt
  unfold kernelRun0_A.sl.v93 kernelRun0_A.sl.v90 kernelRun0_A.sl.v87 kernelRun0_A.sl.cst_23 kernelRun0_A.sl.v85 kernelRun0_A.sl.v89; try simp only [View.readAt_eq_ld, Memref.IsWhole.read_unread]
  pointwise
  simp only [k_v86 H, H.h4, H.h5, ix2, ix3, Memref.IsWhole.read_unread, bits0, zero_add, n_ck]
  rw [mixed_at (h := 3) (i := (y 0).val) (q := 256 * t) (by omega) (by omega) (by omega)]
  simp only [Nat.add_assoc]; rfl

theorem k_v96 (y : S128x128.Idx) : kernelRun0_A.sl.v96 (F := Ideal) c arg2 harg2 arg3 harg3 arg4 harg4 arg10 x1 x2 x3 y = d.vn (256 * t + (y 0).val) (512 + (y 1).val) := by
  unfold kernelRun0_A.sl.v96 kernelRun0_A.sl.HS0_1
  rw [View.readCov_fill (h := by decide)]
  pointwise
  simp only [k_v53 H, ix2, ix3, Memref.IsWhole.read_unread, bits0, zero_add, n_ck]

theorem k_v103 (y : S128x128.Idx) : kernelRun0_A.sl.v103 (F := Ideal) c arg2 harg2 arg3 harg3 arg4 harg4 arg5 harg5 arg6 harg6 arg10 x1 x2 x3 x4 x5 y = d.mixed (256 * t + (y 0).val) (512 + (y 1).val) := by
  have hy : (y 0).val < 128 := (y 0).isLt
  have hy1 : (y 1).val < 128 := (y 1).isLt
  unfold kernelRun0_A.sl.v103 kernelRun0_A.sl.v100 kernelRun0_A.sl.v97 kernelRun0_A.sl.cst_23 kernelRun0_A.sl.v95 kernelRun0_A.sl.v99; try simp only [View.readAt_eq_ld, Memref.IsWhole.read_unread]
  pointwise
  simp only [k_v96 H, H.h4, H.h5, ix2, ix3, Memref.IsWhole.read_unread, bits0, zero_add, n_ck]
  rw [mixed_at (h := 4) (i := (y 0).val) (q := 256 * t) (by omega) (by omega) (by omega)]
  simp only [Nat.add_assoc]; rfl

theorem k_v106 (y : S128x128.Idx) : kernelRun0_A.sl.v106 (F := Ideal) c arg2 harg2 arg3 harg3 arg4 harg4 arg10 x1 x2 x3 y = d.vn (256 * t + (y 0).val) (640 + (y 1).val) := by
  unfold kernelRun0_A.sl.v106 kernelRun0_A.sl.HS0_1
  rw [View.readCov_fill (h := by decide)]
  pointwise
  simp only [k_v53 H, ix2, ix3, Memref.IsWhole.read_unread, bits0, zero_add, n_ck]

theorem k_v113 (y : S128x128.Idx) : kernelRun0_A.sl.v113 (F := Ideal) c arg2 harg2 arg3 harg3 arg4 harg4 arg5 harg5 arg6 harg6 arg10 x1 x2 x3 x4 x5 y = d.mixed (256 * t + (y 0).val) (640 + (y 1).val) := by
  have hy : (y 0).val < 128 := (y 0).isLt
  have hy1 : (y 1).val < 128 := (y 1).isLt
  unfold kernelRun0_A.sl.v113 kernelRun0_A.sl.v110 kernelRun0_A.sl.v107 kernelRun0_A.sl.cst_23 kernelRun0_A.sl.v105 kernelRun0_A.sl.v109; try simp only [View.readAt_eq_ld, Memref.IsWhole.read_unread]
  pointwise
  simp only [k_v106 H, H.h4, H.h5, ix2, ix3, Memref.IsWhole.read_unread, bits0, zero_add, n_ck]
  rw [mixed_at (h := 5) (i := (y 0).val) (q := 256 * t) (by omega) (by omega) (by omega)]
  simp only [Nat.add_assoc]; rfl

theorem k_v116 (y : S128x128.Idx) : kernelRun0_A.sl.v116 (F := Ideal) c arg2 harg2 arg3 harg3 arg4 harg4 arg10 x1 x2 x3 y = d.vn (256 * t + (y 0).val) (768 + (y 1).val) := by
  unfold kernelRun0_A.sl.v116 kernelRun0_A.sl.HS0_1
  rw [View.readCov_fill (h := by decide)]
  pointwise
  simp only [k_v53 H, ix2, ix3, Memref.IsWhole.read_unread, bits0, zero_add, n_ck]

theorem k_v123 (y : S128x128.Idx) : kernelRun0_A.sl.v123 (F := Ideal) c arg2 harg2 arg3 harg3 arg4 harg4 arg5 harg5 arg6 harg6 arg10 x1 x2 x3 x4 x5 y = d.mixed (256 * t + (y 0).val) (768 + (y 1).val) := by
  have hy : (y 0).val < 128 := (y 0).isLt
  have hy1 : (y 1).val < 128 := (y 1).isLt
  unfold kernelRun0_A.sl.v123 kernelRun0_A.sl.v120 kernelRun0_A.sl.v117 kernelRun0_A.sl.cst_23 kernelRun0_A.sl.v115 kernelRun0_A.sl.v119; try simp only [View.readAt_eq_ld, Memref.IsWhole.read_unread]
  pointwise
  simp only [k_v116 H, H.h4, H.h5, ix2, ix3, Memref.IsWhole.read_unread, bits0, zero_add, n_ck]
  rw [mixed_at (h := 6) (i := (y 0).val) (q := 256 * t) (by omega) (by omega) (by omega)]
  simp only [Nat.add_assoc]; rfl

theorem k_v126 (y : S128x128.Idx) : kernelRun0_A.sl.v126 (F := Ideal) c arg2 harg2 arg3 harg3 arg4 harg4 arg10 x1 x2 x3 y = d.vn (256 * t + (y 0).val) (896 + (y 1).val) := by
  unfold kernelRun0_A.sl.v126 kernelRun0_A.sl.HS0_1
  rw [View.readCov_fill (h := by decide)]
  pointwise
  simp only [k_v53 H, ix2, ix3, Memref.IsWhole.read_unread, bits0, zero_add, n_ck]

theorem k_v133 (y : S128x128.Idx) : kernelRun0_A.sl.v133 (F := Ideal) c arg2 harg2 arg3 harg3 arg4 harg4 arg5 harg5 arg6 harg6 arg10 x1 x2 x3 x4 x5 y = d.mixed (256 * t + (y 0).val) (896 + (y 1).val) := by
  have hy : (y 0).val < 128 := (y 0).isLt
  have hy1 : (y 1).val < 128 := (y 1).isLt
  unfold kernelRun0_A.sl.v133 kernelRun0_A.sl.v130 kernelRun0_A.sl.v127 kernelRun0_A.sl.cst_23 kernelRun0_A.sl.v125 kernelRun0_A.sl.v129; try simp only [View.readAt_eq_ld, Memref.IsWhole.read_unread]
  pointwise
  simp only [k_v126 H, H.h4, H.h5, ix2, ix3, Memref.IsWhole.read_unread, bits0, zero_add, n_ck]
  rw [mixed_at (h := 7) (i := (y 0).val) (q := 256 * t) (by omega) (by omega) (by omega)]
  simp only [Nat.add_assoc]; rfl

theorem k_v136 (y : S128x128.Idx) : kernelRun0_A.sl.v136 (F := Ideal) c arg2 harg2 arg3 harg3 arg4 harg4 arg10 x1 x2 x3 y = d.vn (256 * t + (128 + (y 0).val)) (y 1).val := by
  unfold kernelRun0_A.sl.v136 kernelRun0_A.sl.HS0_1
  rw [View.readCov_fill (h := by decide)]
  pointwise
  simp only [k_v53 H, ix2, ix3, Memref.IsWhole.read_unread, bits0, zero_add, n_ck]

theorem k_v143 (y : S128x128.Idx) : kernelRun0_A.sl.v143 (F := Ideal) c arg2 harg2 arg3 harg3 arg4 harg4 arg5 harg5 arg6 harg6 arg10 x1 x2 x3 x4 x5 y = d.mixed (256 * t + (128 + (y 0).val)) (y 1).val := by
  have hy : (y 0).val < 128 := (y 0).isLt
  have hy1 : (y 1).val < 128 := (y 1).isLt
  unfold kernelRun0_A.sl.v143 kernelRun0_A.sl.v140 kernelRun0_A.sl.v137 kernelRun0_A.sl.cst_23 kernelRun0_A.sl.v55 kernelRun0_A.sl.v59; try simp only [View.readAt_eq_ld, Memref.IsWhole.read_unread]
  pointwise
  simp only [k_v136 H, H.h4, H.h5, ix2, ix3, Memref.IsWhole.read_unread, bits0, zero_add, n_ck]
  rw [mixed_at (h := 0) (i := (y 0).val) (q := 256 * t + 128) (by omega) (by omega) (by omega)]
  simp only [Nat.add_assoc]; rfl

theorem k_v146 (y : S128x128.Idx) : kernelRun0_A.sl.v146 (F := Ideal) c arg2 harg2 arg3 harg3 arg4 harg4 arg10 x1 x2 x3 y = d.vn (256 * t + (128 + (y 0).val)) (128 + (y 1).val) := by
  unfold kernelRun0_A.sl.v146 kernelRun0_A.sl.HS0_1
  rw [View.readCov_fill (h := by decide)]
  pointwise
  simp only [k_v53 H, ix2, ix3, Memref.IsWhole.read_unread, bits0, zero_add, n_ck]

theorem k_v153 (y : S128x128.Idx) : kernelRun0_A.sl.v153 (F := Ideal) c arg2 harg2 arg3 harg3 arg4 harg4 arg5 harg5 arg6 harg6 arg10 x1 x2 x3 x4 x5 y = d.mixed (256 * t + (128 + (y 0).val)) (128 + (y 1).val) := by
  have hy : (y 0).val < 128 := (y 0).isLt
  have hy1 : (y 1).val < 128 := (y 1).isLt
  unfold kernelRun0_A.sl.v153 kernelRun0_A.sl.v150 kernelRun0_A.sl.v147 kernelRun0_A.sl.cst_23 kernelRun0_A.sl.v65 kernelRun0_A.sl.v69; try simp only [View.readAt_eq_ld, Memref.IsWhole.read_unread]
  pointwise
  simp only [k_v146 H, H.h4, H.h5, ix2, ix3, Memref.IsWhole.read_unread, bits0, zero_add, n_ck]
  rw [mixed_at (h := 1) (i := (y 0).val) (q := 256 * t + 128) (by omega) (by omega) (by omega)]
  simp only [Nat.add_assoc]; rfl

theorem k_v156 (y : S128x128.Idx) : kernelRun0_A.sl.v156 (F := Ideal) c arg2 harg2 arg3 harg3 arg4 harg4 arg10 x1 x2 x3 y = d.vn (256 * t + (128 + (y 0).val)) (256 + (y 1).val) := by
  unfold kernelRun0_A.sl.v156 kernelRun0_A.sl.HS0_1
  rw [View.readCov_fill (h := by decide)]
  pointwise
  simp only [k_v53 H, ix2, ix3, Memref.IsWhole.read_unread, bits0, zero_add, n_ck]

theorem k_v163 (y : S128x128.Idx) : kernelRun0_A.sl.v163 (F := Ideal) c arg2 harg2 arg3 harg3 arg4 harg4 arg5 harg5 arg6 harg6 arg10 x1 x2 x3 x4 x5 y = d.mixed (256 * t + (128 + (y 0).val)) (256 + (y 1).val) := by
  have hy : (y 0).val < 128 := (y 0).isLt
  have hy1 : (y 1).val < 128 := (y 1).isLt
  unfold kernelRun0_A.sl.v163 kernelRun0_A.sl.v160 kernelRun0_A.sl.v157 kernelRun0_A.sl.cst_23 kernelRun0_A.sl.v75 kernelRun0_A.sl.v79; try simp only [View.readAt_eq_ld, Memref.IsWhole.read_unread]
  pointwise
  simp only [k_v156 H, H.h4, H.h5, ix2, ix3, Memref.IsWhole.read_unread, bits0, zero_add, n_ck]
  rw [mixed_at (h := 2) (i := (y 0).val) (q := 256 * t + 128) (by omega) (by omega) (by omega)]
  simp only [Nat.add_assoc]; rfl

theorem k_v166 (y : S128x128.Idx) : kernelRun0_A.sl.v166 (F := Ideal) c arg2 harg2 arg3 harg3 arg4 harg4 arg10 x1 x2 x3 y = d.vn (256 * t + (128 + (y 0).val)) (384 + (y 1).val) := by
  unfold kernelRun0_A.sl.v166 kernelRun0_A.sl.HS0_1
  rw [View.readCov_fill (h := by decide)]
  pointwise
  simp only [k_v53 H, ix2, ix3, Memref.IsWhole.read_unread, bits0, zero_add, n_ck]

theorem k_v173 (y : S128x128.Idx) : kernelRun0_A.sl.v173 (F := Ideal) c arg2 harg2 arg3 harg3 arg4 harg4 arg5 harg5 arg6 harg6 arg10 x1 x2 x3 x4 x5 y = d.mixed (256 * t + (128 + (y 0).val)) (384 + (y 1).val) := by
  have hy : (y 0).val < 128 := (y 0).isLt
  have hy1 : (y 1).val < 128 := (y 1).isLt
  unfold kernelRun0_A.sl.v173 kernelRun0_A.sl.v170 kernelRun0_A.sl.v167 kernelRun0_A.sl.cst_23 kernelRun0_A.sl.v85 kernelRun0_A.sl.v89; try simp only [View.readAt_eq_ld, Memref.IsWhole.read_unread]
  pointwise
  simp only [k_v166 H, H.h4, H.h5, ix2, ix3, Memref.IsWhole.read_unread, bits0, zero_add, n_ck]
  rw [mixed_at (h := 3) (i := (y 0).val) (q := 256 * t + 128) (by omega) (by omega) (by omega)]
  simp only [Nat.add_assoc]; rfl

theorem k_v176 (y : S128x128.Idx) : kernelRun0_A.sl.v176 (F := Ideal) c arg2 harg2 arg3 harg3 arg4 harg4 arg10 x1 x2 x3 y = d.vn (256 * t + (128 + (y 0).val)) (512 + (y 1).val) := by
  unfold kernelRun0_A.sl.v176 kernelRun0_A.sl.HS0_1
  rw [View.readCov_fill (h := by decide)]
  pointwise
  simp only [k_v53 H, ix2, ix3, Memref.IsWhole.read_unread, bits0, zero_add, n_ck]

theorem k_v183 (y : S128x128.Idx) : kernelRun0_A.sl.v183 (F := Ideal) c arg2 harg2 arg3 harg3 arg4 harg4 arg5 harg5 arg6 harg6 arg10 x1 x2 x3 x4 x5 y = d.mixed (256 * t + (128 + (y 0).val)) (512 + (y 1).val) := by
  have hy : (y 0).val < 128 := (y 0).isLt
  have hy1 : (y 1).val < 128 := (y 1).isLt
  unfold kernelRun0_A.sl.v183 kernelRun0_A.sl.v180 kernelRun0_A.sl.v177 kernelRun0_A.sl.cst_23 kernelRun0_A.sl.v95 kernelRun0_A.sl.v99; try simp only [View.readAt_eq_ld, Memref.IsWhole.read_unread]
  pointwise
  simp only [k_v176 H, H.h4, H.h5, ix2, ix3, Memref.IsWhole.read_unread, bits0, zero_add, n_ck]
  rw [mixed_at (h := 4) (i := (y 0).val) (q := 256 * t + 128) (by omega) (by omega) (by omega)]
  simp only [Nat.add_assoc]; rfl

theorem k_v186 (y : S128x128.Idx) : kernelRun0_A.sl.v186 (F := Ideal) c arg2 harg2 arg3 harg3 arg4 harg4 arg10 x1 x2 x3 y = d.vn (256 * t + (128 + (y 0).val)) (640 + (y 1).val) := by
  unfold kernelRun0_A.sl.v186 kernelRun0_A.sl.HS0_1
  rw [View.readCov_fill (h := by decide)]
  pointwise
  simp only [k_v53 H, ix2, ix3, Memref.IsWhole.read_unread, bits0, zero_add, n_ck]

theorem k_v193 (y : S128x128.Idx) : kernelRun0_A.sl.v193 (F := Ideal) c arg2 harg2 arg3 harg3 arg4 harg4 arg5 harg5 arg6 harg6 arg10 x1 x2 x3 x4 x5 y = d.mixed (256 * t + (128 + (y 0).val)) (640 + (y 1).val) := by
  have hy : (y 0).val < 128 := (y 0).isLt
  have hy1 : (y 1).val < 128 := (y 1).isLt
  unfold kernelRun0_A.sl.v193 kernelRun0_A.sl.v190 kernelRun0_A.sl.v187 kernelRun0_A.sl.cst_23 kernelRun0_A.sl.v105 kernelRun0_A.sl.v109; try simp only [View.readAt_eq_ld, Memref.IsWhole.read_unread]
  pointwise
  simp only [k_v186 H, H.h4, H.h5, ix2, ix3, Memref.IsWhole.read_unread, bits0, zero_add, n_ck]
  rw [mixed_at (h := 5) (i := (y 0).val) (q := 256 * t + 128) (by omega) (by omega) (by omega)]
  simp only [Nat.add_assoc]; rfl

theorem k_v196 (y : S128x128.Idx) : kernelRun0_A.sl.v196 (F := Ideal) c arg2 harg2 arg3 harg3 arg4 harg4 arg10 x1 x2 x3 y = d.vn (256 * t + (128 + (y 0).val)) (768 + (y 1).val) := by
  unfold kernelRun0_A.sl.v196 kernelRun0_A.sl.HS0_1
  rw [View.readCov_fill (h := by decide)]
  pointwise
  simp only [k_v53 H, ix2, ix3, Memref.IsWhole.read_unread, bits0, zero_add, n_ck]

theorem k_v203 (y : S128x128.Idx) : kernelRun0_A.sl.v203 (F := Ideal) c arg2 harg2 arg3 harg3 arg4 harg4 arg5 harg5 arg6 harg6 arg10 x1 x2 x3 x4 x5 y = d.mixed (256 * t + (128 + (y 0).val)) (768 + (y 1).val) := by
  have hy : (y 0).val < 128 := (y 0).isLt
  have hy1 : (y 1).val < 128 := (y 1).isLt
  unfold kernelRun0_A.sl.v203 kernelRun0_A.sl.v200 kernelRun0_A.sl.v197 kernelRun0_A.sl.cst_23 kernelRun0_A.sl.v115 kernelRun0_A.sl.v119; try simp only [View.readAt_eq_ld, Memref.IsWhole.read_unread]
  pointwise
  simp only [k_v196 H, H.h4, H.h5, ix2, ix3, Memref.IsWhole.read_unread, bits0, zero_add, n_ck]
  rw [mixed_at (h := 6) (i := (y 0).val) (q := 256 * t + 128) (by omega) (by omega) (by omega)]
  simp only [Nat.add_assoc]; rfl

theorem k_v206 (y : S128x128.Idx) : kernelRun0_A.sl.v206 (F := Ideal) c arg2 harg2 arg3 harg3 arg4 harg4 arg10 x1 x2 x3 y = d.vn (256 * t + (128 + (y 0).val)) (896 + (y 1).val) := by
  unfold kernelRun0_A.sl.v206 kernelRun0_A.sl.HS0_1
  rw [View.readCov_fill (h := by decide)]
  pointwise
  simp only [k_v53 H, ix2, ix3, Memref.IsWhole.read_unread, bits0, zero_add, n_ck]

theorem k_v213 (y : S128x128.Idx) : kernelRun0_A.sl.v213 (F := Ideal) c arg2 harg2 arg3 harg3 arg4 harg4 arg5 harg5 arg6 harg6 arg10 x1 x2 x3 x4 x5 y = d.mixed (256 * t + (128 + (y 0).val)) (896 + (y 1).val) := by
  have hy : (y 0).val < 128 := (y 0).isLt
  have hy1 : (y 1).val < 128 := (y 1).isLt
  unfold kernelRun0_A.sl.v213 kernelRun0_A.sl.v210 kernelRun0_A.sl.v207 kernelRun0_A.sl.cst_23 kernelRun0_A.sl.v125 kernelRun0_A.sl.v129; try simp only [View.readAt_eq_ld, Memref.IsWhole.read_unread]
  pointwise
  simp only [k_v206 H, H.h4, H.h5, ix2, ix3, Memref.IsWhole.read_unread, bits0, zero_add, n_ck]
  rw [mixed_at (h := 7) (i := (y 0).val) (q := 256 * t + 128) (by omega) (by omega) (by omega)]
  simp only [Nat.add_assoc]; rfl

theorem k_HS1_16 (y : S256x1024.Idx) : View.canon (Val := Elt Ideal) (kernelRun0_A.sl.HS1_16 (F := Ideal) c arg2 harg2 arg3 harg3 arg4 harg4 arg5 harg5 arg6 harg6 arg10 x1 x2 x3 x4 x5) y = d.mixed (256 * t + (y 0).val) (y 1).val := by
  refine canon_of (s := S256x1024) (e := .f32) (fun x => d.mixed (256 * t + (x 0).val) (x 1).val) _ ?_ y (View.cover_of_tiledL (s := S256x1024) _ S128x128.size (by sl_kernel_rfl) y)
  unfold kernelRun0_A.sl.HS1_16
  simp only [List.forall_mem_cons, List.not_mem_nil, false_imp_iff, implies_true, and_true]
  refine ⟨fun x => (k_v213 H x).trans (c2 _ ?_ ?_), fun x => (k_v203 H x).trans (c2 _ ?_ ?_), fun x => (k_v193 H x).trans (c2 _ ?_ ?_), fun x => (k_v183 H x).trans (c2 _ ?_ ?_), fun x => (k_v173 H x).trans (c2 _ ?_ ?_), fun x => (k_v163 H x).trans (c2 _ ?_ ?_), fun x => (k_v153 H x).trans (c2 _ ?_ ?_), fun x => (k_v143 H x).trans (c2 _ ?_ ?_), fun x => (k_v133 H x).trans (c2 _ ?_ ?_), fun x => (k_v123 H x).trans (c2 _ ?_ ?_), fun x => (k_v113 H x).trans (c2 _ ?_ ?_), fun x => (k_v103 H x).trans (c2 _ ?_ ?_), fun x => (k_v93 H x).trans (c2 _ ?_ ?_), fun x => (k_v83 H x).trans (c2 _ ?_ ?_), fun x => (k_v73 H x).trans (c2 _ ?_ ?_), fun x => (k_v63 H x).trans (c2 _ ?_ ?_)⟩
  · show 256 * t + (128 + (x 0).val) = 256 * t + (128 + 1 * (x 0).val); omega
  · show 896 + (x 1).val = 896 + 1 * (x 1).val; omega
  · show 256 * t + (128 + (x 0).val) = 256 * t + (128 + 1 * (x 0).val); omega
  · show 768 + (x 1).val = 768 + 1 * (x 1).val; omega
  · show 256 * t + (128 + (x 0).val) = 256 * t + (128 + 1 * (x 0).val); omega
  · show 640 + (x 1).val = 640 + 1 * (x 1).val; omega
  · show 256 * t + (128 + (x 0).val) = 256 * t + (128 + 1 * (x 0).val); omega
  · show 512 + (x 1).val = 512 + 1 * (x 1).val; omega
  · show 256 * t + (128 + (x 0).val) = 256 * t + (128 + 1 * (x 0).val); omega
  · show 384 + (x 1).val = 384 + 1 * (x 1).val; omega
  · show 256 * t + (128 + (x 0).val) = 256 * t + (128 + 1 * (x 0).val); omega
  · show 256 + (x 1).val = 256 + 1 * (x 1).val; omega
  · show 256 * t + (128 + (x 0).val) = 256 * t + (128 + 1 * (x 0).val); omega
  · show 128 + (x 1).val = 128 + 1 * (x 1).val; omega
  · show 256 * t + (128 + (x 0).val) = 256 * t + (128 + 1 * (x 0).val); omega
  · show (x 1).val = 0 + 1 * (x 1).val; omega
  · show 256 * t + ((x 0).val) = 256 * t + (0 + 1 * (x 0).val); omega
  · show 896 + (x 1).val = 896 + 1 * (x 1).val; omega
  · show 256 * t + ((x 0).val) = 256 * t + (0 + 1 * (x 0).val); omega
  · show 768 + (x 1).val = 768 + 1 * (x 1).val; omega
  · show 256 * t + ((x 0).val) = 256 * t + (0 + 1 * (x 0).val); omega
  · show 640 + (x 1).val = 640 + 1 * (x 1).val; omega
  · show 256 * t + ((x 0).val) = 256 * t + (0 + 1 * (x 0).val); omega
  · show 512 + (x 1).val = 512 + 1 * (x 1).val; omega
  · show 256 * t + ((x 0).val) = 256 * t + (0 + 1 * (x 0).val); omega
  · show 384 + (x 1).val = 384 + 1 * (x 1).val; omega
  · show 256 * t + ((x 0).val) = 256 * t + (0 + 1 * (x 0).val); omega
  · show 256 + (x 1).val = 256 + 1 * (x 1).val; omega
  · show 256 * t + ((x 0).val) = 256 * t + (0 + 1 * (x 0).val); omega
  · show 128 + (x 1).val = 128 + 1 * (x 1).val; omega
  · show 256 * t + ((x 0).val) = 256 * t + (0 + 1 * (x 0).val); omega
  · show (x 1).val = 0 + 1 * (x 1).val; omega

theorem k_v214 (y : S256x1024.Idx) : kernelRun0_A.sl.v214 (F := Ideal) c arg2 harg2 arg3 harg3 arg4 harg4 arg5 harg5 arg6 harg6 arg10 arg11 x1 x2 x3 x4 x5 y = d.mixed (256 * t + (y 0).val) (y 1).val := by
  unfold kernelRun0_A.sl.v214
  simp only [View.readCov_eq_canon', k_HS1_16 H]
  refine c2 _ ?_ ?_
  · show 256 * t + (0 + 1 * (y 0).val) = _; omega
  · show 0 + 1 * (y 1).val = _; omega

theorem k_v215 (y : S256x1024.Idx) : kernelRun0_A.sl.v215 (F := Ideal) c arg2 harg2 arg3 harg3 arg4 harg4 arg5 harg5 arg6 harg6 arg10 arg11 x1 x2 x3 x4 x5 y = d.ya (256 * t + (y 0).val) (y 1).val := by
  unfold kernelRun0_A.sl.v215
  pointwise
  simp only [k_r H, k_v214 H, ix2, ix3, Memref.IsWhole.read_unread, bits0, zero_add, n_ck]
  rfl

theorem k_v230 (y : S256x1024.Idx) : kernelRun0_A.sl.v230 (F := Ideal) c arg2 harg2 arg3 harg3 arg4 harg4 arg5 harg5 arg6 harg6 arg8 harg8 arg10 arg11 x1 x2 x3 x4 x5 x7 y = d.ya (256 * t + (y 0).val) (y 1).val * rms cR (d.ya (256 * t + (y 0).val)) * d.gn (y 1).val := by
  unfold kernelRun0_A.sl.v230 kernelRun0_A.sl.v229 kernelRun0_A.sl.v228 kernelRun0_A.sl.v227 kernelRun0_A.sl.v225 kernelRun0_A.sl.v224 kernelRun0_A.sl.v223 kernelRun0_A.sl.v222 kernelRun0_A.sl.v221 kernelRun0_A.sl.v220 kernelRun0_A.sl.v219 kernelRun0_A.sl.v218 kernelRun0_A.sl.v217 kernelRun0_A.sl.v216 kernelRun0_A.sl.cst_184 kernelRun0_A.sl.cst_183; try simp only [View.readAt_eq_ld, Memref.IsWhole.read_unread]
  pointwise
  simp only [k_v215 H, H.h7, ix2, ix3, Memref.IsWhole.read_unread, bits0, zero_add, n_ck]
  rfl

theorem k_v244 (y : S256x1024.Idx) : kernelRun0_A.sl.v244 (F := Ideal) c arg2 harg2 x1 y = d.p (256 * t + (y 0).val) (y 1).val := by
  unfold kernelRun0_A.sl.v244 kernelRun0_A.sl.v243 kernelRun0_A.sl.v241; try simp only [View.readAt_eq_ld, Memref.IsWhole.read_unread]
  pointwise
  simp only [H.h1, ix2, ix3, Memref.IsWhole.read_unread, bits0, zero_add, n_ck]
  rfl

theorem k_v239 (y : S16x1024.Idx) : kernelRun0_A.sl.v239 (F := Ideal) c i arg1 harg1 x0 y = if t = 0 then 0 else d.p (256 * t - 16 + (y 0).val) (y 1).val := by
  unfold kernelRun0_A.sl.v239 kernelRun0_A.sl.v238 kernelRun0_A.sl.v237 kernelRun0_A.sl.v236 kernelRun0_A.sl.v235 kernelRun0_A.sl.v233 kernelRun0_A.sl.cst_191; try simp only [View.readAt_eq_ld, Memref.IsWhole.read_unread]
  pointwise
  simp only [H.h0, ix2, ix3, Memref.IsWhole.read_unread, bits0, zero_add, n_ck]
  rw [H.ht, first_sel H.h16]
  split
  · rfl
  · rename_i h
    unfold X.p
    rw [H.hz h _ _ (y 0).isLt, H.hz h _ _ (y 0).isLt]

theorem k_r_2 (y : S256x1024.Idx) : kernelRun0_A.sl.r_2 (F := Ideal) c i arg1 harg1 arg2 harg2 arg7 harg7 arg8 harg8 x0 x1 x6 x7 y = d.yb (256 * t + (y 0).val) (y 1).val * rms cR (d.yb (256 * t + (y 0).val)) * d.gn (1024 + (y 1).val) := by
  unfold kernelRun0_A.sl.r_2; unfold k0_pay28; try simp only [View.readAt_eq_ld, Memref.IsWhole.read_unread]
  pointwise
  simp only [k_v239 H, k_v244 H, H.h1, H.h7, ix2, ix3, Memref.IsWhole.read_unread, bits0, zero_add, n_ck]
  have e2 : ∀ k : Fin 1024, x6 (ix2 2 k) = d.cw 2 k := fun k => H.h6 (ix2 2 k) (by decide : 2 < 3)
  have e1 : ∀ k : Fin 1024, x6 (ix2 1 k) = d.cw 1 k := fun k => H.h6 (ix2 1 k) (by decide : 1 < 3)
  have e0 : ∀ k : Fin 1024, x6 (ix2 0 k) = d.cw 0 k := fun k => H.h6 (ix2 0 k) (by decide : 0 < 3)
  have hy : (y 0).val < 256 := (y 0).isLt
  simp only [e0, e1, e2, prev d (j := 1) (by decide) (by decide) hy, prev d (j := 2) (by decide) (by decide) hy]
  rw [show x6 (ix2 2 (y 1)) = d.cw 2 (y 1).val from e2 (y 1), show x6 (ix2 1 (y 1)) = d.cw 1 (y 1).val from e1 (y 1),
    show x6 (ix2 0 (y 1)) = d.cw 0 (y 1).val from e0 (y 1)]
  rfl

theorem k_out (y : S256x2048.Idx) : out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 x7 y = d.out (256 * t + (y 0).val) (y 1).val := by
  unfold out0_A_8
  rw [View.read_writes_apply_eq_canon _ _ _ _ (cover0_A_8 ..)]
  refine canon_of (fun y => d.out (256 * t + (y 0).val) (y 1).val) _ ?_ y (cover0_A_8 ..)
  show ∀ p ∈ [(⟨Rect.unit ![0, 1024] S256x1024.size (by decide), kernelRun0_A.sl.r_2 (F := Ideal) c i arg1 harg1 arg2 harg2 arg7 harg7 arg8 harg8 x0 x1 x6 x7⟩ : View.Piece (Elt Ideal) S256x2048 .bf16), ⟨Rect.unit ![0, 0] S256x1024.size (by decide), kernelRun0_A.sl.v230 (F := Ideal) c arg2 harg2 arg3 harg3 arg4 harg4 arg5 harg5 arg6 harg6 arg8 harg8 arg10 arg11 x1 x2 x3 x4 x5 x7⟩], _
  simp only [List.forall_mem_cons, List.not_mem_nil, false_imp_iff, implies_true, and_true]
  refine ⟨fun x => (k_r_2 H x).trans ?_, fun x => (k_v230 H x).trans ?_⟩
  · show _ = d.out (256 * t + (0 + 1 * (x 0).val)) (1024 + 1 * (x 1).val)
    rw [zero_add, one_mul, one_mul]
    unfold X.out
    rw [if_neg (by omega), Nat.add_sub_cancel_left]
  · have h1 : (x 1).val < 1024 := (x 1).isLt
    show _ = d.out (256 * t + (0 + 1 * (x 0).val)) (0 + 1 * (x 1).val)
    rw [zero_add, one_mul, zero_add, one_mul]
    unfold X.out
    rw [if_pos h1]

end

end Cert.MixF.Ker
-- ==== Proof.MixFwd.lean ====
module

public import proofs.«01_k».proof.Proof.MixFwdRef
public import proofs.«01_k».proof.Proof.MixFwdKer
public import proofs.«01_k».proof.Proof.Finite
public import proofs.«01_k».proof.Proof.Gen.Pre_finite_z
public import proofs.«01_k».proof.Defs
public import Idealize.ShloMosaic.Lib.Pipeline.ValueKit
public import Idealize.ShloMosaic.Lib.Pointwise
public import Idealize.ShloMosaic.Lib.Claim

/-! The mixer's forward pass: where the projection is real, each block the kernel writes is the block of what the reference
computes. -/

@[expose] public section

set_option maxRecDepth 16384

noncomputable section

open Idealize.ShloMosaic Idealize.ShloMosaic.TcCoe Idealize.SL.Sem
open Idealize.ShloMosaic.Pipeline (Dat)

namespace Cert.MixF

/-! ## Arrays as functions of natural numbers -/

/-- The entry of a vector at a natural number, zero outside. -/
def at1 {n : ℕ} (x : (⟨1, ![n]⟩ : Shape).Idx → EReal) (a : ℕ) : EReal := if h : a < n then x (ix1 ⟨a, h⟩) else 0
/-- The entry of a matrix at two natural numbers, zero outside. -/
def at2 {n k : ℕ} (x : (⟨2, ![n, k]⟩ : Shape).Idx → EReal) (a b : ℕ) : EReal :=
  if h : a < n ∧ b < k then x (ix2 ⟨a, h.1⟩ ⟨b, h.2⟩) else 0
/-- The entry of an array of three axes at three natural numbers, zero outside. -/
def at3 {n k l : ℕ} (x : (⟨3, ![n, k, l]⟩ : Shape).Idx → EReal) (a b c : ℕ) : EReal :=
  if h : a < n ∧ b < k ∧ c < l then x (ix3 ⟨a, h.1⟩ ⟨b, h.2.1⟩ ⟨c, h.2.2⟩) else 0

/-- A vector at an index. -/
theorem at1_eq {n : ℕ} (x : (⟨1, ![n]⟩ : Shape).Idx → EReal) (i : (⟨1, ![n]⟩ : Shape).Idx)
    {a : ℕ} (h0 : (i 0).val = a) : x i = at1 x a := by
  subst h0
  have h0 : (i 0).val < n := (i 0).isLt
  have hi : i = ix1 ⟨(i 0).val, h0⟩ := by funext j; match j with | ⟨0, _⟩ => rfl
  unfold at1
  rw [dif_pos h0]
  exact congrArg x hi

/-- A matrix at an index. -/
theorem at2_eq {n k : ℕ} (x : (⟨2, ![n, k]⟩ : Shape).Idx → EReal) (i : (⟨2, ![n, k]⟩ : Shape).Idx)
    {a b : ℕ} (h0 : (i 0).val = a) (h1 : (i 1).val = b) : x i = at2 x a b := by
  subst h0; subst h1
  have h0 : (i 0).val < n := (i 0).isLt; have h1 : (i 1).val < k := (i 1).isLt
  have hi : i = ix2 ⟨(i 0).val, h0⟩ ⟨(i 1).val, h1⟩ := by funext j; match j with | ⟨0, _⟩ => rfl | ⟨1, _⟩ => rfl
  unfold at2
  rw [dif_pos ⟨h0, h1⟩]
  exact congrArg x hi

/-- An array of three axes at an index. -/
theorem at3_eq {n k l : ℕ} (x : (⟨3, ![n, k, l]⟩ : Shape).Idx → EReal) (i : (⟨3, ![n, k, l]⟩ : Shape).Idx)
    {a b c : ℕ} (h0 : (i 0).val = a) (h1 : (i 1).val = b) (h2 : (i 2).val = c) : x i = at3 x a b c := by
  subst h0; subst h1; subst h2
  have h0 : (i 0).val < n := (i 0).isLt; have h1 : (i 1).val < k := (i 1).isLt; have h2 : (i 2).val < l := (i 2).isLt
  have hi : i = ix3 ⟨(i 0).val, h0⟩ ⟨(i 1).val, h1⟩ ⟨(i 2).val, h2⟩ := by funext j; match j with | ⟨0, _⟩ => rfl | ⟨1, _⟩ => rfl | ⟨2, _⟩ => rfl
  unfold at3
  rw [dif_pos ⟨h0, h1, h2⟩]
  exact congrArg x hi

/-- The arguments as functions of natural numbers. -/
def dat (x0 : FVec Ideal ⟨2, ![4096, 5120]⟩ .bf16) (x1 x2 : FVec Ideal ⟨1, ![1024]⟩ .f32) (x3 : FVec Ideal ⟨3, ![8, 128, 128]⟩ .f32)
    (x4 : FVec Ideal ⟨2, ![8, 128]⟩ .f32) (x5 : FVec Ideal ⟨2, ![3, 1024]⟩ .f32) (x6 : FVec Ideal ⟨1, ![2048]⟩ .f32) : X where
  z := at2 x0
  lg := at1 x1
  lb := at1 x2
  ws := at3 x3
  bs := at2 x4
  cw := at2 x5
  gn := at1 x6

/-- A real matrix is real at all natural numbers. -/
theorem at2_real {n k : ℕ} {x : (⟨2, ![n, k]⟩ : Shape).Idx → EReal} (h : ∀ i, ∃ r : ℝ, x i = r) (a b : ℕ) : ∃ r : ℝ, at2 x a b = r := by
  unfold at2
  split
  · exact h _
  · exact ⟨0, rfl⟩

end Cert.MixF

namespace Cert.MixF.Run

open Cert.MixerFwdIdeal Cert.MixerFwdIdeal.Gen Cert.MixF.Ker

variable (m : (ℓ : Loc nD τ sig) → Buf (Elt Ideal) ℓ) (c : Dev nD)

abbrev a0 : FVec Ideal S4096x5120 .bf16 := m ((c : Thread nD τ).loc main_arg0)
abbrev a1 : FVec Ideal S1024 .f32 := m ((c : Thread nD τ).loc main_arg1)
abbrev a2 : FVec Ideal S1024 .f32 := m ((c : Thread nD τ).loc main_arg2)
abbrev a3 : FVec Ideal S8x128x128 .f32 := m ((c : Thread nD τ).loc main_arg3)
abbrev a4 : FVec Ideal S8x128 .f32 := m ((c : Thread nD τ).loc main_arg4)
abbrev a5 : FVec Ideal S3x1024 .f32 := m ((c : Thread nD τ).loc main_arg5)
abbrev a6 : FVec Ideal S2048 .f32 := m ((c : Thread nD τ).loc main_arg6)

/-- The kernel's arguments as functions of natural numbers. -/
abbrev D : X := dat (a0 m c) (a1 m c) (a2 m c) (a3 m c) (a4 m c) (a5 m c) (a6 m c)

/-! ## The operands the host computes -/

theorem V14 : V m c main_v14 = shapeCast S1x1024 (a1 m c) shapeCasts_S1024_S1x1024 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V15 : V m c main_v15 = shapeCast S1x1024 (a2 m c) shapeCasts_S1024_S1x1024 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V16 : V m c main_v16 = shapeCast S1x2048 (a6 m c) shapeCasts_S2048_S1x2048 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V13 : V m c main_v13 = pad S8x1024 ![0, 0] ![5, 0] ![0, 0] (a5 m c) (sitofp (F := Ideal) FTy.f32 (constantI S_ 32 0#32))
      pads_S3x1024_S8x1024_050_000 h_S_ := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V12 : V m c main_v12 = broadcastInDim S8x128x128 ![0, 1, 2] bcast_S8x128x1_S8x128x128_0_1_2 (broadcastInDim S8x128x1 ![0, 1] bcast_S8x128_S8x128x1_0_1 (a4 m c)) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl
theorem V10 : V m c main_v10 = truncf (F := Ideal) FTy.bf16 (Cert.MixF.Ref.aWM (a3 m c)) bitsLt_bf16_f32 := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- Which block each window is at, at grid point `t`. -/
theorem idx : ∀ t : Fin cfg0.N, win0_0.index t = ![16 * t.val - 1, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0] ∧ win0_8.index t = ![t.val, 0] :=
  (by decide +kernel : ∀ t : Fin grid0.N, _)

/-- The rows before the step's rows, as the step reads them. -/
theorem b0 (t : Fin cfg0.N) (ht : t.val < 16) (y : S16x5120.Idx) : iblk m c 0 t y = a0 m c (ix2 ⟨(16 * t.val - 1) * 16 + (y 0).val, by have : (y 0).val < 16 := (y 0).isLt; omega⟩ (y 1)) := by
  idx_vars y
  blk_point [iblk, V_main_arg0, idx t]
/-- The step's rows. -/
theorem b1 (t : Fin cfg0.N) (ht : t.val < 16) (y : S256x5120.Idx) : iblk m c 1 t y = a0 m c (ix2 ⟨t.val * 256 + (y 0).val, by have : (y 0).val < 256 := (y 0).isLt; omega⟩ (y 1)) := by
  idx_vars y
  blk_point [iblk, V_main_arg0, idx t]
theorem b2 (t : Fin cfg0.N) (y : S1x1024.Idx) : iblk m c 2 t y = V m c main_v14 y := by
  idx_vars y
  blk_point [iblk, idx t]
theorem b3 (t : Fin cfg0.N) (y : S1x1024.Idx) : iblk m c 3 t y = V m c main_v15 y := by
  idx_vars y
  blk_point [iblk, idx t]
theorem b4 (t : Fin cfg0.N) (y : S8x128x128.Idx) : iblk m c 4 t y = V m c main_v10 y := by
  idx_vars y
  blk_point [iblk, idx t]
theorem b5 (t : Fin cfg0.N) (y : S8x128x128.Idx) : iblk m c 5 t y = V m c main_v12 y := by
  idx_vars y
  blk_point [iblk, idx t]
theorem b6 (t : Fin cfg0.N) (y : S8x1024.Idx) : iblk m c 6 t y = V m c main_v13 y := by
  idx_vars y
  blk_point [iblk, idx t]
theorem b7 (t : Fin cfg0.N) (y : S1x2048.Idx) : iblk m c 7 t y = V m c main_v16 y := by
  idx_vars y
  blk_point [iblk, idx t]

/-- The rows before the step's rows. -/
def zprev (t r k : ℕ) : EReal := (D m c).z ((16 * t - 1) * 16 + r) k

variable {m c}

/-- What the step at grid point `t` reads. -/
theorem blk (h : ∀ i, ∃ r : ℝ, a0 m c i = (r : EReal)) (t : Fin cfg0.N) : Blk (D m c) t.val (zprev m c t.val) (grid0.coords t)
    (iblk m c 0 t) (iblk m c 1 t) (iblk m c 2 t) (iblk m c 3 t) (iblk m c 4 t) (iblk m c 5 t) (iblk m c 6 t) (iblk m c 7 t) := by
  have ht : t.val < 16 := t.isLt
  constructor
  · exact at2_real h
  · exact (by decide +kernel : ∀ t : Fin grid0.N, (grid0.coords t 0).val = t.val) t
  · exact ht
  · intro h0 r k hr
    unfold zprev
    congr 1
    omega
  · intro y
    exact (b0 m c t ht y).trans (at2_eq _ _ rfl rfl)
  · intro y
    refine (b1 m c t ht y).trans (at2_eq _ _ ?_ rfl)
    show t.val * 256 + (y 0).val = _
    omega
  · intro y
    rw [b2, V14]
    idx_vars y
    pointwise
    exact at1_eq _ _ rfl
  · intro y
    rw [b3, V15]
    idx_vars y
    pointwise
    exact at1_eq _ _ rfl
  · intro y
    rw [b4, V10]
    exact Cert.MixF.Ref.WM_at (d := D m c) (fun i => at3_eq _ i rfl rfl rfl) y
  · intro y
    rw [b5, V12]
    idx_vars y
    pointwise
    exact at2_eq _ _ rfl rfl
  · intro y hy
    rw [b6, V13]
    idx_vars y
    pointwise
    rw [dif_pos hy]
    exact at2_eq _ _ rfl rfl
  · intro y
    rw [b7, V16]
    idx_vars y
    pointwise
    exact at1_eq _ _ rfl

/-- The result array after the run, at every row and column. -/
theorem final (h : ∀ i, ∃ r : ℝ, a0 m c i = (r : EReal)) :
    (dats m 0 c).arrAt 8 (cfgs 0).N = fun i : S4096x2048.Idx => (D m c).out (i 0).val (i 1).val := by
  refine (dats m 0 c).arrAt_eq_of_covers 8 _ (by decide +kernel) fun t _ y => ?_
  idx_vars y
  blk_simp
  rw [after0_8]
  refine (k_out (blk h t) (ix2 y0 y1)).trans ?_
  refine congrArg₂ (D m c).out ?_ ?_
  · blk_point [idx t]
    exact Nat.mul_comm _ _
  · blk_point [idx t]

end Cert.MixF.Run

namespace Cert.Proof

/-- The precondition says that the projection is real everywhere. -/
theorem real_z (m : (ℓ : Loc Cert.MixerFwdIdeal.nD Cert.MixerFwdIdeal.τ Cert.MixerFwdIdeal.sig) → Buf (Elt Ideal) ℓ)
    (h : Cert.Pre_MixerFwdIdeal_finite_z m) (c : Dev Cert.MixerFwdIdeal.nD) : ∀ i, ∃ r : ℝ, Cert.MixF.Run.a0 m c i = (r : EReal) := by
  have e := congrFun (h c) (ix0)
  dsimp only [Cert.Pre_finite_z.fn] at e
  exact Cert.Real.real_of_all _ _ _ _ _ e

/-- The kernel's result in a final state, where the projection is real. -/
theorem mem_mixer_fwd (m : (ℓ : Loc Cert.MixerFwdIdeal.nD Cert.MixerFwdIdeal.τ Cert.MixerFwdIdeal.sig) → Buf (Elt Ideal) ℓ) (c : Dev Cert.MixerFwdIdeal.nD)
    (r : PUnit × MemSt Cert.MixerFwdIdeal.nD Cert.MixerFwdIdeal.τ Cert.MixerFwdIdeal.sig (Elt Ideal))
    (hr : Pipeline.FramePost Cert.MixerFwdIdeal.cfgs (Cert.MixerFwdIdeal.Gen.dats m) 0 (Cert.MixerFwdIdeal.Gen.V m) r)
    (h : ∀ i, ∃ r : ℝ, Cert.MixF.Run.a0 m c i = (r : EReal)) :
    r.2.mem ((c.tc : Thread Cert.MixerFwdIdeal.nD Cert.MixerFwdIdeal.τ).loc Cert.MixerFwdIdeal.main_v17)
      = fun i : Cert.MixerFwdIdeal.S4096x2048.Idx => (Cert.MixF.Run.D m c).out (i 0).val (i 1).val :=
  Eq.trans (b := (Cert.MixerFwdIdeal.Gen.dats m 0 c).arrAt 8 (Cert.MixerFwdIdeal.cfgs 0).N) ((hr c).1 8) (Cert.MixF.Run.final h)

/-- The reference's result, where the projection is real. -/
theorem ref_mixer_fwd (m : (ℓ : Loc Cert.MixerFwdRefIdeal.nD Cert.MixerFwdRefIdeal.τ Cert.MixerFwdRefIdeal.sig) → Buf (Elt Ideal) ℓ) (c : Dev Cert.MixerFwdRefIdeal.nD)
    {x0 : FVec Ideal ⟨2, ![4096, 5120]⟩ .bf16} {x1 x2 : FVec Ideal ⟨1, ![1024]⟩ .f32} {x3 : FVec Ideal ⟨3, ![8, 128, 128]⟩ .f32}
    {x4 : FVec Ideal ⟨2, ![8, 128]⟩ .f32} {x5 : FVec Ideal ⟨2, ![3, 1024]⟩ .f32} {x6 : FVec Ideal ⟨1, ![2048]⟩ .f32}
    (h : ∀ i, ∃ r : ℝ, x0 i = (r : EReal))
    (h0 : m ((c.tc : Thread Cert.MixerFwdRefIdeal.nD Cert.MixerFwdRefIdeal.τ).loc Cert.MixerFwdRefIdeal.main_arg0) = x0)
    (h1 : m ((c.tc : Thread Cert.MixerFwdRefIdeal.nD Cert.MixerFwdRefIdeal.τ).loc Cert.MixerFwdRefIdeal.main_arg1) = x1)
    (h2 : m ((c.tc : Thread Cert.MixerFwdRefIdeal.nD Cert.MixerFwdRefIdeal.τ).loc Cert.MixerFwdRefIdeal.main_arg2) = x2)
    (h3 : m ((c.tc : Thread Cert.MixerFwdRefIdeal.nD Cert.MixerFwdRefIdeal.τ).loc Cert.MixerFwdRefIdeal.main_arg3) = x3)
    (h4 : m ((c.tc : Thread Cert.MixerFwdRefIdeal.nD Cert.MixerFwdRefIdeal.τ).loc Cert.MixerFwdRefIdeal.main_arg4) = x4)
    (h5 : m ((c.tc : Thread Cert.MixerFwdRefIdeal.nD Cert.MixerFwdRefIdeal.τ).loc Cert.MixerFwdRefIdeal.main_arg5) = x5)
    (h6 : m ((c.tc : Thread Cert.MixerFwdRefIdeal.nD Cert.MixerFwdRefIdeal.τ).loc Cert.MixerFwdRefIdeal.main_arg6) = x6) :
    Cert.MixerFwdRefIdeal.Value.res_main_v115 m c
      = fun i : Cert.MixerFwdIdeal.S4096x2048.Idx => (Cert.MixF.dat x0 x1 x2 x3 x4 x5 x6).out (i 0).val (i 1).val := by
  funext i
  subst h0; subst h1; subst h2; subst h3; subst h4; subst h5; subst h6
  unfold Cert.MixerFwdRefIdeal.Value.res_main_v115
  exact Cert.MixF.Ref.ref_at (d := Cert.MixF.dat _ _ _ _ _ _ _) (Cert.MixF.at2_real h) (fun i => Cert.MixF.at2_eq _ i rfl rfl)
    (fun i => Cert.MixF.at1_eq _ i rfl) (fun i => Cert.MixF.at1_eq _ i rfl) (fun i => Cert.MixF.at3_eq _ i rfl rfl rfl)
    (fun i => Cert.MixF.at2_eq _ i rfl rfl) (fun i => Cert.MixF.at2_eq _ i rfl rfl) (fun i => Cert.MixF.at1_eq _ i rfl) i

/-- The kernel ends with its result at every row and column, and unchanged arguments. -/
theorem kernel_mixer_fwd (m : (ℓ : Loc Cert.MixerFwdIdeal.nD Cert.MixerFwdIdeal.τ Cert.MixerFwdIdeal.sig) → Buf (Elt Ideal) ℓ) (g : Dev Cert.MixerFwdIdeal.nD → PrngReg)
    (h : Cert.Pre_MixerFwdIdeal_finite_z m) :
    θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
      r.2.mem ((c.tc : Thread Cert.MixerFwdIdeal.nD Cert.MixerFwdIdeal.τ).loc Cert.MixerFwdIdeal.main_v17) = (fun i : Cert.MixerFwdIdeal.S4096x2048.Idx => (Cert.MixF.Run.D m c).out (i 0).val (i 1).val)
      ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)) := by
  refine Idealize.ShloMosaic.θ_run_mono (Idealize.ShloMosaic.θ_run_and (Cert.MixerFwdIdeal.Gen.run_main m g) (Cert.MixerFwdIdeal.Gen.unchanged m g)) ?_
  rintro r ⟨hr, hu⟩ c
  exact ⟨mem_mixer_fwd m c r hr (real_z m h c), hu c⟩

/-- Where the projection is real, the kernel's result and the reference's are equal at the ideal instance. -/
theorem algebraic_MixerFwd : Cert.algebraic_MixerFwdIdeal_MixerFwdRefIdeal_pre_finite_z := by
  pair_intro
  · exact kernel_mixer_fwd m g hpre
  · refine Idealize.ShloMosaic.θ_run_mono (Cert.MixerFwdRefIdeal.Value.run m' g') ?_
    intro r hr c
    obtain ⟨e, hu⟩ := hr c
    refine ⟨e.trans (ref_mixer_fwd m' c (real_z m hpre c) (hagree c).1 (hagree c).2.1 (hagree c).2.2.1
      (hagree c).2.2.2.1 (hagree c).2.2.2.2.1 (hagree c).2.2.2.2.2.1 (hagree c).2.2.2.2.2.2), hu⟩

end Cert.Proof

end
-- ==== Proof.Swiglu.lean ====
module

public import proofs.«01_k».proof.Proof.Gen.SwigluIdeal.Frame
public import proofs.«01_k».proof.Proof.Gen.SwigluRefIdeal.Run
public import proofs.«01_k».proof.Proof.Finite
public import proofs.«01_k».proof.Proof.Gen.Pre_finite_swiglu
public import proofs.«01_k».proof.Defs
public import Idealize.ShloMosaic.Lib.Pipeline.ValueKit
public import Idealize.ShloMosaic.Lib.Pointwise
public import Idealize.ShloMosaic.Lib.Claim

/-! The SwiGLU activation with its two saved partial derivatives: each block the kernel writes is the block of what the
reference computes. -/

@[expose] public section

set_option maxRecDepth 16384

noncomputable section

open Idealize.ShloMosaic Idealize.ShloMosaic.TcCoe Idealize.SL.Sem
open Idealize.ShloMosaic.Pipeline (Dat)

namespace Cert.SwigluIdeal.Value

open Cert.SwigluIdeal Cert.SwigluIdeal.Gen

variable (m : (ℓ : Loc nD τ sig) → Buf (Elt Ideal) ℓ)

/-- The gate projection as the reference computes it from the two arguments. -/
abbrev gate (x0 : FVec Ideal S4096x2048 .bf16) (x1 : FVec Ideal S2048x11264 .bf16) : FVec Ideal S4096x5632 .f32 :=
  Host.dotGeneral Cert.SwigluRefIdeal.dot_S4096x2048_S2048x5632_S4096x5632_1_0_0_1_n_n none (extf .f32 x0 Cert.SwigluRefIdeal.Gen.bitsLt_bf16_f32) (extf .f32 (extractStridedSlice Cert.SwigluRefIdeal.S2048x5632 ![0, 0] x1 Cert.SwigluRefIdeal.Gen.slices_S2048x11264_S2048x5632_0_0) Cert.SwigluRefIdeal.Gen.bitsLt_bf16_f32)

/-- The up projection as the reference computes it from the two arguments. -/
abbrev up (x0 : FVec Ideal S4096x2048 .bf16) (x1 : FVec Ideal S2048x11264 .bf16) : FVec Ideal S4096x5632 .f32 :=
  Host.dotGeneral Cert.SwigluRefIdeal.dot_S4096x2048_S2048x5632_S4096x5632_1_0_0_1_n_n none (extf .f32 x0 Cert.SwigluRefIdeal.Gen.bitsLt_bf16_f32) (extf .f32 (extractStridedSlice Cert.SwigluRefIdeal.S2048x5632 ![0, 5632] x1 Cert.SwigluRefIdeal.Gen.slices_S2048x11264_S2048x5632_0_5632) Cert.SwigluRefIdeal.Gen.bitsLt_bf16_f32)

/-- The constant one at every place. -/
abbrev ones : FVec Ideal S4096x5632 .f32 :=
  broadcastInDim Cert.SwigluRefIdeal.S4096x5632 ![] Cert.SwigluRefIdeal.Gen.bcast_S_S4096x5632 (constant Cert.SwigluRefIdeal.S_ .f32 0x3F800000#32)

/-- The sigmoid of a gate, as the reference writes it. -/
abbrev sigmoid (g : FVec Ideal S4096x5632 .f32) : FVec Ideal S4096x5632 .f32 :=
  Host.divf ones (addf ones (Host.exp (Host.negf g)))

/-- The activation as the reference computes it from the gate and up projections. -/
abbrev act (g u : FVec Ideal S4096x5632 .f32) : FVec Ideal S4096x5632 .bf16 :=
  truncf .bf16 (mulf (mulf g (sigmoid g)) u) Cert.SwigluRefIdeal.Gen.bitsLt_bf16_f32

/-- The activation's partial derivatives, side by side, as the reference computes them from the gate and up projections. -/
abbrev partials (g u : FVec Ideal S4096x5632 .f32) : FVec Ideal S2x4096x5632 .bf16 :=
  truncf .bf16 (concatenate Cert.SwigluRefIdeal.S2x4096x5632 0
    [⟨Cert.SwigluRefIdeal.S1x4096x5632, broadcastInDim Cert.SwigluRefIdeal.S1x4096x5632 ![1, 2] Cert.SwigluRefIdeal.Gen.bcast_S4096x5632_S1x4096x5632_1_2
        (addf (mulf (mulf ones u) (sigmoid g)) (mulf (mulf g (mulf ones u)) (mulf (sigmoid g) (subf ones (sigmoid g)))))⟩,
     ⟨Cert.SwigluRefIdeal.S1x4096x5632, broadcastInDim Cert.SwigluRefIdeal.S1x4096x5632 ![1, 2] Cert.SwigluRefIdeal.Gen.bcast_S4096x5632_S1x4096x5632_1_2
        (mulf (mulf g (sigmoid g)) ones)⟩]
    Cert.SwigluRefIdeal.Gen.concatenates_S1x4096x5632_S1x4096x5632_S2x4096x5632_d0) Cert.SwigluRefIdeal.Gen.bitsLt_bf16_f32

/-- Which block each window is at, at grid point `t`. -/
theorem idx : ∀ t : Fin cfg0.N, win0_0.index t = ![t.val / 11, 0] ∧ win0_1.index t = ![0, t.val % 11]
    ∧ win0_2.index t = ![0, t.val % 11 + 11] ∧ win0_3.index t = ![0, t.val / 11, t.val % 11] ∧ win0_4.index t = ![t.val / 11, t.val % 11] :=
  (by decide +kernel : ∀ t : Fin grid0.N, _)

/-- The products of a row of the input's block with a column of a weights' block. -/
def dotb (x : Vec Ideal S2048x2048 .bf16) (w : Vec Ideal S2048x512 .bf16) (i : Fin 2048) (j : Fin 512) : EReal :=
  ∑ k : Fin 2048, (x (ix2 i k) : EReal) * w (ix2 k j)

/-- The sigmoid, as the kernel writes it. -/
def sigb (g : EReal) : EReal := Ideal.div 1 (1 + Ideal.exp (0 - g))

/-- The block of the activation a grid point writes. -/
theorem out4 (x0 : Vec Ideal S2048x2048 .bf16) (x1 x2 : Vec Ideal S2048x512 .bf16) (i : Fin 2048) (j : Fin 512) :
    out0_4 x0 x1 x2 (ix2 i j) = dotb x0 x1 i j * sigb (dotb x0 x1 i j) * dotb x0 x2 i j := by
  unfold_out out0_4
  canon_tiles x h
  all_goals
    open_payloads
    pointwise
    unfold dotb sigb
    blk_point [] <;> first | exact h0.symm | exact h1.symm

/-- The block of the partial derivatives a grid point writes. -/
theorem out3 (x0 : Vec Ideal S2048x2048 .bf16) (x1 x2 : Vec Ideal S2048x512 .bf16) (b : Fin 2) (i : Fin 2048) (j : Fin 512) :
    out0_3 x0 x1 x2 (ix3 b i j) = if b = 0 then
        dotb x0 x2 i j * (sigb (dotb x0 x1 i j) + dotb x0 x1 i j * sigb (dotb x0 x1 i j) * (1 - sigb (dotb x0 x1 i j)))
      else dotb x0 x1 i j * sigb (dotb x0 x1 i j) := by
  unfold_out out0_3
  canon_tiles x h
  all_goals
    replace h0 := (show (b : ℕ) = (ix3 b i j 0 : ℕ) from rfl).trans h0
    first
      | rw [if_pos (Fin.ext (show (b : ℕ) = 0 by omega))]
      | rw [if_neg (fun hb => absurd (show (b : ℕ) = 0 from congrArg Fin.val hb) (by omega))]
    open_payloads
    pointwise
    unfold dotb sigb
    blk_point [] <;> first | exact h1.symm | exact h2.symm

/-- The sigmoid of a real number is a real number. -/
theorem sigb_coe (g : ℝ) : sigb (g : EReal) = (((1 + Real.exp (-g))⁻¹ : ℝ) : EReal) := by
  have h : (1 + Real.exp (-g)) ≠ 0 := by positivity
  have e : (1 : EReal) + ((Real.exp (-g) : ℝ) : EReal) = ((1 + Real.exp (-g) : ℝ) : EReal) := by push_cast; rfl
  unfold sigb
  rw [zero_sub, ← EReal.coe_neg, Cert.Real.exp_coe, e]
  have := Cert.Real.div_coe 1 h
  rw [EReal.coe_one] at this
  rw [this, one_div]

/-- The gate's partial derivative: with real operands the kernel's factored form is the reference's sum of two products. -/
theorem partial_eq {g u : EReal} (hg : ∃ r : ℝ, g = r) (hu : ∃ r : ℝ, u = r) :
    u * (sigb g + g * sigb g * (1 - sigb g)) = u * sigb g + g * u * (sigb g * (1 - sigb g)) := by
  obtain ⟨g, rfl⟩ := hg
  obtain ⟨u, rfl⟩ := hu
  rw [sigb_coe, ← EReal.coe_one]
  norm_cast
  ring

/-- A sum of products of real numbers is a real number. -/
theorem dotb_real (x : Vec Ideal S2048x2048 .bf16) (w : Vec Ideal S2048x512 .bf16)
    (hx : ∀ i, ∃ r : ℝ, (x i : EReal) = r) (hw : ∀ i, ∃ r : ℝ, (w i : EReal) = r) (i : Fin 2048) (j : Fin 512) :
    ∃ r : ℝ, dotb x w i j = r := by
  choose a ha using hx
  choose b hb using hw
  exact ⟨∑ k : Fin 2048, a (ix2 i k) * b (ix2 k j), by
    unfold dotb; exact Cert.Real.sum_of _ fun k _ => by rw [ha, hb, EReal.coe_mul]⟩

/-- The activation after the run is the reference's. -/
theorem final_act (c : Dev nD) : (dats m 0 c).arrAt 4 (cfgs 0).N
    = act (gate (m ((c : Thread nD τ).loc main_arg0)) (m ((c : Thread nD τ).loc main_arg1)))
        (up (m ((c : Thread nD τ).loc main_arg0)) (m ((c : Thread nD τ).loc main_arg1))) := by
  refine (dats m 0 c).arrAt_eq_of_covers 4 _ (by decide +kernel) fun t _ y => ?_
  blk_simp
  rw [after0_4]
  idx_vars y
  rw [out4]
  unfold dotb sigb
  rw [zero_sub]
  pointwise [act, gate, up, sigmoid, ones]
  blk_point [iblk, V, idx t]

/-- The two partial derivatives after the run are the reference's. -/
theorem final_partials (c : Dev nD)
    (hx : ∀ i, ∃ r : ℝ, (m ((c : Thread nD τ).loc main_arg0) : FVec Ideal S4096x2048 .bf16) i = ((r : ℝ) : EReal))
    (hw : ∀ i, ∃ r : ℝ, (m ((c : Thread nD τ).loc main_arg1) : FVec Ideal S2048x11264 .bf16) i = ((r : ℝ) : EReal)) :
    (dats m 0 c).arrAt 3 (cfgs 0).N
    = partials (gate (m ((c : Thread nD τ).loc main_arg0)) (m ((c : Thread nD τ).loc main_arg1)))
        (up (m ((c : Thread nD τ).loc main_arg0)) (m ((c : Thread nD τ).loc main_arg1))) := by
  refine (dats m 0 c).arrAt_eq_of_covers 3 _ (by decide +kernel) fun t _ y => ?_
  blk_simp
  rw [after0_3]
  idx_vars y
  rw [out3]
  have h0 : ∀ i, ∃ r : ℝ, (iblk m c 0 t : FVec Ideal S2048x2048 .bf16) i = ((r : ℝ) : EReal) := fun i => hx ((win0_0.blk t).view.emb i)
  have h1 : ∀ i, ∃ r : ℝ, (iblk m c 1 t : FVec Ideal S2048x512 .bf16) i = ((r : ℝ) : EReal) := fun i => hw ((win0_1.blk t).view.emb i)
  have h2 : ∀ i, ∃ r : ℝ, (iblk m c 2 t : FVec Ideal S2048x512 .bf16) i = ((r : ℝ) : EReal) := fun i => hw ((win0_2.blk t).view.emb i)
  have he : ((((View.whole main_v0_0).slice (win0_3.rect t)).emb (ix3 y0 y1 y2) 0 : Fin 2) : ℕ) = y0.val := by
    blk_simp [idx t]
  split_ifs with hb
  · rw [partial_eq (dotb_real _ _ h0 h1 _ _) (dotb_real _ _ h0 h2 _ _)]
    unfold dotb sigb
    rw [zero_sub]
    subst hb
    pointwise [partials, gate, up, sigmoid, ones]
    rw [dif_pos (lt_of_eq_of_lt he (by decide))]
    blk_point [iblk, V, idx t]
  · obtain rfl : y0 = 1 := by omega
    unfold dotb sigb
    rw [zero_sub]
    pointwise [partials, gate, up, sigmoid, ones]
    rw [dif_neg (fun h => absurd (lt_of_eq_of_lt he.symm h) (by decide))]
    blk_point [iblk, V, idx t]

end Cert.SwigluIdeal.Value

namespace Cert.Proof

/-- The precondition says that both arguments are real numbers everywhere. -/
theorem real_swiglu (m : (ℓ : Loc Cert.SwigluIdeal.nD Cert.SwigluIdeal.τ Cert.SwigluIdeal.sig) → Buf (Elt Ideal) ℓ)
    (h : Cert.Pre_SwigluIdeal_finite_swiglu m) (c : Dev Cert.SwigluIdeal.nD) :
    (∀ i, ∃ r : ℝ, (m ((c.tc : Thread Cert.SwigluIdeal.nD Cert.SwigluIdeal.τ).loc Cert.SwigluIdeal.main_arg0) : FVec Ideal Cert.SwigluIdeal.S4096x2048 .bf16) i = ((r : ℝ) : EReal))
    ∧ (∀ i, ∃ r : ℝ, (m ((c.tc : Thread Cert.SwigluIdeal.nD Cert.SwigluIdeal.τ).loc Cert.SwigluIdeal.main_arg1) : FVec Ideal Cert.SwigluIdeal.S2048x11264 .bf16) i = ((r : ℝ) : EReal)) := by
  have e := congrFun (h c) (ix0)
  dsimp only [Cert.Pre_finite_swiglu.fn] at e
  obtain ⟨e0, e1⟩ := IntOp.andi_eq_one.1 e
  exact ⟨Cert.Real.real_of_all _ _ _ _ _ e0, Cert.Real.real_of_all _ _ _ _ _ e1⟩

/-- With real arguments, the kernel's activation and partial derivatives and the reference's are equal at the ideal instance. -/
theorem algebraic_Swiglu : Cert.algebraic_SwigluIdeal_SwigluRefIdeal_pre_finite_swiglu := by
  pair_intro
  · run_from Cert.SwigluIdeal.Gen.run_main m g
  · hlo_run
    · exact (Cert.SwigluIdeal.Value.final_partials m c (real_swiglu m hpre c).1 (real_swiglu m hpre c).2).symm
    · exact (Cert.SwigluIdeal.Value.final_act m c).symm

end Cert.Proof

end
-- ==== Proof.DownBwd.lean ====
module

public import proofs.«01_k».proof.Proof.Gen.DownBwdIdeal.Frame
public import proofs.«01_k».proof.Proof.Gen.DownBwdRefIdeal.Run
public import proofs.«01_k».proof.Proof.Finite
public import proofs.«01_k».proof.Proof.Gen.Pre_finite_down
public import proofs.«01_k».proof.Defs
public import Idealize.ShloMosaic.Lib.Pipeline.ValueKit
public import Idealize.ShloMosaic.Lib.Pointwise
public import Idealize.ShloMosaic.Lib.Claim

/-! The gradient of the down projection and of the SwiGLU gate in front of it: the kernel multiplies one product by the two
saved partial derivatives, the reference differentiates the gate. -/

@[expose] public section

set_option maxRecDepth 16384

noncomputable section

open Idealize.ShloMosaic Idealize.ShloMosaic.TcCoe Idealize.SL.Sem
open Idealize.ShloMosaic.Pipeline (Dat)

namespace Cert.DownBwdIdeal.Value

open Cert.DownBwdIdeal Cert.DownBwdIdeal.Gen

variable (m : (ℓ : Loc nD τ sig) → Buf (Elt Ideal) ℓ)

/-- The gate projection as the host computes it from the two arguments. -/
abbrev gate (x0 : FVec Ideal S4096x2048 .bf16) (x1 : FVec Ideal S2048x11264 .bf16) : FVec Ideal S4096x5632 .f32 :=
  Host.dotGeneral dot_S4096x2048_S2048x5632_S4096x5632_1_0_0_1_n_n none (extf .f32 x0 bitsLt_bf16_f32) (extf .f32 (extractStridedSlice S2048x5632 ![0, 0] x1 slices_S2048x11264_S2048x5632_0_0) bitsLt_bf16_f32)

/-- The up projection as the host computes it from the two arguments. -/
abbrev up (x0 : FVec Ideal S4096x2048 .bf16) (x1 : FVec Ideal S2048x11264 .bf16) : FVec Ideal S4096x5632 .f32 :=
  Host.dotGeneral dot_S4096x2048_S2048x5632_S4096x5632_1_0_0_1_n_n none (extf .f32 x0 bitsLt_bf16_f32) (extf .f32 (extractStridedSlice S2048x5632 ![0, 5632] x1 slices_S2048x11264_S2048x5632_0_5632) bitsLt_bf16_f32)

/-- The gradient that arrives at the activation, as the reference computes it. -/
abbrev arriving (x0 : FVec Ideal S4096x2048 .bf16) (x1 : FVec Ideal S5632x2048 .bf16) : FVec Ideal S4096x5632 .f32 :=
  Host.dotGeneral Cert.DownBwdRefIdeal.dot_S4096x2048_S5632x2048_S4096x5632_1_1_0_0_n_n none (extf .f32 x0 bitsLt_bf16_f32) (extf .f32 x1 bitsLt_bf16_f32)

/-- The constant one at every place. -/
abbrev ones : FVec Ideal S4096x5632 .f32 :=
  broadcastInDim S4096x5632 ![] bcast_S_S4096x5632 (constant S_ .f32 0x3F800000#32)

/-- The sigmoid of a gate. -/
abbrev sigmoid (g : FVec Ideal S4096x5632 .f32) : FVec Ideal S4096x5632 .f32 :=
  Host.divf ones (addf ones (Host.exp (Host.negf g)))

/-- The gradients of the gate and the up projection, side by side, when `d` arrives at the activation. -/
abbrev grads (d g u : FVec Ideal S4096x5632 .f32) : FVec Ideal S2x4096x5632 .bf16 :=
  truncf .bf16 (concatenate S2x4096x5632 0
    [⟨S1x4096x5632, broadcastInDim S1x4096x5632 ![1, 2] bcast_S4096x5632_S1x4096x5632_1_2
        (addf (mulf (mulf d u) (sigmoid g)) (mulf (mulf g (mulf d u)) (mulf (sigmoid g) (subf ones (sigmoid g)))))⟩,
     ⟨S1x4096x5632, broadcastInDim S1x4096x5632 ![1, 2] bcast_S4096x5632_S1x4096x5632_1_2
        (mulf (mulf g (sigmoid g)) d)⟩]
    concatenates_S1x4096x5632_S1x4096x5632_S2x4096x5632_d0) bitsLt_bf16_f32

/-- The saved partial derivatives are what the reference computes when one arrives at every place. -/
theorem saved (c : Dev nD) : V m c main_v17
    = grads ones (gate (m ((c : Thread nD τ).loc main_arg2)) (m ((c : Thread nD τ).loc main_arg3)))
        (up (m ((c : Thread nD τ).loc main_arg2)) (m ((c : Thread nD τ).loc main_arg3))) := by
  simp only [V, hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]; after_results_simp <;> rfl

/-- Which block each window is at, at grid point `t`. -/
theorem idx : ∀ t : Fin cfg0.N, win0_0.index t = ![t.val / 11, 0] ∧ win0_1.index t = ![t.val % 11, 0]
    ∧ win0_2.index t = ![0, t.val / 11, t.val % 11] ∧ win0_3.index t = ![0, t.val / 11, t.val % 11] :=
  (by decide +kernel : ∀ t : Fin grid0.N, _)

/-- The products of a row of the gradient's block with a row of the weights' block. -/
def dotb (x : Vec Ideal S2048x2048 .bf16) (w : Vec Ideal S512x2048 .bf16) (i : Fin 2048) (j : Fin 512) : EReal :=
  ∑ k : Fin 2048, (x (ix2 i k) : EReal) * w (ix2 j k)

/-- The block a grid point writes. -/
theorem out3 (x0 : Vec Ideal S2048x2048 .bf16) (x1 : Vec Ideal S512x2048 .bf16) (x2 : Vec Ideal S2x2048x512 .bf16) (b : Fin 2) (i : Fin 2048) (j : Fin 512) :
    out0_3 x0 x1 x2 (ix3 b i j) = dotb x0 x1 i j * x2 (ix3 b i j) := by
  unfold out0_3
  canon_tiles x h
  all_goals
    replace h0 := (show (b : ℕ) = (ix3 b i j 0 : ℕ) from rfl).trans h0
    open_payloads
    pointwise
    unfold dotb
    blk_point [] <;> first | exact h0.symm | exact h1.symm | exact h2.symm

/-- The sigmoid of a real number is a real number. -/
theorem sig_real (g : EReal) (hg : ∃ r : ℝ, g = r) : ∃ r : ℝ, Ideal.div 1 (1 + Ideal.exp (-g)) = r := by
  obtain ⟨g, rfl⟩ := hg
  have h : (1 + Real.exp (-g)) ≠ 0 := by positivity
  have e : (1 : EReal) + ((Real.exp (-g) : ℝ) : EReal) = ((1 + Real.exp (-g) : ℝ) : EReal) := by push_cast; rfl
  have := Cert.Real.div_coe 1 h
  rw [EReal.coe_one] at this
  exact ⟨_, by rw [← EReal.coe_neg, Cert.Real.exp_coe, e, this]⟩

/-- The gate's gradient: with real operands the arriving gradient times the saved derivative is the reference's sum. -/
theorem gate_eq {d g u s : EReal} (hd : ∃ r : ℝ, d = r) (hg : ∃ r : ℝ, g = r) (hu : ∃ r : ℝ, u = r) (hs : ∃ r : ℝ, s = r) :
    d * (u * s + g * u * (s * (1 - s))) = d * u * s + g * (d * u) * (s * (1 - s)) := by
  obtain ⟨d, rfl⟩ := hd
  obtain ⟨g, rfl⟩ := hg
  obtain ⟨u, rfl⟩ := hu
  obtain ⟨s, rfl⟩ := hs
  rw [← EReal.coe_one]
  norm_cast
  ring

/-- A sum of products of real numbers is a real number. -/
theorem sum_real {n : ℕ} (a b : Fin n → EReal) (ha : ∀ k, ∃ r : ℝ, a k = r) (hb : ∀ k, ∃ r : ℝ, b k = r) :
    ∃ r : ℝ, ∑ k, a k * b k = r := by
  choose x hx using ha
  choose y hy using hb
  exact ⟨∑ k, x k * y k, Cert.Real.sum_of _ fun k _ => by rw [hx, hy, EReal.coe_mul]⟩

/-- The product of the arriving gradient and the saved derivatives is the gradient the reference computes. -/
theorem grads_eq (d g u : FVec Ideal S4096x5632 .f32) (hd : ∀ i, ∃ r : ℝ, (d i : EReal) = r)
    (hg : ∀ i, ∃ r : ℝ, (g i : EReal) = r) (hu : ∀ i, ∃ r : ℝ, (u i : EReal) = r) (b : Fin 2) (i : Fin 4096) (j : Fin 5632) :
    (d (ix2 i j) * grads ones g u (ix3 b i j) : EReal) = grads d g u (ix3 b i j) := by
  obtain hb | hb : b = 0 ∨ b = 1 := by omega
  · subst hb
    pointwise [grads, sigmoid, ones]
    exact gate_eq (hd _) (hg _) (hu _) (sig_real _ (hg _))
  · subst hb
    pointwise [grads, sigmoid, ones]
    rw [mul_comm]

/-- The result array after the run is the reference's gradients of the gate and the up projection. -/
theorem final (c : Dev nD)
    (h0 : ∀ i, ∃ r : ℝ, (m ((c : Thread nD τ).loc main_arg0) : FVec Ideal S4096x2048 .bf16) i = ((r : ℝ) : EReal))
    (h1 : ∀ i, ∃ r : ℝ, (m ((c : Thread nD τ).loc main_arg1) : FVec Ideal S5632x2048 .bf16) i = ((r : ℝ) : EReal))
    (h2 : ∀ i, ∃ r : ℝ, (m ((c : Thread nD τ).loc main_arg2) : FVec Ideal S4096x2048 .bf16) i = ((r : ℝ) : EReal))
    (h3 : ∀ i, ∃ r : ℝ, (m ((c : Thread nD τ).loc main_arg3) : FVec Ideal S2048x11264 .bf16) i = ((r : ℝ) : EReal)) :
    (dats m 0 c).arrAt 3 (cfgs 0).N
    = grads (arriving (m ((c : Thread nD τ).loc main_arg0)) (m ((c : Thread nD τ).loc main_arg1)))
        (gate (m ((c : Thread nD τ).loc main_arg2)) (m ((c : Thread nD τ).loc main_arg3)))
        (up (m ((c : Thread nD τ).loc main_arg2)) (m ((c : Thread nD τ).loc main_arg3))) := by
  have hd : ∀ i, ∃ r : ℝ, (arriving (m ((c : Thread nD τ).loc main_arg0)) (m ((c : Thread nD τ).loc main_arg1)) i : EReal) = r := fun i => by
    idx_vars i
    pointwise [arriving]
    exact sum_real _ _ (fun k => h0 _) (fun k => h1 _)
  have hg : ∀ i, ∃ r : ℝ, (gate (m ((c : Thread nD τ).loc main_arg2)) (m ((c : Thread nD τ).loc main_arg3)) i : EReal) = r := fun i => by
    idx_vars i
    pointwise [gate]
    exact sum_real _ _ (fun k => h2 _) (fun k => h3 _)
  have hu : ∀ i, ∃ r : ℝ, (up (m ((c : Thread nD τ).loc main_arg2)) (m ((c : Thread nD τ).loc main_arg3)) i : EReal) = r := fun i => by
    idx_vars i
    pointwise [up]
    exact sum_real _ _ (fun k => h2 _) (fun k => h3 _)
  refine (dats m 0 c).arrAt_eq_of_covers 3 _ (by decide +kernel) fun t _ y => ?_
  blk_simp
  rw [after0_3]
  idx_vars y
  rw [out3]
  have e : ∀ z : S2x4096x5632.Idx, ∃ (b : Fin 2) (i : Fin 4096) (j : Fin 5632), z = ix3 b i j := fun z => by
    idx_vars z
    exact ⟨_, _, _, rfl⟩
  obtain ⟨b, i, j, hz⟩ := e (((View.whole main_v19).slice (win0_3.rect t)).emb (ix3 y0 y1 y2))
  rw [hz, ← grads_eq _ _ _ hd hg hu, ← saved]
  have hb : (b : ℕ) = y0 := by have := congrArg (fun z => (z 0 : ℕ)) hz; blk_simp [idx t] at this; exact this.symm
  have hi : (i : ℕ) = t.val / 11 * 2048 + y1 := by have := congrArg (fun z => (z 1 : ℕ)) hz; blk_simp [idx t] at this; exact this.symm
  have hj : (j : ℕ) = t.val % 11 * 512 + y2 := by have := congrArg (fun z => (z 2 : ℕ)) hz; blk_simp [idx t] at this; exact this.symm
  unfold dotb
  pointwise [arriving]
  blk_point [iblk, V_main_arg0, V_main_arg1, idx t]

end Cert.DownBwdIdeal.Value

namespace Cert.Proof

/-- The precondition says that all four arguments are real numbers everywhere. -/
theorem real_down (m : (ℓ : Loc Cert.DownBwdIdeal.nD Cert.DownBwdIdeal.τ Cert.DownBwdIdeal.sig) → Buf (Elt Ideal) ℓ)
    (h : Cert.Pre_DownBwdIdeal_finite_down m) (c : Dev Cert.DownBwdIdeal.nD) :
    (∀ i, ∃ r : ℝ, (m ((c.tc : Thread Cert.DownBwdIdeal.nD Cert.DownBwdIdeal.τ).loc Cert.DownBwdIdeal.main_arg0) : FVec Ideal Cert.DownBwdIdeal.S4096x2048 .bf16) i = ((r : ℝ) : EReal))
    ∧ (∀ i, ∃ r : ℝ, (m ((c.tc : Thread Cert.DownBwdIdeal.nD Cert.DownBwdIdeal.τ).loc Cert.DownBwdIdeal.main_arg1) : FVec Ideal Cert.DownBwdIdeal.S5632x2048 .bf16) i = ((r : ℝ) : EReal))
    ∧ (∀ i, ∃ r : ℝ, (m ((c.tc : Thread Cert.DownBwdIdeal.nD Cert.DownBwdIdeal.τ).loc Cert.DownBwdIdeal.main_arg2) : FVec Ideal Cert.DownBwdIdeal.S4096x2048 .bf16) i = ((r : ℝ) : EReal))
    ∧ (∀ i, ∃ r : ℝ, (m ((c.tc : Thread Cert.DownBwdIdeal.nD Cert.DownBwdIdeal.τ).loc Cert.DownBwdIdeal.main_arg3) : FVec Ideal Cert.DownBwdIdeal.S2048x11264 .bf16) i = ((r : ℝ) : EReal)) := by
  have e := congrFun (h c) (ix0)
  dsimp only [Cert.Pre_finite_down.fn] at e
  obtain ⟨e, e3⟩ := IntOp.andi_eq_one.1 e
  obtain ⟨e, e2⟩ := IntOp.andi_eq_one.1 e
  obtain ⟨e0, e1⟩ := IntOp.andi_eq_one.1 e
  exact ⟨Cert.Real.real_of_all _ _ _ _ _ e0, Cert.Real.real_of_all _ _ _ _ _ e1, Cert.Real.real_of_all _ _ _ _ _ e2,
    Cert.Real.real_of_all _ _ _ _ _ e3⟩

/-- The reference's result, as the gradients of the gate and the up projection. -/
theorem reference_down (m : (ℓ : Loc Cert.DownBwdRefIdeal.nD Cert.DownBwdRefIdeal.τ Cert.DownBwdRefIdeal.sig) → Buf (Elt Ideal) ℓ)
    (c : Dev Cert.DownBwdRefIdeal.nD) : Cert.DownBwdRefIdeal.Value.res_main_v20 m c
    = Cert.DownBwdIdeal.Value.grads
        (Cert.DownBwdIdeal.Value.arriving (m ((c.tc : Thread Cert.DownBwdRefIdeal.nD Cert.DownBwdRefIdeal.τ).loc Cert.DownBwdRefIdeal.main_arg0))
          (m ((c.tc : Thread Cert.DownBwdRefIdeal.nD Cert.DownBwdRefIdeal.τ).loc Cert.DownBwdRefIdeal.main_arg1)))
        (Cert.DownBwdIdeal.Value.gate (m ((c.tc : Thread Cert.DownBwdRefIdeal.nD Cert.DownBwdRefIdeal.τ).loc Cert.DownBwdRefIdeal.main_arg2))
          (m ((c.tc : Thread Cert.DownBwdRefIdeal.nD Cert.DownBwdRefIdeal.τ).loc Cert.DownBwdRefIdeal.main_arg3)))
        (Cert.DownBwdIdeal.Value.up (m ((c.tc : Thread Cert.DownBwdRefIdeal.nD Cert.DownBwdRefIdeal.τ).loc Cert.DownBwdRefIdeal.main_arg2))
          (m ((c.tc : Thread Cert.DownBwdRefIdeal.nD Cert.DownBwdRefIdeal.τ).loc Cert.DownBwdRefIdeal.main_arg3))) := by
  unfold Cert.DownBwdRefIdeal.Value.res_main_v20
  rfl

/-- With real arguments, the kernel's gradients of the gate and the up projection and the reference's are equal at the ideal
    instance. -/
theorem algebraic_DownBwd : Cert.algebraic_DownBwdIdeal_DownBwdRefIdeal_pre_finite_down := by
  pair_intro
  · run_from Cert.DownBwdIdeal.Gen.run_main m g
    · exact Cert.DownBwdIdeal.Gen.V_main_arg2 m c
    · exact Cert.DownBwdIdeal.Gen.V_main_arg3 m c
  · run_from Cert.DownBwdRefIdeal.Value.run m' g'
    rw [reference_down, (hagree c).1, (hagree c).2.1, (hagree c).2.2.1, (hagree c).2.2.2]
    obtain ⟨h0, h1, h2, h3⟩ := real_down m hpre c
    exact (Cert.DownBwdIdeal.Value.final m c h0 h1 h2 h3).symm

end Cert.Proof

end
-- ==== Proof.GuBwd.lean ====
module

public import proofs.«01_k».proof.Proof.Gen.GuBwdIdeal.Frame
public import proofs.«01_k».proof.Proof.Gen.GuBwdRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

/-! The gradient of the gate and up projections' input: the four grid points that share a block accumulate in a scratch buffer; their sum is the reference's two products. -/

@[expose] public section

set_option maxRecDepth 16384

noncomputable section

open Idealize.ShloMosaic Idealize.ShloMosaic.TcCoe Idealize.SL.Sem
open Idealize.ShloMosaic.Pipeline (Dat)

namespace Cert.GuBwdIdeal.Value

open Cert.GuBwdIdeal Cert.GuBwdIdeal.Gen

variable (m : (ℓ : Loc nD τ sig) → Buf (Elt Ideal) ℓ)

/-- The gradient of the gate and up projections' input as the reference computes it from the two arguments. -/
abbrev grad (x0 : FVec Ideal S2x4096x5632 .bf16) (x1 : FVec Ideal S2048x11264 .bf16) : FVec Ideal S4096x2048 .bf16 :=
  truncf .bf16 (addf (Host.dotGeneral Cert.GuBwdRefIdeal.dot_S4096x5632_S2048x5632_S4096x2048_1_1_0_0_n_n none (extf .f32 (shapeCast _ (extractStridedSlice Cert.GuBwdRefIdeal.S1x4096x5632 ![1, 0, 0] x0 Cert.GuBwdRefIdeal.Gen.slices_S2x4096x5632_S1x4096x5632_1_0_0) Cert.GuBwdRefIdeal.Gen.shapeCasts_S1x4096x5632_S4096x5632) Cert.GuBwdRefIdeal.Gen.bitsLt_bf16_f32) (extractStridedSlice Cert.GuBwdRefIdeal.S2048x5632 ![0, 5632] (extf .f32 x1 Cert.GuBwdRefIdeal.Gen.bitsLt_bf16_f32) Cert.GuBwdRefIdeal.Gen.slices_S2048x11264_S2048x5632_0_5632)) (Host.dotGeneral Cert.GuBwdRefIdeal.dot_S4096x5632_S2048x5632_S4096x2048_1_1_0_0_n_n none (extf .f32 (shapeCast _ (extractStridedSlice Cert.GuBwdRefIdeal.S1x4096x5632 ![0, 0, 0] x0 Cert.GuBwdRefIdeal.Gen.slices_S2x4096x5632_S1x4096x5632_0_0_0) Cert.GuBwdRefIdeal.Gen.shapeCasts_S1x4096x5632_S4096x5632) Cert.GuBwdRefIdeal.Gen.bitsLt_bf16_f32) (extractStridedSlice Cert.GuBwdRefIdeal.S2048x5632 ![0, 0] (extf .f32 x1 Cert.GuBwdRefIdeal.Gen.bitsLt_bf16_f32) Cert.GuBwdRefIdeal.Gen.slices_S2048x11264_S2048x5632_0_0))) Cert.GuBwdRefIdeal.Gen.bitsLt_bf16_f32

/-- Which block each window is at, at grid point `t`. -/
theorem idx : ∀ t : Fin cfg0.N, win0_0.index t = ![t.val % 4 / 2, t.val / 8, t.val % 2] ∧ win0_1.index t = ![t.val / 4 % 2, t.val % 4] ∧ win0_2.index t = ![t.val / 8, t.val / 4 % 2] :=
  (by decide +kernel : ∀ t : Fin grid0.N, _)

/-- What one grid point contributes to entry `j` of its block: the product of its two input blocks. -/
abbrev part (c : Dev nD) (t : Fin cfg0.N) (j : S1024x1024.Idx) : EReal :=
  k0_pay1 (iblk m c 0 t) (iblk m c 1 t) j

/-- The first point of a run of four leaves its contribution in the accumulator. -/
theorem acc_first (c : Dev nD) (t : Fin cfg0.N) (h : t.val % 4 = 0) (j : S1024x1024.Idx) :
    (outsAt0 m c t.val t.isLt).2 j = part m c t j := by
  rw [outsAt0_A m c t h (by omega) (by omega)]; frame_out
  pointwise [k0_pay2]

/-- The second and third points add theirs. -/
theorem acc_next (c : Dev nD) (t : Fin cfg0.N) (h : 1 ≤ t.val % 4 ∧ t.val % 4 ≤ 2) (j : S1024x1024.Idx) :
    (outsAt0 m c t.val t.isLt).2 j
      = (outsAt0 m c (t.val - 1) (Nat.lt_of_le_of_lt (Nat.sub_le _ _) t.isLt)).2 j + part m c t j := by
  rw [outsAt0_B m c t (by omega) h (by omega)]; frame_out
  rw [read_unread_whole]
  pointwise [k0_pay3]

/-- The last point writes the accumulator plus its own contribution to the result's block. -/
theorem out_last (c : Dev nD) (t : Fin cfg0.N) (h : t.val % 4 = 3) (j : S1024x1024.Idx) :
    (outsAt0 m c t.val t.isLt).1 j
      = (outsAt0 m c (t.val - 1) (Nat.lt_of_le_of_lt (Nat.sub_le _ _) t.isLt)).2 j + part m c t j := by
  rw [outsAt0_C m c t (by omega) (by omega) h]; frame_out
  rw [read_unread_whole]
  pointwise [k0_pay4]

/-- The result array after the run is the reference's gradient of the arguments: the four points of a run walk the gate's
    columns in two halves and then the up projection's in two halves, and the reference adds the two whole products. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have hN : t.val < 32 := lt_of_lt_of_eq t.isLt N_0
  have h1 : t.val - 1 < cfg0.N := Nat.lt_of_le_of_lt (Nat.sub_le _ _) t.isLt
  have h2 : t.val - 1 - 1 < cfg0.N := Nat.lt_of_le_of_lt (Nat.sub_le _ _) h1
  have h0 : t.val - 1 - 1 - 1 < cfg0.N := Nat.lt_of_le_of_lt (Nat.sub_le _ _) h2
  blk_simp
  rw [after0_2, out_last m c t h3, acc_next m c ⟨t.val - 1, h1⟩ (by dsimp only; omega),
    acc_next m c ⟨t.val - 1 - 1, h2⟩ (by dsimp only; omega), acc_first m c ⟨t.val - 1 - 1 - 1, h0⟩ (by dsimp only; omega)]
  pointwise [part, k0_pay1, grad]
  rw [Fin.sum_univ_two_halves 2816 2816 rfl, Fin.sum_univ_two_halves 2816 2816 rfl (f := _), add_assoc, add_comm]
  refine congrArg₂ (· + ·) (congrArg₂ (· + ·) ?_ ?_) (congrArg₂ (· + ·) ?_ ?_) <;> refine Fin.sum_fin_congr fun k => ?_
  · blk_point [iblk, V, idx t, idx ⟨t.val - 1, h1⟩]
  · blk_point [iblk, V, idx t]
  · blk_point [iblk, V, idx t, idx ⟨t.val - 1 - 1 - 1, h0⟩]
  · blk_point [iblk, V, idx t, idx ⟨t.val - 1 - 1, h2⟩]

end Cert.GuBwdIdeal.Value

namespace Cert.Proof

/-- The kernel's gradient of the gate and up projections' input and the reference's are equal at the ideal instance. -/
theorem algebraic_GuBwd : Cert.algebraic_GuBwdIdeal_GuBwdRefIdeal := by
  pair_intro
  · run_from Cert.GuBwdIdeal.Gen.run_main m g
  · hlo_run
    exact (Cert.GuBwdIdeal.Value.final m c).symm

end Cert.Proof

end
-- ==== Proof.GuDw.lean ====
module

public import proofs.«01_k».proof.Proof.Gen.GuDwIdeal.Frame
public import proofs.«01_k».proof.Proof.Gen.GuDwRefIdeal.Run
public import proofs.«01_k».proof.Defs
public import Idealize.ShloMosaic.Lib.Pipeline.ValueKit
public import Idealize.ShloMosaic.Lib.Pointwise
public import Idealize.ShloMosaic.Lib.Claim

/-! The gradient of the gate and up projections' weights, side by side: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.GuDwIdeal.Value

open Cert.GuDwIdeal Cert.GuDwIdeal.Gen

variable (m : (ℓ : Loc nD τ sig) → Buf (Elt Ideal) ℓ)

/-- The gradient of the gate and up projections' weights, side by side as the reference computes it from the two arguments. -/
abbrev grad (x0 : FVec Ideal S4096x2048 .bf16) (x1 : FVec Ideal S2x4096x5632 .bf16) : FVec Ideal S2048x11264 .bf16 :=
  truncf .bf16 (addf (pad Cert.GuDwRefIdeal.S2048x11264 ![0, 5632] ![0, 0] ![0, 0] (transpose Cert.GuDwRefIdeal.S2048x5632 [1, 0] (Host.dotGeneral Cert.GuDwRefIdeal.dot_S4096x5632_S4096x2048_S5632x2048_0_0_1_1_n_n none (extf .f32 (shapeCast _ (extractStridedSlice Cert.GuDwRefIdeal.S1x4096x5632 ![1, 0, 0] x1 Cert.GuDwRefIdeal.Gen.slices_S2x4096x5632_S1x4096x5632_1_0_0) Cert.GuDwRefIdeal.Gen.shapeCasts_S1x4096x5632_S4096x5632) Cert.GuDwRefIdeal.Gen.bitsLt_bf16_f32) (extf .f32 x0 Cert.GuDwRefIdeal.Gen.bitsLt_bf16_f32)) Cert.GuDwRefIdeal.Gen.transposes_S5632x2048_S2048x5632_1_0) (constant Cert.GuDwRefIdeal.S_ .f32 0x00000000#32) Cert.GuDwRefIdeal.Gen.pads_S2048x5632_S2048x11264_000_563200 Cert.GuDwRefIdeal.Gen.h_S_) (pad Cert.GuDwRefIdeal.S2048x11264 ![0, 0] ![0, 5632] ![0, 0] (transpose Cert.GuDwRefIdeal.S2048x5632 [1, 0] (Host.dotGeneral Cert.GuDwRefIdeal.dot_S4096x5632_S4096x2048_S5632x2048_0_0_1_1_n_n none (extf .f32 (shapeCast _ (extractStridedSlice Cert.GuDwRefIdeal.S1x4096x5632 ![0, 0, 0] x1 Cert.GuDwRefIdeal.Gen.slices_S2x4096x5632_S1x4096x5632_0_0_0) Cert.GuDwRefIdeal.Gen.shapeCasts_S1x4096x5632_S4096x5632) Cert.GuDwRefIdeal.Gen.bitsLt_bf16_f32) (extf .f32 x0 Cert.GuDwRefIdeal.Gen.bitsLt_bf16_f32)) Cert.GuDwRefIdeal.Gen.transposes_S5632x2048_S2048x5632_1_0) (constant Cert.GuDwRefIdeal.S_ .f32 0x00000000#32) Cert.GuDwRefIdeal.Gen.pads_S2048x5632_S2048x11264_000_056320 Cert.GuDwRefIdeal.Gen.h_S_)) Cert.GuDwRefIdeal.Gen.bitsLt_bf16_f32

/-- Which block each window is at, at grid point `t`. -/
theorem idx : ∀ t : Fin cfg0.N, win0_0.index t = ![0, t.val / 22] ∧ win0_1.index t = ![t.val % 22 / 11, 0, t.val % 22 % 11] ∧ win0_2.index t = ![t.val / 22, t.val % 22] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  have hy : (y 1 : ℕ) < 512 := (y 1).isLt
  have he : ((((View.whole main_v0).slice (win0_2.rect t)).emb y 1 : Fin 11264) : ℕ) = t.val % 22 * 512 + (y 1 : ℕ) := by
    blk_simp [idx t]
  by_cases h : t.val % 22 < 11
  · rw [dif_neg (fun hc => absurd hc.1 (by omega)), dif_pos (by omega), zero_add]
    refine Fin.sum_fin_congr fun k => (mul_comm (_ : EReal) _).trans ?_
    blk_point [iblk, V, idx t]
  · have h22 : t.val % 22 < 22 := Nat.mod_lt _ (by norm_num)
    rw [dif_pos ⟨by omega, by omega⟩, dif_neg (by omega), add_zero]
    refine Fin.sum_fin_congr fun k => (mul_comm (_ : EReal) _).trans ?_
    blk_point [iblk, V, idx t]

end Cert.GuDwIdeal.Value

namespace Cert.Proof

/-- The kernel's gradient of the gate and up projections' weights, side by side and the reference's are equal at the ideal instance. -/
theorem algebraic_GuDw : Cert.algebraic_GuDwIdeal_GuDwRefIdeal := by
  pair_intro
  · run_from Cert.GuDwIdeal.Gen.run_main m g
  · hlo_run
    exact (Cert.GuDwIdeal.Value.final m c).symm

end Cert.Proof

end
-- ==== Proof.DownDw.lean ====
module

public import proofs.«01_k».proof.Proof.Gen.DownDwIdeal.Frame
public import proofs.«01_k».proof.Proof.Gen.DownDwRefIdeal.Run
public import proofs.«01_k».proof.Defs
public import Idealize.ShloMosaic.Lib.Pipeline.ValueKit
public import Idealize.ShloMosaic.Lib.Pointwise
public import Idealize.ShloMosaic.Lib.Claim

/-! The gradient of the down projection's weights: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.DownDwIdeal.Value

open Cert.DownDwIdeal Cert.DownDwIdeal.Gen

variable (m : (ℓ : Loc nD τ sig) → Buf (Elt Ideal) ℓ)

/-- The gradient of the down projection's weights as the reference computes it from the two arguments. -/
abbrev grad (x0 : FVec Ideal S4096x5632 .bf16) (x1 : FVec Ideal S4096x2048 .bf16) : FVec Ideal S5632x2048 .bf16 :=
  truncf .bf16 (transpose Cert.DownDwRefIdeal.S5632x2048 [1, 0] (Host.dotGeneral Cert.DownDwRefIdeal.dot_S4096x2048_S4096x5632_S2048x5632_0_0_1_1_n_n none (extf .f32 x1 Cert.DownDwRefIdeal.Gen.bitsLt_bf16_f32) (extf .f32 x0 Cert.DownDwRefIdeal.Gen.bitsLt_bf16_f32)) Cert.DownDwRefIdeal.Gen.transposes_S2048x5632_S5632x2048_1_0) Cert.DownDwRefIdeal.Gen.bitsLt_bf16_f32

/-- Which block each window is at, at grid point `t`. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  refine Fin.sum_fin_congr fun k => (mul_comm (_ : EReal) _).trans ?_
  blk_point [iblk, V, idx t]

end Cert.DownDwIdeal.Value

namespace Cert.Proof

/-- The kernel's gradient of the down projection's weights and the reference's are equal at the ideal instance. -/
theorem algebraic_DownDw : Cert.algebraic_DownDwIdeal_DownDwRefIdeal := by
  pair_intro
  · run_from Cert.DownDwIdeal.Gen.run_main m g
  · hlo_run
    exact (Cert.DownDwIdeal.Value.final m c).symm

end Cert.Proof

end
-- ==== Proof.OutDw.lean ====
module

public import proofs.«01_k».proof.Proof.Gen.OutDwIdeal.Frame
public import proofs.«01_k».proof.Proof.Gen.OutDwRefIdeal.Run
public import proofs.«01_k».proof.Defs
public import Idealize.ShloMosaic.Lib.Pipeline.ValueKit
public import Idealize.ShloMosaic.Lib.Pointwise
public import Idealize.ShloMosaic.Lib.Claim

/-! The gradient of the output projection's weights: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.OutDwIdeal.Value

open Cert.OutDwIdeal Cert.OutDwIdeal.Gen

variable (m : (ℓ : Loc nD τ sig) → Buf (Elt Ideal) ℓ)

/-- The gradient of the output projection's weights as the reference computes it from the two arguments. -/
abbrev grad (x0 : FVec Ideal S4096x2048 .bf16) (x1 : FVec Ideal S4096x2048 .bf16) : FVec Ideal S2048x2048 .bf16 :=
  truncf .bf16 (transpose Cert.OutDwRefIdeal.S2048x2048 [1, 0] (Host.dotGeneral Cert.OutDwRefIdeal.dot_S4096x2048_S4096x2048_S2048x2048_0_0_1_1_n_n none (extf .f32 x1 Cert.OutDwRefIdeal.Gen.bitsLt_bf16_f32) (extf .f32 x0 Cert.OutDwRefIdeal.Gen.bitsLt_bf16_f32)) Cert.OutDwRefIdeal.Gen.transposes_S2048x2048_S2048x2048_1_0) Cert.OutDwRefIdeal.Gen.bitsLt_bf16_f32

/-- Which block each window is at, at grid point `t`. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  refine Fin.sum_fin_congr fun k => (mul_comm (_ : EReal) _).trans ?_
  blk_point [iblk, V, idx t]

end Cert.OutDwIdeal.Value

namespace Cert.Proof

/-- The kernel's gradient of the output projection's weights and the reference's are equal at the ideal instance. -/
theorem algebraic_OutDw : Cert.algebraic_OutDwIdeal_OutDwRefIdeal := by
  pair_intro
  · run_from Cert.OutDwIdeal.Gen.run_main m g
  · hlo_run
    exact (Cert.OutDwIdeal.Value.final m c).symm

end Cert.Proof

end
-- ==== Proof.InDw.lean ====
module

public import proofs.«01_k».proof.Proof.Gen.InDwIdeal.Frame
public import proofs.«01_k».proof.Proof.Gen.InDwRefIdeal.Run
public import proofs.«01_k».proof.Defs
public import Idealize.ShloMosaic.Lib.Pipeline.ValueKit
public import Idealize.ShloMosaic.Lib.Pointwise
public import Idealize.ShloMosaic.Lib.Claim

/-! The gradient of the input projection's weights: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.InDwIdeal.Value

open Cert.InDwIdeal Cert.InDwIdeal.Gen

variable (m : (ℓ : Loc nD τ sig) → Buf (Elt Ideal) ℓ)

/-- The gradient of the input projection's weights as the reference computes it from the two arguments. -/
abbrev grad (x0 : FVec Ideal S4096x2048 .bf16) (x1 : FVec Ideal S4096x5120 .bf16) : FVec Ideal S2048x5120 .bf16 :=
  truncf .bf16 (transpose Cert.InDwRefIdeal.S2048x5120 [1, 0] (Host.dotGeneral Cert.InDwRefIdeal.dot_S4096x5120_S4096x2048_S5120x2048_0_0_1_1_n_n none (extf .f32 x1 Cert.InDwRefIdeal.Gen.bitsLt_bf16_f32) (extf .f32 x0 Cert.InDwRefIdeal.Gen.bitsLt_bf16_f32)) Cert.InDwRefIdeal.Gen.transposes_S5120x2048_S2048x5120_1_0) Cert.InDwRefIdeal.Gen.bitsLt_bf16_f32

/-- Which block each window is at, at grid point `t`. -/
theorem idx : ∀ t : Fin cfg0.N, win0_0.index t = ![0, t.val / 5] ∧ win0_1.index t = ![0, t.val % 5] ∧ win0_2.index t = ![t.val / 5, t.val % 5] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  refine Fin.sum_fin_congr fun k => (mul_comm (_ : EReal) _).trans ?_
  blk_point [iblk, V, idx t]

end Cert.InDwIdeal.Value

namespace Cert.Proof

/-- The kernel's gradient of the input projection's weights and the reference's are equal at the ideal instance. -/
theorem algebraic_InDw : Cert.algebraic_InDwIdeal_InDwRefIdeal := by
  pair_intro
  · run_from Cert.InDwIdeal.Gen.run_main m g
  · hlo_run
    exact (Cert.InDwIdeal.Value.final m c).symm

end Cert.Proof

end
-- ==== Proof.OutBwd.lean ====
module

public import proofs.«01_k».proof.Proof.Gen.OutBwdIdeal.Frame
public import proofs.«01_k».proof.Proof.Gen.OutBwdRefIdeal.Run
public import proofs.«01_k».proof.Defs
public import Idealize.ShloMosaic.Lib.Pipeline.ValueKit
public import Idealize.ShloMosaic.Lib.Pointwise
public import Idealize.ShloMosaic.Lib.Claim

/-! The gradient of the output projection's input: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.OutBwdIdeal.Value

open Cert.OutBwdIdeal Cert.OutBwdIdeal.Gen

variable (m : (ℓ : Loc nD τ sig) → Buf (Elt Ideal) ℓ)

/-- The gradient of the output projection's input as the reference computes it from the two arguments. -/
abbrev grad (x0 : FVec Ideal S4096x2048 .bf16) (x1 : FVec Ideal S2048x2048 .bf16) : FVec Ideal S4096x2048 .bf16 :=
  truncf .bf16 (Host.dotGeneral Cert.OutBwdRefIdeal.dot_S4096x2048_S2048x2048_S4096x2048_1_1_0_0_n_n none (extf .f32 x0 Cert.OutBwdRefIdeal.Gen.bitsLt_bf16_f32) (extf .f32 x1 Cert.OutBwdRefIdeal.Gen.bitsLt_bf16_f32)) Cert.OutBwdRefIdeal.Gen.bitsLt_bf16_f32

/-- Which block each window is at, at grid point `t`. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  blk_point [iblk, V, idx t]

end Cert.OutBwdIdeal.Value

namespace Cert.Proof

/-- The kernel's gradient of the output projection's input and the reference's are equal at the ideal instance. -/
theorem algebraic_OutBwd : Cert.algebraic_OutBwdIdeal_OutBwdRefIdeal := by
  pair_intro
  · run_from Cert.OutBwdIdeal.Gen.run_main m g
  · hlo_run
    exact (Cert.OutBwdIdeal.Value.final m c).symm

end Cert.Proof

end
-- ==== Proof.InBwd.lean ====
module

public import proofs.«01_k».proof.Proof.Gen.InBwdIdeal.Frame
public import proofs.«01_k».proof.Proof.Gen.InBwdRefIdeal.Run
public import proofs.«01_k».proof.Defs
public import Idealize.ShloMosaic.Lib.Pipeline.ValueKit
public import Idealize.ShloMosaic.Lib.Pointwise
public import Idealize.ShloMosaic.Lib.Claim

/-! The gradient of the input projection's input: each block the kernel writes is the block of the reference's gradient, so the whole arrays are equal. -/

@[expose] public section

set_option maxRecDepth 16384

noncomputable section

open Idealize.ShloMosaic Idealize.ShloMosaic.TcCoe Idealize.SL.Sem
open Idealize.ShloMosaic.Pipeline (Dat)

namespace Cert.InBwdIdeal.Value

open Cert.InBwdIdeal Cert.InBwdIdeal.Gen

variable (m : (ℓ : Loc nD τ sig) → Buf (Elt Ideal) ℓ)

/-- The gradient of the input projection's input as the reference computes it from the two arguments. -/
abbrev grad (x0 : FVec Ideal S4096x5120 .bf16) (x1 : FVec Ideal S2048x5120 .bf16) : FVec Ideal S4096x2048 .bf16 :=
  truncf .bf16 (Host.dotGeneral Cert.InBwdRefIdeal.dot_S4096x5120_S2048x5120_S4096x2048_1_1_0_0_n_n none (extf .f32 x0 Cert.InBwdRefIdeal.Gen.bitsLt_bf16_f32) (extf .f32 x1 Cert.InBwdRefIdeal.Gen.bitsLt_bf16_f32)) Cert.InBwdRefIdeal.Gen.bitsLt_bf16_f32

/-- Which block each window is at, at grid point `t`. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The result array after the run is the reference's gradient of the arguments. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, grad]
  blk_point [iblk, V, idx t]

end Cert.InBwdIdeal.Value

namespace Cert.Proof

/-- The kernel's gradient of the input projection's input and the reference's are equal at the ideal instance. -/
theorem algebraic_InBwd : Cert.algebraic_InBwdIdeal_InBwdRefIdeal := by
  pair_intro
  · run_from Cert.InBwdIdeal.Gen.run_main m g
  · hlo_run
    exact (Cert.InBwdIdeal.Value.final m c).symm

end Cert.Proof

end
-- ==== Proof.InFwd.lean ====
module

public import proofs.«01_k».proof.Proof.Gen.InFwdIdeal.Frame
public import proofs.«01_k».proof.Proof.Gen.InFwdRefIdeal.Run
public import proofs.«01_k».proof.Defs
public import Idealize.ShloMosaic.Lib.Pipeline.ValueKit
public import Idealize.ShloMosaic.Lib.Pointwise
public import Idealize.ShloMosaic.Lib.Claim

/-! The forward pass's call for the input projection: each block the kernel writes is the block of what the reference computes. -/

@[expose] public section

set_option maxRecDepth 16384

noncomputable section

open Idealize.ShloMosaic Idealize.ShloMosaic.TcCoe Idealize.SL.Sem
open Idealize.ShloMosaic.Pipeline (Dat)

namespace Cert.InFwdIdeal.Value

open Cert.InFwdIdeal Cert.InFwdIdeal.Gen

variable (m : (ℓ : Loc nD τ sig) → Buf (Elt Ideal) ℓ)

/-- What the reference computes for the input projection, as a function of the arguments. -/
abbrev value (x0 : FVec Ideal S4096x2048 .bf16) (x1 : FVec Ideal S2048x5120 .bf16) : FVec Ideal S4096x5120 .bf16 :=
  truncf .bf16 (Host.dotGeneral Cert.InFwdRefIdeal.dot_S4096x2048_S2048x5120_S4096x5120_1_0_0_1_n_n none (extf .f32 x0 Cert.InFwdRefIdeal.Gen.bitsLt_bf16_f32) (extf .f32 x1 Cert.InFwdRefIdeal.Gen.bitsLt_bf16_f32)) Cert.InFwdRefIdeal.Gen.bitsLt_bf16_f32

/-- Which block each window is at, at grid point `t`. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The result array after the run: the blocks the kernel writes are the blocks of the reference's the input projection. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, value]
  blk_point [iblk, V, idx t]

end Cert.InFwdIdeal.Value

namespace Cert.Proof

/-- The kernel's the input projection and the reference's are equal at the ideal instance. -/
theorem algebraic_InFwd : Cert.algebraic_InFwdIdeal_InFwdRefIdeal := by
  pair_intro
  · run_from Cert.InFwdIdeal.Gen.run_main m g
  · hlo_run
    exact (Cert.InFwdIdeal.Value.final m c).symm

end Cert.Proof

end
-- ==== Proof.DownFwd.lean ====
module

public import proofs.«01_k».proof.Proof.Gen.DownFwdIdeal.Frame
public import proofs.«01_k».proof.Proof.Gen.DownFwdRefIdeal.Run
public import proofs.«01_k».proof.Defs
public import Idealize.ShloMosaic.Lib.Pipeline.ValueKit
public import Idealize.ShloMosaic.Lib.Pointwise
public import Idealize.ShloMosaic.Lib.Claim

/-! The forward pass's call for the down projection added to the residual: each block the kernel writes is the block of what the reference computes. -/

@[expose] public section

set_option maxRecDepth 16384

noncomputable section

open Idealize.ShloMosaic Idealize.ShloMosaic.TcCoe Idealize.SL.Sem
open Idealize.ShloMosaic.Pipeline (Dat)

namespace Cert.DownFwdIdeal.Value

open Cert.DownFwdIdeal Cert.DownFwdIdeal.Gen

variable (m : (ℓ : Loc nD τ sig) → Buf (Elt Ideal) ℓ)

/-- What the reference computes for the down projection added to the residual, as a function of the arguments. -/
abbrev value (x0 : FVec Ideal S4096x5632 .bf16) (x1 : FVec Ideal S5632x2048 .bf16) (x2 : FVec Ideal S4096x2048 .f32) : FVec Ideal S4096x2048 .f32 :=
  addf x2 (Host.dotGeneral Cert.DownFwdRefIdeal.dot_S4096x5632_S5632x2048_S4096x2048_1_0_0_1_n_n none (extf .f32 x0 Cert.DownFwdRefIdeal.Gen.bitsLt_bf16_f32) (extf .f32 x1 Cert.DownFwdRefIdeal.Gen.bitsLt_bf16_f32))

/-- Which block each window is at, at grid point `t`. -/
theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The result array after the run: the blocks the kernel writes are the blocks of the reference's the down projection added to the residual. -/
theorem final (c : Dev nD) : (dats m 0 c).arrAt 3 (cfgs 0).N
    = value (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, value]
  blk_point [iblk, V, idx t]

end Cert.DownFwdIdeal.Value

namespace Cert.Proof

/-- The kernel's the down projection added to the residual and the reference's are equal at the ideal instance. -/
theorem algebraic_DownFwd : Cert.algebraic_DownFwdIdeal_DownFwdRefIdeal := by
  pair_intro
  · run_from Cert.DownFwdIdeal.Gen.run_main m g
  · hlo_run
    exact (Cert.DownFwdIdeal.Value.final m c).symm

end Cert.Proof

end
-- ==== Proof.OutFwd.lean ====
module

public import proofs.«01_k».proof.Proof.Gen.OutFwdIdeal.Frame
public import proofs.«01_k».proof.Proof.Gen.OutFwdRefIdeal.Run
public import proofs.«01_k».proof.Defs
public import Idealize.ShloMosaic.Lib.Pipeline.ValueKit
public import Idealize.ShloMosaic.Lib.Pointwise
public import Idealize.ShloMosaic.Lib.Claim

/-! The forward pass's call for the output projection added to the residual and the root mean square norm of that sum: each block the kernel writes is the block of what the reference computes. -/

@[expose] public section

set_option maxRecDepth 16384

noncomputable section

open Idealize.ShloMosaic Idealize.ShloMosaic.TcCoe Idealize.SL.Sem
open Idealize.ShloMosaic.Pipeline (Dat)

namespace Cert.OutFwdIdeal.Value

open Cert.OutFwdIdeal Cert.OutFwdIdeal.Gen

variable (m : (ℓ : Loc nD τ sig) → Buf (Elt Ideal) ℓ)

/-- What the reference computes for the output projection added to the residual, as a function of the arguments. -/
abbrev sumValue (x0 : FVec Ideal S4096x2048 .bf16) (x1 : FVec Ideal S2048x2048 .bf16) (x2 : FVec Ideal S4096x2048 .f32) (x3 : FVec Ideal S2048 .f32) : FVec Ideal S4096x2048 .f32 :=
  addf x2 (Host.dotGeneral Cert.OutFwdRefIdeal.dot_S4096x2048_S2048x2048_S4096x2048_1_0_0_1_n_n none (extf .f32 x0 Cert.OutFwdRefIdeal.Gen.bitsLt_bf16_f32) (extf .f32 x1 Cert.OutFwdRefIdeal.Gen.bitsLt_bf16_f32))

/-- What the reference computes for the root mean square norm of that sum, as a function of the arguments. -/
abbrev normValue (x0 : FVec Ideal S4096x2048 .bf16) (x1 : FVec Ideal S2048x2048 .bf16) (x2 : FVec Ideal S4096x2048 .f32) (x3 : FVec Ideal S2048 .f32) : FVec Ideal S4096x2048 .bf16 :=
  truncf .bf16 (mulf (mulf (addf x2 (Host.dotGeneral Cert.OutFwdRefIdeal.dot_S4096x2048_S2048x2048_S4096x2048_1_0_0_1_n_n none (extf .f32 x0 Cert.OutFwdRefIdeal.Gen.bitsLt_bf16_f32) (extf .f32 x1 Cert.OutFwdRefIdeal.Gen.bitsLt_bf16_f32))) (broadcastInDim Cert.OutFwdRefIdeal.S4096x2048 ![0, 1] Cert.OutFwdRefIdeal.Gen.bcast_S4096x1_S4096x2048_0_1 (Host.rsqrt (addf (Host.divf (broadcastInDim Cert.OutFwdRefIdeal.S4096x1 ![0] Cert.OutFwdRefIdeal.Gen.bcast_S4096_S4096x1_0 (Host.reduceAdd (mulf (addf x2 (Host.dotGeneral Cert.OutFwdRefIdeal.dot_S4096x2048_S2048x2048_S4096x2048_1_0_0_1_n_n none (extf .f32 x0 Cert.OutFwdRefIdeal.Gen.bitsLt_bf16_f32) (extf .f32 x1 Cert.OutFwdRefIdeal.Gen.bitsLt_bf16_f32))) (addf x2 (Host.dotGeneral Cert.OutFwdRefIdeal.dot_S4096x2048_S2048x2048_S4096x2048_1_0_0_1_n_n none (extf .f32 x0 Cert.OutFwdRefIdeal.Gen.bitsLt_bf16_f32) (extf .f32 x1 Cert.OutFwdRefIdeal.Gen.bitsLt_bf16_f32)))) (constant Cert.OutFwdRefIdeal.S_ .f32 0x00000000#32) Cert.OutFwdRefIdeal.Gen.reducesTo_S4096x2048_S4096_d1 Cert.OutFwdRefIdeal.Gen.h_S_)) (broadcastInDim Cert.OutFwdRefIdeal.S4096x1 ![] Cert.OutFwdRefIdeal.Gen.bcast_S_S4096x1 (constant Cert.OutFwdRefIdeal.S_ .f32 0x45000000#32))) (broadcastInDim Cert.OutFwdRefIdeal.S4096x1 ![] Cert.OutFwdRefIdeal.Gen.bcast_S_S4096x1 (constant Cert.OutFwdRefIdeal.S_ .f32 0x358637BD#32)))))) (broadcastInDim Cert.OutFwdRefIdeal.S4096x2048 ![0, 1] Cert.OutFwdRefIdeal.Gen.bcast_S1x2048_S4096x2048_0_1 (broadcastInDim Cert.OutFwdRefIdeal.S1x2048 ![1] Cert.OutFwdRefIdeal.Gen.bcast_S2048_S1x2048_1 x3))) Cert.OutFwdRefIdeal.Gen.bitsLt_bf16_f32

/-- Which block each window is at, at grid point `t`. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

/-- The result array after the run: the blocks the kernel writes are the blocks of the reference's the output projection added to the residual. -/
theorem final_sum (c : Dev nD) : (dats m 0 c).arrAt 4 (cfgs 0).N
    = sumValue (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, sumValue]
  blk_point [iblk, V, idx t]

/-- The result array after the run: the blocks the kernel writes are the blocks of the reference's the root mean square norm of that sum. -/
theorem final_norm (c : Dev nD) : (dats m 0 c).arrAt 5 (cfgs 0).N
    = normValue (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, normValue]
  blk_point [iblk, V, idx t]

end Cert.OutFwdIdeal.Value

namespace Cert.Proof

/-- The kernel's the output projection added to the residual and the root mean square norm of that sum and the reference's are equal at the ideal instance. -/
theorem algebraic_OutFwd : Cert.algebraic_OutFwdIdeal_OutFwdRefIdeal := by
  pair_intro
  · run_from Cert.OutFwdIdeal.Gen.run_main m g
  · hlo_run
    · exact (Cert.OutFwdIdeal.Value.final_sum m c).symm
    · exact (Cert.OutFwdIdeal.Value.final_norm m c).symm

end Cert.Proof

end
-- ==== Proof.RmsFwd.lean ====
module

public import proofs.«01_k».proof.Proof.Gen.RmsFwdIdeal.Frame
public import proofs.«01_k».proof.Proof.Gen.RmsFwdRefIdeal.Run
public import proofs.«01_k».proof.Defs
public import Idealize.ShloMosaic.Lib.Pipeline.ValueKit
public import Idealize.ShloMosaic.Lib.Pointwise
public import Idealize.ShloMosaic.Lib.Claim

/-! The forward pass's call for the root mean square norm: each block the kernel writes is the block of what the reference computes. -/

@[expose] public section

set_option maxRecDepth 16384

noncomputable section

open Idealize.ShloMosaic Idealize.ShloMosaic.TcCoe Idealize.SL.Sem
open Idealize.ShloMosaic.Pipeline (Dat)

namespace Cert.RmsFwdIdeal.Value

open Cert.RmsFwdIdeal Cert.RmsFwdIdeal.Gen

variable (m : (ℓ : Loc nD τ sig) → Buf (Elt Ideal) ℓ)

/-- What the reference computes for the root mean square norm, as a function of the arguments. -/
abbrev value (x0 : FVec Ideal S4096x2048 .f32) (x1 : FVec Ideal S2048 .f32) : FVec Ideal S4096x2048 .bf16 :=
  truncf .bf16 (mulf (mulf x0 (broadcastInDim Cert.RmsFwdRefIdeal.S4096x2048 ![0, 1] Cert.RmsFwdRefIdeal.Gen.bcast_S4096x1_S4096x2048_0_1 (Host.rsqrt (addf (Host.divf (broadcastInDim Cert.RmsFwdRefIdeal.S4096x1 ![0] Cert.RmsFwdRefIdeal.Gen.bcast_S4096_S4096x1_0 (Host.reduceAdd (mulf x0 x0) (constant Cert.RmsFwdRefIdeal.S_ .f32 0x00000000#32) Cert.RmsFwdRefIdeal.Gen.reducesTo_S4096x2048_S4096_d1 Cert.RmsFwdRefIdeal.Gen.h_S_)) (broadcastInDim Cert.RmsFwdRefIdeal.S4096x1 ![] Cert.RmsFwdRefIdeal.Gen.bcast_S_S4096x1 (constant Cert.RmsFwdRefIdeal.S_ .f32 0x45000000#32))) (broadcastInDim Cert.RmsFwdRefIdeal.S4096x1 ![] Cert.RmsFwdRefIdeal.Gen.bcast_S_S4096x1 (constant Cert.RmsFwdRefIdeal.S_ .f32 0x358637BD#32)))))) (broadcastInDim Cert.RmsFwdRefIdeal.S4096x2048 ![0, 1] Cert.RmsFwdRefIdeal.Gen.bcast_S1x2048_S4096x2048_0_1 (broadcastInDim Cert.RmsFwdRefIdeal.S1x2048 ![1] Cert.RmsFwdRefIdeal.Gen.bcast_S2048_S1x2048_1 x1))) Cert.RmsFwdRefIdeal.Gen.bitsLt_bf16_f32

/-- Which block each window is at, at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The result array after the run: the blocks the kernel writes are the blocks of the reference's the root mean square norm. -/
theorem final (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, value]
  blk_point [iblk, V, idx t]

end Cert.RmsFwdIdeal.Value

namespace Cert.Proof

/-- The kernel's the root mean square norm and the reference's are equal at the ideal instance. -/
theorem algebraic_RmsFwd : Cert.algebraic_RmsFwdIdeal_RmsFwdRefIdeal := by
  pair_intro
  · run_from Cert.RmsFwdIdeal.Gen.run_main m g
  · hlo_run
    exact (Cert.RmsFwdIdeal.Value.final m c).symm

end Cert.Proof

end
-- ==== Proof.RmsRow.lean ====
module

public import proofs.«01_k».proof.Proof.MixerSpec

/-! The gradient of the root-mean-square norm of one row of 2048 numbers, and sums over sixteen steps of 256 rows. -/

@[expose] public section

noncomputable section

open Idealize.ShloMosaic

namespace Cert.Rms

/-! ## The gradient of one row -/

/-- The mean square of a row, with the constant added. -/
abbrev msq (x : Fin 2048 → EReal) : EReal := Ideal.div (∑ k, x k * x k) (Ideal.ofBits .f32 0x45000000#32) + Ideal.ofBits .f32 0x358637BD#32

theorem bits_2048 : (Ideal.ofBits .f32 0x45000000#32 : EReal) = ((2048 : ℝ) : EReal) := by
  simp [Ideal.ofBits, Ideal.ieee, -EReal.coe_mul]; norm_num

/-- The reciprocal root mean square of a row of real numbers is a real number. -/
theorem rsqrt_real (x : Fin 2048 → EReal) (hx : ∀ k, ∃ r : ℝ, x k = r) : ∃ r : ℝ, Ideal.rsqrt (msq x) = r := by
  choose x' hx using hx
  have p : 0 < (∑ k, x' k * x' k) / 2048 + Cert.Mix.eR := by
    have := Cert.Mix.eR_pos
    have : 0 ≤ ∑ k, x' k * x' k := Finset.sum_nonneg fun k _ => mul_self_nonneg _
    positivity
  refine ⟨(Real.sqrt ((∑ k, x' k * x' k) / 2048 + Cert.Mix.eR))⁻¹, ?_⟩
  unfold msq
  rw [Cert.Real.sum_of (f := fun k => x' k * x' k) _ fun k _ => by rw [hx, EReal.coe_mul], bits_2048,
    Cert.Real.div_coe _ (by norm_num : (2048 : ℝ) ≠ 0), Cert.Mix.bits_eR, ← EReal.coe_add, Cert.Real.rsqrt_coe p]

/-- The gradient of the norm of a row of real numbers: the cotangent less its projection on the normalised row, over the root
    mean square, is what the chain rule through the reciprocal root gives. -/
theorem row_eq (x d g : Fin 2048 → EReal) (hx : ∀ k, ∃ r : ℝ, x k = r) (hd : ∀ k, ∃ r : ℝ, d k = r) (hg : ∀ k, ∃ r : ℝ, g k = r) (j : Fin 2048) :
    Ideal.rsqrt (msq x) * (d j * g j - x j * Ideal.rsqrt (msq x)
        * Ideal.div (∑ k, d k * g k * (x k * Ideal.rsqrt (msq x))) (Ideal.ofBits .f32 0x45000000#32))
      = d j * g j * Ideal.rsqrt (msq x)
        + x j * Ideal.div ((∑ k, x k * (d k * g k)) * (Ideal.ofBits .f32 0xBF000000#32 * Ideal.div (Ideal.rsqrt (msq x)) (msq x))) (Ideal.ofBits .f32 0x45000000#32)
        + Ideal.div ((∑ k, x k * (d k * g k)) * (Ideal.ofBits .f32 0xBF000000#32 * Ideal.div (Ideal.rsqrt (msq x)) (msq x))) (Ideal.ofBits .f32 0x45000000#32) * x j := by
  choose x' hx using hx
  choose d' hd using hd
  choose g' hg using hg
  have n : (2048 : ℝ) ≠ 0 := by norm_num
  obtain ⟨E, hE⟩ : ∃ E, E = (∑ k, x' k * x' k) / 2048 + Cert.Mix.eR := ⟨_, rfl⟩
  have p : 0 < E := by
    have := Cert.Mix.eR_pos
    have : 0 ≤ ∑ k, x' k * x' k := Finset.sum_nonneg fun k _ => mul_self_nonneg _
    rw [hE]; positivity
  have e : msq x = ((E : ℝ) : EReal) := by
    unfold msq
    rw [Cert.Real.sum_of (f := fun k => x' k * x' k) _ fun k _ => by rw [hx, EReal.coe_mul], bits_2048, Cert.Real.div_coe _ n, Cert.Mix.bits_eR, ← EReal.coe_add, hE]
  obtain ⟨r, hr⟩ : ∃ r, r = (Real.sqrt E)⁻¹ := ⟨_, rfl⟩
  have hr2 : r / E = r * (r * r) := by
    rw [hr, ← mul_inv, Real.mul_self_sqrt p.le, div_eq_mul_inv]
  rw [e, Cert.Real.rsqrt_coe p, ← hr, bits_2048, Cert.Mix.bits_nhalf, Cert.Real.div_coe _ p.ne', hr2]
  have e1 : (∑ k, x k * (d k * g k)) = ((∑ k, x' k * (d' k * g' k) : ℝ) : EReal) :=
    Cert.Real.sum_of _ fun k _ => by rw [hx, hd, hg, EReal.coe_mul, EReal.coe_mul]
  have e2 : (∑ k, d k * g k * (x k * (r : EReal))) = ((∑ k, d' k * g' k * (x' k * r) : ℝ) : EReal) :=
    Cert.Real.sum_of _ fun k _ => by rw [hx, hd, hg, EReal.coe_mul, EReal.coe_mul, EReal.coe_mul]
  have hs : ∑ k, d' k * g' k * (x' k * r) = (∑ k, x' k * (d' k * g' k)) * r := by
    rw [Finset.sum_mul]; exact Finset.sum_congr rfl fun k _ => by ring
  rw [e1, e2, hs]
  generalize (∑ k, x' k * (d' k * g' k)) = S
  rw [hx, hd, hg]
  simp only [← EReal.coe_mul, ← EReal.coe_add, ← EReal.coe_sub, Cert.Real.div_coe _ n]
  refine congrArg _ ?_
  ring

/-! ## Sums over the steps -/

/-- Sixteen steps of 256 rows are 4096 rows. -/
theorem sum_steps (f : ℕ → EReal) : ∑ u ∈ Finset.range 16, ∑ r : Fin 256, f (256 * u + r.val) = ∑ s : Fin 4096, f s.val := by
  have e : ∀ n : ℕ, ∑ u ∈ Finset.range n, ∑ r : Fin 256, f (256 * u + r.val) = ∑ s ∈ Finset.range (256 * n), f s := fun n => by
    induction n with
    | zero => simp
    | succ n ih =>
      rw [Finset.sum_range_succ, ih, Nat.mul_succ, Finset.sum_range_add, Fin.sum_univ_eq_sum_range (fun r => f (256 * n + r)) 256]
  rw [e, ← Fin.sum_univ_eq_sum_range f 4096]

/-- The first component of a pair given as one. -/
theorem fst_of {α β : Type} {p : α × β} {a : α} {b : β} (h : p = (a, b)) : p.1 = a := by rw [h]
/-- The second component of a pair given as one. -/
theorem snd_of {α β : Type} {p : α × β} {a : α} {b : β} (h : p = (a, b)) : p.2 = b := by rw [h]

end Cert.Rms

end
-- ==== Proof.RmsBwd.lean ====
module

public import proofs.«01_k».proof.Proof.RmsRow
public import proofs.«01_k».proof.Proof.Finite
public import proofs.«01_k».proof.Proof.Gen.RmsBwdIdeal.Frame
public import proofs.«01_k».proof.Proof.Gen.RmsBwdRefIdeal.Run
public import proofs.«01_k».proof.Proof.Gen.Pre_finite_rms
public import proofs.«01_k».proof.Defs
public import Idealize.ShloMosaic.Lib.Claim
public import Idealize.ShloMosaic.Lib.Pipeline.ValueKit
public import Idealize.ShloMosaic.Lib.Pointwise

/-! The gradient of the root-mean-square norm, added to the gradient that passes the norm by: the kernel's three results are
the reference's. The kernel writes the gradient of a row as the projected cotangent over the root mean square; the reference
goes through the reciprocal root by the chain rule. The two agree when the row, its cotangent and the scale are real numbers. -/

@[expose] public section

noncomputable section

open Idealize.ShloMosaic Idealize.ShloMosaic.TcCoe Idealize.SL.Sem
open Idealize.ShloMosaic.Pipeline (Dat)

namespace Cert.Rms

/-! ## The reference's results -/

section
open Cert.RmsBwdRefIdeal Cert.RmsBwdRefIdeal.Gen

/-- The mean square of each row, with the constant added. -/
abbrev sq (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The reciprocal root mean square of each row, at every entry of the row. -/
abbrev rs (x : FVec Ideal S4096x2048 .f32) : FVec Ideal S4096x2048 .f32 :=
  broadcastInDim S4096x2048 ![0, 1] bcast_S4096x1_S4096x2048_0_1 (Host.rsqrt (sq x))

/-- The part of each row's gradient that goes through the reciprocal root, at every entry of the row. -/
abbrev inner (x q : FVec Ideal S4096x2048 .f32) : FVec Ideal S4096x2048 .f32 :=
  broadcastInDim S4096x2048 ![0] bcast_S4096_S4096x2048_0 (Host.reduceAdd
    (Host.divf (mulf (shapeCast S4096x1 (Host.reduceAdd (mulf x q) (constant S_ .f32 0x00000000#32) reducesTo_S4096x2048_S4096_d1 h_S_) shapeCasts_S4096_S4096x1)
      (mulf (broadcastInDim S4096x1 ![] bcast_S_S4096x1 (constant S_ .f32 0xBF000000#32)) (Host.divf (Host.rsqrt (sq x)) (sq x)))) (broadcastInDim S4096x1 ![] bcast_S_S4096x1 (constant S_ .f32 0x45000000#32)))
    (constant S_ .f32 0x00000000#32) reducesTo_S4096x1_S4096_d1 h_S_)

/-- The cotangent times the scale. -/
abbrev scaled (x0 : FVec Ideal S4096x2048 .bf16) (x2 : FVec Ideal S2048 .f32) : FVec Ideal S4096x2048 .f32 :=
  mulf (extf .f32 x0 bitsLt_bf16_f32) (broadcastInDim S4096x2048 ![0, 1] bcast_S1x2048_S4096x2048_0_1 (broadcastInDim S1x2048 ![1] bcast_S2048_S1x2048_1 x2))

/-- The gradient with respect to the rows, plus the gradient that passes the norm by. -/
abbrev dx (x0 : FVec Ideal S4096x2048 .bf16) (x1 : FVec Ideal S4096x2048 .f32) (x2 : FVec Ideal S2048 .f32) (x3 : FVec Ideal S4096x2048 .f32) : FVec Ideal S4096x2048 .f32 :=
  addf x3 (addf (addf (mulf (scaled x0 x2) (rs x1)) (mulf x1 (inner x1 (scaled x0 x2)))) (mulf (inner x1 (scaled x0 x2)) x1))

/-- The gradient with respect to the scale. -/
abbrev dg (x0 : FVec Ideal S4096x2048 .bf16) (x1 : FVec Ideal S4096x2048 .f32) : FVec Ideal S1x2048 .f32 :=
  broadcastInDim S1x2048 ![1] bcast_S2048_S1x2048_1 (Host.reduceAdd (shapeCast S1x2048 (Host.reduceAdd (mulf (mulf x1 (rs x1)) (extf .f32 x0 bitsLt_bf16_f32)) (constant S_ .f32 0x00000000#32) reducesTo_S4096x2048_S2048_d0 h_S_) shapeCasts_S2048_S1x2048) (constant S_ .f32 0x00000000#32) reducesTo_S1x2048_S2048_d0 h_S_)

/-- The first result at an entry. -/
theorem dx_at (x0 : FVec Ideal S4096x2048 .bf16) (x1 : FVec Ideal S4096x2048 .f32) (x2 : FVec Ideal S2048 .f32) (x3 : FVec Ideal S4096x2048 .f32)
    (h0 : ∀ i, ∃ r : ℝ, (x0 i : EReal) = r) (h1 : ∀ i, ∃ r : ℝ, (x1 i : EReal) = r) (h2 : ∀ i, ∃ r : ℝ, (x2 i : EReal) = r) (s : Fin 4096) (j : Fin 2048) :
    (dx x0 x1 x2 x3 (ix2 s j) : EReal) = x3 (ix2 s j) + Ideal.rsqrt (msq fun k => x1 (ix2 s k))
      * (x0 (ix2 s j) * x2 (ix1 j) - x1 (ix2 s j) * Ideal.rsqrt (msq fun k => x1 (ix2 s k))
        * Ideal.div (∑ k, x0 (ix2 s k) * x2 (ix1 k) * (x1 (ix2 s k) * Ideal.rsqrt (msq fun k => x1 (ix2 s k)))) (Ideal.ofBits .f32 0x45000000#32)) := by
  have e := row_eq (fun k => x1 (ix2 s k)) (fun k => x0 (ix2 s k)) (fun k => x2 (ix1 k)) (fun k => h1 _) (fun k => h0 _) (fun k => h2 _) j
  beta_reduce at e
  rw [e]
  pointwise [dx, inner, scaled, rs, sq]
  simp only [Fin.sum_univ_one]

/-- The third result at an entry. -/
theorem dg_at (x0 : FVec Ideal S4096x2048 .bf16) (x1 : FVec Ideal S4096x2048 .f32) (j : Fin 2048) :
    (dg x0 x1 (ix2 0 j) : EReal) = ∑ s : Fin 4096, x0 (ix2 s j) * (x1 (ix2 s j) * Ideal.rsqrt (msq fun k => x1 (ix2 s k))) := by
  pointwise [dg, rs, sq]
  simp only [Fin.sum_univ_one]
  exact Finset.sum_congr rfl fun s _ => mul_comm _ _

end

end Cert.Rms

namespace Cert.RmsBwdIdeal.Value

open Cert.RmsBwdIdeal Cert.RmsBwdIdeal.Gen

/-! ## What a step leaves in each result -/

section
variable {c : Dev nD} {i : grid0.Coords}
variable {arg1 : Memref sig .tc .vmem S256x2048 .bf16} {harg1 : arg1.IsWhole}
variable {arg2 : Memref sig .tc .vmem S256x2048 .f32} {harg2 : arg2.IsWhole}
variable {arg3 : Memref sig .tc .vmem S1x2048 .f32} {harg3 : arg3.IsWhole}
variable {arg4 : Memref sig .tc .vmem S256x2048 .f32} {harg4 : arg4.IsWhole}
variable {arg5 : Memref sig .tc .vmem S256x2048 .f32} {harg5 : arg5.IsWhole}
variable {arg6 : Memref sig .tc .vmem S256x2048 .bf16} {harg6 : arg6.IsWhole}
variable {arg7 : Memref sig .tc .vmem S1x2048 .f32} {harg7 : arg7.IsWhole}
variable {x0 : Vec Ideal S256x2048 .bf16} {x1 : Vec Ideal S256x2048 .f32} {x2 : Vec Ideal S1x2048 .f32} {x3 : Vec Ideal S256x2048 .f32} {xo6 : Vec Ideal S1x2048 .f32}

theorem o_A_4 : ∀ hc0 hc1, out0_A_4 (F := Ideal) c i arg1 harg1 arg2 harg2 arg3 harg3 arg4 harg4 arg5 harg5 arg6 harg6 arg7 harg7 hc0 hc1 x0 x1 x2 x3 = k0_pay5 (F := Ideal) x1 x0 x2 x3 := by
  intro hc0 hc1
  unfold out0_A_4
  frame_out
theorem o_A_5 : ∀ hc0 hc1, out0_A_5 (F := Ideal) c i arg1 harg1 arg2 harg2 arg3 harg3 arg4 harg4 arg5 harg5 arg6 harg6 arg7 harg7 hc0 hc1 x0 x1 x2 x3 = k0_pay6 (F := Ideal) x1 x0 x2 x3 := by
  intro hc0 hc1
  unfold out0_A_5
  frame_out
theorem o_A_6 : ∀ hc0 hc1, out0_A_6 (F := Ideal) c i arg1 harg1 arg2 harg2 arg3 harg3 arg4 harg4 arg5 harg5 arg6 harg6 arg7 harg7 hc0 hc1 x0 x1 x2 x3 = k0_pay7 (F := Ideal) x1 x0 := by
  intro hc0 hc1
  unfold out0_A_6
  frame_out
theorem o_B_4 : ∀ hc0 hc1, out0_B_4 (F := Ideal) c i arg1 harg1 arg2 harg2 arg3 harg3 arg4 harg4 arg5 harg5 arg6 harg6 arg7 harg7 hc0 hc1 x0 x1 x2 x3 xo6 = k0_pay5 (F := Ideal) x1 x0 x2 x3 := by
  intro hc0 hc1
  unfold out0_B_4
  frame_out
theorem o_B_5 : ∀ hc0 hc1, out0_B_5 (F := Ideal) c i arg1 harg1 arg2 harg2 arg3 harg3 arg4 harg4 arg5 harg5 arg6 harg6 arg7 harg7 hc0 hc1 x0 x1 x2 x3 xo6 = k0_pay6 (F := Ideal) x1 x0 x2 x3 := by
  intro hc0 hc1
  unfold out0_B_5
  frame_out
theorem o_B_6 : ∀ hc0 hc1, out0_B_6 (F := Ideal) c i arg1 harg1 arg2 harg2 arg3 harg3 arg4 harg4 arg5 harg5 arg6 harg6 arg7 harg7 hc0 hc1 x0 x1 x2 x3 xo6 = k0_pay1 (F := Ideal) (k0_pay7 (F := Ideal) x1 x0) xo6 := by
  intro hc0 hc1
  unfold out0_B_6
  frame_out

end

/-- The first result's block at an entry, from the blocks a step reads. -/
theorem pay5_at (x0 : Vec Ideal S256x2048 .bf16) (x1 : Vec Ideal S256x2048 .f32) (x2 : Vec Ideal S1x2048 .f32) (x3 : Vec Ideal S256x2048 .f32) (s : Fin 256) (j : Fin 2048) :
    (k0_pay5 (F := Ideal) x1 x0 x2 x3 (ix2 s j) : EReal) = x3 (ix2 s j) + Ideal.rsqrt (Cert.Rms.msq fun k => x1 (ix2 s k))
      * (x0 (ix2 s j) * x2 (ix2 0 j) - x1 (ix2 s j) * Ideal.rsqrt (Cert.Rms.msq fun k => x1 (ix2 s k))
        * Ideal.div (∑ k, x0 (ix2 s k) * x2 (ix2 0 k) * (x1 (ix2 s k) * Ideal.rsqrt (Cert.Rms.msq fun k => x1 (ix2 s k)))) (Ideal.ofBits .f32 0x45000000#32)) := by
  pointwise [k0_pay5, k0_pay2, k0_pay4, k0_pay3]

/-- What a step adds to the third result. -/
theorem pay7_at (x0 : Vec Ideal S256x2048 .bf16) (x1 : Vec Ideal S256x2048 .f32) (s : Fin 1) (j : Fin 2048) :
    (k0_pay7 (F := Ideal) x1 x0 (ix2 s j) : EReal) = ∑ r : Fin 256, x0 (ix2 r j) * (x1 (ix2 r j) * Ideal.rsqrt (Cert.Rms.msq fun k => x1 (ix2 r k))) := by
  pointwise [k0_pay7, k0_pay2, k0_pay4, k0_pay3]

/-- The third result's block at an entry, over what the step before left. -/
theorem pay1_at (x v : Vec Ideal S1x2048 .f32) (y : S1x2048.Idx) :
    (k0_pay1 (F := Ideal) x v y : EReal) = v y + x y := by
  idx_vars y
  pointwise [k0_pay1]

/-! ## The blocks a step reads -/

variable (m : (ℓ : Loc nD τ sig) → Buf (Elt Ideal) ℓ) (c : Dev nD)

abbrev a0 : FVec Ideal S4096x2048 .bf16 := m ((c : Thread nD τ).loc main_arg0)
abbrev a1 : FVec Ideal S4096x2048 .f32 := m ((c : Thread nD τ).loc main_arg1)
abbrev a2 : FVec Ideal S2048 .f32 := m ((c : Thread nD τ).loc main_arg2)
abbrev a3 : FVec Ideal S4096x2048 .f32 := m ((c : Thread nD τ).loc main_arg3)

/-- Which block each window is at, at grid point `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The row of the whole array that a step's row is. -/
theorem lt_rows (t : Fin cfg0.N) (s : Fin 256) : 256 * t.val + s.val < 4096 := by
  have h : t.val < 16 := lt_of_lt_of_eq t.isLt (show cfg0.N = 16 from N_0)
  have := s.isLt
  omega

/-- The scale as the host lays it out. -/
theorem V0 : V m c main_v0 = shapeCast S1x2048 (a2 m c) shapeCasts_S2048_S1x2048 := by
  simp only [V, hostOps0]; after_results_simp <;> rfl

theorem b0 (t : Fin cfg0.N) (s : Fin 256) (j : Fin 2048) : iblk m c 0 t (ix2 s j) = a0 m c (ix2 ⟨256 * t.val + s.val, lt_rows t s⟩ j) := by
  blk_point [iblk, V_main_arg0, idx t]
theorem b1 (t : Fin cfg0.N) (s : Fin 256) (j : Fin 2048) : iblk m c 1 t (ix2 s j) = a1 m c (ix2 ⟨256 * t.val + s.val, lt_rows t s⟩ j) := by
  blk_point [iblk, V_main_arg1, idx t]
theorem b2 (t : Fin cfg0.N) (j : Fin 2048) : iblk m c 2 t (ix2 0 j) = a2 m c (ix1 j) := by
  have e : iblk m c 2 t (ix2 0 j) = V m c main_v0 (ix2 0 j) := by
    blk_point [iblk, idx t]
  rw [e, V0]
  pointwise
theorem b3 (t : Fin cfg0.N) (s : Fin 256) (j : Fin 2048) : iblk m c 3 t (ix2 s j) = a3 m c (ix2 ⟨256 * t.val + s.val, lt_rows t s⟩ j) := by
  blk_point [iblk, V_main_arg3, idx t]

variable {m} {c}

/-- The first result's block after a step. -/
theorem acc4 (t : Fin cfg0.N) : (outsAt0 m c t.val t.isLt).1 = k0_pay5 (F := Ideal) (iblk m c 1 t) (iblk m c 0 t) (iblk m c 2 t) (iblk m c 3 t) := by
  by_cases h0 : t.val % 16 = 0
  · have h1 : ¬1 ≤ t.val := by have : t.val < 16 := lt_of_lt_of_eq t.isLt (show cfg0.N = 16 from N_0); omega
    exact (Cert.Rms.fst_of (outsAt0_A m c t h0 h1)).trans (o_A_4 _ _)
  · exact (Cert.Rms.fst_of (outsAt0_B m c t h0 (by omega))).trans (o_B_4 _ _)

/-- The second result's block after a step. -/
theorem acc5 (t : Fin cfg0.N) : (outsAt0 m c t.val t.isLt).2.1 = k0_pay6 (F := Ideal) (iblk m c 1 t) (iblk m c 0 t) (iblk m c 2 t) (iblk m c 3 t) := by
  by_cases h0 : t.val % 16 = 0
  · have h1 : ¬1 ≤ t.val := by have : t.val < 16 := lt_of_lt_of_eq t.isLt (show cfg0.N = 16 from N_0); omega
    exact (Cert.Rms.fst_of (Cert.Rms.snd_of (outsAt0_A m c t h0 h1))).trans (o_A_5 _ _)
  · exact (Cert.Rms.fst_of (Cert.Rms.snd_of (outsAt0_B m c t h0 (by omega)))).trans (o_B_5 _ _)

/-- What a row adds to the gradient with respect to the scale, zero below the last row. -/
def term (m : (ℓ : Loc nD τ sig) → Buf (Elt Ideal) ℓ) (c : Dev nD) (j : Fin 2048) (s : ℕ) : EReal :=
  if h : s < 4096 then a0 m c (ix2 ⟨s, h⟩ j) * (a1 m c (ix2 ⟨s, h⟩ j) * Ideal.rsqrt (Cert.Rms.msq fun k => a1 m c (ix2 ⟨s, h⟩ k))) else 0

/-- What a step adds to the gradient with respect to the scale. -/
theorem step6 (t : Fin cfg0.N) (s : Fin 1) (j : Fin 2048) :
    (k0_pay7 (F := Ideal) (iblk m c 1 t) (iblk m c 0 t) (ix2 s j) : EReal) = ∑ r : Fin 256, term m c j (256 * t.val + r.val) := by
  rw [pay7_at]
  refine Finset.sum_congr rfl fun r _ => ?_
  unfold term
  rw [dif_pos (lt_rows t r), b0, b1]
  simp only [b1]

/-- The gradient with respect to the scale after `n + 1` steps. -/
theorem acc6 (s : Fin 1) (j : Fin 2048) : ∀ (n : ℕ) (hn : n < cfg0.N), ((outsAt0 m c n hn).2.2 (ix2 s j) : EReal)
    = ∑ u ∈ Finset.range (n + 1), ∑ r : Fin 256, term m c j (256 * u + r.val)
  | 0, hn => by
    rw [Finset.sum_range_one]
    exact (congrFun ((Cert.Rms.snd_of (Cert.Rms.snd_of (outsAt0_A m c ⟨0, hn⟩ rfl (Nat.not_succ_le_zero 0)))).trans (o_A_6 _ _)) (ix2 s j)).trans (step6 ⟨0, hn⟩ s j)
  | n + 1, hn => by
    have h0 : ¬(n + 1) % 16 = 0 := by have : n + 1 < 16 := lt_of_lt_of_eq hn (show cfg0.N = 16 from N_0); omega
    rw [Finset.sum_range_succ, ← acc6 s j n (Nat.lt_of_succ_lt hn), ← step6 ⟨n + 1, hn⟩ s j]
    exact (congrFun ((Cert.Rms.snd_of (Cert.Rms.snd_of (outsAt0_B m c ⟨n + 1, hn⟩ h0 (by show 1 ≤ n + 1; omega)))).trans (o_B_6 _ _)) (ix2 s j)).trans (pay1_at _ _ _)

/-- Sixteen steps of 256 rows are 4096 rows. -/
theorem sum_rows (j : Fin 2048) : ∑ u ∈ Finset.range 16, ∑ r : Fin 256, term m c j (256 * u + r.val)
    = ∑ s : Fin 4096, a0 m c (ix2 s j) * (a1 m c (ix2 s j) * Ideal.rsqrt (Cert.Rms.msq fun k => a1 m c (ix2 s k))) := by
  rw [Cert.Rms.sum_steps]
  exact Finset.sum_congr rfl fun s _ => by unfold term; rw [dif_pos s.isLt]

/-! ## The three results -/

variable (h0 : ∀ i, ∃ r : ℝ, (a0 m c i : EReal) = r) (h1 : ∀ i, ∃ r : ℝ, (a1 m c i : EReal) = r) (h2 : ∀ i, ∃ r : ℝ, (a2 m c i : EReal) = r)
include h0 h1 h2

/-- A step's block of the first result is the reference's. -/
theorem blk4 (t : Fin cfg0.N) (s : Fin 256) (j : Fin 2048) :
    (k0_pay5 (F := Ideal) (iblk m c 1 t) (iblk m c 0 t) (iblk m c 2 t) (iblk m c 3 t) (ix2 s j) : EReal)
      = Cert.Rms.dx (a0 m c) (a1 m c) (a2 m c) (a3 m c) (ix2 ⟨256 * t.val + s.val, lt_rows t s⟩ j) := by
  rw [Cert.Rms.dx_at _ _ _ _ h0 h1 h2, pay5_at]
  simp only [b0, b1, b2, b3]

/-- The gradient with respect to the rows is the reference's. -/
theorem final4 : (dats m 0 c).arrAt 4 (cfgs 0).N = Cert.Rms.dx (a0 m c) (a1 m c) (a2 m c) (a3 m c) := by
  refine (dats m 0 c).arrAt_eq_of_covers 4 _ (by decide +kernel) fun t _ y => ?_
  idx_vars y
  blk_simp
  rw [after0_4, acc4]
  refine (blk4 h0 h1 h2 t y0 y1).trans (congrArg _ ?_)
  blk_point [idx t]

/-- The gradient with respect to the rows, rounded, is the reference's. -/
theorem final5 : (dats m 0 c).arrAt 5 (cfgs 0).N = truncf (F := Ideal) .bf16 (Cert.Rms.dx (a0 m c) (a1 m c) (a2 m c) (a3 m c)) bitsLt_bf16_f32 := by
  refine (dats m 0 c).arrAt_eq_of_covers 5 _ (by decide +kernel) fun t _ y => ?_
  idx_vars y
  blk_simp
  rw [after0_5, acc5]
  refine (blk4 h0 h1 h2 t y0 y1).trans (congrArg _ ?_)
  blk_point [idx t]

omit h0 h1 h2 in
/-- The gradient with respect to the scale is the reference's. -/
theorem final6 : (dats m 0 c).arrAt 6 (cfgs 0).N = Cert.Rms.dg (a0 m c) (a1 m c) := by
  refine (dats m 0 c).arrAt_eq_of_after_last 6 t0_15 (by decide +kernel) _ fun y => ?_
  idx_vars y
  blk_simp
  rw [after0_6]
  obtain rfl : y0 = 0 := Subsingleton.elim _ _
  exact (acc6 0 y1 15 (by decide)).trans ((sum_rows y1).trans (Cert.Rms.dg_at (a0 m c) (a1 m c) y1).symm)

end Cert.RmsBwdIdeal.Value

namespace Cert.Proof

/-- The precondition says that the cotangent, the rows and the scale are real numbers everywhere. -/
theorem real_rms (m : (ℓ : Loc Cert.RmsBwdIdeal.nD Cert.RmsBwdIdeal.τ Cert.RmsBwdIdeal.sig) → Buf (Elt Ideal) ℓ)
    (h : Cert.Pre_RmsBwdIdeal_finite_rms m) (c : Dev Cert.RmsBwdIdeal.nD) :
    (∀ i, ∃ r : ℝ, (Cert.RmsBwdIdeal.Value.a0 m c i : EReal) = r) ∧ (∀ i, ∃ r : ℝ, (Cert.RmsBwdIdeal.Value.a1 m c i : EReal) = r)
    ∧ (∀ i, ∃ r : ℝ, (Cert.RmsBwdIdeal.Value.a2 m c i : EReal) = r) := by
  have e := congrFun (h c) (ix0)
  dsimp only [Cert.Pre_finite_rms.fn] at e
  obtain ⟨e, e2⟩ := IntOp.andi_eq_one.1 e
  obtain ⟨e0, e1⟩ := IntOp.andi_eq_one.1 e
  exact ⟨Cert.Real.real_of_all _ _ _ _ _ e0, Cert.Real.real_of_all _ _ _ _ _ e1, Cert.Real.real_of_all _ _ _ _ _ e2⟩

/-- The reference's second result, as the first one rounded. -/
theorem reference_rms (m : (ℓ : Loc Cert.RmsBwdRefIdeal.nD Cert.RmsBwdRefIdeal.τ Cert.RmsBwdRefIdeal.sig) → Buf (Elt Ideal) ℓ)
    (c : Dev Cert.RmsBwdRefIdeal.nD) : Cert.RmsBwdRefIdeal.Value.res_main_v39 m c
    = truncf (F := Ideal) .bf16 (Cert.Rms.dx (m ((c.tc : Thread Cert.RmsBwdRefIdeal.nD Cert.RmsBwdRefIdeal.τ).loc Cert.RmsBwdRefIdeal.main_arg0))
        (m ((c.tc : Thread Cert.RmsBwdRefIdeal.nD Cert.RmsBwdRefIdeal.τ).loc Cert.RmsBwdRefIdeal.main_arg1))
        (m ((c.tc : Thread Cert.RmsBwdRefIdeal.nD Cert.RmsBwdRefIdeal.τ).loc Cert.RmsBwdRefIdeal.main_arg2))
        (m ((c.tc : Thread Cert.RmsBwdRefIdeal.nD Cert.RmsBwdRefIdeal.τ).loc Cert.RmsBwdRefIdeal.main_arg3))) Cert.RmsBwdRefIdeal.Gen.bitsLt_bf16_f32 := by
  unfold Cert.RmsBwdRefIdeal.Value.res_main_v39
  rfl

/-- Result 0 in a final state of the kernel. -/
theorem mem_rms_bwd_4 (m : (ℓ : Loc Cert.RmsBwdIdeal.nD Cert.RmsBwdIdeal.τ Cert.RmsBwdIdeal.sig) → Buf (Elt Ideal) ℓ) (c : Dev Cert.RmsBwdIdeal.nD)
    (r : PUnit × MemSt Cert.RmsBwdIdeal.nD Cert.RmsBwdIdeal.τ Cert.RmsBwdIdeal.sig (Elt Ideal))
    (hr : Pipeline.FramePost Cert.RmsBwdIdeal.cfgs (Cert.RmsBwdIdeal.Gen.dats m) 0 (Cert.RmsBwdIdeal.Gen.V m) r) (h : Cert.Pre_RmsBwdIdeal_finite_rms m) :
    r.2.mem ((c.tc : Thread Cert.RmsBwdIdeal.nD Cert.RmsBwdIdeal.τ).loc Cert.RmsBwdIdeal.main_v1_0) = Cert.Rms.dx (Cert.RmsBwdIdeal.Value.a0 m c) (Cert.RmsBwdIdeal.Value.a1 m c) (Cert.RmsBwdIdeal.Value.a2 m c) (Cert.RmsBwdIdeal.Value.a3 m c) :=
  Eq.trans (b := (Cert.RmsBwdIdeal.Gen.dats m 0 c).arrAt 4 (Cert.RmsBwdIdeal.cfgs 0).N) ((hr c).1 4)
    (Cert.RmsBwdIdeal.Value.final4 (real_rms m h c).1 (real_rms m h c).2.1 (real_rms m h c).2.2)

/-- Result 1 in a final state of the kernel. -/
theorem mem_rms_bwd_5 (m : (ℓ : Loc Cert.RmsBwdIdeal.nD Cert.RmsBwdIdeal.τ Cert.RmsBwdIdeal.sig) → Buf (Elt Ideal) ℓ) (c : Dev Cert.RmsBwdIdeal.nD)
    (r : PUnit × MemSt Cert.RmsBwdIdeal.nD Cert.RmsBwdIdeal.τ Cert.RmsBwdIdeal.sig (Elt Ideal))
    (hr : Pipeline.FramePost Cert.RmsBwdIdeal.cfgs (Cert.RmsBwdIdeal.Gen.dats m) 0 (Cert.RmsBwdIdeal.Gen.V m) r) (h : Cert.Pre_RmsBwdIdeal_finite_rms m) :
    r.2.mem ((c.tc : Thread Cert.RmsBwdIdeal.nD Cert.RmsBwdIdeal.τ).loc Cert.RmsBwdIdeal.main_v1_1) = truncf (F := Ideal) .bf16 (Cert.Rms.dx (Cert.RmsBwdIdeal.Value.a0 m c) (Cert.RmsBwdIdeal.Value.a1 m c) (Cert.RmsBwdIdeal.Value.a2 m c) (Cert.RmsBwdIdeal.Value.a3 m c)) Cert.RmsBwdRefIdeal.Gen.bitsLt_bf16_f32 :=
  Eq.trans (b := (Cert.RmsBwdIdeal.Gen.dats m 0 c).arrAt 5 (Cert.RmsBwdIdeal.cfgs 0).N) ((hr c).1 5)
    (Cert.RmsBwdIdeal.Value.final5 (real_rms m h c).1 (real_rms m h c).2.1 (real_rms m h c).2.2)

/-- Result 2 in a final state of the kernel. -/
theorem mem_rms_bwd_6 (m : (ℓ : Loc Cert.RmsBwdIdeal.nD Cert.RmsBwdIdeal.τ Cert.RmsBwdIdeal.sig) → Buf (Elt Ideal) ℓ) (c : Dev Cert.RmsBwdIdeal.nD)
    (r : PUnit × MemSt Cert.RmsBwdIdeal.nD Cert.RmsBwdIdeal.τ Cert.RmsBwdIdeal.sig (Elt Ideal))
    (hr : Pipeline.FramePost Cert.RmsBwdIdeal.cfgs (Cert.RmsBwdIdeal.Gen.dats m) 0 (Cert.RmsBwdIdeal.Gen.V m) r) (h : Cert.Pre_RmsBwdIdeal_finite_rms m) :
    r.2.mem ((c.tc : Thread Cert.RmsBwdIdeal.nD Cert.RmsBwdIdeal.τ).loc Cert.RmsBwdIdeal.main_v1_2) = Cert.Rms.dg (Cert.RmsBwdIdeal.Value.a0 m c) (Cert.RmsBwdIdeal.Value.a1 m c) :=
  Eq.trans (b := (Cert.RmsBwdIdeal.Gen.dats m 0 c).arrAt 6 (Cert.RmsBwdIdeal.cfgs 0).N) ((hr c).1 6)
    (Cert.RmsBwdIdeal.Value.final6)

/-- The kernel ends with the reference's results and unchanged arguments. -/
theorem kernel_rms_bwd (m : (ℓ : Loc Cert.RmsBwdIdeal.nD Cert.RmsBwdIdeal.τ Cert.RmsBwdIdeal.sig) → Buf (Elt Ideal) ℓ) (g : Dev Cert.RmsBwdIdeal.nD → PrngReg) (h : Cert.Pre_RmsBwdIdeal_finite_rms m) :
    θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
      r.2.mem ((c.tc : Thread Cert.RmsBwdIdeal.nD Cert.RmsBwdIdeal.τ).loc Cert.RmsBwdIdeal.main_v1_0) = Cert.Rms.dx (Cert.RmsBwdIdeal.Value.a0 m c) (Cert.RmsBwdIdeal.Value.a1 m c) (Cert.RmsBwdIdeal.Value.a2 m c) (Cert.RmsBwdIdeal.Value.a3 m c)
      ∧ r.2.mem ((c.tc : Thread Cert.RmsBwdIdeal.nD Cert.RmsBwdIdeal.τ).loc Cert.RmsBwdIdeal.main_v1_1) = truncf (F := Ideal) .bf16 (Cert.Rms.dx (Cert.RmsBwdIdeal.Value.a0 m c) (Cert.RmsBwdIdeal.Value.a1 m c) (Cert.RmsBwdIdeal.Value.a2 m c) (Cert.RmsBwdIdeal.Value.a3 m c)) Cert.RmsBwdRefIdeal.Gen.bitsLt_bf16_f32
      ∧ r.2.mem ((c.tc : Thread Cert.RmsBwdIdeal.nD Cert.RmsBwdIdeal.τ).loc Cert.RmsBwdIdeal.main_v1_2) = Cert.Rms.dg (Cert.RmsBwdIdeal.Value.a0 m c) (Cert.RmsBwdIdeal.Value.a1 m c)
      ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)) := by
  refine Idealize.ShloMosaic.θ_run_mono (Idealize.ShloMosaic.θ_run_and (Cert.RmsBwdIdeal.Gen.run_main m g) (Cert.RmsBwdIdeal.Gen.unchanged m g)) ?_
  rintro r ⟨hr, hu⟩ c
  exact ⟨mem_rms_bwd_4 m c r hr h, mem_rms_bwd_5 m c r hr h, mem_rms_bwd_6 m c r hr h, hu c⟩

/-- The reference ends with its results, written as functions of its arguments. -/
theorem ends_rms_bwd (m : (ℓ : Loc Cert.RmsBwdRefIdeal.nD Cert.RmsBwdRefIdeal.τ Cert.RmsBwdRefIdeal.sig) → Buf (Elt Ideal) ℓ) (g : Dev Cert.RmsBwdRefIdeal.nD → PrngReg) :
    θ_run (Cert.RmsBwdRefIdeal.defs (F := Ideal)) (onTc (τ := Cert.RmsBwdRefIdeal.τ) (Cert.RmsBwdRefIdeal.main (F := Ideal))) ⟨m, fun _ => 0, g⟩ (fun r => ∀ c : Dev Cert.RmsBwdRefIdeal.nD,
      r.2.mem ((c.tc : Thread Cert.RmsBwdRefIdeal.nD Cert.RmsBwdRefIdeal.τ).loc Cert.RmsBwdRefIdeal.main_v37) = Cert.Rms.dx (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))
      ∧ r.2.mem ((c.tc : Thread Cert.RmsBwdRefIdeal.nD Cert.RmsBwdRefIdeal.τ).loc Cert.RmsBwdRefIdeal.main_v39) = truncf (F := Ideal) .bf16 (Cert.Rms.dx (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) Cert.RmsBwdRefIdeal.Gen.bitsLt_bf16_f32
      ∧ r.2.mem ((c.tc : Thread Cert.RmsBwdRefIdeal.nD Cert.RmsBwdRefIdeal.τ).loc Cert.RmsBwdRefIdeal.main_v40) = Cert.Rms.dg (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1))
      ∧ r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)) := by
  refine Idealize.ShloMosaic.θ_run_mono (Cert.RmsBwdRefIdeal.Value.run m g) ?_
  intro r hr c
  obtain ⟨h0, h1, h2, hu⟩ := hr c
  exact ⟨h0, h1.trans (reference_rms m c), h2, hu⟩

/-- With a real cotangent, real rows and a real scale, the three results of the norm's gradient kernel and the reference's are
    equal at the ideal instance. -/
theorem algebraic_RmsBwd : Cert.algebraic_RmsBwdIdeal_RmsBwdRefIdeal_pre_finite_rms := by
  pair_intro
  · exact kernel_rms_bwd m g hpre
  · refine Idealize.ShloMosaic.θ_run_mono (ends_rms_bwd m' g') ?_
    intro r hr c
    have hc := hr c
    rw [(hagree c).1, (hagree c).2.1, (hagree c).2.2.1, (hagree c).2.2.2] at hc ⊢
    exact hc

end Cert.Proof

end
-- ==== Proof.LossHead.lean ====
module

public import proofs.«01_k».proof.Proof.RmsRow
public import proofs.«01_k».proof.Proof.Finite
public import proofs.«01_k».proof.Proof.Gen.LossHeadIdeal.Frame
public import proofs.«01_k».proof.Proof.Gen.LossHeadRefIdeal.Run
public import proofs.«01_k».proof.Proof.Gen.Pre_finite_loss
public import proofs.«01_k».proof.Defs
public import Idealize.ShloMosaic.Lib.Claim
public import Idealize.ShloMosaic.Lib.Pipeline.ValueKit
public import Idealize.ShloMosaic.Lib.Pointwise

/-! The squared-error loss of the normalised rows against a target, with its gradients: the kernel's four results are the
reference's, for real rows, a real scale and a real target. The kernel adds the loss up step by step, multiplies the error by
the reciprocal of the width, and writes the gradient of a row as a projection; the reference takes the derivative of the square
and goes through the reciprocal root by the chain rule. -/

@[expose] public section

noncomputable section

open Idealize.ShloMosaic Idealize.ShloMosaic.TcCoe Idealize.SL.Sem
open Idealize.ShloMosaic.Pipeline (Dat)
open Cert.Rms (msq bits_2048)

namespace Cert.Loss

/-! ## One row -/

theorem bits_two : (Ideal.ofBits .f32 0x40000000#32 : EReal) = ((2 : ℝ) : EReal) := by
  simp [Ideal.ofBits, Ideal.ieee, -EReal.coe_mul]; norm_num
theorem bits_width : (Ideal.ofBits .f32 0x3A000000#32 : EReal) = ((1 / 2048 : ℝ) : EReal) := by
  simp [Ideal.ofBits, Ideal.ieee, -EReal.coe_mul]; norm_num

/-- The error of an entry: the scaled normalised row less the target. -/
abbrev err (x g t : Fin 2048 → EReal) (k : Fin 2048) : EReal := x k * Ideal.rsqrt (msq x) * g k - t k

/-- The derivative of the mean square error with respect to an entry. -/
abbrev dy (x g t : Fin 2048 → EReal) (k : Fin 2048) : EReal := err x g t k * Ideal.ofBits .f32 0x3A000000#32

/-- The loss of a row: half its mean square error. -/
abbrev rowLoss (x g t : Fin 2048 → EReal) : EReal :=
  Ideal.ofBits .f32 0x3F000000#32 * Ideal.div (∑ k, err x g t k * err x g t k) (Ideal.ofBits .f32 0x45000000#32)

/-- The error of real numbers is a real number. -/
theorem err_real (x g t : Fin 2048 → EReal) (hx : ∀ k, ∃ r : ℝ, x k = r) (hg : ∀ k, ∃ r : ℝ, g k = r) (ht : ∀ k, ∃ r : ℝ, t k = r) (k : Fin 2048) :
    ∃ r : ℝ, err x g t k = r := by
  obtain ⟨r, hr⟩ := Cert.Rms.rsqrt_real x hx
  obtain ⟨a, ha⟩ := hx k
  obtain ⟨b, hb⟩ := hg k
  obtain ⟨d, hd⟩ := ht k
  exact ⟨a * r * b - d, by rw [err, hr, ha, hb, hd, EReal.coe_sub, EReal.coe_mul, EReal.coe_mul]⟩

theorem dy_real (x g t : Fin 2048 → EReal) (hx : ∀ k, ∃ r : ℝ, x k = r) (hg : ∀ k, ∃ r : ℝ, g k = r) (ht : ∀ k, ∃ r : ℝ, t k = r) (k : Fin 2048) :
    ∃ r : ℝ, dy x g t k = r := by
  obtain ⟨r, hr⟩ := err_real x g t hx hg ht k
  exact ⟨r * (1 / 2048), by rw [dy, hr, bits_width, EReal.coe_mul]⟩

/-- The derivative of the square, over the width, halved, is the error over the width. -/
theorem dy_eq {e : EReal} (he : ∃ r : ℝ, e = r) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  obtain ⟨r, rfl⟩ := he
  rw [Cert.Mix.bits_half, Cert.Mix.bits_one, bits_2048, bits_two, bits_width, ← EReal.coe_mul, Cert.Real.div_coe _ (by norm_num : (2048 : ℝ) ≠ 0),
    ← EReal.coe_mul, ← EReal.coe_mul, ← EReal.coe_mul]
  refine congrArg _ ?_
  ring

/-- The mean square of a row of real numbers is a real number. -/
theorem mean_real (e : Fin 2048 → EReal) (he : ∀ k, ∃ r : ℝ, e k = r) : ∃ r : ℝ, Ideal.div (∑ k, e k * e k) (Ideal.ofBits .f32 0x45000000#32) = r := by
  choose e' he using he
  exact ⟨(∑ k, e' k * e' k) / 2048, by
    rw [Cert.Real.sum_of (f := fun k => e' k * e' k) _ fun k _ => by rw [he, EReal.coe_mul], bits_2048, Cert.Real.div_coe _ (by norm_num : (2048 : ℝ) ≠ 0)]⟩

/-- Half a sum of real numbers is the sum of the halves. -/
theorem half_sum {ι : Type} [Fintype ι] (f : ι → EReal) (hf : ∀ k, ∃ r : ℝ, f k = r) :
    Ideal.ofBits .f32 0x3F000000#32 * ∑ k, f k = ∑ k, Ideal.ofBits .f32 0x3F000000#32 * f k := by
  choose f' hf using hf
  rw [Cert.Mix.bits_half, Cert.Real.sum_of (f := f') _ fun k _ => hf k,
    Cert.Real.sum_of (f := fun k => 1 / 2 * f' k) _ fun k _ => by rw [hf, EReal.coe_mul], ← EReal.coe_mul, Finset.mul_sum]

/-! ## The reference's results -/

section
open Cert.LossHeadRefIdeal Cert.LossHeadRefIdeal.Gen

/-- The mean square of each row, with the constant added. -/
abbrev sq (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The reciprocal root mean square of each row, at every entry of the row. -/
abbrev rs (x : FVec Ideal S4096x2048 .f32) : FVec Ideal S4096x2048 .f32 :=
  broadcastInDim S4096x2048 ![0, 1] bcast_S4096x1_S4096x2048_0_1 (Host.rsqrt (sq x))

/-- The part of each row's gradient that goes through the reciprocal root, at every entry of the row. -/
abbrev inner (x q : FVec Ideal S4096x2048 .f32) : FVec Ideal S4096x2048 .f32 :=
  broadcastInDim S4096x2048 ![0] bcast_S4096_S4096x2048_0 (Host.reduceAdd
    (Host.divf (mulf (shapeCast S4096x1 (Host.reduceAdd (mulf x q) (constant S_ .f32 0x00000000#32) reducesTo_S4096x2048_S4096_d1 h_S_) shapeCasts_S4096_S4096x1)
      (mulf (broadcastInDim S4096x1 ![] bcast_S_S4096x1 (constant S_ .f32 0xBF000000#32)) (Host.divf (Host.rsqrt (sq x)) (sq x)))) (broadcastInDim S4096x1 ![] bcast_S_S4096x1 (constant S_ .f32 0x45000000#32)))
    (constant S_ .f32 0x00000000#32) reducesTo_S4096x1_S4096_d1 h_S_)

/-- The scale at every row. -/
abbrev scale (x1 : FVec Ideal S2048 .f32) : FVec Ideal S4096x2048 .f32 :=
  broadcastInDim S4096x2048 ![0, 1] bcast_S1x2048_S4096x2048_0_1 (broadcastInDim S1x2048 ![1] bcast_S2048_S1x2048_1 x1)

/-- The scaled normalised rows less the target. -/
abbrev diff (x0 : FVec Ideal S4096x2048 .f32) (x1 : FVec Ideal S2048 .f32) (x2 : FVec Ideal S4096x2048 .f32) : FVec Ideal S4096x2048 .f32 :=
  subf (mulf (mulf x0 (rs x0)) (scale x1)) x2

/-- The derivative of the loss with respect to the scaled normalised rows. -/
abbrev grad (x0 : FVec Ideal S4096x2048 .f32) (x1 : FVec Ideal S2048 .f32) (x2 : FVec Ideal S4096x2048 .f32) : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32))))
    (mulf (broadcastInDim S4096x2048 ![] bcast_S_S4096x2048 (constant S_ .f32 0x40000000#32)) (diff x0 x1 x2))

/-- The loss, at each of the 128 places it is written to. -/
abbrev loss (x0 : FVec Ideal S4096x2048 .f32) (x1 : FVec Ideal S2048 .f32) (x2 : FVec Ideal S4096x2048 .f32) : FVec Ideal S1x128 .f32 :=
  broadcastInDim S1x128 ![] bcast_S_S1x128 (mulf (constant S_ .f32 0x3F000000#32) (Host.reduceAdd
    (Host.divf (Host.reduceAdd (mulf (diff x0 x1 x2) (diff x0 x1 x2)) (constant S_ .f32 0x00000000#32) reducesTo_S4096x2048_S4096_d1 h_S_) (broadcastInDim S4096 ![] bcast_S_S4096 (constant S_ .f32 0x45000000#32)))
    (constant S_ .f32 0x00000000#32) reducesTo_S4096_S_d0 h_S_))

/-- The gradient of the loss with respect to the rows. -/
abbrev dx (x0 : FVec Ideal S4096x2048 .f32) (x1 : FVec Ideal S2048 .f32) (x2 : FVec Ideal S4096x2048 .f32) : FVec Ideal S4096x2048 .f32 :=
  addf (addf (mulf (mulf (grad x0 x1 x2) (scale x1)) (rs x0)) (mulf x0 (inner x0 (mulf (grad x0 x1 x2) (scale x1))))) (mulf (inner x0 (mulf (grad x0 x1 x2) (scale x1))) x0)

/-- The gradient of the loss with respect to the scale. -/
abbrev dg (x0 : FVec Ideal S4096x2048 .f32) (x1 : FVec Ideal S2048 .f32) (x2 : FVec Ideal S4096x2048 .f32) : FVec Ideal S1x2048 .f32 :=
  broadcastInDim S1x2048 ![1] bcast_S2048_S1x2048_1 (Host.reduceAdd (shapeCast S1x2048 (Host.reduceAdd (mulf (mulf x0 (rs x0)) (grad x0 x1 x2)) (constant S_ .f32 0x00000000#32) reducesTo_S4096x2048_S2048_d0 h_S_) shapeCasts_S2048_S1x2048) (constant S_ .f32 0x00000000#32) reducesTo_S1x2048_S2048_d0 h_S_)

variable (x0 : FVec Ideal S4096x2048 .f32) (x1 : FVec Ideal S2048 .f32) (x2 : FVec Ideal S4096x2048 .f32)

/-- A row of a matrix. -/
abbrev row (x : FVec Ideal S4096x2048 .f32) (s : Fin 4096) (k : Fin 2048) : EReal := x (ix2 s k)
/-- A vector as a function of its place. -/
abbrev vec (x : FVec Ideal S2048 .f32) (k : Fin 2048) : EReal := x (ix1 k)

variable (h0 : ∀ i, ∃ r : ℝ, (x0 i : EReal) = r) (h1 : ∀ i, ∃ r : ℝ, (x1 i : EReal) = r) (h2 : ∀ i, ∃ r : ℝ, (x2 i : EReal) = r)
include h0 h1 h2

/-- The derivative at an entry. -/
theorem grad_at (s : Fin 4096) (j : Fin 2048) : (grad x0 x1 x2 (ix2 s j) : EReal) = dy (row x0 s) (vec x1) (row x2 s) j := by
  refine Eq.trans ?_ (dy_eq (err_real (row x0 s) (vec x1) (row x2 s) (fun k => h0 _) (fun k => h1 _) (fun k => h2 _) j))
  pointwise [grad, diff, scale, rs, sq]

/-- The loss, as the sum of the rows' losses. -/
theorem loss_at (j : Fin 128) : (loss x0 x1 x2 (ix2 0 j) : EReal) = ∑ s : Fin 4096, rowLoss (row x0 s) (vec x1) (row x2 s) := by
  refine Eq.trans ?_ (half_sum (fun s : Fin 4096 => Ideal.div (∑ k, err (row x0 s) (vec x1) (row x2 s) k * err (row x0 s) (vec x1) (row x2 s) k) (Ideal.ofBits .f32 0x45000000#32))
    (fun s => mean_real _ (err_real (row x0 s) (vec x1) (row x2 s) (fun k => h0 _) (fun k => h1 _) (fun k => h2 _))))
  pointwise [loss, diff, scale, rs, sq]

/-- The gradient with respect to the rows at an entry. -/
theorem dx_at (s : Fin 4096) (j : Fin 2048) :
    (dx x0 x1 x2 (ix2 s j) : EReal) = Ideal.rsqrt (msq (row x0 s))
      * (dy (row x0 s) (vec x1) (row x2 s) j * x1 (ix1 j) - x0 (ix2 s j) * Ideal.rsqrt (msq (row x0 s))
        * Ideal.div (∑ k, dy (row x0 s) (vec x1) (row x2 s) k * x1 (ix1 k) * (x0 (ix2 s k) * Ideal.rsqrt (msq (row x0 s)))) (Ideal.ofBits .f32 0x45000000#32)) := by
  have e := Cert.Rms.row_eq (row x0 s) (dy (row x0 s) (vec x1) (row x2 s)) (vec x1) (fun k => h0 _)
    (dy_real (row x0 s) (vec x1) (row x2 s) (fun k => h0 _) (fun k => h1 _) (fun k => h2 _)) (fun k => h1 _) j
  refine Eq.trans ?_ e.symm
  have hg := grad_at x0 x1 x2 h0 h1 h2 s
  generalize dy (row x0 s) (vec x1) (row x2 s) = d at hg ⊢
  unfold dx
  generalize grad x0 x1 x2 = q at hg ⊢
  pointwise [scale, inner, rs, sq]
  simp only [Fin.sum_univ_one, hg]

/-- The gradient with respect to the scale at an entry. -/
theorem dg_at (j : Fin 2048) :
    (dg x0 x1 x2 (ix2 0 j) : EReal) = ∑ s : Fin 4096, dy (row x0 s) (vec x1) (row x2 s) j * (x0 (ix2 s j) * Ideal.rsqrt (msq (row x0 s))) := by
  have hg := grad_at x0 x1 x2 h0 h1 h2
  unfold dg
  generalize grad x0 x1 x2 = q at hg ⊢
  pointwise [rs, sq]
  simp only [Fin.sum_univ_one]
  exact Finset.sum_congr rfl fun s _ => (mul_comm _ _).trans (congrArg (· * _) (hg s j))

end

end Cert.Loss

namespace Cert.LossHeadIdeal.Value

open Cert.LossHeadIdeal Cert.LossHeadIdeal.Gen

/-! ## What a step leaves in each result -/

section
variable {c : Dev nD} {i : grid0.Coords}
variable {arg1 : Memref sig .tc .vmem S256x2048 .f32} {harg1 : arg1.IsWhole}
variable {arg2 : Memref sig .tc .vmem S1x2048 .f32} {harg2 : arg2.IsWhole}
variable {arg3 : Memref sig .tc .vmem S256x2048 .f32} {harg3 : arg3.IsWhole}
variable {arg4 : Memref sig .tc .vmem S1x128 .f32} {harg4 : arg4.IsWhole}
variable {arg5 : Memref sig .tc .vmem S256x2048 .f32} {harg5 : arg5.IsWhole}
variable {arg6 : Memref sig .tc .vmem S256x2048 .bf16} {harg6 : arg6.IsWhole}
variable {arg7 : Memref sig .tc .vmem S1x2048 .f32} {harg7 : arg7.IsWhole}
variable {x0 : Vec Ideal S256x2048 .f32} {x1 : Vec Ideal S1x2048 .f32} {x2 : Vec Ideal S256x2048 .f32} {xo3 : Vec Ideal S1x128 .f32} {xo6 : Vec Ideal S1x2048 .f32}

theorem o_A_3 : ∀ hc0 hc1, out0_A_3 (F := Ideal) c i arg1 harg1 arg2 harg2 arg3 harg3 arg4 harg4 arg5 harg5 arg6 harg6 arg7 harg7 hc0 hc1 x0 x1 x2 = k0_pay9 (F := Ideal) x0 x1 x2 := by
  intro hc0 hc1
  unfold out0_A_3
  frame_out
theorem o_A_4 : ∀ hc0 hc1, out0_A_4 (F := Ideal) c i arg1 harg1 arg2 harg2 arg3 harg3 arg4 harg4 arg5 harg5 arg6 harg6 arg7 harg7 hc0 hc1 x0 x1 x2 = k0_pay11 (F := Ideal) x0 x1 x2 := by
  intro hc0 hc1
  unfold out0_A_4
  frame_out
theorem o_A_5 : ∀ hc0 hc1, out0_A_5 (F := Ideal) c i arg1 harg1 arg2 harg2 arg3 harg3 arg4 harg4 arg5 harg5 arg6 harg6 arg7 harg7 hc0 hc1 x0 x1 x2 = k0_pay1 (F := Ideal) (k0_pay11 x0 x1 x2) := by
  intro hc0 hc1
  unfold out0_A_5
  frame_out
theorem o_A_6 : ∀ hc0 hc1, out0_A_6 (F := Ideal) c i arg1 harg1 arg2 harg2 arg3 harg3 arg4 harg4 arg5 harg5 arg6 harg6 arg7 harg7 hc0 hc1 x0 x1 x2 = k0_pay2 (F := Ideal) (k0_pay7 x0) (k0_pay10 x0 x1 x2) := by
  intro hc0 hc1
  unfold out0_A_6
  frame_out
theorem o_B_3 : ∀ hc0 hc1, out0_B_3 (F := Ideal) c i arg1 harg1 arg2 harg2 arg3 harg3 arg4 harg4 arg5 harg5 arg6 harg6 arg7 harg7 hc0 hc1 x0 x1 x2 xo3 xo6 = k0_pay3 (F := Ideal) (k0_pay9 x0 x1 x2) xo3 := by
  intro hc0 hc1
  unfold out0_B_3
  frame_out
theorem o_B_4 : ∀ hc0 hc1, out0_B_4 (F := Ideal) c i arg1 harg1 arg2 harg2 arg3 harg3 arg4 harg4 arg5 harg5 arg6 harg6 arg7 harg7 hc0 hc1 x0 x1 x2 xo3 xo6 = k0_pay11 (F := Ideal) x0 x1 x2 := by
  intro hc0 hc1
  unfold out0_B_4
  frame_out
theorem o_B_5 : ∀ hc0 hc1, out0_B_5 (F := Ideal) c i arg1 harg1 arg2 harg2 arg3 harg3 arg4 harg4 arg5 harg5 arg6 harg6 arg7 harg7 hc0 hc1 x0 x1 x2 xo3 xo6 = k0_pay1 (F := Ideal) (k0_pay11 x0 x1 x2) := by
  intro hc0 hc1
  unfold out0_B_5
  frame_out
theorem o_B_6 : ∀ hc0 hc1, out0_B_6 (F := Ideal) c i arg1 harg1 arg2 harg2 arg3 harg3 arg4 harg4 arg5 harg5 arg6 harg6 arg7 harg7 hc0 hc1 x0 x1 x2 xo3 xo6 = k0_pay4 (F := Ideal) (k0_pay7 x0) (k0_pay10 x0 x1 x2) xo6 := by
  intro hc0 hc1
  unfold out0_B_6
  frame_out

end

section
variable (x0 : Vec Ideal S256x2048 .f32) (x1 : Vec Ideal S1x2048 .f32) (x2 : Vec Ideal S256x2048 .f32)

/-- A row of a block. -/
abbrev brow (x : Vec Ideal S256x2048 .f32) (s : Fin 256) (k : Fin 2048) : EReal := x (ix2 s k)
/-- The one row of a block as a function of its place. -/
abbrev bvec (x : Vec Ideal S1x2048 .f32) (k : Fin 2048) : EReal := x (ix2 0 k)

/-- The error times the reciprocal of the width, at an entry. -/
theorem pay10_at (s : Fin 256) (j : Fin 2048) : (k0_pay10 (F := Ideal) x0 x1 x2 (ix2 s j) : EReal) = Cert.Loss.dy (brow x0 s) (bvec x1) (brow x2 s) j := by
  pointwise [k0_pay10, k0_pay8, k0_pay7, k0_pay6, k0_pay5]

/-- What a step adds to the loss. -/
theorem pay9_at (y : S1x128.Idx) : (k0_pay9 (F := Ideal) x0 x1 x2 y : EReal)
    = Ideal.ofBits .f32 0x3F000000#32 * ∑ s : Fin 256, Ideal.div (∑ k, Cert.Loss.err (brow x0 s) (bvec x1) (brow x2 s) k * Cert.Loss.err (brow x0 s) (bvec x1) (brow x2 s) k) (Ideal.ofBits .f32 0x45000000#32) := by
  idx_vars y
  pointwise [k0_pay9, k0_pay8, k0_pay7, k0_pay6, k0_pay5]
  simp only [Fin.sum_univ_one]

/-- The gradient with respect to the rows at an entry, from the blocks a step reads. -/
theorem pay11_at (s : Fin 256) (j : Fin 2048) :
    (k0_pay11 (F := Ideal) x0 x1 x2 (ix2 s j) : EReal) = Ideal.rsqrt (msq (brow x0 s))
      * (Cert.Loss.dy (brow x0 s) (bvec x1) (brow x2 s) j * x1 (ix2 0 j) - x0 (ix2 s j) * Ideal.rsqrt (msq (brow x0 s))
        * Ideal.div (∑ k, Cert.Loss.dy (brow x0 s) (bvec x1) (brow x2 s) k * x1 (ix2 0 k) * (x0 (ix2 s k) * Ideal.rsqrt (msq (brow x0 s)))) (Ideal.ofBits .f32 0x45000000#32)) := by
  pointwise [k0_pay11, k0_pay10, k0_pay8, k0_pay7, k0_pay6, k0_pay5]

/-- What a step adds to the gradient with respect to the scale. -/
theorem pay2_at (s : Fin 1) (j : Fin 2048) :
    (k0_pay2 (F := Ideal) (k0_pay7 x0) (k0_pay10 x0 x1 x2) (ix2 s j) : EReal)
      = ∑ r : Fin 256, Cert.Loss.dy (brow x0 r) (bvec x1) (brow x2 r) j * (x0 (ix2 r j) * Ideal.rsqrt (msq (brow x0 r))) := by
  pointwise [k0_pay2, k0_pay10, k0_pay8, k0_pay7, k0_pay6, k0_pay5]

theorem pay3_at (x v : Vec Ideal S1x128 .f32) (y : S1x128.Idx) : (k0_pay3 (F := Ideal) x v y : EReal) = v y + x y := by
  idx_vars y
  pointwise [k0_pay3]
theorem pay4_at (x z : Vec Ideal S256x2048 .f32) (v : Vec Ideal S1x2048 .f32) (y : S1x2048.Idx) :
    (k0_pay4 (F := Ideal) x z v y : EReal) = v y + k0_pay2 (F := Ideal) x z y := by
  idx_vars y
  pointwise [k0_pay4]
end

/-! ## The blocks a step reads -/

variable (m : (ℓ : Loc nD τ sig) → Buf (Elt Ideal) ℓ) (c : Dev nD)

abbrev a0 : FVec Ideal S4096x2048 .f32 := m ((c : Thread nD τ).loc main_arg0)
abbrev a1 : FVec Ideal S2048 .f32 := m ((c : Thread nD τ).loc main_arg1)
abbrev a2 : FVec Ideal S4096x2048 .f32 := m ((c : Thread nD τ).loc main_arg2)

/-- Which block each window is at, at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The row of the whole array that a step's row is. -/
theorem lt_rows (t : Fin cfg0.N) (s : Fin 256) : 256 * t.val + s.val < 4096 := by
  have h : t.val < 16 := lt_of_lt_of_eq t.isLt (show cfg0.N = 16 from N_0)
  have := s.isLt
  omega

/-- The scale as the host lays it out. -/
theorem V0 : V m c main_v0 = shapeCast S1x2048 (a1 m c) shapeCasts_S2048_S1x2048 := by
  simp only [V, hostOps0]; after_results_simp <;> rfl

theorem b0 (t : Fin cfg0.N) (s : Fin 256) (j : Fin 2048) : iblk m c 0 t (ix2 s j) = a0 m c (ix2 ⟨256 * t.val + s.val, lt_rows t s⟩ j) := by
  blk_point [iblk, V_main_arg0, idx t]
theorem b1 (t : Fin cfg0.N) (j : Fin 2048) : iblk m c 1 t (ix2 0 j) = a1 m c (ix1 j) := by
  have e : iblk m c 1 t (ix2 0 j) = V m c main_v0 (ix2 0 j) := by
    blk_point [iblk, idx t]
  rw [e, V0]
  pointwise
theorem b2 (t : Fin cfg0.N) (s : Fin 256) (j : Fin 2048) : iblk m c 2 t (ix2 s j) = a2 m c (ix2 ⟨256 * t.val + s.val, lt_rows t s⟩ j) := by
  blk_point [iblk, V_main_arg2, idx t]

theorem r0 (t : Fin cfg0.N) (s : Fin 256) : brow (iblk m c 0 t) s = Cert.Loss.row (a0 m c) ⟨256 * t.val + s.val, lt_rows t s⟩ := funext fun k => b0 m c t s k
theorem r1 (t : Fin cfg0.N) : bvec (iblk m c 1 t) = Cert.Loss.vec (a1 m c) := funext fun k => b1 m c t k
theorem r2 (t : Fin cfg0.N) (s : Fin 256) : brow (iblk m c 2 t) s = Cert.Loss.row (a2 m c) ⟨256 * t.val + s.val, lt_rows t s⟩ := funext fun k => b2 m c t s k

variable {m} {c}

/-- The second result's block after a step. -/
theorem acc4 (t : Fin cfg0.N) : (outsAt0 m c t.val t.isLt).2.1 = k0_pay11 (F := Ideal) (iblk m c 0 t) (iblk m c 1 t) (iblk m c 2 t) := by
  by_cases h0 : t.val % 16 = 0
  · have h1 : ¬1 ≤ t.val := by have : t.val < 16 := lt_of_lt_of_eq t.isLt (show cfg0.N = 16 from N_0); omega
    exact (Cert.Rms.fst_of (Cert.Rms.snd_of (outsAt0_A m c t h0 h1))).trans (o_A_4 _ _)
  · exact (Cert.Rms.fst_of (Cert.Rms.snd_of (outsAt0_B m c t h0 (by omega)))).trans (o_B_4 _ _)

/-- The third result's block after a step. -/
theorem acc5 (t : Fin cfg0.N) : (outsAt0 m c t.val t.isLt).2.2.1 = k0_pay1 (F := Ideal) (k0_pay11 (F := Ideal) (iblk m c 0 t) (iblk m c 1 t) (iblk m c 2 t)) := by
  by_cases h0 : t.val % 16 = 0
  · have h1 : ¬1 ≤ t.val := by have : t.val < 16 := lt_of_lt_of_eq t.isLt (show cfg0.N = 16 from N_0); omega
    exact (Cert.Rms.fst_of (Cert.Rms.snd_of (Cert.Rms.snd_of (outsAt0_A m c t h0 h1)))).trans (o_A_5 _ _)
  · exact (Cert.Rms.fst_of (Cert.Rms.snd_of (Cert.Rms.snd_of (outsAt0_B m c t h0 (by omega))))).trans (o_B_5 _ _)

/-- What a row adds to the loss, zero below the last row. -/
def lterm (m : (ℓ : Loc nD τ sig) → Buf (Elt Ideal) ℓ) (c : Dev nD) (s : ℕ) : EReal :=
  if h : s < 4096 then Cert.Loss.rowLoss (Cert.Loss.row (a0 m c) ⟨s, h⟩) (Cert.Loss.vec (a1 m c)) (Cert.Loss.row (a2 m c) ⟨s, h⟩) else 0

/-- What a row adds to the gradient with respect to the scale, zero below the last row. -/
def gterm (m : (ℓ : Loc nD τ sig) → Buf (Elt Ideal) ℓ) (c : Dev nD) (j : Fin 2048) (s : ℕ) : EReal :=
  if h : s < 4096 then Cert.Loss.dy (Cert.Loss.row (a0 m c) ⟨s, h⟩) (Cert.Loss.vec (a1 m c)) (Cert.Loss.row (a2 m c) ⟨s, h⟩) j
    * (a0 m c (ix2 ⟨s, h⟩ j) * Ideal.rsqrt (msq (Cert.Loss.row (a0 m c) ⟨s, h⟩))) else 0

/-- What a step adds to the gradient with respect to the scale. -/
theorem step6 (t : Fin cfg0.N) (s : Fin 1) (j : Fin 2048) :
    (k0_pay2 (F := Ideal) (k0_pay7 (iblk m c 0 t)) (k0_pay10 (iblk m c 0 t) (iblk m c 1 t) (iblk m c 2 t)) (ix2 s j) : EReal) = ∑ r : Fin 256, gterm m c j (256 * t.val + r.val) := by
  rw [pay2_at]
  refine Finset.sum_congr rfl fun r _ => ?_
  unfold gterm
  rw [dif_pos (lt_rows t r), b0, r0, r1, r2]

/-- The gradient with respect to the scale after `n + 1` steps. -/
theorem acc6 (s : Fin 1) (j : Fin 2048) : ∀ (n : ℕ) (hn : n < cfg0.N), ((outsAt0 m c n hn).2.2.2 (ix2 s j) : EReal)
    = ∑ u ∈ Finset.range (n + 1), ∑ r : Fin 256, gterm m c j (256 * u + r.val)
  | 0, hn => by
    rw [Finset.sum_range_one]
    exact (congrFun ((Cert.Rms.snd_of (Cert.Rms.snd_of (Cert.Rms.snd_of (outsAt0_A m c ⟨0, hn⟩ rfl (Nat.not_succ_le_zero 0))))).trans (o_A_6 _ _)) (ix2 s j)).trans (step6 ⟨0, hn⟩ s j)
  | n + 1, hn => by
    have h0 : ¬(n + 1) % 16 = 0 := by have : n + 1 < 16 := lt_of_lt_of_eq hn (show cfg0.N = 16 from N_0); omega
    rw [Finset.sum_range_succ, ← acc6 s j n (Nat.lt_of_succ_lt hn), ← step6 ⟨n + 1, hn⟩ s j]
    exact (congrFun ((Cert.Rms.snd_of (Cert.Rms.snd_of (Cert.Rms.snd_of (outsAt0_B m c ⟨n + 1, hn⟩ h0 (by show 1 ≤ n + 1; omega))))).trans (o_B_6 _ _)) (ix2 s j)).trans (pay4_at _ _ _ _)

/-! ## The four results -/

variable (h0 : ∀ i, ∃ r : ℝ, (a0 m c i : EReal) = r) (h1 : ∀ i, ∃ r : ℝ, (a1 m c i : EReal) = r) (h2 : ∀ i, ∃ r : ℝ, (a2 m c i : EReal) = r)
include h0 h1 h2

/-- What a step adds to the loss. -/
theorem step3 (t : Fin cfg0.N) (y : S1x128.Idx) :
    (k0_pay9 (F := Ideal) (iblk m c 0 t) (iblk m c 1 t) (iblk m c 2 t) y : EReal) = ∑ r : Fin 256, lterm m c (256 * t.val + r.val) := by
  rw [pay9_at]
  simp only [r0, r1, r2]
  rw [Cert.Loss.half_sum _ fun s => Cert.Loss.mean_real _ (Cert.Loss.err_real _ _ _ (fun k => h0 _) (fun k => h1 _) (fun k => h2 _))]
  refine Finset.sum_congr rfl fun r _ => ?_
  unfold lterm
  rw [dif_pos (lt_rows t r)]

/-- The loss after `n + 1` steps. -/
theorem acc3 (y : S1x128.Idx) : ∀ (n : ℕ) (hn : n < cfg0.N), ((outsAt0 m c n hn).1 y : EReal)
    = ∑ u ∈ Finset.range (n + 1), ∑ r : Fin 256, lterm m c (256 * u + r.val)
  | 0, hn => by
    rw [Finset.sum_range_one]
    exact (congrFun ((Cert.Rms.fst_of (outsAt0_A m c ⟨0, hn⟩ rfl (Nat.not_succ_le_zero 0))).trans (o_A_3 _ _)) y).trans (step3 h0 h1 h2 ⟨0, hn⟩ y)
  | n + 1, hn => by
    have h : ¬(n + 1) % 16 = 0 := by have : n + 1 < 16 := lt_of_lt_of_eq hn (show cfg0.N = 16 from N_0); omega
    rw [Finset.sum_range_succ, ← acc3 y n (Nat.lt_of_succ_lt hn), ← step3 h0 h1 h2 ⟨n + 1, hn⟩ y]
    exact (congrFun ((Cert.Rms.fst_of (outsAt0_B m c ⟨n + 1, hn⟩ h (by show 1 ≤ n + 1; omega))).trans (o_B_3 _ _)) y).trans (pay3_at _ _ _)

/-- The loss is the reference's. -/
theorem final3 : (dats m 0 c).arrAt 3 (cfgs 0).N = Cert.Loss.loss (a0 m c) (a1 m c) (a2 m c) := by
  refine (dats m 0 c).arrAt_eq_of_after_last 3 t0_15 (by decide +kernel) _ fun y => ?_
  idx_vars y
  blk_simp
  rw [after0_3]
  obtain rfl : y0 = 0 := Subsingleton.elim _ _
  refine (acc3 h0 h1 h2 _ 15 (by decide)).trans (Eq.trans ?_ (Cert.Loss.loss_at (a0 m c) (a1 m c) (a2 m c) h0 h1 h2 y1).symm)
  rw [Cert.Rms.sum_steps]
  exact Finset.sum_congr rfl fun s _ => by unfold lterm; rw [dif_pos s.isLt]

/-- A step's block of the second result is the reference's. -/
theorem blk4 (t : Fin cfg0.N) (s : Fin 256) (j : Fin 2048) :
    (k0_pay11 (F := Ideal) (iblk m c 0 t) (iblk m c 1 t) (iblk m c 2 t) (ix2 s j) : EReal)
      = Cert.Loss.dx (a0 m c) (a1 m c) (a2 m c) (ix2 ⟨256 * t.val + s.val, lt_rows t s⟩ j) := by
  rw [Cert.Loss.dx_at _ _ _ h0 h1 h2, pay11_at]
  simp only [r0, r1, r2, b0, b1]

/-- The gradient with respect to the rows is the reference's. -/
theorem final4 : (dats m 0 c).arrAt 4 (cfgs 0).N = Cert.Loss.dx (a0 m c) (a1 m c) (a2 m c) := by
  refine (dats m 0 c).arrAt_eq_of_covers 4 _ (by decide +kernel) fun t _ y => ?_
  idx_vars y
  blk_simp
  rw [after0_4, acc4]
  refine (blk4 h0 h1 h2 t y0 y1).trans (congrArg _ ?_)
  blk_point [idx t]

/-- The gradient with respect to the rows, rounded, is the reference's. -/
theorem final5 : (dats m 0 c).arrAt 5 (cfgs 0).N = truncf (F := Ideal) .bf16 (Cert.Loss.dx (a0 m c) (a1 m c) (a2 m c)) bitsLt_bf16_f32 := by
  refine (dats m 0 c).arrAt_eq_of_covers 5 _ (by decide +kernel) fun t _ y => ?_
  idx_vars y
  blk_simp
  rw [after0_5, acc5]
  refine (blk4 h0 h1 h2 t y0 y1).trans (congrArg _ ?_)
  blk_point [idx t]

/-- The gradient with respect to the scale is the reference's. -/
theorem final6 : (dats m 0 c).arrAt 6 (cfgs 0).N = Cert.Loss.dg (a0 m c) (a1 m c) (a2 m c) := by
  refine (dats m 0 c).arrAt_eq_of_after_last 6 t0_15 (by decide +kernel) _ fun y => ?_
  idx_vars y
  blk_simp
  rw [after0_6]
  obtain rfl : y0 = 0 := Subsingleton.elim _ _
  refine (acc6 0 y1 15 (by decide)).trans (Eq.trans ?_ (Cert.Loss.dg_at (a0 m c) (a1 m c) (a2 m c) h0 h1 h2 y1).symm)
  rw [Cert.Rms.sum_steps]
  exact Finset.sum_congr rfl fun s _ => by unfold gterm; rw [dif_pos s.isLt]

end Cert.LossHeadIdeal.Value

namespace Cert.Proof

/-- The precondition says that the rows, the scale and the target are real numbers everywhere. -/
theorem real_loss (m : (ℓ : Loc Cert.LossHeadIdeal.nD Cert.LossHeadIdeal.τ Cert.LossHeadIdeal.sig) → Buf (Elt Ideal) ℓ)
    (h : Cert.Pre_LossHeadIdeal_finite_loss m) (c : Dev Cert.LossHeadIdeal.nD) :
    (∀ i, ∃ r : ℝ, (Cert.LossHeadIdeal.Value.a0 m c i : EReal) = r) ∧ (∀ i, ∃ r : ℝ, (Cert.LossHeadIdeal.Value.a1 m c i : EReal) = r)
    ∧ (∀ i, ∃ r : ℝ, (Cert.LossHeadIdeal.Value.a2 m c i : EReal) = r) := by
  have e := congrFun (h c) (ix0)
  dsimp only [Cert.Pre_finite_loss.fn] at e
  obtain ⟨e, e2⟩ := IntOp.andi_eq_one.1 e
  obtain ⟨e0, e1⟩ := IntOp.andi_eq_one.1 e
  exact ⟨Cert.Real.real_of_all _ _ _ _ _ e0, Cert.Real.real_of_all _ _ _ _ _ e1, Cert.Real.real_of_all _ _ _ _ _ e2⟩

/-- The reference's second result, as a function of its arguments. -/
theorem reference_loss_dx (m : (ℓ : Loc Cert.LossHeadRefIdeal.nD Cert.LossHeadRefIdeal.τ Cert.LossHeadRefIdeal.sig) → Buf (Elt Ideal) ℓ) (c : Dev Cert.LossHeadRefIdeal.nD) :
    Cert.LossHeadRefIdeal.Value.res_main_v50 m c = Cert.Loss.dx (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) := by
  unfold Cert.LossHeadRefIdeal.Value.res_main_v50
  rfl

/-- The reference's third result, as the second one rounded. -/
theorem reference_loss_dxb (m : (ℓ : Loc Cert.LossHeadRefIdeal.nD Cert.LossHeadRefIdeal.τ Cert.LossHeadRefIdeal.sig) → Buf (Elt Ideal) ℓ) (c : Dev Cert.LossHeadRefIdeal.nD) :
    Cert.LossHeadRefIdeal.Value.res_main_v52 m c = truncf (F := Ideal) .bf16 (Cert.Loss.dx (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) Cert.LossHeadRefIdeal.Gen.bitsLt_bf16_f32 := by
  unfold Cert.LossHeadRefIdeal.Value.res_main_v52
  rfl

/-- Result 0 in a final state of the kernel. -/
theorem mem_loss_3 (m : (ℓ : Loc Cert.LossHeadIdeal.nD Cert.LossHeadIdeal.τ Cert.LossHeadIdeal.sig) → Buf (Elt Ideal) ℓ) (c : Dev Cert.LossHeadIdeal.nD)
    (r : PUnit × MemSt Cert.LossHeadIdeal.nD Cert.LossHeadIdeal.τ Cert.LossHeadIdeal.sig (Elt Ideal))
    (hr : Pipeline.FramePost Cert.LossHeadIdeal.cfgs (Cert.LossHeadIdeal.Gen.dats m) 0 (Cert.LossHeadIdeal.Gen.V m) r) (h : Cert.Pre_LossHeadIdeal_finite_loss m) :
    r.2.mem ((c.tc : Thread Cert.LossHeadIdeal.nD Cert.LossHeadIdeal.τ).loc Cert.LossHeadIdeal.main_v1_0) = Cert.Loss.loss (Cert.LossHeadIdeal.Value.a0 m c) (Cert.LossHeadIdeal.Value.a1 m c) (Cert.LossHeadIdeal.Value.a2 m c) :=
  Eq.trans (b := (Cert.LossHeadIdeal.Gen.dats m 0 c).arrAt 3 (Cert.LossHeadIdeal.cfgs 0).N) ((hr c).1 3)
    (Cert.LossHeadIdeal.Value.final3 (real_loss m h c).1 (real_loss m h c).2.1 (real_loss m h c).2.2)

/-- Result 1 in a final state of the kernel. -/
theorem mem_loss_4 (m : (ℓ : Loc Cert.LossHeadIdeal.nD Cert.LossHeadIdeal.τ Cert.LossHeadIdeal.sig) → Buf (Elt Ideal) ℓ) (c : Dev Cert.LossHeadIdeal.nD)
    (r : PUnit × MemSt Cert.LossHeadIdeal.nD Cert.LossHeadIdeal.τ Cert.LossHeadIdeal.sig (Elt Ideal))
    (hr : Pipeline.FramePost Cert.LossHeadIdeal.cfgs (Cert.LossHeadIdeal.Gen.dats m) 0 (Cert.LossHeadIdeal.Gen.V m) r) (h : Cert.Pre_LossHeadIdeal_finite_loss m) :
    r.2.mem ((c.tc : Thread Cert.LossHeadIdeal.nD Cert.LossHeadIdeal.τ).loc Cert.LossHeadIdeal.main_v1_1) = Cert.Loss.dx (Cert.LossHeadIdeal.Value.a0 m c) (Cert.LossHeadIdeal.Value.a1 m c) (Cert.LossHeadIdeal.Value.a2 m c) :=
  Eq.trans (b := (Cert.LossHeadIdeal.Gen.dats m 0 c).arrAt 4 (Cert.LossHeadIdeal.cfgs 0).N) ((hr c).1 4)
    (Cert.LossHeadIdeal.Value.final4 (real_loss m h c).1 (real_loss m h c).2.1 (real_loss m h c).2.2)

/-- Result 2 in a final state of the kernel. -/
theorem mem_loss_5 (m : (ℓ : Loc Cert.LossHeadIdeal.nD Cert.LossHeadIdeal.τ Cert.LossHeadIdeal.sig) → Buf (Elt Ideal) ℓ) (c : Dev Cert.LossHeadIdeal.nD)
    (r : PUnit × MemSt Cert.LossHeadIdeal.nD Cert.LossHeadIdeal.τ Cert.LossHeadIdeal.sig (Elt Ideal))
    (hr : Pipeline.FramePost Cert.LossHeadIdeal.cfgs (Cert.LossHeadIdeal.Gen.dats m) 0 (Cert.LossHeadIdeal.Gen.V m) r) (h : Cert.Pre_LossHeadIdeal_finite_loss m) :
    r.2.mem ((c.tc : Thread Cert.LossHeadIdeal.nD Cert.LossHeadIdeal.τ).loc Cert.LossHeadIdeal.main_v1_2) = truncf (F := Ideal) .bf16 (Cert.Loss.dx (Cert.LossHeadIdeal.Value.a0 m c) (Cert.LossHeadIdeal.Value.a1 m c) (Cert.LossHeadIdeal.Value.a2 m c)) Cert.LossHeadRefIdeal.Gen.bitsLt_bf16_f32 :=
  Eq.trans (b := (Cert.LossHeadIdeal.Gen.dats m 0 c).arrAt 5 (Cert.LossHeadIdeal.cfgs 0).N) ((hr c).1 5)
    (Cert.LossHeadIdeal.Value.final5 (real_loss m h c).1 (real_loss m h c).2.1 (real_loss m h c).2.2)

/-- Result 3 in a final state of the kernel. -/
theorem mem_loss_6 (m : (ℓ : Loc Cert.LossHeadIdeal.nD Cert.LossHeadIdeal.τ Cert.LossHeadIdeal.sig) → Buf (Elt Ideal) ℓ) (c : Dev Cert.LossHeadIdeal.nD)
    (r : PUnit × MemSt Cert.LossHeadIdeal.nD Cert.LossHeadIdeal.τ Cert.LossHeadIdeal.sig (Elt Ideal))
    (hr : Pipeline.FramePost Cert.LossHeadIdeal.cfgs (Cert.LossHeadIdeal.Gen.dats m) 0 (Cert.LossHeadIdeal.Gen.V m) r) (h : Cert.Pre_LossHeadIdeal_finite_loss m) :
    r.2.mem ((c.tc : Thread Cert.LossHeadIdeal.nD Cert.LossHeadIdeal.τ).loc Cert.LossHeadIdeal.main_v1_3) = Cert.Loss.dg (Cert.LossHeadIdeal.Value.a0 m c) (Cert.LossHeadIdeal.Value.a1 m c) (Cert.LossHeadIdeal.Value.a2 m c) :=
  Eq.trans (b := (Cert.LossHeadIdeal.Gen.dats m 0 c).arrAt 6 (Cert.LossHeadIdeal.cfgs 0).N) ((hr c).1 6)
    (Cert.LossHeadIdeal.Value.final6 (real_loss m h c).1 (real_loss m h c).2.1 (real_loss m h c).2.2)

/-- The kernel ends with the reference's results and unchanged arguments. -/
theorem kernel_loss (m : (ℓ : Loc Cert.LossHeadIdeal.nD Cert.LossHeadIdeal.τ Cert.LossHeadIdeal.sig) → Buf (Elt Ideal) ℓ) (g : Dev Cert.LossHeadIdeal.nD → PrngReg) (h : Cert.Pre_LossHeadIdeal_finite_loss m) :
    θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
      r.2.mem ((c.tc : Thread Cert.LossHeadIdeal.nD Cert.LossHeadIdeal.τ).loc Cert.LossHeadIdeal.main_v1_0) = Cert.Loss.loss (Cert.LossHeadIdeal.Value.a0 m c) (Cert.LossHeadIdeal.Value.a1 m c) (Cert.LossHeadIdeal.Value.a2 m c)
      ∧ r.2.mem ((c.tc : Thread Cert.LossHeadIdeal.nD Cert.LossHeadIdeal.τ).loc Cert.LossHeadIdeal.main_v1_1) = Cert.Loss.dx (Cert.LossHeadIdeal.Value.a0 m c) (Cert.LossHeadIdeal.Value.a1 m c) (Cert.LossHeadIdeal.Value.a2 m c)
      ∧ r.2.mem ((c.tc : Thread Cert.LossHeadIdeal.nD Cert.LossHeadIdeal.τ).loc Cert.LossHeadIdeal.main_v1_2) = truncf (F := Ideal) .bf16 (Cert.Loss.dx (Cert.LossHeadIdeal.Value.a0 m c) (Cert.LossHeadIdeal.Value.a1 m c) (Cert.LossHeadIdeal.Value.a2 m c)) Cert.LossHeadRefIdeal.Gen.bitsLt_bf16_f32
      ∧ r.2.mem ((c.tc : Thread Cert.LossHeadIdeal.nD Cert.LossHeadIdeal.τ).loc Cert.LossHeadIdeal.main_v1_3) = Cert.Loss.dg (Cert.LossHeadIdeal.Value.a0 m c) (Cert.LossHeadIdeal.Value.a1 m c) (Cert.LossHeadIdeal.Value.a2 m c)
      ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)) := by
  refine Idealize.ShloMosaic.θ_run_mono (Idealize.ShloMosaic.θ_run_and (Cert.LossHeadIdeal.Gen.run_main m g) (Cert.LossHeadIdeal.Gen.unchanged m g)) ?_
  rintro r ⟨hr, hu⟩ c
  exact ⟨mem_loss_3 m c r hr h, mem_loss_4 m c r hr h, mem_loss_5 m c r hr h, mem_loss_6 m c r hr h, hu c⟩

/-- The reference ends with its results, written as functions of its arguments. -/
theorem ends_loss (m : (ℓ : Loc Cert.LossHeadRefIdeal.nD Cert.LossHeadRefIdeal.τ Cert.LossHeadRefIdeal.sig) → Buf (Elt Ideal) ℓ) (g : Dev Cert.LossHeadRefIdeal.nD → PrngReg) :
    θ_run (Cert.LossHeadRefIdeal.defs (F := Ideal)) (onTc (τ := Cert.LossHeadRefIdeal.τ) (Cert.LossHeadRefIdeal.main (F := Ideal))) ⟨m, fun _ => 0, g⟩ (fun r => ∀ c : Dev Cert.LossHeadRefIdeal.nD,
      r.2.mem ((c.tc : Thread Cert.LossHeadRefIdeal.nD Cert.LossHeadRefIdeal.τ).loc Cert.LossHeadRefIdeal.main_v51) = Cert.Loss.loss (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))
      ∧ r.2.mem ((c.tc : Thread Cert.LossHeadRefIdeal.nD Cert.LossHeadRefIdeal.τ).loc Cert.LossHeadRefIdeal.main_v50) = Cert.Loss.dx (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))
      ∧ r.2.mem ((c.tc : Thread Cert.LossHeadRefIdeal.nD Cert.LossHeadRefIdeal.τ).loc Cert.LossHeadRefIdeal.main_v52) = truncf (F := Ideal) .bf16 (Cert.Loss.dx (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) Cert.LossHeadRefIdeal.Gen.bitsLt_bf16_f32
      ∧ r.2.mem ((c.tc : Thread Cert.LossHeadRefIdeal.nD Cert.LossHeadRefIdeal.τ).loc Cert.LossHeadRefIdeal.main_v53) = Cert.Loss.dg (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))
      ∧ r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)) := by
  refine Idealize.ShloMosaic.θ_run_mono (Cert.LossHeadRefIdeal.Value.run m g) ?_
  intro r hr c
  obtain ⟨h0, h1, h2, h3, hu⟩ := hr c
  exact ⟨h0, h1.trans (reference_loss_dx m c), h2.trans (reference_loss_dxb m c), h3, hu⟩

/-- With real rows, a real scale and a real target, the four results of the loss kernel and the reference's are equal at the
    ideal instance. -/
theorem algebraic_LossHead : Cert.algebraic_LossHeadIdeal_LossHeadRefIdeal_pre_finite_loss := by
  pair_intro
  · exact kernel_loss m g hpre
  · refine Idealize.ShloMosaic.θ_run_mono (ends_loss m' g') ?_
    intro r hr c
    have hc := hr c
    rw [(hagree c).1, (hagree c).2.1, (hagree c).2.2] at hc ⊢
    exact hc

end Cert.Proof

end
-- ==== Proof.lean ====
module

public import proofs.«01_k».proof.Defs
public import proofs.«01_k».proof.Proof.Gen.Mixer.Frame
public import proofs.«01_k».proof.Proof.Gen.MixerIdeal.Frame
public import proofs.«01_k».proof.Proof.Gen.MixerRefIdeal.Run
public import proofs.«01_k».proof.Proof.Gen.MixerFwd.Frame
public import proofs.«01_k».proof.Proof.Gen.MixerFwdIdeal.Frame
public import proofs.«01_k».proof.Proof.Gen.MixerFwdRefIdeal.Run
public import proofs.«01_k».proof.Proof.Gen.Swiglu.Frame
public import proofs.«01_k».proof.Proof.Gen.SwigluIdeal.Frame
public import proofs.«01_k».proof.Proof.Gen.SwigluRefIdeal.Run
public import proofs.«01_k».proof.Proof.Gen.DownBwd.Frame
public import proofs.«01_k».proof.Proof.Gen.DownBwdIdeal.Frame
public import proofs.«01_k».proof.Proof.Gen.DownBwdRefIdeal.Run
public import proofs.«01_k».proof.Proof.Gen.GuBwd.Frame
public import proofs.«01_k».proof.Proof.Gen.GuBwdIdeal.Frame
public import proofs.«01_k».proof.Proof.Gen.GuBwdRefIdeal.Run
public import proofs.«01_k».proof.Proof.Gen.GuDw.Frame
public import proofs.«01_k».proof.Proof.Gen.GuDwIdeal.Frame
public import proofs.«01_k».proof.Proof.Gen.GuDwRefIdeal.Run
public import proofs.«01_k».proof.Proof.Gen.DownDw.Frame
public import proofs.«01_k».proof.Proof.Gen.DownDwIdeal.Frame
public import proofs.«01_k».proof.Proof.Gen.DownDwRefIdeal.Run
public import proofs.«01_k».proof.Proof.Gen.OutDw.Frame
public import proofs.«01_k».proof.Proof.Gen.OutDwIdeal.Frame
public import proofs.«01_k».proof.Proof.Gen.OutDwRefIdeal.Run
public import proofs.«01_k».proof.Proof.Gen.InDw.Frame
public import proofs.«01_k».proof.Proof.Gen.InDwIdeal.Frame
public import proofs.«01_k».proof.Proof.Gen.InDwRefIdeal.Run
public import proofs.«01_k».proof.Proof.Gen.OutBwd.Frame
public import proofs.«01_k».proof.Proof.Gen.OutBwdIdeal.Frame
public import proofs.«01_k».proof.Proof.Gen.OutBwdRefIdeal.Run
public import proofs.«01_k».proof.Proof.Gen.InBwd.Frame
public import proofs.«01_k».proof.Proof.Gen.InBwdIdeal.Frame
public import proofs.«01_k».proof.Proof.Gen.InBwdRefIdeal.Run
public import proofs.«01_k».proof.Proof.Gen.InFwd.Frame
public import proofs.«01_k».proof.Proof.Gen.InFwdIdeal.Frame
public import proofs.«01_k».proof.Proof.Gen.InFwdRefIdeal.Run
public import proofs.«01_k».proof.Proof.Gen.DownFwd.Frame
public import proofs.«01_k».proof.Proof.Gen.DownFwdIdeal.Frame
public import proofs.«01_k».proof.Proof.Gen.DownFwdRefIdeal.Run
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.RmsFwd.Frame
public import proofs.«01_k».proof.Proof.Gen.RmsFwdIdeal.Frame
public import proofs.«01_k».proof.Proof.Gen.RmsFwdRefIdeal.Run
public import proofs.«01_k».proof.Proof.Gen.RmsBwd.Frame
public import proofs.«01_k».proof.Proof.Gen.RmsBwdIdeal.Frame
public import proofs.«01_k».proof.Proof.Gen.RmsBwdRefIdeal.Run
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.Pre_finite_mixer
public import proofs.«01_k».proof.Proof.Gen.Pre_finite_z
public import proofs.«01_k».proof.Proof.Gen.Pre_finite_swiglu
public import proofs.«01_k».proof.Proof.Gen.Pre_finite_down
public import proofs.«01_k».proof.Proof.Gen.Pre_finite_rms
public import proofs.«01_k».proof.Proof.Gen.Pre_finite_loss
public import proofs.«01_k».proof.Proof.Mixer
public import proofs.«01_k».proof.Proof.MixFwd
public import proofs.«01_k».proof.Proof.Swiglu
public import proofs.«01_k».proof.Proof.DownBwd
public import proofs.«01_k».proof.Proof.GuBwd
public import proofs.«01_k».proof.Proof.GuDw
public import proofs.«01_k».proof.Proof.DownDw
public import proofs.«01_k».proof.Proof.OutDw
public import proofs.«01_k».proof.Proof.InDw
public import proofs.«01_k».proof.Proof.OutBwd
public import proofs.«01_k».proof.Proof.InBwd
public import proofs.«01_k».proof.Proof.InFwd
public import proofs.«01_k».proof.Proof.DownFwd
public import proofs.«01_k».proof.Proof.OutFwd
public import proofs.«01_k».proof.Proof.RmsFwd
public import proofs.«01_k».proof.Proof.RmsBwd
public import proofs.«01_k».proof.Proof.LossHead

/-! The claim of the certificate: each program terminates without changing its arguments, each idealization is a
sanctioned one, and each kernel call computes what its reference computes. -/

@[expose] public section

set_option maxRecDepth 16384

noncomputable section

open Idealize.ShloMosaic Idealize.ShloMosaic.TcCoe Idealize.SL.Sem

namespace Cert.Proof

/-- The constants of the Mixer kernel that are read at their names are the named reals. -/
theorem preserves_Mixer_MixerIdeal : Cert.preserves_Mixer_MixerIdeal :=
  ⟨IdealRules.named_const.statement Cert.MixerIdeal.κ "gelu_ck" .f32 0x3D122279#32 ((80338380498831 / 2251799813685248 : ℝ) : EReal) rfl,
   IdealRules.named_const.statement Cert.MixerIdeal.κ "gelu_3ck" .f32 0x3DDB33B6#32 ((241015141496493 / 2251799813685248 : ℝ) : EReal) rfl⟩

/-- The constants of the MixerFwd kernel that are read at their names are the named reals. -/
theorem preserves_MixerFwd_MixerFwdIdeal : Cert.preserves_MixerFwd_MixerFwdIdeal :=
  IdealRules.named_const.statement Cert.MixerFwdIdeal.κ "gelu_ck" .f32 0x3D122279#32 ((80338380498831 / 2251799813685248 : ℝ) : EReal) rfl

/-- Mixer runs to its end and leaves its arguments as they were. -/
theorem frame_Mixer : @Cert.quiescent_Mixer Cert.Mixer.Gen.facts :=
  fun m ρ _ => Cert.Mixer.Gen.frame m ρ

/-- MixerIdeal runs to its end and leaves its arguments as they were. -/
theorem frame_MixerIdeal : @Cert.quiescent_MixerIdeal Cert.MixerIdeal.Gen.facts :=
  fun m ρ _ => Cert.MixerIdeal.Gen.frame m ρ

/-- MixerIdeal runs to its end and leaves its arguments as they were. -/
theorem frame_MixerIdeal_pre_finite_mixer : @Cert.quiescent_MixerIdeal_pre_finite_mixer Cert.MixerIdeal.Gen.facts Cert.Pre_finite_mixer.Gen.facts :=
  fun m ρ _ => Cert.MixerIdeal.Gen.frame m ρ

/-- MixerRefIdeal runs to its end and leaves its arguments as they were. -/
theorem frame_MixerRefIdeal : @Cert.quiescent_MixerRefIdeal Cert.MixerRefIdeal.Gen.facts :=
  fun m ρ _ => (θ_run _ _ _).mono (fun r h => ⟨fun c => (h c).2.2.2.2.2.2.2, sem_eq_zero_of_no_sems (by decide) r.2⟩) (Cert.MixerRefIdeal.Value.run m ρ)

/-- MixerRefIdeal runs to its end and leaves its arguments as they were. -/
theorem frame_MixerRefIdeal_pre_finite_mixer : @Cert.quiescent_MixerRefIdeal_pre_finite_mixer Cert.MixerRefIdeal.Gen.facts Cert.Pre_finite_mixer.Gen.facts :=
  fun m ρ _ => (θ_run _ _ _).mono (fun r h => ⟨fun c => (h c).2.2.2.2.2.2.2, sem_eq_zero_of_no_sems (by decide) r.2⟩) (Cert.MixerRefIdeal.Value.run m ρ)

/-- MixerFwd runs to its end and leaves its arguments as they were. -/
theorem frame_MixerFwd : @Cert.quiescent_MixerFwd Cert.MixerFwd.Gen.facts :=
  fun m ρ _ => Cert.MixerFwd.Gen.frame m ρ

/-- MixerFwdIdeal runs to its end and leaves its arguments as they were. -/
theorem frame_MixerFwdIdeal : @Cert.quiescent_MixerFwdIdeal Cert.MixerFwdIdeal.Gen.facts :=
  fun m ρ _ => Cert.MixerFwdIdeal.Gen.frame m ρ

/-- MixerFwdIdeal runs to its end and leaves its arguments as they were. -/
theorem frame_MixerFwdIdeal_pre_finite_z : @Cert.quiescent_MixerFwdIdeal_pre_finite_z Cert.MixerFwdIdeal.Gen.facts Cert.Pre_finite_z.Gen.facts :=
  fun m ρ _ => Cert.MixerFwdIdeal.Gen.frame m ρ

/-- MixerFwdRefIdeal runs to its end and leaves its arguments as they were. -/
theorem frame_MixerFwdRefIdeal : @Cert.quiescent_MixerFwdRefIdeal Cert.MixerFwdRefIdeal.Gen.facts :=
  fun m ρ _ => (θ_run _ _ _).mono (fun r h => ⟨fun c => (h c).2, sem_eq_zero_of_no_sems (by decide) r.2⟩) (Cert.MixerFwdRefIdeal.Value.run m ρ)

/-- MixerFwdRefIdeal runs to its end and leaves its arguments as they were. -/
theorem frame_MixerFwdRefIdeal_pre_finite_z : @Cert.quiescent_MixerFwdRefIdeal_pre_finite_z Cert.MixerFwdRefIdeal.Gen.facts Cert.Pre_finite_z.Gen.facts :=
  fun m ρ _ => (θ_run _ _ _).mono (fun r h => ⟨fun c => (h c).2, sem_eq_zero_of_no_sems (by decide) r.2⟩) (Cert.MixerFwdRefIdeal.Value.run m ρ)

/-- Swiglu runs to its end and leaves its arguments as they were. -/
theorem frame_Swiglu : @Cert.quiescent_Swiglu Cert.Swiglu.Gen.facts :=
  fun m ρ _ => Cert.Swiglu.Gen.frame m ρ

/-- SwigluIdeal runs to its end and leaves its arguments as they were. -/
theorem frame_SwigluIdeal : @Cert.quiescent_SwigluIdeal Cert.SwigluIdeal.Gen.facts :=
  fun m ρ _ => Cert.SwigluIdeal.Gen.frame m ρ

/-- SwigluIdeal runs to its end and leaves its arguments as they were. -/
theorem frame_SwigluIdeal_pre_finite_swiglu : @Cert.quiescent_SwigluIdeal_pre_finite_swiglu Cert.SwigluIdeal.Gen.facts Cert.Pre_finite_swiglu.Gen.facts :=
  fun m ρ _ => Cert.SwigluIdeal.Gen.frame m ρ

/-- SwigluRefIdeal runs to its end and leaves its arguments as they were. -/
theorem frame_SwigluRefIdeal : @Cert.quiescent_SwigluRefIdeal Cert.SwigluRefIdeal.Gen.facts :=
  fun m ρ _ => (θ_run _ _ _).mono (fun r h => ⟨fun c => (h c).2.2, sem_eq_zero_of_no_sems (by decide) r.2⟩) (Cert.SwigluRefIdeal.Value.run m ρ)

/-- SwigluRefIdeal runs to its end and leaves its arguments as they were. -/
theorem frame_SwigluRefIdeal_pre_finite_swiglu : @Cert.quiescent_SwigluRefIdeal_pre_finite_swiglu Cert.SwigluRefIdeal.Gen.facts Cert.Pre_finite_swiglu.Gen.facts :=
  fun m ρ _ => (θ_run _ _ _).mono (fun r h => ⟨fun c => (h c).2.2, sem_eq_zero_of_no_sems (by decide) r.2⟩) (Cert.SwigluRefIdeal.Value.run m ρ)

/-- DownBwd runs to its end and leaves its arguments as they were. -/
theorem frame_DownBwd : @Cert.quiescent_DownBwd Cert.DownBwd.Gen.facts :=
  fun m ρ _ => Cert.DownBwd.Gen.frame m ρ

/-- DownBwdIdeal runs to its end and leaves its arguments as they were. -/
theorem frame_DownBwdIdeal : @Cert.quiescent_DownBwdIdeal Cert.DownBwdIdeal.Gen.facts :=
  fun m ρ _ => Cert.DownBwdIdeal.Gen.frame m ρ

/-- DownBwdIdeal runs to its end and leaves its arguments as they were. -/
theorem frame_DownBwdIdeal_pre_finite_down : @Cert.quiescent_DownBwdIdeal_pre_finite_down Cert.DownBwdIdeal.Gen.facts Cert.Pre_finite_down.Gen.facts :=
  fun m ρ _ => Cert.DownBwdIdeal.Gen.frame m ρ

/-- DownBwdRefIdeal runs to its end and leaves its arguments as they were. -/
theorem frame_DownBwdRefIdeal : @Cert.quiescent_DownBwdRefIdeal Cert.DownBwdRefIdeal.Gen.facts :=
  fun m ρ _ => (θ_run _ _ _).mono (fun r h => ⟨fun c => (h c).2, sem_eq_zero_of_no_sems (by decide) r.2⟩) (Cert.DownBwdRefIdeal.Value.run m ρ)

/-- DownBwdRefIdeal runs to its end and leaves its arguments as they were. -/
theorem frame_DownBwdRefIdeal_pre_finite_down : @Cert.quiescent_DownBwdRefIdeal_pre_finite_down Cert.DownBwdRefIdeal.Gen.facts Cert.Pre_finite_down.Gen.facts :=
  fun m ρ _ => (θ_run _ _ _).mono (fun r h => ⟨fun c => (h c).2, sem_eq_zero_of_no_sems (by decide) r.2⟩) (Cert.DownBwdRefIdeal.Value.run m ρ)

/-- GuBwd runs to its end and leaves its arguments as they were. -/
theorem frame_GuBwd : @Cert.quiescent_GuBwd Cert.GuBwd.Gen.facts :=
  fun m ρ _ => Cert.GuBwd.Gen.frame m ρ

/-- GuBwdIdeal runs to its end and leaves its arguments as they were. -/
theorem frame_GuBwdIdeal : @Cert.quiescent_GuBwdIdeal Cert.GuBwdIdeal.Gen.facts :=
  fun m ρ _ => Cert.GuBwdIdeal.Gen.frame m ρ

/-- GuBwdRefIdeal runs to its end and leaves its arguments as they were. -/
theorem frame_GuBwdRefIdeal : @Cert.quiescent_GuBwdRefIdeal Cert.GuBwdRefIdeal.Gen.facts :=
  fun m ρ _ => (θ_run _ _ _).mono (fun r h => ⟨fun c => (h c).2, sem_eq_zero_of_no_sems (by decide) r.2⟩) (Cert.GuBwdRefIdeal.Value.run m ρ)

/-- GuDw runs to its end and leaves its arguments as they were. -/
theorem frame_GuDw : @Cert.quiescent_GuDw Cert.GuDw.Gen.facts :=
  fun m ρ _ => Cert.GuDw.Gen.frame m ρ

/-- GuDwIdeal runs to its end and leaves its arguments as they were. -/
theorem frame_GuDwIdeal : @Cert.quiescent_GuDwIdeal Cert.GuDwIdeal.Gen.facts :=
  fun m ρ _ => Cert.GuDwIdeal.Gen.frame m ρ

/-- GuDwRefIdeal runs to its end and leaves its arguments as they were. -/
theorem frame_GuDwRefIdeal : @Cert.quiescent_GuDwRefIdeal Cert.GuDwRefIdeal.Gen.facts :=
  fun m ρ _ => (θ_run _ _ _).mono (fun r h => ⟨fun c => (h c).2, sem_eq_zero_of_no_sems (by decide) r.2⟩) (Cert.GuDwRefIdeal.Value.run m ρ)

/-- DownDw runs to its end and leaves its arguments as they were. -/
theorem frame_DownDw : @Cert.quiescent_DownDw Cert.DownDw.Gen.facts :=
  fun m ρ _ => Cert.DownDw.Gen.frame m ρ

/-- DownDwIdeal runs to its end and leaves its arguments as they were. -/
theorem frame_DownDwIdeal : @Cert.quiescent_DownDwIdeal Cert.DownDwIdeal.Gen.facts :=
  fun m ρ _ => Cert.DownDwIdeal.Gen.frame m ρ

/-- DownDwRefIdeal runs to its end and leaves its arguments as they were. -/
theorem frame_DownDwRefIdeal : @Cert.quiescent_DownDwRefIdeal Cert.DownDwRefIdeal.Gen.facts :=
  fun m ρ _ => (θ_run _ _ _).mono (fun r h => ⟨fun c => (h c).2, sem_eq_zero_of_no_sems (by decide) r.2⟩) (Cert.DownDwRefIdeal.Value.run m ρ)

/-- OutDw runs to its end and leaves its arguments as they were. -/
theorem frame_OutDw : @Cert.quiescent_OutDw Cert.OutDw.Gen.facts :=
  fun m ρ _ => Cert.OutDw.Gen.frame m ρ

/-- OutDwIdeal runs to its end and leaves its arguments as they were. -/
theorem frame_OutDwIdeal : @Cert.quiescent_OutDwIdeal Cert.OutDwIdeal.Gen.facts :=
  fun m ρ _ => Cert.OutDwIdeal.Gen.frame m ρ

/-- OutDwRefIdeal runs to its end and leaves its arguments as they were. -/
theorem frame_OutDwRefIdeal : @Cert.quiescent_OutDwRefIdeal Cert.OutDwRefIdeal.Gen.facts :=
  fun m ρ _ => (θ_run _ _ _).mono (fun r h => ⟨fun c => (h c).2, sem_eq_zero_of_no_sems (by decide) r.2⟩) (Cert.OutDwRefIdeal.Value.run m ρ)

/-- InDw runs to its end and leaves its arguments as they were. -/
theorem frame_InDw : @Cert.quiescent_InDw Cert.InDw.Gen.facts :=
  fun m ρ _ => Cert.InDw.Gen.frame m ρ

/-- InDwIdeal runs to its end and leaves its arguments as they were. -/
theorem frame_InDwIdeal : @Cert.quiescent_InDwIdeal Cert.InDwIdeal.Gen.facts :=
  fun m ρ _ => Cert.InDwIdeal.Gen.frame m ρ

/-- InDwRefIdeal runs to its end and leaves its arguments as they were. -/
theorem frame_InDwRefIdeal : @Cert.quiescent_InDwRefIdeal Cert.InDwRefIdeal.Gen.facts :=
  fun m ρ _ => (θ_run _ _ _).mono (fun r h => ⟨fun c => (h c).2, sem_eq_zero_of_no_sems (by decide) r.2⟩) (Cert.InDwRefIdeal.Value.run m ρ)

/-- OutBwd runs to its end and leaves its arguments as they were. -/
theorem frame_OutBwd : @Cert.quiescent_OutBwd Cert.OutBwd.Gen.facts :=
  fun m ρ _ => Cert.OutBwd.Gen.frame m ρ

/-- OutBwdIdeal runs to its end and leaves its arguments as they were. -/
theorem frame_OutBwdIdeal : @Cert.quiescent_OutBwdIdeal Cert.OutBwdIdeal.Gen.facts :=
  fun m ρ _ => Cert.OutBwdIdeal.Gen.frame m ρ

/-- OutBwdRefIdeal runs to its end and leaves its arguments as they were. -/
theorem frame_OutBwdRefIdeal : @Cert.quiescent_OutBwdRefIdeal Cert.OutBwdRefIdeal.Gen.facts :=
  fun m ρ _ => (θ_run _ _ _).mono (fun r h => ⟨fun c => (h c).2, sem_eq_zero_of_no_sems (by decide) r.2⟩) (Cert.OutBwdRefIdeal.Value.run m ρ)

/-- InBwd runs to its end and leaves its arguments as they were. -/
theorem frame_InBwd : @Cert.quiescent_InBwd Cert.InBwd.Gen.facts :=
  fun m ρ _ => Cert.InBwd.Gen.frame m ρ

/-- InBwdIdeal runs to its end and leaves its arguments as they were. -/
theorem frame_InBwdIdeal : @Cert.quiescent_InBwdIdeal Cert.InBwdIdeal.Gen.facts :=
  fun m ρ _ => Cert.InBwdIdeal.Gen.frame m ρ

/-- InBwdRefIdeal runs to its end and leaves its arguments as they were. -/
theorem frame_InBwdRefIdeal : @Cert.quiescent_InBwdRefIdeal Cert.InBwdRefIdeal.Gen.facts :=
  fun m ρ _ => (θ_run _ _ _).mono (fun r h => ⟨fun c => (h c).2, sem_eq_zero_of_no_sems (by decide) r.2⟩) (Cert.InBwdRefIdeal.Value.run m ρ)

/-- InFwd runs to its end and leaves its arguments as they were. -/
theorem frame_InFwd : @Cert.quiescent_InFwd Cert.InFwd.Gen.facts :=
  fun m ρ _ => Cert.InFwd.Gen.frame m ρ

/-- InFwdIdeal runs to its end and leaves its arguments as they were. -/
theorem frame_InFwdIdeal : @Cert.quiescent_InFwdIdeal Cert.InFwdIdeal.Gen.facts :=
  fun m ρ _ => Cert.InFwdIdeal.Gen.frame m ρ

/-- InFwdRefIdeal runs to its end and leaves its arguments as they were. -/
theorem frame_InFwdRefIdeal : @Cert.quiescent_InFwdRefIdeal Cert.InFwdRefIdeal.Gen.facts :=
  fun m ρ _ => (θ_run _ _ _).mono (fun r h => ⟨fun c => (h c).2, sem_eq_zero_of_no_sems (by decide) r.2⟩) (Cert.InFwdRefIdeal.Value.run m ρ)

/-- DownFwd runs to its end and leaves its arguments as they were. -/
theorem frame_DownFwd : @Cert.quiescent_DownFwd Cert.DownFwd.Gen.facts :=
  fun m ρ _ => Cert.DownFwd.Gen.frame m ρ

/-- DownFwdIdeal runs to its end and leaves its arguments as they were. -/
theorem frame_DownFwdIdeal : @Cert.quiescent_DownFwdIdeal Cert.DownFwdIdeal.Gen.facts :=
  fun m ρ _ => Cert.DownFwdIdeal.Gen.frame m ρ

/-- DownFwdRefIdeal runs to its end and leaves its arguments as they were. -/
theorem frame_DownFwdRefIdeal : @Cert.quiescent_DownFwdRefIdeal Cert.DownFwdRefIdeal.Gen.facts :=
  fun m ρ _ => (θ_run _ _ _).mono (fun r h => ⟨fun c => (h c).2, sem_eq_zero_of_no_sems (by decide) r.2⟩) (Cert.DownFwdRefIdeal.Value.run m ρ)

/-- OutFwd runs to its end and leaves its arguments as they were. -/
theorem frame_OutFwd : @Cert.quiescent_OutFwd Cert.OutFwd.Gen.facts :=
  fun m ρ _ => Cert.OutFwd.Gen.frame m ρ

/-- OutFwdIdeal runs to its end and leaves its arguments as they were. -/
theorem frame_OutFwdIdeal : @Cert.quiescent_OutFwdIdeal Cert.OutFwdIdeal.Gen.facts :=
  fun m ρ _ => Cert.OutFwdIdeal.Gen.frame m ρ

/-- OutFwdRefIdeal runs to its end and leaves its arguments as they were. -/
theorem frame_OutFwdRefIdeal : @Cert.quiescent_OutFwdRefIdeal Cert.OutFwdRefIdeal.Gen.facts :=
  fun m ρ _ => (θ_run _ _ _).mono (fun r h => ⟨fun c => (h c).2.2, sem_eq_zero_of_no_sems (by decide) r.2⟩) (Cert.OutFwdRefIdeal.Value.run m ρ)

/-- RmsFwd runs to its end and leaves its arguments as they were. -/
theorem frame_RmsFwd : @Cert.quiescent_RmsFwd Cert.RmsFwd.Gen.facts :=
  fun m ρ _ => Cert.RmsFwd.Gen.frame m ρ

/-- RmsFwdIdeal runs to its end and leaves its arguments as they were. -/
theorem frame_RmsFwdIdeal : @Cert.quiescent_RmsFwdIdeal Cert.RmsFwdIdeal.Gen.facts :=
  fun m ρ _ => Cert.RmsFwdIdeal.Gen.frame m ρ

/-- RmsFwdRefIdeal runs to its end and leaves its arguments as they were. -/
theorem frame_RmsFwdRefIdeal : @Cert.quiescent_RmsFwdRefIdeal Cert.RmsFwdRefIdeal.Gen.facts :=
  fun m ρ _ => (θ_run _ _ _).mono (fun r h => ⟨fun c => (h c).2, sem_eq_zero_of_no_sems (by decide) r.2⟩) (Cert.RmsFwdRefIdeal.Value.run m ρ)

/-- RmsBwd runs to its end and leaves its arguments as they were. -/
theorem frame_RmsBwd : @Cert.quiescent_RmsBwd Cert.RmsBwd.Gen.facts :=
  fun m ρ _ => Cert.RmsBwd.Gen.frame m ρ

/-- RmsBwdIdeal runs to its end and leaves its arguments as they were. -/
theorem frame_RmsBwdIdeal : @Cert.quiescent_RmsBwdIdeal Cert.RmsBwdIdeal.Gen.facts :=
  fun m ρ _ => Cert.RmsBwdIdeal.Gen.frame m ρ

/-- RmsBwdIdeal runs to its end and leaves its arguments as they were. -/
theorem frame_RmsBwdIdeal_pre_finite_rms : @Cert.quiescent_RmsBwdIdeal_pre_finite_rms Cert.RmsBwdIdeal.Gen.facts Cert.Pre_finite_rms.Gen.facts :=
  fun m ρ _ => Cert.RmsBwdIdeal.Gen.frame m ρ

/-- RmsBwdRefIdeal runs to its end and leaves its arguments as they were. -/
theorem frame_RmsBwdRefIdeal : @Cert.quiescent_RmsBwdRefIdeal Cert.RmsBwdRefIdeal.Gen.facts :=
  fun m ρ _ => (θ_run _ _ _).mono (fun r h => ⟨fun c => (h c).2.2.2, sem_eq_zero_of_no_sems (by decide) r.2⟩) (Cert.RmsBwdRefIdeal.Value.run m ρ)

/-- RmsBwdRefIdeal runs to its end and leaves its arguments as they were. -/
theorem frame_RmsBwdRefIdeal_pre_finite_rms : @Cert.quiescent_RmsBwdRefIdeal_pre_finite_rms Cert.RmsBwdRefIdeal.Gen.facts Cert.Pre_finite_rms.Gen.facts :=
  fun m ρ _ => (θ_run _ _ _).mono (fun r h => ⟨fun c => (h c).2.2.2, sem_eq_zero_of_no_sems (by decide) r.2⟩) (Cert.RmsBwdRefIdeal.Value.run m ρ)

/-- LossHead runs to its end and leaves its arguments as they were. -/
theorem frame_LossHead : @Cert.quiescent_LossHead Cert.LossHead.Gen.facts :=
  fun m ρ _ => Cert.LossHead.Gen.frame m ρ

/-- LossHeadIdeal runs to its end and leaves its arguments as they were. -/
theorem frame_LossHeadIdeal : @Cert.quiescent_LossHeadIdeal Cert.LossHeadIdeal.Gen.facts :=
  fun m ρ _ => Cert.LossHeadIdeal.Gen.frame m ρ

/-- LossHeadIdeal runs to its end and leaves its arguments as they were. -/
theorem frame_LossHeadIdeal_pre_finite_loss : @Cert.quiescent_LossHeadIdeal_pre_finite_loss Cert.LossHeadIdeal.Gen.facts Cert.Pre_finite_loss.Gen.facts :=
  fun m ρ _ => Cert.LossHeadIdeal.Gen.frame m ρ

/-- LossHeadRefIdeal runs to its end and leaves its arguments as they were. -/
theorem frame_LossHeadRefIdeal : @Cert.quiescent_LossHeadRefIdeal Cert.LossHeadRefIdeal.Gen.facts :=
  fun m ρ _ => (θ_run _ _ _).mono (fun r h => ⟨fun c => (h c).2.2.2.2, sem_eq_zero_of_no_sems (by decide) r.2⟩) (Cert.LossHeadRefIdeal.Value.run m ρ)

/-- LossHeadRefIdeal runs to its end and leaves its arguments as they were. -/
theorem frame_LossHeadRefIdeal_pre_finite_loss : @Cert.quiescent_LossHeadRefIdeal_pre_finite_loss Cert.LossHeadRefIdeal.Gen.facts Cert.Pre_finite_loss.Gen.facts :=
  fun m ρ _ => (θ_run _ _ _).mono (fun r h => ⟨fun c => (h c).2.2.2.2, sem_eq_zero_of_no_sems (by decide) r.2⟩) (Cert.LossHeadRefIdeal.Value.run m ρ)

/-- Everything the certificate claims. -/
theorem claim : Cert.Claim :=
  ⟨Cert.Mixer.Gen.facts, Cert.MixerIdeal.Gen.facts, Cert.MixerRefIdeal.Gen.facts, Cert.MixerFwd.Gen.facts, Cert.MixerFwdIdeal.Gen.facts, Cert.MixerFwdRefIdeal.Gen.facts, Cert.Swiglu.Gen.facts, Cert.SwigluIdeal.Gen.facts, Cert.SwigluRefIdeal.Gen.facts, Cert.DownBwd.Gen.facts, Cert.DownBwdIdeal.Gen.facts, Cert.DownBwdRefIdeal.Gen.facts, Cert.GuBwd.Gen.facts, Cert.GuBwdIdeal.Gen.facts, Cert.GuBwdRefIdeal.Gen.facts, Cert.GuDw.Gen.facts, Cert.GuDwIdeal.Gen.facts, Cert.GuDwRefIdeal.Gen.facts, Cert.DownDw.Gen.facts, Cert.DownDwIdeal.Gen.facts, Cert.DownDwRefIdeal.Gen.facts, Cert.OutDw.Gen.facts, Cert.OutDwIdeal.Gen.facts, Cert.OutDwRefIdeal.Gen.facts, Cert.InDw.Gen.facts, Cert.InDwIdeal.Gen.facts, Cert.InDwRefIdeal.Gen.facts, Cert.OutBwd.Gen.facts, Cert.OutBwdIdeal.Gen.facts, Cert.OutBwdRefIdeal.Gen.facts, Cert.InBwd.Gen.facts, Cert.InBwdIdeal.Gen.facts, Cert.InBwdRefIdeal.Gen.facts, Cert.InFwd.Gen.facts, Cert.InFwdIdeal.Gen.facts, Cert.InFwdRefIdeal.Gen.facts, Cert.DownFwd.Gen.facts, Cert.DownFwdIdeal.Gen.facts, Cert.DownFwdRefIdeal.Gen.facts, Cert.OutFwd.Gen.facts, Cert.OutFwdIdeal.Gen.facts, Cert.OutFwdRefIdeal.Gen.facts, Cert.RmsFwd.Gen.facts, Cert.RmsFwdIdeal.Gen.facts, Cert.RmsFwdRefIdeal.Gen.facts, Cert.RmsBwd.Gen.facts, Cert.RmsBwdIdeal.Gen.facts, Cert.RmsBwdRefIdeal.Gen.facts, Cert.LossHead.Gen.facts, Cert.LossHeadIdeal.Gen.facts, Cert.LossHeadRefIdeal.Gen.facts, Cert.Pre_finite_mixer.Gen.facts, Cert.Pre_finite_z.Gen.facts, Cert.Pre_finite_swiglu.Gen.facts, Cert.Pre_finite_down.Gen.facts, Cert.Pre_finite_rms.Gen.facts, Cert.Pre_finite_loss.Gen.facts,
   Cert.Proof.frame_Mixer,
   Cert.Proof.frame_MixerIdeal,
   Cert.Proof.frame_MixerIdeal_pre_finite_mixer,
   Cert.Proof.frame_MixerRefIdeal,
   Cert.Proof.frame_MixerRefIdeal_pre_finite_mixer,
   Cert.Proof.frame_MixerFwd,
   Cert.Proof.frame_MixerFwdIdeal,
   Cert.Proof.frame_MixerFwdIdeal_pre_finite_z,
   Cert.Proof.frame_MixerFwdRefIdeal,
   Cert.Proof.frame_MixerFwdRefIdeal_pre_finite_z,
   Cert.Proof.frame_Swiglu,
   Cert.Proof.frame_SwigluIdeal,
   Cert.Proof.frame_SwigluIdeal_pre_finite_swiglu,
   Cert.Proof.frame_SwigluRefIdeal,
   Cert.Proof.frame_SwigluRefIdeal_pre_finite_swiglu,
   Cert.Proof.frame_DownBwd,
   Cert.Proof.frame_DownBwdIdeal,
   Cert.Proof.frame_DownBwdIdeal_pre_finite_down,
   Cert.Proof.frame_DownBwdRefIdeal,
   Cert.Proof.frame_DownBwdRefIdeal_pre_finite_down,
   Cert.Proof.frame_GuBwd,
   Cert.Proof.frame_GuBwdIdeal,
   Cert.Proof.frame_GuBwdRefIdeal,
   Cert.Proof.frame_GuDw,
   Cert.Proof.frame_GuDwIdeal,
   Cert.Proof.frame_GuDwRefIdeal,
   Cert.Proof.frame_DownDw,
   Cert.Proof.frame_DownDwIdeal,
   Cert.Proof.frame_DownDwRefIdeal,
   Cert.Proof.frame_OutDw,
   Cert.Proof.frame_OutDwIdeal,
   Cert.Proof.frame_OutDwRefIdeal,
   Cert.Proof.frame_InDw,
   Cert.Proof.frame_InDwIdeal,
   Cert.Proof.frame_InDwRefIdeal,
   Cert.Proof.frame_OutBwd,
   Cert.Proof.frame_OutBwdIdeal,
   Cert.Proof.frame_OutBwdRefIdeal,
   Cert.Proof.frame_InBwd,
   Cert.Proof.frame_InBwdIdeal,
   Cert.Proof.frame_InBwdRefIdeal,
   Cert.Proof.frame_InFwd,
   Cert.Proof.frame_InFwdIdeal,
   Cert.Proof.frame_InFwdRefIdeal,
   Cert.Proof.frame_DownFwd,
   Cert.Proof.frame_DownFwdIdeal,
   Cert.Proof.frame_DownFwdRefIdeal,
   Cert.Proof.frame_OutFwd,
   Cert.Proof.frame_OutFwdIdeal,
   Cert.Proof.frame_OutFwdRefIdeal,
   Cert.Proof.frame_RmsFwd,
   Cert.Proof.frame_RmsFwdIdeal,
   Cert.Proof.frame_RmsFwdRefIdeal,
   Cert.Proof.frame_RmsBwd,
   Cert.Proof.frame_RmsBwdIdeal,
   Cert.Proof.frame_RmsBwdIdeal_pre_finite_rms,
   Cert.Proof.frame_RmsBwdRefIdeal,
   Cert.Proof.frame_RmsBwdRefIdeal_pre_finite_rms,
   Cert.Proof.frame_LossHead,
   Cert.Proof.frame_LossHeadIdeal,
   Cert.Proof.frame_LossHeadIdeal_pre_finite_loss,
   Cert.Proof.frame_LossHeadRefIdeal,
   Cert.Proof.frame_LossHeadRefIdeal_pre_finite_loss,
   Cert.Proof.preserves_Mixer_MixerIdeal,
   Cert.Proof.algebraic_Mixer,
   Cert.Proof.preserves_MixerFwd_MixerFwdIdeal,
   Cert.Proof.algebraic_MixerFwd,
   trivial,
   Cert.Proof.algebraic_Swiglu,
   trivial,
   Cert.Proof.algebraic_DownBwd,
   trivial,
   Cert.Proof.algebraic_GuBwd,
   trivial,
   Cert.Proof.algebraic_GuDw,
   trivial,
   Cert.Proof.algebraic_DownDw,
   trivial,
   Cert.Proof.algebraic_OutDw,
   trivial,
   Cert.Proof.algebraic_InDw,
   trivial,
   Cert.Proof.algebraic_OutBwd,
   trivial,
   Cert.Proof.algebraic_InBwd,
   trivial,
   Cert.Proof.algebraic_InFwd,
   trivial,
   Cert.Proof.algebraic_DownFwd,
   trivial,
   Cert.Proof.algebraic_OutFwd,
   trivial,
   Cert.Proof.algebraic_RmsFwd,
   trivial,
   Cert.Proof.algebraic_RmsBwd,
   trivial,
   Cert.Proof.algebraic_LossHead⟩

end Cert.Proof

end
